-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x8x2x64 : Shape := ⟨5, ![2, 8192, 8, 2, 64]⟩
abbrev S2x8192x8x128 : Shape := ⟨4, ![2, 8192, 8, 128]⟩
abbrev S1x64 : Shape := ⟨2, ![1, 64]⟩
abbrev S1x128 : Shape := ⟨2, ![1, 128]⟩
abbrev S_ : Shape := ⟨0, ![]⟩

class Facts : Prop where
  bcast_S_S2x8192x8x2x64 : S_.BroadcastsInDim S2x8192x8x2x64 (![] : Fin 0 → Fin S2x8192x8x2x64.rank)
  reducesTo_S2x8192x8x2x64_S_d0_1_2_3_4 : S2x8192x8x2x64.ReducesTo [0, 1, 2, 3, 4] S_
  h_S_ : 0 < S_.numel
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_arg6 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S2x8192x8x2x64 .f32) (main_arg1 : FVec F S2x8192x8x2x64 .f32) (main_arg2 : FVec F S2x8192x8x128 .f32) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S2x8192x8x2x64 .f32 := Host.absf main_arg0
  let main_cst : FVec F S_ .f32 := constant S_ .f32 0x7F800000#32
  let main_v1 : FVec F S2x8192x8x2x64 .f32 := broadcastInDim S2x8192x8x2x64 ![] bcast_S_S2x8192x8x2x64 main_cst
  let main_v2 : IVec S2x8192x8x2x64 1 := cmpf .olt main_v0 main_v1
  let main_c : IVec S_ 1 := constantI S_ 1 1#1
  let main_v3 : IVec S_ 1 := (fun x v => Host.reduce IntOp.andi x v reducesTo_S2x8192x8x2x64_S_d0_1_2_3_4 h_S_) main_v2 main_c
  let main_v4 : FVec F S2x8192x8x2x64 .f32 := Host.absf main_arg1
  let main_cst_0 : FVec F S_ .f32 := constant S_ .f32 0x7F800000#32
  let main_v5 : FVec F S2x8192x8x2x64 .f32 := broadcastInDim S2x8192x8x2x64 ![] bcast_S_S2x8192x8x2x64 main_cst_0
  let main_v6 : IVec S2x8192x8x2x64 1 := cmpf .olt main_v4 main_v5
  let main_c_1 : IVec S_ 1 := constantI S_ 1 1#1
  let main_v7 : IVec S_ 1 := (fun x v => Host.reduce IntOp.andi x v reducesTo_S2x8192x8x2x64_S_d0_1_2_3_4 h_S_) main_v6 main_c_1
  let main_v8 : IVec S_ 1 := andi main_v3 main_v7
  let main_v9 : FVec F S2x8192x8x128 .f32 := Host.absf main_arg2
  let main_cst_2 : FVec F S_ .f32 := constant S_ .f32 0x7F800000#32
  let main_v10 : FVec F S2x8192x8x128 .f32 := broadcastInDim S2x8192x8x128 ![] bcast_S_S2x8192x8x128 main_cst_2
  let main_v11 : IVec S2x8192x8x128 1 := cmpf .olt main_v9 main_v10
  let main_c_3 : IVec S_ 1 := constantI S_ 1 1#1
  let main_v12 : IVec S_ 1 := (fun x v => Host.reduce IntOp.andi x v reducesTo_S2x8192x8x128_S_d0_1_2_3 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_arg6 main_v13 main_v16
-- ==== Kernel.lean ====
abbrev S2x8192x8x2x64 : Shape := ⟨5, ![2, 8192, 8, 2, 64]⟩
abbrev S2x8192x8x128 : Shape := ⟨4, ![2, 8192, 8, 128]⟩
abbrev S1x64 : Shape := ⟨2, ![1, 64]⟩
abbrev S1x128 : Shape := ⟨2, ![1, 128]⟩
abbrev S_ : Shape := ⟨0, ![]⟩
abbrev S2x8192x8x2x2x32 : Shape := ⟨6, ![2, 8192, 8, 2, 2, 32]⟩
abbrev S2x8x128x8192 : Shape := ⟨4, ![2, 8, 128, 8192]⟩
abbrev S2x8192x1024 : Shape := ⟨3, ![2, 8192, 1024]⟩
abbrev S2x8x16x8192 : Shape := ⟨4, ![2, 8, 16, 8192]⟩
abbrev S2x8x144x8192 : Shape := ⟨4, ![2, 8, 144, 8192]⟩
abbrev S64 : Shape := ⟨1, ![64]⟩
abbrev S128 : Shape := ⟨1, ![128]⟩
abbrev S128x1 : Shape := ⟨2, ![128, 1]⟩
abbrev S1x1x128x8192 : Shape := ⟨4, ![1, 1, 128, 8192]⟩
abbrev S1x8192x128 : Shape := ⟨3, ![1, 8192, 128]⟩
abbrev S1x1x144x8192 : Shape := ⟨4, ![1, 1, 144, 8192]⟩
abbrev S2x1x512 : Shape := ⟨3, ![2, 1, 512]⟩
abbrev S2x144x512 : Shape := ⟨3, ![2, 144, 512]⟩
abbrev S2x512x512 : Shape := ⟨3, ![2, 512, 512]⟩
abbrev S128x512 : Shape := ⟨2, ![128, 512]⟩
abbrev S512x512 : Shape := ⟨2, ![512, 512]⟩
abbrev S1x1x128x512 : Shape := ⟨4, ![1, 1, 128, 512]⟩
abbrev S1x512x128 : Shape := ⟨3, ![1, 512, 128]⟩
abbrev S512x128 : Shape := ⟨2, ![512, 128]⟩
abbrev S256x128 : Shape := ⟨2, ![256, 128]⟩
abbrev S128x256 : Shape := ⟨2, ![128, 256]⟩
abbrev S256x256 : Shape := ⟨2, ![256, 256]⟩
abbrev S256x512 : Shape := ⟨2, ![256, 512]⟩
abbrev S1x512x512 : Shape := ⟨3, ![1, 512, 512]⟩
abbrev S512 : Shape := ⟨1, ![512]⟩
abbrev S1x512 : Shape := ⟨2, ![1, 512]⟩
abbrev S1x1x512 : Shape := ⟨3, ![1, 1, 512]⟩
abbrev S1x1x144x512 : Shape := ⟨4, ![1, 1, 144, 512]⟩
abbrev S144x512 : Shape := ⟨2, ![144, 512]⟩
abbrev S1x144x512 : Shape := ⟨3, ![1, 144, 512]⟩
abbrev S1 : Shape := ⟨1, ![1]⟩
abbrev S1x1 : Shape := ⟨2, ![1, 1]⟩

abbrev nBuf : Space → Nat
  | .hbm => 40
  | .vmem => 19
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8192x8x2x64, .f32⟩
  | .hbm, ⟨13, _⟩ => ⟨S2x8192x8x2x64, .f32⟩
  | .hbm, ⟨14, _⟩ => ⟨S2x8192x8x2x2x32, .f32⟩
  | .hbm, ⟨15, _⟩ => ⟨S2x8192x8x2x2x32, .f32⟩
  | .hbm, ⟨16, _⟩ => ⟨S2x8192x8x128, .f32⟩
  | .hbm, ⟨17, _⟩ => ⟨S2x8x128x8192, .f32⟩
  | .hbm, ⟨18, _⟩ => ⟨S2x8x128x8192, .bf16⟩
  | .hbm, ⟨19, _⟩ => ⟨S2x8192x8x2x2x32, .f32⟩
  | .hbm, ⟨20, _⟩ => ⟨S2x8192x8x2x2x32, .f32⟩
  | .hbm, ⟨21, _⟩ => ⟨S2x8192x8x128, .f32⟩
  | .hbm, ⟨22, _⟩ => ⟨S2x8192x1024, .f32⟩
  | .hbm, ⟨23, _⟩ => ⟨S2x8192x1024, .bf16⟩
  | .hbm, ⟨24, _⟩ => ⟨S_, .bf16⟩
  | .hbm, ⟨25, _⟩ => ⟨S2x8x16x8192, .bf16⟩
  | .hbm, ⟨26, _⟩ => ⟨S2x8x128x8192, .f32⟩
  | .hbm, ⟨27, _⟩ => ⟨S2x8x128x8192, .bf16⟩
  | .hbm, ⟨28, _⟩ => ⟨S2x8x144x8192, .bf16⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S128, .f32⟩
  | .hbm, ⟨38, _⟩ => ⟨S128x1, .f32⟩
  | .hbm, ⟨39, _⟩ => ⟨S2x8192x1024, .bf16⟩
  | .local _ .vmem, ⟨0, _⟩ => ⟨S1x1x128x8192, .bf16⟩
  | .local _ .vmem, ⟨1, _⟩ => ⟨S1x1x128x8192, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x1x144x8192, .bf16⟩
  | .local _ .vmem, ⟨5, _⟩ => ⟨S1x1x144x8192, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x8192x128, .bf16⟩
  | .local _ .vmem, ⟨12, _⟩ => ⟨S1x8192x128, .bf16⟩
  | .local _ .vmem, ⟨13, _⟩ => ⟨S2x1x512, .f32⟩
  | .local _ .vmem, ⟨14, _⟩ => ⟨S2x144x512, .f32⟩
  | .local _ .vmem, ⟨15, _⟩ => ⟨S2x512x512, .f32⟩
  | .local _ .vmem, ⟨16, _⟩ => ⟨S2x512x512, .f32⟩
  | .local _ .vmem, ⟨17, _⟩ => ⟨S2x1x512, .f32⟩
  | .local _ .vmem, ⟨18, _⟩ => ⟨S2x1x512, .f32⟩
  | _, _ => ⟨S2x8192x8x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 8], ![false, false]⟩

def k0_mult1 : BitVec 32 :=
  let c0_i32_18 : BitVec 32 := 0#32
  c0_i32_18
def k0_mult2 : BitVec 32 :=
  let c0_i32_22 : BitVec 32 := 0#32
  c0_i32_22
@[reducible] def k0_t1_loop : Scf.Loop 32 :=
  let c0_i32_75 : BitVec 32 := 0#32
  let c68_i32 : BitVec 32 := 68#32
  let v193 : BitVec 32 := Scalar.addi c0_i32_75 c68_i32
  let c1_i32_76 : BitVec 32 := 1#32
  ⟨c0_i32_75, v193, c1_i32_76⟩
def k0_mult3 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32 : BitVec 32 := 512#32
  let v239 : BitVec 32 := Scalar.muli v201 c512_i32
  v239
def k0_cond1 (arg18 : BitVec 32) (arg19 : BitVec 32) : BitVec 1 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let v_true : BitVec 1 := 1#1
  let v207 : BitVec 1 := Scalar.xori v198 v_true
  let c_m1_i32 : BitVec 32 := 4294967295#32
  let c1_i32_83 : BitVec 32 := 1#32
  let v204 : BitVec 32 := Scalar.addi arg19 c1_i32_83
  let v205 : BitVec 32 := Scalar.subi v204 v195
  let v206 : BitVec 32 := Scalar.select v198 c_m1_i32 v205
  let c0_i32_84 : BitVec 32 := 0#32
  let v208 : BitVec 1 := Scalar.cmpi .slt v206 c0_i32_84
  let v209 : BitVec 1 := Scalar.andi v207 v208
  let v210 : BitVec 32 := Scalar.extui v209
  let c0_i32_85 : BitVec 32 := 0#32
  let v211 : BitVec 1 := Scalar.cmpi .ne v210 c0_i32_85
  v211

def k0_off1 (arg18 : BitVec 32) (arg19 : BitVec 32) : Fin 4 → Nat :=
  let c0_104 : Index := 0#32
  let c0_105 : Index := 0#32
  let c0_106 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32 : BitVec 32 := 512#32
  let v239 : BitVec 32 := Scalar.muli v201 c512_i32
  let v240 : BitVec 32 := v239
  let v241 : Index := Scalar.indexCast v240
  ![0, 0, 0, v241.toNat]
def k0_mult4 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_107 : BitVec 32 := 512#32
  let v244 : BitVec 32 := Scalar.muli v203 c512_i32_107
  v244
def k0_off2 (arg18 : BitVec 32) (arg19 : BitVec 32) : Fin 3 → Nat :=
  let c0_108 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_107 : BitVec 32 := 512#32
  let v244 : BitVec 32 := Scalar.muli v203 c512_i32_107
  let v245 : BitVec 32 := v244
  let v246 : Index := Scalar.indexCast v245
  let c0_109 : Index := 0#32
  ![0, v246.toNat, 0]
def k0_mult5 (arg19 : BitVec 32) : BitVec 32 :=
  let c512_i32_155 : BitVec 32 := 512#32
  let v354 : BitVec 32 := Scalar.muli arg19 c512_i32_155
  v354
def k0_off3 (arg19 : BitVec 32) : Fin 4 → Nat :=
  let c0_156 : Index := 0#32
  let c0_157 : Index := 0#32
  let c0_158 : Index := 0#32
  let c512_i32_155 : BitVec 32 := 512#32
  let v354 : BitVec 32 := Scalar.muli arg19 c512_i32_155
  let v355 : BitVec 32 := v354
  let v356 : Index := Scalar.indexCast v355
  ![0, 0, 0, v356.toNat]
def k0_mult6 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32 : BitVec 32 := 512#32
  let v239 : BitVec 32 := Scalar.muli v201 c512_i32
  v239
def k0_cond2 (arg18 : BitVec 32) (arg19 : BitVec 32) : BitVec 1 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c_m1_i32 : BitVec 32 := 4294967295#32
  let c1_i32_83 : BitVec 32 := 1#32
  let v204 : BitVec 32 := Scalar.addi arg19 c1_i32_83
  let v205 : BitVec 32 := Scalar.subi v204 v195
  let v206 : BitVec 32 := Scalar.select v198 c_m1_i32 v205
  let c0_i32_86 : BitVec 32 := 0#32
  let v212 : BitVec 1 := Scalar.cmpi .eq v206 c0_i32_86
  let v213 : BitVec 32 := Scalar.extui v212
  let c0_i32_87 : BitVec 32 := 0#32
  let v214 : BitVec 1 := Scalar.cmpi .ne v213 c0_i32_87
  v214

def k0_off4 (arg18 : BitVec 32) (arg19 : BitVec 32) : Fin 4 → Nat :=
  let c0_104 : Index := 0#32
  let c0_105 : Index := 0#32
  let c0_106 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32 : BitVec 32 := 512#32
  let v239 : BitVec 32 := Scalar.muli v201 c512_i32
  let v240 : BitVec 32 := v239
  let v241 : Index := Scalar.indexCast v240
  ![0, 0, 0, v241.toNat]
def k0_mult7 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_107 : BitVec 32 := 512#32
  let v244 : BitVec 32 := Scalar.muli v203 c512_i32_107
  v244
def k0_off5 (arg18 : BitVec 32) (arg19 : BitVec 32) : Fin 3 → Nat :=
  let c0_108 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_107 : BitVec 32 := 512#32
  let v244 : BitVec 32 := Scalar.muli v203 c512_i32_107
  let v245 : BitVec 32 := v244
  let v246 : Index := Scalar.indexCast v245
  let c0_109 : Index := 0#32
  ![0, v246.toNat, 0]
def k0_mult8 (arg19 : BitVec 32) : BitVec 32 :=
  let c512_i32_161 : BitVec 32 := 512#32
  let v372 : BitVec 32 := Scalar.muli arg19 c512_i32_161
  v372
def k0_off6 (arg19 : BitVec 32) : Fin 4 → Nat :=
  let c0_162 : Index := 0#32
  let c0_163 : Index := 0#32
  let c0_164 : Index := 0#32
  let c512_i32_161 : BitVec 32 := 512#32
  let v372 : BitVec 32 := Scalar.muli arg19 c512_i32_161
  let v373 : BitVec 32 := v372
  let v374 : Index := Scalar.indexCast v373
  ![0, 0, 0, v374.toNat]
def k0_mult9 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32 : BitVec 32 := 512#32
  let v239 : BitVec 32 := Scalar.muli v201 c512_i32
  v239
def k0_cond3 (arg18 : BitVec 32) (arg19 : BitVec 32) : BitVec 1 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let v215 : BitVec 32 := Scalar.extui v198
  let c0_i32_88 : BitVec 32 := 0#32
  let v216 : BitVec 1 := Scalar.cmpi .ne v215 c0_i32_88
  v216

def k0_off7 (arg18 : BitVec 32) (arg19 : BitVec 32) : Fin 4 → Nat :=
  let c0_104 : Index := 0#32
  let c0_105 : Index := 0#32
  let c0_106 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32 : BitVec 32 := 512#32
  let v239 : BitVec 32 := Scalar.muli v201 c512_i32
  let v240 : BitVec 32 := v239
  let v241 : Index := Scalar.indexCast v240
  ![0, 0, 0, v241.toNat]
def k0_mult10 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_107 : BitVec 32 := 512#32
  let v244 : BitVec 32 := Scalar.muli v203 c512_i32_107
  v244
def k0_off8 (arg18 : BitVec 32) (arg19 : BitVec 32) : Fin 3 → Nat :=
  let c0_108 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_107 : BitVec 32 := 512#32
  let v244 : BitVec 32 := Scalar.muli v203 c512_i32_107
  let v245 : BitVec 32 := v244
  let v246 : Index := Scalar.indexCast v245
  let c0_109 : Index := 0#32
  ![0, v246.toNat, 0]
def k0_mult11 (arg19 : BitVec 32) : BitVec 32 :=
  let c512_i32_155 : BitVec 32 := 512#32
  let v354 : BitVec 32 := Scalar.muli arg19 c512_i32_155
  v354
def k0_off9 (arg19 : BitVec 32) : Fin 4 → Nat :=
  let c0_156 : Index := 0#32
  let c0_157 : Index := 0#32
  let c0_158 : Index := 0#32
  let c512_i32_155 : BitVec 32 := 512#32
  let v354 : BitVec 32 := Scalar.muli arg19 c512_i32_155
  let v355 : BitVec 32 := v354
  let v356 : Index := Scalar.indexCast v355
  ![0, 0, 0, v356.toNat]
def k0_mult12 (arg18 : BitVec 32) : BitVec 32 :=
  let c512_i32_221 : BitVec 32 := 512#32
  let v463 : BitVec 32 := Scalar.muli arg18 c512_i32_221
  v463
def k0_off10 (arg18 : BitVec 32) : Fin 3 → Nat :=
  let c0_222 : Index := 0#32
  let c512_i32_221 : BitVec 32 := 512#32
  let v463 : BitVec 32 := Scalar.muli arg18 c512_i32_221
  let v464 : BitVec 32 := v463
  let v465 : Index := Scalar.indexCast v464
  let c0_223 : Index := 0#32
  ![0, v465.toNat, 0]
def k0_mult13 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c1_i32_92 : BitVec 32 := 1#32
  let v221 : BitVec 32 := Scalar.addi v201 c1_i32_92
  let c15_i32_93 : BitVec 32 := 15#32
  let v222 : BitVec 32 := Scalar.minsi v221 c15_i32_93
  let v223 : BitVec 32 := Scalar.select v220 v222 v201
  let c512_i32 : BitVec 32 := 512#32
  let v239 : BitVec 32 := Scalar.muli v223 c512_i32
  v239
def k0_cond4 (arg18 : BitVec 32) (arg19 : BitVec 32) : BitVec 1 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let true_98 : BitVec 1 := 1#1
  let v229 : BitVec 1 := Scalar.xori v220 true_98
  let c_m1_i32_97 : BitVec 32 := 4294967295#32
  let c1_i32_96 : BitVec 32 := 1#32
  let v226 : BitVec 32 := Scalar.addi v203 c1_i32_96
  let v227 : BitVec 32 := Scalar.subi v226 v217
  let v228 : BitVec 32 := Scalar.select v220 c_m1_i32_97 v227
  let c0_i32_99 : BitVec 32 := 0#32
  let v230 : BitVec 1 := Scalar.cmpi .slt v228 c0_i32_99
  let v231 : BitVec 1 := Scalar.andi v229 v230
  let v232 : BitVec 32 := Scalar.extui v231
  let c0_i32_100 : BitVec 32 := 0#32
  let v233 : BitVec 1 := Scalar.cmpi .ne v232 c0_i32_100
  v233

def k0_off11 (arg18 : BitVec 32) (arg19 : BitVec 32) : Fin 4 → Nat :=
  let c0_104 : Index := 0#32
  let c0_105 : Index := 0#32
  let c0_106 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c1_i32_92 : BitVec 32 := 1#32
  let v221 : BitVec 32 := Scalar.addi v201 c1_i32_92
  let c15_i32_93 : BitVec 32 := 15#32
  let v222 : BitVec 32 := Scalar.minsi v221 c15_i32_93
  let v223 : BitVec 32 := Scalar.select v220 v222 v201
  let c512_i32 : BitVec 32 := 512#32
  let v239 : BitVec 32 := Scalar.muli v223 c512_i32
  let v240 : BitVec 32 := v239
  let v241 : Index := Scalar.indexCast v240
  ![0, 0, 0, v241.toNat]
def k0_mult14 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c0_i32_95 : BitVec 32 := 0#32
  let c1_i32_94 : BitVec 32 := 1#32
  let v224 : BitVec 32 := Scalar.addi v203 c1_i32_94
  let v225 : BitVec 32 := Scalar.select v220 c0_i32_95 v224
  let c512_i32_107 : BitVec 32 := 512#32
  let v244 : BitVec 32 := Scalar.muli v225 c512_i32_107
  v244
def k0_off12 (arg18 : BitVec 32) (arg19 : BitVec 32) : Fin 3 → Nat :=
  let c0_108 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c0_i32_95 : BitVec 32 := 0#32
  let c1_i32_94 : BitVec 32 := 1#32
  let v224 : BitVec 32 := Scalar.addi v203 c1_i32_94
  let v225 : BitVec 32 := Scalar.select v220 c0_i32_95 v224
  let c512_i32_107 : BitVec 32 := 512#32
  let v244 : BitVec 32 := Scalar.muli v225 c512_i32_107
  let v245 : BitVec 32 := v244
  let v246 : Index := Scalar.indexCast v245
  let c0_109 : Index := 0#32
  ![0, v246.toNat, 0]
def k0_mult15 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_155 : BitVec 32 := 512#32
  let v354 : BitVec 32 := Scalar.muli v203 c512_i32_155
  v354
def k0_off13 (arg18 : BitVec 32) (arg19 : BitVec 32) : Fin 4 → Nat :=
  let c0_156 : Index := 0#32
  let c0_157 : Index := 0#32
  let c0_158 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_155 : BitVec 32 := 512#32
  let v354 : BitVec 32 := Scalar.muli v203 c512_i32_155
  let v355 : BitVec 32 := v354
  let v356 : Index := Scalar.indexCast v355
  ![0, 0, 0, v356.toNat]
def k0_mult16 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c1_i32_92 : BitVec 32 := 1#32
  let v221 : BitVec 32 := Scalar.addi v201 c1_i32_92
  let c15_i32_93 : BitVec 32 := 15#32
  let v222 : BitVec 32 := Scalar.minsi v221 c15_i32_93
  let v223 : BitVec 32 := Scalar.select v220 v222 v201
  let c512_i32 : BitVec 32 := 512#32
  let v239 : BitVec 32 := Scalar.muli v223 c512_i32
  v239
def k0_cond5 (arg18 : BitVec 32) (arg19 : BitVec 32) : BitVec 1 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c_m1_i32_97 : BitVec 32 := 4294967295#32
  let c1_i32_96 : BitVec 32 := 1#32
  let v226 : BitVec 32 := Scalar.addi v203 c1_i32_96
  let v227 : BitVec 32 := Scalar.subi v226 v217
  let v228 : BitVec 32 := Scalar.select v220 c_m1_i32_97 v227
  let c0_i32_101 : BitVec 32 := 0#32
  let v234 : BitVec 1 := Scalar.cmpi .eq v228 c0_i32_101
  let v235 : BitVec 32 := Scalar.extui v234
  let c0_i32_102 : BitVec 32 := 0#32
  let v236 : BitVec 1 := Scalar.cmpi .ne v235 c0_i32_102
  v236

def k0_off14 (arg18 : BitVec 32) (arg19 : BitVec 32) : Fin 4 → Nat :=
  let c0_104 : Index := 0#32
  let c0_105 : Index := 0#32
  let c0_106 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c1_i32_92 : BitVec 32 := 1#32
  let v221 : BitVec 32 := Scalar.addi v201 c1_i32_92
  let c15_i32_93 : BitVec 32 := 15#32
  let v222 : BitVec 32 := Scalar.minsi v221 c15_i32_93
  let v223 : BitVec 32 := Scalar.select v220 v222 v201
  let c512_i32 : BitVec 32 := 512#32
  let v239 : BitVec 32 := Scalar.muli v223 c512_i32
  let v240 : BitVec 32 := v239
  let v241 : Index := Scalar.indexCast v240
  ![0, 0, 0, v241.toNat]
def k0_mult17 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c0_i32_95 : BitVec 32 := 0#32
  let c1_i32_94 : BitVec 32 := 1#32
  let v224 : BitVec 32 := Scalar.addi v203 c1_i32_94
  let v225 : BitVec 32 := Scalar.select v220 c0_i32_95 v224
  let c512_i32_107 : BitVec 32 := 512#32
  let v244 : BitVec 32 := Scalar.muli v225 c512_i32_107
  v244
def k0_off15 (arg18 : BitVec 32) (arg19 : BitVec 32) : Fin 3 → Nat :=
  let c0_108 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c0_i32_95 : BitVec 32 := 0#32
  let c1_i32_94 : BitVec 32 := 1#32
  let v224 : BitVec 32 := Scalar.addi v203 c1_i32_94
  let v225 : BitVec 32 := Scalar.select v220 c0_i32_95 v224
  let c512_i32_107 : BitVec 32 := 512#32
  let v244 : BitVec 32 := Scalar.muli v225 c512_i32_107
  let v245 : BitVec 32 := v244
  let v246 : Index := Scalar.indexCast v245
  let c0_109 : Index := 0#32
  ![0, v246.toNat, 0]
def k0_mult18 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_161 : BitVec 32 := 512#32
  let v372 : BitVec 32 := Scalar.muli v203 c512_i32_161
  v372
def k0_off16 (arg18 : BitVec 32) (arg19 : BitVec 32) : Fin 4 → Nat :=
  let c0_162 : Index := 0#32
  let c0_163 : Index := 0#32
  let c0_164 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_161 : BitVec 32 := 512#32
  let v372 : BitVec 32 := Scalar.muli v203 c512_i32_161
  let v373 : BitVec 32 := v372
  let v374 : Index := Scalar.indexCast v373
  ![0, 0, 0, v374.toNat]
def k0_mult19 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c1_i32_92 : BitVec 32 := 1#32
  let v221 : BitVec 32 := Scalar.addi v201 c1_i32_92
  let c15_i32_93 : BitVec 32 := 15#32
  let v222 : BitVec 32 := Scalar.minsi v221 c15_i32_93
  let v223 : BitVec 32 := Scalar.select v220 v222 v201
  let c512_i32 : BitVec 32 := 512#32
  let v239 : BitVec 32 := Scalar.muli v223 c512_i32
  v239
def k0_cond6 (arg18 : BitVec 32) (arg19 : BitVec 32) : BitVec 1 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let v237 : BitVec 32 := Scalar.extui v220
  let c0_i32_103 : BitVec 32 := 0#32
  let v238 : BitVec 1 := Scalar.cmpi .ne v237 c0_i32_103
  v238

def k0_off17 (arg18 : BitVec 32) (arg19 : BitVec 32) : Fin 4 → Nat :=
  let c0_104 : Index := 0#32
  let c0_105 : Index := 0#32
  let c0_106 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c1_i32_92 : BitVec 32 := 1#32
  let v221 : BitVec 32 := Scalar.addi v201 c1_i32_92
  let c15_i32_93 : BitVec 32 := 15#32
  let v222 : BitVec 32 := Scalar.minsi v221 c15_i32_93
  let v223 : BitVec 32 := Scalar.select v220 v222 v201
  let c512_i32 : BitVec 32 := 512#32
  let v239 : BitVec 32 := Scalar.muli v223 c512_i32
  let v240 : BitVec 32 := v239
  let v241 : Index := Scalar.indexCast v240
  ![0, 0, 0, v241.toNat]
def k0_mult20 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c0_i32_95 : BitVec 32 := 0#32
  let c1_i32_94 : BitVec 32 := 1#32
  let v224 : BitVec 32 := Scalar.addi v203 c1_i32_94
  let v225 : BitVec 32 := Scalar.select v220 c0_i32_95 v224
  let c512_i32_107 : BitVec 32 := 512#32
  let v244 : BitVec 32 := Scalar.muli v225 c512_i32_107
  v244
def k0_off18 (arg18 : BitVec 32) (arg19 : BitVec 32) : Fin 3 → Nat :=
  let c0_108 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c1_i32_89 : BitVec 32 := 1#32
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let v217 : BitVec 32 := Scalar.muli c1_i32_89 v201
  let c1_i32_90 : BitVec 32 := 1#32
  let v218 : BitVec 32 := Scalar.addi v217 c1_i32_90
  let c1_i32_91 : BitVec 32 := 1#32
  let v219 : BitVec 32 := Scalar.subi v218 c1_i32_91
  let v220 : BitVec 1 := Scalar.cmpi .eq v203 v219
  let c0_i32_95 : BitVec 32 := 0#32
  let c1_i32_94 : BitVec 32 := 1#32
  let v224 : BitVec 32 := Scalar.addi v203 c1_i32_94
  let v225 : BitVec 32 := Scalar.select v220 c0_i32_95 v224
  let c512_i32_107 : BitVec 32 := 512#32
  let v244 : BitVec 32 := Scalar.muli v225 c512_i32_107
  let v245 : BitVec 32 := v244
  let v246 : Index := Scalar.indexCast v245
  let c0_109 : Index := 0#32
  ![0, v246.toNat, 0]
def k0_mult21 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_155 : BitVec 32 := 512#32
  let v354 : BitVec 32 := Scalar.muli v203 c512_i32_155
  v354
def k0_off19 (arg18 : BitVec 32) (arg19 : BitVec 32) : Fin 4 → Nat :=
  let c0_156 : Index := 0#32
  let c0_157 : Index := 0#32
  let c0_158 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c0_i32_82 : BitVec 32 := 0#32
  let c1_i32_81 : BitVec 32 := 1#32
  let v202 : BitVec 32 := Scalar.addi arg19 c1_i32_81
  let v203 : BitVec 32 := Scalar.select v198 c0_i32_82 v202
  let c512_i32_155 : BitVec 32 := 512#32
  let v354 : BitVec 32 := Scalar.muli v203 c512_i32_155
  let v355 : BitVec 32 := v354
  let v356 : Index := Scalar.indexCast v355
  ![0, 0, 0, v356.toNat]
def k0_mult22 (arg18 : BitVec 32) (arg19 : BitVec 32) : BitVec 32 :=
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32_221 : BitVec 32 := 512#32
  let v463 : BitVec 32 := Scalar.muli v201 c512_i32_221
  v463
def k0_off20 (arg18 : BitVec 32) (arg19 : BitVec 32) : Fin 3 → Nat :=
  let c0_222 : Index := 0#32
  let c1_i32_77 : BitVec 32 := 1#32
  let v195 : BitVec 32 := Scalar.muli c1_i32_77 arg18
  let c1_i32_78 : BitVec 32 := 1#32
  let v196 : BitVec 32 := Scalar.addi v195 c1_i32_78
  let c1_i32_79 : BitVec 32 := 1#32
  let v197 : BitVec 32 := Scalar.subi v196 c1_i32_79
  let v198 : BitVec 1 := Scalar.cmpi .eq arg19 v197
  let c1_i32_80 : BitVec 32 := 1#32
  let v199 : BitVec 32 := Scalar.addi arg18 c1_i32_80
  let c15_i32 : BitVec 32 := 15#32
  let v200 : BitVec 32 := Scalar.minsi v199 c15_i32
  let v201 : BitVec 32 := Scalar.select v198 v200 arg18
  let c512_i32_221 : BitVec 32 := 512#32
  let v463 : BitVec 32 := Scalar.muli v201 c512_i32_221
  let v464 : BitVec 32 := v463
  let v465 : Index := Scalar.indexCast v464
  let c0_223 : Index := 0#32
  ![0, v465.toNat, 0]

def k0_chk1_0 (arg18 : BitVec 32) (arg19 : BitVec 32) : Prop :=
  (∀ (k0_h1 : k0_cond1 arg18 arg19 = 1#1), 512 ∣ (k0_mult3 arg18 arg19).toNat) ∧
  (∀ (k0_h1 : k0_cond1 arg18 arg19 = 1#1), ∀ a, (k0_off1 arg18 arg19) a + S1x1x128x512.size a ≤ S1x1x128x8192.size a) ∧
  (∀ (k0_h1 : k0_cond1 arg18 arg19 = 1#1), 512 ∣ (k0_mult4 arg18 arg19).toNat) ∧
  (∀ (k0_h1 : k0_cond1 arg18 arg19 = 1#1), ∀ a, (k0_off2 arg18 arg19) a + S1x512x128.size a ≤ S1x8192x128.size a) ∧
  (∀ (k0_h1 : k0_cond1 arg18 arg19 = 1#1), 512 ∣ (k0_mult5 arg19).toNat) ∧
  (∀ (k0_h1 : k0_cond1 arg18 arg19 = 1#1), ∀ a, (k0_off3 arg19) a + S1x1x144x512.size a ≤ S1x1x144x8192.size a) ∧
  (∀ (k0_h2 : k0_cond2 arg18 arg19 = 1#1), 512 ∣ (k0_mult6 arg18 arg19).toNat) ∧
  (∀ (k0_h2 : k0_cond2 arg18 arg19 = 1#1), ∀ a, (k0_off4 arg18 arg19) a + S1x1x128x512.size a ≤ S1x1x128x8192.size a) ∧
  (∀ (k0_h2 : k0_cond2 arg18 arg19 = 1#1), 512 ∣ (k0_mult7 arg18 arg19).toNat) ∧
  (∀ (k0_h2 : k0_cond2 arg18 arg19 = 1#1), ∀ a, (k0_off5 arg18 arg19) a + S1x512x128.size a ≤ S1x8192x128.size a) ∧
  (∀ (k0_h2 : k0_cond2 arg18 arg19 = 1#1), 512 ∣ (k0_mult8 arg19).toNat) ∧
  (∀ (k0_h2 : k0_cond2 arg18 arg19 = 1#1), ∀ a, (k0_off6 arg19) a + S1x1x144x512.size a ≤ S1x1x144x8192.size a) ∧
  (∀ (k0_h3 : k0_cond3 arg18 arg19 = 1#1), 512 ∣ (k0_mult9 arg18 arg19).toNat) ∧
  (∀ (k0_h3 : k0_cond3 arg18 arg19 = 1#1), ∀ a, (k0_off7 arg18 arg19) a + S1x1x128x512.size a ≤ S1x1x128x8192.size a) ∧
  (∀ (k0_h3 : k0_cond3 arg18 arg19 = 1#1), 512 ∣ (k0_mult10 arg18 arg19).toNat) ∧
  (∀ (k0_h3 : k0_cond3 arg18 arg19 = 1#1), ∀ a, (k0_off8 arg18 arg19) a + S1x512x128.size a ≤ S1x8192x128.size a) ∧
  (∀ (k0_h3 : k0_cond3 arg18 arg19 = 1#1), 512 ∣ (k0_mult11 arg19).toNat) ∧
  (∀ (k0_h3 : k0_cond3 arg18 arg19 = 1#1), ∀ a, (k0_off9 arg19) a + S1x1x144x512.size a ≤ S1x1x144x8192.size a) ∧
  (∀ (k0_h3 : k0_cond3 arg18 arg19 = 1#1), 512 ∣ (k0_mult12 arg18).toNat) ∧
  (∀ (k0_h3 : k0_cond3 arg18 arg19 = 1#1), ∀ a, (k0_off10 arg18) a + S1x512x128.size a ≤ S1x8192x128.size a) ∧
  (∀ (k0_h3 : k0_cond3 arg18 arg19 = 1#1), ∀ (hinb : ∀ a, (k0_off10 arg18) a + S1x512x128.size a ≤ S1x8192x128.size a), (Rect.unit (s := S1x8192x128) (k0_off10 arg18) S1x512x128.size hinb).PackedRows (EltTy.packing .bf16)) ∧
  (∀ (k0_h4 : k0_cond4 arg18 arg19 = 1#1), 512 ∣ (k0_mult13 arg18 arg19).toNat) ∧
  (∀ (k0_h4 : k0_cond4 arg18 arg19 = 1#1), ∀ a, (k0_off11 arg18 arg19) a + S1x1x128x512.size a ≤ S1x1x128x8192.size a) ∧
  (∀ (k0_h4 : k0_cond4 arg18 arg19 = 1#1), 512 ∣ (k0_mult14 arg18 arg19).toNat) ∧
  (∀ (k0_h4 : k0_cond4 arg18 arg19 = 1#1), ∀ a, (k0_off12 arg18 arg19) a + S1x512x128.size a ≤ S1x8192x128.size a) ∧
  (∀ (k0_h4 : k0_cond4 arg18 arg19 = 1#1), 512 ∣ (k0_mult15 arg18 arg19).toNat) ∧
  (∀ (k0_h4 : k0_cond4 arg18 arg19 = 1#1), ∀ a, (k0_off13 arg18 arg19) a + S1x1x144x512.size a ≤ S1x1x144x8192.size a) ∧
  (∀ (k0_h5 : k0_cond5 arg18 arg19 = 1#1), 512 ∣ (k0_mult16 arg18 arg19).toNat) ∧
  (∀ (k0_h5 : k0_cond5 arg18 arg19 = 1#1), ∀ a, (k0_off14 arg18 arg19) a + S1x1x128x512.size a ≤ S1x1x128x8192.size a) ∧
  (∀ (k0_h5 : k0_cond5 arg18 arg19 = 1#1), 512 ∣ (k0_mult17 arg18 arg19).toNat) ∧
  (∀ (k0_h5 : k0_cond5 arg18 arg19 = 1#1), ∀ a, (k0_off15 arg18 arg19) a + S1x512x128.size a ≤ S1x8192x128.size a) ∧
  (∀ (k0_h5 : k0_cond5 arg18 arg19 = 1#1), 512 ∣ (k0_mult18 arg18 arg19).toNat)
def k0_chk1_1 (arg18 : BitVec 32) (arg19 : BitVec 32) : Prop :=
  (∀ (k0_h5 : k0_cond5 arg18 arg19 = 1#1), ∀ a, (k0_off16 arg18 arg19) a + S1x1x144x512.size a ≤ S1x1x144x8192.size a) ∧
  (∀ (k0_h6 : k0_cond6 arg18 arg19 = 1#1), 512 ∣ (k0_mult19 arg18 arg19).toNat) ∧
  (∀ (k0_h6 : k0_cond6 arg18 arg19 = 1#1), ∀ a, (k0_off17 arg18 arg19) a + S1x1x128x512.size a ≤ S1x1x128x8192.size a) ∧
  (∀ (k0_h6 : k0_cond6 arg18 arg19 = 1#1), 512 ∣ (k0_mult20 arg18 arg19).toNat) ∧
  (∀ (k0_h6 : k0_cond6 arg18 arg19 = 1#1), ∀ a, (k0_off18 arg18 arg19) a + S1x512x128.size a ≤ S1x8192x128.size a) ∧
  (∀ (k0_h6 : k0_cond6 arg18 arg19 = 1#1), 512 ∣ (k0_mult21 arg18 arg19).toNat) ∧
  (∀ (k0_h6 : k0_cond6 arg18 arg19 = 1#1), ∀ a, (k0_off19 arg18 arg19) a + S1x1x144x512.size a ≤ S1x1x144x8192.size a) ∧
  (∀ (k0_h6 : k0_cond6 arg18 arg19 = 1#1), 512 ∣ (k0_mult22 arg18 arg19).toNat) ∧
  (∀ (k0_h6 : k0_cond6 arg18 arg19 = 1#1), ∀ a, (k0_off20 arg18 arg19) a + S1x512x128.size a ≤ S1x8192x128.size a) ∧
  (∀ (k0_h6 : k0_cond6 arg18 arg19 = 1#1), ∀ (hinb : ∀ a, (k0_off20 arg18 arg19) a + S1x512x128.size a ≤ S1x8192x128.size a), (Rect.unit (s := S1x8192x128) (k0_off20 arg18 arg19) S1x512x128.size hinb).PackedRows (EltTy.packing .bf16))
def k0_chk1 (arg18 : BitVec 32) (arg19 : BitVec 32) : Prop :=
  k0_chk1_0 arg18 arg19 ∧
  k0_chk1_1 arg18 arg19
theorem k0_mult3_dvd : ∀ (arg18 : BitVec 32) (arg19 : BitVec 32) (k0_hw1 : k0_chk1 arg18 arg19), ∀ (k0_h1 : k0_cond1 arg18 arg19 = 1#1), 512 ∣ (k0_mult3 arg18 arg19).toNat := fun arg18 arg19 k0_hw1 k0_h1 => k0_hw1.1.1 k0_h1
theorem k0_off1_inb : ∀ (arg18 : BitVec 32) (arg19 : BitVec 32) (k0_hw1 : k0_chk1 arg18 arg19), ∀ (k0_h1 : k0_cond1 arg18 arg19 = 1#1), ∀ a, (k0_off1 arg18 arg19) a + S1x1x128x512.size a ≤ S1x1x128x8192.size a := fun arg18 arg19 k0_hw1 k0_h1 => k0_hw1.1.2.1 k0_h1
theorem k0_mult4_dvd : ∀ (arg18 : BitVec 32) (arg19 : BitVec 32) (k0_hw1 : k0_chk1 arg18 arg19), ∀ (k0_h1 : k0_cond1 arg18 arg19 = 1#1), 512 ∣ (k0_mult4 arg18 arg19).toNat := fun arg18 arg19 k0_hw1 k0_h1 => k0_hw1.1.2.2.1 k0_h1
theorem k0_off2_inb : ∀ (arg18 : BitVec 32) (arg19 : BitVec 32) (k0_hw1 : k0_chk1 arg18 arg19), ∀ (k0_h1 : k0_cond1 arg18 arg19 = 1#1), ∀ a, (k0_off2 arg18 arg19) a + S1x512x128.size a ≤ S1x8192x128.size a := fun arg18 arg19 k0_hw1 k0_h1 => k0_hw1.1.2.2.2.1 k0_h1
theorem k0_mult5_dvd : ∀ (arg18 : BitVec 32) (arg19 : BitVec 32) (k0_hw1 : k0_chk1 arg18 arg19), ∀ (k0_h1 : k0_cond1 arg18 arg19 = 1#1), 512 ∣ (k0_mult5 arg19).toNat := fun arg18 arg19 k0_hw1 k0_h1 => k0_hw1.1.2.2.2.2.1 k0_h1
theorem k0_off3_inb : ∀ (arg18 : BitVec 32) (arg19 : BitVec 32) (k0_hw1 : k0_chk1 arg18 arg19), ∀ (k0_h1 : k0_cond1 arg18 arg19 = 1#1), ∀ a, (k0_off3 arg19) a + S1x1x144x512.size a ≤ S1x1x144x8192.size a := fun arg18 arg19 k0_hw1 k0_h1 => k0_hw1.1.2.2.2.2.2.1 k0_h1
theorem k0_mult6_dvd : ∀ (arg18 : BitVec 32) (arg19 : BitVec 32) (k0_hw1 : k0_chk1 arg18 arg19), ∀ (k0_h2 : k0_cond2 arg18 arg19 = 1#1), 512 ∣ (k0_mult6 arg18 arg19).toNat := fun arg18 arg19 k0_hw1 k0_h2 => k0_hw1.1.2.2.2.2.2.2.1 k0_h2
theorem k0_off4_inb : ∀ (arg18 : BitVec 32) (arg19 : BitVec 32) (k0_hw1 : k0_chk1 arg18 arg19), ∀ (k0_h2 : k0_cond2 arg18 arg19 = 1#1), ∀ a, (k0_off4 arg18 arg19) a + S1x1x128x512.size a ≤ S1x1x128x8192.size a := fun arg18 arg19 k0_hw1 k0_h2 => k0_hw1.1.2.2.2.2.2.2.2.1 k0_h2
theorem k0_mult7_dvd : ∀ (arg18 : BitVec 32) (arg19 : BitVec 32) (k0_hw1 : k0_chk1 arg18 arg19), ∀ (k0_h2 : k0_cond2 arg18 arg19 = 1#1), 512 ∣ (k0_mult7 arg18 arg19).toNat := fun arg18 arg19 k0_hw1 k0_h2 => k0_hw1.1.2.2.2.2.2.2.2.2.1 k0_h2
theorem k0_off5_inb : ∀ (arg18 : BitVec 32) (arg19 : BitVec 32) (k0_hw1 : k0_chk1 arg18 arg19), ∀ (k0_h2 : k0_cond2 arg18 arg19 = 1#1), ∀ a, (k0_off5 arg18 arg19) a + S1x512x128.size a ≤ S1x8192x128.size a := fun arg18 arg19 k0_hw1 k0_h2 => k0_hw1.1.2.2.2.2.2.2.2.2.2.1 k0_h2
theorem k0_mult8_dvd : ∀ (arg18 : BitVec 32) (arg19 : BitVec 32) (k0_hw1 : k0_chk1 arg18 arg19), ∀ (k0_h2 : k0_cond2 arg18 arg19 = 1#1), 512 ∣ (k0_mult8 arg19).toNat := fun arg18 arg19 k0_hw1 k0_h2 => k0_hw1.1.2.2.2.2.2.2.2.2.2.2.1 k0_h2
theorem k0_off6_inb : ∀ (arg18 : BitVec 32) (arg19 : BitVec 32) (k0_hw1 : k0_chk1 arg18 arg19), ∀ (k0_h2 : k0_cond2 arg18 arg19 = 1#1), ∀ a, (k0_off6 arg19) a + S1x1x144x512.size a ≤ S1x1x144x8192.size a := fun arg18 arg19 k0_hw1 k0_h2 => k0_hw1.1.2.2.2.2.2.2.2.2.2.2.2.1 k0_h2
theorem k0_mult9_dvd : ∀ (arg18 : BitVec 32) (arg19 : BitVec 32) (k0_hw1 : k0_chk1 arg18 arg19), ∀ (k0_h3 : k0_cond3 arg18 arg19 = 1#1), 512 ∣ (k0_mult9 arg18 arg19).toNat := fun arg18 arg19 k0_hw1 k0_h3 => k0_hw1.1.2.2.2.2.2.2.2.2.2.2.2.2.1 k0_h3
theorem k0_off7_inb : ∀ (arg18 : BitVec 32) (arg19 : BitVec 32) (k0_hw1 : k0_chk1 arg18 arg19), ∀ (k0_h3 : k0_cond3 arg18 arg19 = 1#1), ∀ a, (k0_off7 arg18 arg19) a + S1x1x128x512.size a ≤ S1x1x128x8192.size a := fun arg18 arg19 k0_hw1 k0_h3 => k0_hw1.1.2.2.2.2.2.2.2.2.2.2.2.2.2.1 k0_h3
theorem k0_mult10_dvd : ∀ (arg18 : BitVec 32) (arg19 : BitVec 32) (k0_hw1 : k0_chk1 arg18 arg19), ∀ (k0_h3 : k0_cond3 arg18 arg19 = 1#1), 512 ∣ (k0_mult10 arg18 arg19).toNat := fun arg18 arg19 k0_hw1 k0_h3 => k0_hw1.1.2.2.2.2.2.2.2.2.2.2.2.2.2.2.1 k0_h3
theorem k0_off8_inb : ∀ (arg18 : BitVec 32) (arg19 : BitVec 32) (k0_hw1 : k0_chk1 arg18 arg19), ∀ (k0_h3 : k0_cond3 arg18 arg19 = 1#1), ∀ a, (k0_off8 arg18 arg19) a + S1x512x128.size a ≤ S1x8192x128.size a := fun arg18 arg19 k0_hw1 k0_h3 => k0_hw1.1.2.2.2.2.2.2.2.2.2.2.2.2.2.2.2.1 k0_h3
theorem k0_mult11_dvd : ∀ (arg18 : BitVec 32) (arg19 : BitVec 32) (k0_hw1 : k0_chk1 arg18 arg19), ∀ (k0_h3 : k0_cond3 arg18 arg19 = 1#1), 512 ∣ (k0_mult11 arg19).toNat := fun arg18 arg19 k0_hw1 k0_h3 => k0_hw1.1.2.2.2.2.2.2.2.2.2.2.2.2.2.2.2.2.1 k0_h3
theorem k0_off9_inb : ∀ (arg18 : BitVec 32) (arg19 : BitVec 32) (k0_hw1 : k0_chk1 arg18 arg19), ∀ (k0_h3 : k0_cond3 arg18 arg19 = 1#1), ∀ a, (k0_off9 arg19) a + S1x1x144x512.size a ≤ S1x1x144x8192.size a := fun arg18 arg19 k0_hw1 k0_h3 => k0_hw1.1.2.2.2.2.2.2.2.2.2.2.2.2.2.2.2.2.2.1 k0_h3
theorem k0_mult12_dvd : ∀ (arg18 : BitVec 32) (arg19 : BitVec 32) (k0_hw1 : k0_chk1 arg18 arg19), ∀ (k0_h3 : k0_cond3 arg18 arg19 = 1#1), 512 ∣ (k0_mult12 arg18).toNat := fun arg18 arg19 k0_hw1 k0_h3 => k0_hw1.1.2.2.2.2.2.2.2.2.2.2.2.2.2.2.2.2.2.2.1 k0_h3
theorem k0_off10_inb : ∀ (arg18 : BitVec 32) (arg19 : BitVec 32) (k0_hw1 : k0_chk1 arg18 arg19), ∀ (k0_h3 : k0_cond3 arg18 arg19 = 1#1), ∀ a, (k0_off10 arg18) a + S1x512x128.size a ≤ S1x8192x128.size a := fun arg18 arg19 k0_hw1 k0_h3 => k0_hw1.1.2.2.2.2.2.2.2.2.2.2.2.2.2.2.2.2.2.2.2.1 k0_h3
theorem k0_off10_packedbf16 : ∀ (arg18 : BitVec 32) (arg19 : BitVec 32) (k0_hw1 : k0_chk1 arg18 arg19), ∀ (k0_h3 : k0_cond3 arg18 arg19 = 1#1), (Rect.unit (s := S1x8192x128) (k0_off10 arg18) S1x512x128.size (k0_off10_inb arg18 arg19 k0_hw1 k0_h3)).PackedRows (EltTy.packing .bf16) := fun arg18 arg19 k0_hw1 k0_h3 => k0_hw1.1.2.2.2.2.2.2.2.2.2.2.2.2.2.2.2.2.2.2.2.2.1 k0_h3 (k0_off10_inb arg18 arg19 k0_hw1 k0_h3)
theorem k0_mult13_dvd : ∀ (arg18 : BitVec 32) (arg19 : BitVec 32) (k0_hw1 : k0_chk1 arg18 arg19), ∀ (k0_h4 : k0_cond4 arg18 arg19 = 1#1), 512 ∣ (k0_mult13 arg18 arg19).toNat := fun arg18 arg19 k0_hw1 k0_h4 => k0_hw1.1.2.2.2.2.2.2.2.2.2.2.2.2.2.2.2.2.2.2.2.2.2.1 k0_h4
theorem k0_off11_inb : ∀ (arg18 : BitVec 32) (arg19 : BitVec 32) (k0_hw1 : k0_chk1 arg18 arg19), ∀ (k0_h4 : k0_cond4 arg18 arg19 = 1#1), ∀ a, (k0_off11 arg18 arg19) a + S1x1x128x512.size a ≤ S1x1x128x8192.size a := fun arg18 arg19 k0_hw1 k0_h4 => k0_hw1.1.2.2.2.2.2.2.2.2.2.2.2.2.2.2.2.2.2.2.2.2.2.2.1 k0_h4
theorem k0_mult14_dvd : ∀ (arg18 : BitVec 32) (arg19 : BitVec 32) (k0_hw1 : k0_chk1 arg18 arg19), ∀ (k0_h4 : k0_cond4 arg18 arg19 = 1#1), 512 ∣ (k0_mult14 arg18 arg19).toNat := fun arg18 arg19 k0_hw1 k0_h4 => k0_hw1.1.2.2.2.2.2.2.2.2.2.2.2.2.2.2.2.2.2.2.2.2.2.2.2.1 k0_h4
theorem k0_off12_inb : ∀ (arg18 : BitVec 32) (arg19 : BitVec 32) (k0_hw1 : k0_chk1 arg18 arg19), ∀ (k0_h4 : k0_cond4 arg18 arg19 = 1#1), ∀ a, (k0_off12 arg18 arg19) a + S1x512x128.size a ≤ S1x8192x128.size a := fun arg18 arg19 k0_hw1 k0_h4 => k0_hw1.1.2.2.2.2.2.2.2.2.2.2.2.2.2.2.2.2.2.2.2.2.2.2.2.2.1 k0_h4
theorem k0_mult15_dvd : ∀ (arg18 : BitVec 32) (arg19 : BitVec 32) (k0_hw1 : k0_chk1 arg18 arg19), ∀ (k0_h4 : k0_cond4 arg18 arg19 = 1#1), 512 ∣ (k0_mult15 arg18 arg19).toNat := fun arg18 arg19 k0_hw1 k0_h4 => k0_hw1.1.2.2.2.2.2.2.2.2.2.2.2.2.2.2.2.2.2.2.2.2.2.2.2.2.2.1 k0_h4
theorem k0_off13_inb : ∀ (arg18 : BitVec 32) (arg19 : BitVec 32) (k0_hw1 : k0_chk1 arg18 arg19), ∀ (k0_h4 : k0_cond4 arg18 arg19 = 1#1), ∀ a, (k0_off13 arg18 arg19) a + S1x1x144x512.size a ≤ S1x1x144x8192.size a := fun arg18 arg19 k0_hw1 k0_h4 => k0_hw1.1.2.2.2.2.2.2.2.2.2.2.2.2.2.2.2.2.2.2.2.2.2.2.2.2.2.2.1 k0_h4
theorem k0_mult16_dvd : ∀ (arg18 : BitVec 32) (arg19 : BitVec 32) (k0_hw1 : k0_chk1 arg18 arg19), ∀ (k0_h5 : k0_cond5 arg18 arg19 = 1#1), 512 ∣ (k0_mult16 arg18 arg19).toNat := fun arg18 arg19 k0_hw1 k0_h5 => k0_hw1.1.2.2.2.2.2.2.2.2.2.2.2.2.2.2.2.2.2.2.2.2.2.2.2.2.2.2.2.1 k0_h5
theorem k0_off14_inb : ∀ (arg18 : BitVec 32) (arg19 : BitVec 32) (k0_hw1 : k0_chk1 arg18 arg19), ∀ (k0_h5 : k0_cond5 arg18 arg19 = 1#1), ∀ a, (k0_off14 arg18 arg19) a + S1x1x128x512.size a ≤ S1x1x128x8192.size a := fun arg18 arg19 k0_hw1 k0_h5 => k0_hw1.1.2.2.2.2.2.2.2.2.2.2.2.2.2.2.2.2.2.2.2.2.2.2.2.2.2.2.2.2.1 k0_h5
theorem k0_mult17_dvd : ∀ (arg18 : BitVec 32) (arg19 : BitVec 32) (k0_hw1 : k0_chk1 arg18 arg19), ∀ (k0_h5 : k0_cond5 arg18 arg19 = 1#1), 512 ∣ (k0_mult17 arg18 arg19).toNat := fun arg18 arg19 k0_hw1 k0_h5 => k0_hw1.1.2.2.2.2.2.2.2.2.2.2.2.2.2.2.2.2.2.2.2.2.2.2.2.2.2.2.2.2.2.1 k0_h5
theorem k0_off15_inb : ∀ (arg18 : BitVec 32) (arg19 : BitVec 32) (k0_hw1 : k0_chk1 arg18 arg19), ∀ (k0_h5 : k0_cond5 arg18 arg19 = 1#1), ∀ a, (k0_off15 arg18 arg19) a + S1x512x128.size a ≤ S1x8192x128.size a := fun arg18 arg19 k0_hw1 k0_h5 => k0_hw1.1.2.2.2.2.2.2.2.2.2.2.2.2.2.2.2.2.2.2.2.2.2.2.2.2.2.2.2.2.2.2.1 k0_h5
theorem k0_mult18_dvd : ∀ (arg18 : BitVec 32) (arg19 : BitVec 32) (k0_hw1 : k0_chk1 arg18 arg19), ∀ (k0_h5 : k0_cond5 arg18 arg19 = 1#1), 512 ∣ (k0_mult18 arg18 arg19).toNat := fun arg18 arg19 k0_hw1 k0_h5 => k0_hw1.1.2.2.2.2.2.2.2.2.2.2.2.2.2.2.2.2.2.2.2.2.2.2.2.2.2.2.2.2.2.2.2 k0_h5
theorem k0_off16_inb : ∀ (arg18 : BitVec 32) (arg19 : BitVec 32) (k0_hw1 : k0_chk1 arg18 arg19), ∀ (k0_h5 : k0_cond5 arg18 arg19 = 1#1), ∀ a, (k0_off16 arg18 arg19) a + S1x1x144x512.size a ≤ S1x1x144x8192.size a := fun arg18 arg19 k0_hw1 k0_h5 => k0_hw1.2.1 k0_h5
theorem k0_mult19_dvd : ∀ (arg18 : BitVec 32) (arg19 : BitVec 32) (k0_hw1 : k0_chk1 arg18 arg19), ∀ (k0_h6 : k0_cond6 arg18 arg19 = 1#1), 512 ∣ (k0_mult19 arg18 arg19).toNat := fun arg18 arg19 k0_hw1 k0_h6 => k0_hw1.2.2.1 k0_h6
theorem k0_off17_inb : ∀ (arg18 : BitVec 32) (arg19 : BitVec 32) (k0_hw1 : k0_chk1 arg18 arg19), ∀ (k0_h6 : k0_cond6 arg18 arg19 = 1#1), ∀ a, (k0_off17 arg18 arg19) a + S1x1x128x512.size a ≤ S1x1x128x8192.size a := fun arg18 arg19 k0_hw1 k0_h6 => k0_hw1.2.2.2.1 k0_h6
theorem k0_mult20_dvd : ∀ (arg18 : BitVec 32) (arg19 : BitVec 32) (k0_hw1 : k0_chk1 arg18 arg19), ∀ (k0_h6 : k0_cond6 arg18 arg19 = 1#1), 512 ∣ (k0_mult20 arg18 arg19).toNat := fun arg18 arg19 k0_hw1 k0_h6 => k0_hw1.2.2.2.2.1 k0_h6
theorem k0_off18_inb : ∀ (arg18 : BitVec 32) (arg19 : BitVec 32) (k0_hw1 : k0_chk1 arg18 arg19), ∀ (k0_h6 : k0_cond6 arg18 arg19 = 1#1), ∀ a, (k0_off18 arg18 arg19) a + S1x512x128.size a ≤ S1x8192x128.size a := fun arg18 arg19 k0_hw1 k0_h6 => k0_hw1.2.2.2.2.2.1 k0_h6
theorem k0_mult21_dvd : ∀ (arg18 : BitVec 32) (arg19 : BitVec 32) (k0_hw1 : k0_chk1 arg18 arg19), ∀ (k0_h6 : k0_cond6 arg18 arg19 = 1#1), 512 ∣ (k0_mult21 arg18 arg19).toNat := fun arg18 arg19 k0_hw1 k0_h6 => k0_hw1.2.2.2.2.2.2.1 k0_h6
theorem k0_off19_inb : ∀ (arg18 : BitVec 32) (arg19 : BitVec 32) (k0_hw1 : k0_chk1 arg18 arg19), ∀ (k0_h6 : k0_cond6 arg18 arg19 = 1#1), ∀ a, (k0_off19 arg18 arg19) a + S1x1x144x512.size a ≤ S1x1x144x8192.size a := fun arg18 arg19 k0_hw1 k0_h6 => k0_hw1.2.2.2.2.2.2.2.1 k0_h6
theorem k0_mult22_dvd : ∀ (arg18 : BitVec 32) (arg19 : BitVec 32) (k0_hw1 : k0_chk1 arg18 arg19), ∀ (k0_h6 : k0_cond6 arg18 arg19 = 1#1), 512 ∣ (k0_mult22 arg18 arg19).toNat := fun arg18 arg19 k0_hw1 k0_h6 => k0_hw1.2.2.2.2.2.2.2.2.1 k0_h6
theorem k0_off20_inb : ∀ (arg18 : BitVec 32) (arg19 : BitVec 32) (k0_hw1 : k0_chk1 arg18 arg19), ∀ (k0_h6 : k0_cond6 arg18 arg19 = 1#1), ∀ a, (k0_off20 arg18 arg19) a + S1x512x128.size a ≤ S1x8192x128.size a := fun arg18 arg19 k0_hw1 k0_h6 => k0_hw1.2.2.2.2.2.2.2.2.2.1 k0_h6
theorem k0_off20_packedbf16 : ∀ (arg18 : BitVec 32) (arg19 : BitVec 32) (k0_hw1 : k0_chk1 arg18 arg19), ∀ (k0_h6 : k0_cond6 arg18 arg19 = 1#1), (Rect.unit (s := S1x8192x128) (k0_off20 arg18 arg19) S1x512x128.size (k0_off20_inb arg18 arg19 k0_hw1 k0_h6)).PackedRows (EltTy.packing .bf16) := fun arg18 arg19 k0_hw1 k0_h6 => k0_hw1.2.2.2.2.2.2.2.2.2.2 k0_h6 (k0_off20_inb arg18 arg19 k0_hw1 k0_h6)

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x8x2x64 : Shape := ⟨5, ![2, 8192, 8, 2, 64]⟩
abbrev S2x8192x8x128 : Shape := ⟨4, ![2, 8192, 8, 128]⟩
abbrev S1x64 : Shape := ⟨2, ![1, 64]⟩
abbrev S1x128 : Shape := ⟨2, ![1, 128]⟩
abbrev S64 : Shape := ⟨1, ![64]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8x128x8192 : Shape := ⟨4, ![2, 8, 128, 8192]⟩
abbrev S2x8192x8 : Shape := ⟨3, ![2, 8192, 8]⟩
abbrev S2x8192x8x1 : Shape := ⟨4, ![2, 8192, 8, 1]⟩
abbrev S128 : Shape := ⟨1, ![128]⟩
abbrev S1x1x1x128 : Shape := ⟨4, ![1, 1, 1, 128]⟩
abbrev S2x8192x1024 : Shape := ⟨3, ![2, 8192, 1024]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x8x2x64, .f32⟩
  | .hbm, ⟨1, _⟩ => ⟨S2x8192x8x2x64, .f32⟩
  | .hbm, ⟨2, _⟩ => ⟨S2x8192x8x128, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .i32⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S2x8x2x8192x8192, .f32⟩
  | .hbm, ⟨43, _⟩ => ⟨S_, .f32⟩
  | .hbm, ⟨44, _⟩ => ⟨S2x8x2x8192x8192, .f32⟩
  | .hbm, ⟨45, _⟩ => ⟨S2x8x2x8192x8192, .f32⟩
  | .hbm, ⟨46, _⟩ => ⟨S1x8192, .i32⟩
  | .hbm, ⟨47, _⟩ => ⟨S8192x1, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S_, .f32⟩
  | .hbm, ⟨52, _⟩ => ⟨S_, .f32⟩
  | .hbm, ⟨53, _⟩ => ⟨S2x8x2x8192x8192, .i1⟩
  | .hbm, ⟨54, _⟩ => ⟨S2x8x2x8192x8192, .f32⟩
  | .hbm, ⟨55, _⟩ => ⟨S2x8x2x8192x8192, .f32⟩
  | .hbm, ⟨56, _⟩ => ⟨S_, .f32⟩
  | .hbm, ⟨57, _⟩ => ⟨S2x8x2x8192, .f32⟩
  | .hbm, ⟨58, _⟩ => ⟨S_, .f32⟩
  | .hbm, ⟨59, _⟩ => ⟨S2x8x2x8192, .f32⟩
  | .hbm, ⟨60, _⟩ => ⟨S2x8x2x8192, .f32⟩
  | .hbm, ⟨61, _⟩ => ⟨S2x8x2x8192x1, .f32⟩
  | .hbm, ⟨62, _⟩ => ⟨S2x8x2x8192x8192, .f32⟩
  | .hbm, ⟨63, _⟩ => ⟨S2x8x2x8192x8192, .f32⟩
  | .hbm, ⟨64, _⟩ => ⟨S2x8x2x8192x8192, .f32⟩
  | .hbm, ⟨65, _⟩ => ⟨S_, .f32⟩
  | .hbm, ⟨66, _⟩ => ⟨S2x8x2x8192, .f32⟩
  | .hbm, ⟨67, _⟩ => ⟨S2x8x2x8192x1, .f32⟩
  | .hbm, ⟨68, _⟩ => ⟨S2x8x2x8192x8192, .f32⟩
  | .hbm, ⟨69, _⟩ => ⟨S2x8x2x8192x8192, .f32⟩
  | .hbm, ⟨70, _⟩ => ⟨S2x8x1x8192x8192, .f32⟩
  | .hbm, ⟨71, _⟩ => ⟨S2x8x8192x8192, .f32⟩
  | .hbm, ⟨72, _⟩ => ⟨S2x8x1x8192x8192, .f32⟩
  | .hbm, ⟨73, _⟩ => ⟨S2x8x8192x8192, .f32⟩
  | .hbm, ⟨74, _⟩ => ⟨S2x8x8192x8192, .f32⟩
  | .hbm, ⟨75, _⟩ => ⟨S2x8x8192x8192, .f32⟩
  | .hbm, ⟨76, _⟩ => ⟨S2x8x8192x8192, .f32⟩
  | .hbm, ⟨77, _⟩ => ⟨S2x8x128x8192, .f32⟩
  | .hbm, ⟨78, _⟩ => ⟨S2x8192x8x128, .f32⟩
  | .hbm, ⟨79, _⟩ => ⟨S2x8192x8x128, .f32⟩
  | .hbm, ⟨80, _⟩ => ⟨S_, .f32⟩
  | .hbm, ⟨81, _⟩ => ⟨S2x8192x8, .f32⟩
  | .hbm, ⟨82, _⟩ => ⟨S2x8192x8x1, .f32⟩
  | .hbm, ⟨83, _⟩ => ⟨S_, .f32⟩
  | .hbm, ⟨84, _⟩ => ⟨S2x8192x8x1, .f32⟩
  | .hbm, ⟨85, _⟩ => ⟨S2x8192x8x1, .f32⟩
  | .hbm, ⟨86, _⟩ => ⟨S_, .f32⟩
  | .hbm, ⟨87, _⟩ => ⟨S2x8192x8x1, .f32⟩
  | .hbm, ⟨88, _⟩ => ⟨S2x8192x8x1, .f32⟩
  | .hbm, ⟨89, _⟩ => ⟨S2x8192x8x1, .f32⟩
  | .hbm, ⟨90, _⟩ => ⟨S2x8192x8x128, .f32⟩
  | .hbm, ⟨91, _⟩ => ⟨S2x8192x8x128, .f32⟩
  | .hbm, ⟨92, _⟩ => ⟨S128, .f32⟩
  | .hbm, ⟨93, _⟩ => ⟨S1x1x1x128, .f32⟩
  | .hbm, ⟨94, _⟩ => ⟨S2x8192x8x128, .f32⟩
  | .hbm, ⟨95, _⟩ => ⟨S2x8192x8x128, .f32⟩
  | .hbm, ⟨96, _⟩ => ⟨S_, .f32⟩
  | .hbm, ⟨97, _⟩ => ⟨S2x8192x8x128, .f32⟩
  | .hbm, ⟨98, _⟩ => ⟨S2x8192x8x128, .f32⟩
  | .hbm, ⟨99, _⟩ => ⟨S2x8192x1024, .f32⟩
  | .hbm, ⟨100, _⟩ => ⟨S2x8192x1024, .bf16⟩
  | _, _ => ⟨S2x8192x8x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst_3 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v22 : Ref sig .tc := ⟨.hbm, 55, rfl⟩
abbrev main_cst_4 : Ref sig .tc := ⟨.hbm, 56, rfl⟩
abbrev main_v23 : Ref sig .tc := ⟨.hbm, 57, rfl⟩
abbrev main_cst_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_7 : Ref sig .tc := ⟨.hbm, 80, rfl⟩
abbrev main_v44 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev main_v47 : Ref sig .tc := ⟨.hbm, 85, rfl⟩
abbrev main_cst_9 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_10 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1024x2048 : Shape := ⟨2, ![1024, 2048]⟩
abbrev S2048 : Shape := ⟨1, ![2048]⟩
abbrev S1024x1024 : Shape := ⟨2, ![1024, 1024]⟩
abbrev S512x1024 : Shape := ⟨2, ![512, 1024]⟩
abbrev S1024 : Shape := ⟨1, ![1024]⟩
abbrev S1x2048 : Shape := ⟨2, ![1, 2048]⟩
abbrev S1x1024 : Shape := ⟨2, ![1, 1024]⟩
abbrev S1024x512 : Shape := ⟨2, ![1024, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S1024x2048, .f32⟩
  | .hbm, ⟨4, _⟩ => ⟨S2048, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2048, .bf16⟩
  | .hbm, ⟨11, _⟩ => ⟨S1x2048, .f32⟩
  | .hbm, ⟨12, _⟩ => ⟨S1024x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1x2048, .f32⟩
  | .local _ .vmem, ⟨8, _⟩ => ⟨S1024x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S16384x512 : Shape := ⟨2, ![16384, 512]⟩
abbrev S1024x2048 : Shape := ⟨2, ![1024, 2048]⟩
abbrev S2048 : Shape := ⟨1, ![2048]⟩
abbrev S1024x1024 : Shape := ⟨2, ![1024, 1024]⟩
abbrev S512x1024 : Shape := ⟨2, ![512, 1024]⟩
abbrev S1024 : Shape := ⟨1, ![1024]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x512, .bf16⟩
  | .hbm, ⟨3, _⟩ => ⟨S1024x2048, .f32⟩
  | .hbm, ⟨4, _⟩ => ⟨S2048, .f32⟩
  | .hbm, ⟨5, _⟩ => ⟨S1024x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S16384x1024, .f32⟩
  | .hbm, ⟨11, _⟩ => ⟨S16384x1024, .f32⟩
  | .hbm, ⟨12, _⟩ => ⟨S16384x512, .f32⟩
  | .hbm, ⟨13, _⟩ => ⟨S16384x1024, .f32⟩
  | .hbm, ⟨14, _⟩ => ⟨S16384x2048, .f32⟩
  | .hbm, ⟨15, _⟩ => ⟨S1x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S1x1024, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩

abbrev nD : Nat := 1
abbrev τ : Topo := Topo.v7x

variable {F : FTy → Type} [FloatOps F]
-- ==== Kernel3.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S512x1024 : Shape := ⟨2, ![512, 1024]⟩
abbrev S16x1024 : Shape := ⟨2, ![16, 1024]⟩
abbrev S528x1024 : Shape := ⟨2, ![528, 1024]⟩
abbrev S3x544x256 : Shape := ⟨3, ![3, 544, 256]⟩
abbrev S512x2816 : Shape := ⟨2, ![512, 2816]⟩
abbrev S1024x256 : Shape := ⟨2, ![1024, 256]⟩
abbrev S528x256 : Shape := ⟨2, ![528, 256]⟩
abbrev S1x256 : Shape := ⟨2, ![1, 256]⟩
abbrev S1x528x256 : Shape := ⟨3, ![1, 528, 256]⟩
abbrev S1x512x256 : Shape := ⟨3, ![1, 512, 256]⟩
abbrev S512x256 : Shape := ⟨2, ![512, 256]⟩
abbrev S512x1536 : Shape := ⟨2, ![512, 1536]⟩
abbrev S1536x1024 : Shape := ⟨2, ![1536, 1024]⟩
abbrev S512x1280 : Shape := ⟨2, ![512, 1280]⟩
abbrev S1280x1024 : Shape := ⟨2, ![1280, 1024]⟩
abbrev S512 : Shape := ⟨1, ![512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S1024x5632, .bf16⟩
  | .local _ .vmem, ⟨5, _⟩ => ⟨S3x5632, .f32⟩
  | .local _ .vmem, ⟨6, _⟩ => ⟨S1x5632, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S528x1024, .bf16⟩
  | .local _ .vmem, ⟨13, _⟩ => ⟨S3x544x256, .f32⟩
  | .local _ .vmem, ⟨14, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S16384x5632 : Shape := ⟨2, ![16384, 5632]⟩
abbrev S2x8192x5632 : Shape := ⟨3, ![2, 8192, 5632]⟩
abbrev S_ : Shape := ⟨0, ![]⟩
abbrev S2x8194x5632 : Shape := ⟨3, ![2, 8194, 5632]⟩
abbrev S1x5632 : Shape := ⟨2, ![1, 5632]⟩
abbrev S1x1x5632 : Shape := ⟨3, ![1, 1, 5632]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S16384x5632, .f32⟩
  | .hbm, ⟨8, _⟩ => ⟨S2x8192x5632, .f32⟩
  | .hbm, ⟨9, _⟩ => ⟨S_, .i32⟩
  | .hbm, ⟨10, _⟩ => ⟨S_, .f32⟩
  | .hbm, ⟨11, _⟩ => ⟨S2x8194x5632, .f32⟩
  | .hbm, ⟨12, _⟩ => ⟨S2x8192x5632, .f32⟩
  | .hbm, ⟨13, _⟩ => ⟨S1x5632, .f32⟩
  | .hbm, ⟨14, _⟩ => ⟨S5632, .f32⟩
  | .hbm, ⟨15, _⟩ => ⟨S1x1x5632, .f32⟩
  | .hbm, ⟨16, _⟩ => ⟨S2x8192x5632, .f32⟩
  | .hbm, ⟨17, _⟩ => ⟨S2x8192x5632, .f32⟩
  | .hbm, ⟨18, _⟩ => ⟨S_, .f32⟩
  | .hbm, ⟨19, _⟩ => ⟨S2x8192x5632, .f32⟩
  | .hbm, ⟨20, _⟩ => ⟨S2x8192x5632, .f32⟩
  | .hbm, ⟨21, _⟩ => ⟨S2x8192x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S2x8192x5632, .f32⟩
  | .hbm, ⟨26, _⟩ => ⟨S2x8192x5632, .f32⟩
  | .hbm, ⟨27, _⟩ => ⟨S2x8192x5632, .f32⟩
  | .hbm, ⟨28, _⟩ => ⟨S2x8192x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S2x8192x5632, .f32⟩
  | .hbm, ⟨33, _⟩ => ⟨S2x8192x5632, .f32⟩
  | .hbm, ⟨34, _⟩ => ⟨S2x8192x5632, .f32⟩
  | .hbm, ⟨35, _⟩ => ⟨S1x1x5632, .f32⟩
  | .hbm, ⟨36, _⟩ => ⟨S2x8192x5632, .f32⟩
  | .hbm, ⟨37, _⟩ => ⟨S2x8192x5632, .f32⟩
  | .hbm, ⟨38, _⟩ => ⟨S16384x5632, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x2816, .f32⟩
  | .hbm, ⟨45, _⟩ => ⟨S16384x2816, .f32⟩
  | .hbm, ⟨46, _⟩ => ⟨S_, .f32⟩
  | .hbm, ⟨47, _⟩ => ⟨S16384x2816, .f32⟩
  | .hbm, ⟨48, _⟩ => ⟨S16384x2816, .f32⟩
  | .hbm, ⟨49, _⟩ => ⟨S_, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S16384x2816, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_call1_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Proof.KI.Sem.lean ====
/-
  The attention over the reals: scores, weights relative to a running maximum, and what one tile adds to the running sums.
-/
module

public import Idealize.ShloMosaic.Lib.Pointwise
public import Idealize.ShloMosaic.Lib.IdealHost
public import Mathlib.Analysis.SpecialFunctions.Pow.Real
public import Mathlib.Algebra.BigOperators.Fin

@[expose] public section

noncomputable section

namespace Cert.Att

open Idealize.ShloMosaic

variable (q k v : ℕ → ℕ → ℝ) (lam : ℝ)

/-- The score of key `n` for query `i` in sub-head `t`, the scale and the change to base two already in the queries. -/
def sr (t n i : ℕ) : ℝ := ∑ d : Fin 128, k n d * (if (d : ℕ) / 32 % 2 = t then q d i else 0)

/-- The score where the query sees the key, minus infinity where it does not. -/
def sc (t n i : ℕ) : EReal := if n / 64 ≤ i / 64 then (sr q k t n i : EReal) else ⊥

/-- A key's weight relative to a maximum `μ`. -/
def wt (t : ℕ) (μ : ℝ) (n i : ℕ) : ℝ := if n / 64 ≤ i / 64 then (2 : ℝ) ^ (sr q k t n i - μ) else 0

/-- The values of the first `N` keys in row `e`, weighted. -/
def acc (t : ℕ) (μ : ℝ) (N i e : ℕ) : ℝ := ∑ n ∈ Finset.range N, wt q k t μ n i * v e n

/-- A sub-head's average of the values in row `e` for query `i`. -/
def avg (t i e : ℕ) : ℝ := acc q k v t 0 8192 i e / ∑ n ∈ Finset.range 8192, wt q k t 0 n i

/-- The first sub-head's average less lambda times the second's. -/
def ov (i e : ℕ) : ℝ := avg q k v 0 i e - lam * avg q k v 1 i e

/-- What the output holds: the root mean square over the 128 columns divided out, the gain, the factor. -/
def nrm (o g : Fin 128 → EReal) (e : Fin 128) : EReal :=
  o e * Ideal.rsqrt (Ideal.div (∑ j : Fin 128, o j * o j) (Ideal.ofBits .f32 0x43000000#32) + Ideal.ofBits .f32 0x3727C5AC#32) * g e * Ideal.ofBits .f32 0x3F4CCCCD#32

/-- The output at query `i` and column `e`. -/
def outv (g : Fin 128 → EReal) (i : ℕ) (e : Fin 128) : EReal := nrm (fun e => (ov q k v lam i e : EReal)) g e

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The weight is the power of two of the score less the maximum. -/
theorem exp2_sc (t n i : ℕ) (μ : ℝ) : Ideal.exp2 (sc q k t n i - (μ : EReal)) = (wt q k t μ n i : EReal) := by
  unfold sc wt
  split
  · rw [← EReal.coe_sub, Ideal.exp2_coe]; rfl
  · rw [EReal.bot_sub, Ideal.exp2_bot]; rfl

theorem wt_shift (t n i : ℕ) (μ μ' : ℝ) : (2 : ℝ) ^ (μ - μ') * wt q k t μ n i = wt q k t μ' n i := by
  unfold wt
  split
  · rw [← Real.rpow_add (by norm_num)]; congr 1; ring
  · simp

theorem acc_shift (t N i e : ℕ) (μ μ' : ℝ) : (2 : ℝ) ^ (μ - μ') * acc q k v t μ N i e = acc q k v t μ' N i e := by
  unfold acc
  rw [Finset.mul_sum]
  exact Finset.sum_congr rfl fun n _ => by rw [← mul_assoc, wt_shift]

theorem acc_tile (t : ℕ) (μ : ℝ) (kt i e : ℕ) :
    acc q k v t μ (512 * (kt + 1)) i e = acc q k v t μ (512 * kt) i e + ∑ j : Fin 512, v e (512 * kt + j) * wt q k t μ (512 * kt + j) i := by
  unfold acc
  rw [Nat.mul_succ, Finset.sum_range_add, ← Fin.sum_univ_eq_sum_range (fun x => wt q k t μ (512 * kt + x) i * v e (512 * kt + x))]
  exact congrArg _ (Finset.sum_congr rfl fun j _ => mul_comm _ _)

/-- What the running maximum and a row of the accumulator hold for a query before tile `kt`: nothing yet, or sums over the keys before it. -/
def AccAt (t kt i : ℕ) (M : EReal) (A : Fin 144 → EReal) : Prop :=
  if kt = 0 then M = ⊥ ∧ ∀ e, A e = 0 else ∃ μ : ℝ, M = (μ : EReal) ∧ ∀ e : Fin 144, A e = (acc q k v t μ (512 * kt) i e : EReal)

/-- One tile consumed. -/
theorem AccAt.step {t kt i : ℕ} {M : EReal} {A : Fin 144 → EReal} (h : AccAt q k v t kt i M A) {T : EReal} (hT : ∃ τ : ℝ, T = (τ : EReal))
    {s : Fin 512 → EReal} (hs : ∀ j : Fin 512, s j = sc q k t (512 * kt + j) i) {V : Fin 144 → Fin 512 → EReal}
    (hV : ∀ (e : Fin 144) (j : Fin 512), V e j = (v e (512 * kt + j) : EReal)) :
    AccAt q k v t (kt + 1) i (max M T) (fun e => Ideal.exp2 (M - max M T) * A e + ∑ j : Fin 512, V e j * Ideal.exp2 (s j - max M T)) := by
  obtain ⟨τ, rfl⟩ := hT
  have tile : ∀ (μ : ℝ) (e : Fin 144), ∑ j : Fin 512, V e j * Ideal.exp2 (s j - (μ : EReal)) = ((∑ j : Fin 512, v e (512 * kt + j) * wt q k t μ (512 * kt + j) i : ℝ) : EReal) := by
    intro μ e
    rw [coe_sum]
    exact Finset.sum_congr rfl fun j _ => by rw [hs, hV, exp2_sc, EReal.coe_mul]
  unfold AccAt at h ⊢
  rw [if_neg (Nat.succ_ne_zero kt)]
  by_cases hk : kt = 0
  · rw [if_pos hk] at h
    obtain ⟨rfl, hA⟩ := h
    refine ⟨τ, by simp, fun e => ?_⟩
    dsimp only
    rw [show max (⊥ : EReal) (τ : EReal) = τ by simp, hA, mul_zero, zero_add, tile, acc_tile, hk]
    unfold acc
    simp
  · rw [if_neg hk] at h
    obtain ⟨μ, rfl, hA⟩ := h
    have cm : max (μ : EReal) (τ : EReal) = ((max μ τ : ℝ) : EReal) := (EReal.coe_strictMono.monotone.map_max).symm
    refine ⟨max μ τ, cm, fun e => ?_⟩
    dsimp only
    rw [cm, hA, tile, ← EReal.coe_sub, Ideal.exp2_coe, acc_tile, ← acc_shift q k v t _ i e μ (max μ τ), EReal.coe_add, EReal.coe_mul]
    rfl

theorem wt_nonneg (t : ℕ) (μ : ℝ) (n i : ℕ) : 0 ≤ wt q k t μ n i := by
  unfold wt; split
  · positivity
  · exact le_rfl

theorem den_pos (t : ℕ) (μ : ℝ) (N i : ℕ) (hN : 0 < N) : 0 < ∑ n ∈ Finset.range N, wt q k t μ n i := by
  refine Finset.sum_pos' (fun n _ => wt_nonneg q k t μ n i) ⟨0, Finset.mem_range.mpr hN, ?_⟩
  unfold wt
  rw [if_pos (by omega)]
  positivity

/-- The keys a query does not see add nothing: the sums may stop after its own block. -/
theorem sum_seen (t : ℕ) (μ : ℝ) (N i : ℕ) (f : ℕ → ℝ) (hi : i < N) (hN : N ≤ 8192) (h64 : 64 ∣ N) :
    ∑ n ∈ Finset.range 8192, wt q k t μ n i * f n = ∑ n ∈ Finset.range N, wt q k t μ n i * f n := by
  symm
  refine Finset.sum_subset (Finset.range_subset_range.mpr hN) fun n _ hn => ?_
  have : N ≤ n := by simpa using hn
  unfold wt
  rw [if_neg (by omega), zero_mul]

/-- A sub-head's average from its accumulated rows, whatever the maximum they are relative to. -/
theorem avg_eq (t : ℕ) (μ : ℝ) (N i e : ℕ) (hi : i < N) (hN : N ≤ 8192) (h64 : 64 ∣ N) :
    avg q k v t i e = acc q k v t μ N i e / ∑ n ∈ Finset.range N, wt q k t μ n i := by
  have h1 := sum_seen q k t 0 N i (fun n => v e n) hi hN h64
  have h2 := sum_seen q k t 0 N i (fun _ => 1) hi hN h64
  simp only [mul_one] at h2
  unfold avg
  rw [h2, show acc q k v t 0 8192 i e = acc q k v t 0 N i e from h1, ← acc_shift q k v t N i e μ 0]
  have h3 : ∑ n ∈ Finset.range N, wt q k t 0 n i = (2 : ℝ) ^ (μ - 0) * ∑ n ∈ Finset.range N, wt q k t μ n i := by
    rw [Finset.mul_sum]
    exact Finset.sum_congr rfl fun n _ => (wt_shift q k t n i μ 0).symm
  rw [h3]
  exact mul_div_mul_left _ _ (by positivity)

/-- A finished column: the first sub-head's average less lambda times the second's, from the accumulators with their row of sums. -/
theorem col_eq (hv : ∀ n, v 128 n = 1) {N i : ℕ} (hi : i < N) (hN : N ≤ 8192) (h64 : 64 ∣ N) (e : ℕ) {a0 a1 l0 l1 : EReal} (μ0 μ1 : ℝ)
    (ha0 : a0 = (acc q k v 0 μ0 N i e : EReal)) (ha1 : a1 = (acc q k v 1 μ1 N i e : EReal))
    (hl0 : l0 = (acc q k v 0 μ0 N i 128 : EReal)) (hl1 : l1 = (acc q k v 1 μ1 N i 128 : EReal)) :
    a0 * Ideal.div 1 l0 - a1 * Ideal.div (lam : EReal) l1 = (ov q k v lam i e : EReal) := by
  have d : ∀ (t : ℕ) (μ : ℝ), acc q k v t μ N i 128 = ∑ n ∈ Finset.range N, wt q k t μ n i := fun t μ =>
    Finset.sum_congr rfl fun n _ => by rw [hv, mul_one]
  have p := fun t μ => den_pos q k t μ N i (by omega)
  rw [ha0, ha1, hl0, hl1, d, d, Ideal.div_coe (p 0 μ0).ne', Ideal.div_coe (p 1 μ1).ne', one_mul, ← EReal.coe_mul, ← EReal.coe_mul, ← EReal.coe_mul, ← EReal.coe_sub]
  unfold ov
  rw [avg_eq q k v 0 μ0 N i e hi hN h64, avg_eq q k v 1 μ1 N i e hi hN h64]
  refine congrArg _ ?_
  ring

/-- The greatest of numbers of which each is real or minus infinity, and one is real, is real. -/
theorem fold_max_real {n : ℕ} (f : Fin n → EReal) (h : ∀ j, f j = ⊥ ∨ ∃ r : ℝ, f j = (r : EReal)) (j₀ : Fin n) (h₀ : ∃ r : ℝ, f j₀ = (r : EReal)) :
    ∃ r : ℝ, Finset.univ.fold max ⊥ f = (r : EReal) := by
  have top : Finset.univ.fold max ⊥ f ≠ ⊤ := by
    refine ne_of_lt ((Finset.fold_max_lt ⊤).mpr ⟨bot_lt_top, fun j _ => ?_⟩)
    rcases h j with e | ⟨r, e⟩ <;> rw [e]
    · exact bot_lt_top
    · exact EReal.coe_lt_top r
  have bot : Finset.univ.fold max ⊥ f ≠ ⊥ := by
    obtain ⟨r, e⟩ := h₀
    have : f j₀ ≤ Finset.univ.fold max ⊥ f := (Finset.le_fold_max _).mpr (.inr ⟨j₀, Finset.mem_univ _, le_rfl⟩)
    rw [e] at this
    exact ((EReal.bot_lt_coe r).trans_le this).ne'
  exact ⟨_, (EReal.coe_toReal top bot).symm⟩

end Cert.Att

end
-- ==== Proof.KI.Spec.lean ====
/-
  The attention as a function of the arguments, over the reals: queries, keys and values of one batch and head as the specification `Sem` takes them,
  and the softmax of the reference in the same terms.
-/
module

public import proofs.«01_k».proof.Proof.KI.Sem

@[expose] public section

set_option maxRecDepth 16384

noncomputable section

namespace Cert.Att

open Idealize.ShloMosaic

/-- An array of queries or keys: batch, position, head, sub-head, column. -/
abbrev Arr5 := Fin 2 → Fin 8192 → Fin 8 → Fin 2 → Fin 64 → EReal

/-- An array of values: batch, position, head, column. -/
abbrev Arr4 := Fin 2 → Fin 8192 → Fin 8 → Fin 128 → EReal

/-- One row of the queries or keys, the two sub-heads in turn by blocks of thirty-two columns. -/
def row (A : Arr5) (b : Fin 2) (h : Fin 8) (n d : ℕ) : ℝ :=
  (A b (Fin.ofNat 8192 n) h (Fin.ofNat 2 (d / 32)) (Fin.ofNat 64 (d / 64 * 32 + d % 32))).toReal

/-- The queries of a batch and head, scaled by an eighth and changed to base two. -/
def qf (A : Arr5) (b : Fin 2) (h : Fin 8) (d n : ℕ) : ℝ := row A b h n d * (1 / 8 * (1 / Real.log 2))

/-- The keys of a batch and head. -/
def kf (A : Arr5) (b : Fin 2) (h : Fin 8) (n d : ℕ) : ℝ := row A b h n d

/-- The values of a batch and head, with rows of ones after them. -/
def vf (A : Arr4) (b : Fin 2) (h : Fin 8) (e n : ℕ) : ℝ := if he : e < 128 then (A b (Fin.ofNat 8192 n) h ⟨e, he⟩).toReal else 1

/-- Lambda from its four vectors. -/
def lamv (A3 A4 A5 A6 : Fin 64 → EReal) : EReal :=
  Ideal.exp (∑ d : Fin 64, A3 d * A4 d) - Ideal.exp (∑ d : Fin 64, A5 d * A6 d) + Ideal.ofBits .f32 0x3E4CCCCD#32

/-- The attention's output from its arguments. -/
def att (A0 A1 : Arr5) (A2 : Arr4) (A3 A4 A5 A6 : Fin 64 → EReal) (A7 : Fin 128 → EReal) (b : Fin 2) (h : Fin 8) (i : Fin 8192) (e : Fin 128) : EReal :=
  outv (qf A0 b h) (kf A1 b h) (vf A2 b h) (lamv A3 A4 A5 A6).toReal A7 i e

theorem eighth : Ideal.ofBits .f32 0x3E000000#32 = ((1 / 8 : ℝ) : EReal) := by
  simp [Ideal.ofBits, Ideal.ieee]
  erw [← EReal.coe_mul]
  norm_num

theorem fifth : ∃ r : ℝ, Ideal.ofBits .f32 0x3E4CCCCD#32 = (r : EReal) := by
  simp [Ideal.ofBits, Ideal.ieee]
  exact ⟨_, (EReal.coe_mul _ _).symm⟩

theorem real_of {x : EReal} (h : ∃ r : ℝ, x = r) : x = (x.toReal : EReal) := by
  obtain ⟨r, rfl⟩ := h; rw [EReal.toReal_coe]

theorem lamv_real {A3 A4 A5 A6 : Fin 64 → EReal} (h3 : ∀ d, ∃ r : ℝ, A3 d = r) (h4 : ∀ d, ∃ r : ℝ, A4 d = r) (h5 : ∀ d, ∃ r : ℝ, A5 d = r)
    (h6 : ∀ d, ∃ r : ℝ, A6 d = r) : lamv A3 A4 A5 A6 = ((lamv A3 A4 A5 A6).toReal : EReal) := by
  choose r3 e3 using h3
  choose r4 e4 using h4
  choose r5 e5 using h5
  choose r6 e6 using h6
  obtain ⟨c, hc⟩ := fifth
  refine real_of ⟨Real.exp (∑ d, r3 d * r4 d) - Real.exp (∑ d, r5 d * r6 d) + c, ?_⟩
  unfold lamv
  simp only [e3, e4, e5, e6, hc, ← EReal.coe_mul]
  rw [← coe_sum, ← coe_sum, Ideal.exp_coe, Ideal.exp_coe, ← EReal.coe_sub, ← EReal.coe_add]

/-- A sub-head's columns among the hundred and twenty-eight are its sixty-four. -/
theorem sum_half (t : ℕ) (ht : t < 2) (G : ℕ → ℝ) :
    (∑ d : Fin 128, if (d : ℕ) / 32 % 2 = t then G ((d : ℕ) / 64 * 32 + d % 32) else 0) = ∑ j : Fin 64, G j := by
  rw [← Finset.sum_filter]
  refine Finset.sum_bij' (fun d _ => (⟨(d : ℕ) / 64 * 32 + d % 32, by omega⟩ : Fin 64)) (fun j _ => (⟨(j : ℕ) / 32 * 64 + t * 32 + j % 32, by omega⟩ : Fin 128))
    (fun _ _ => Finset.mem_univ _) (fun j _ => Finset.mem_filter.mpr ⟨Finset.mem_univ _, ?_⟩) (fun d hd => ?_) (fun j _ => ?_) (fun _ _ => rfl)
  · dsimp only; omega
  · have := (Finset.mem_filter.mp hd).2
    apply Fin.ext; dsimp only; omega
  · apply Fin.ext; dsimp only; omega

/-- The scores: the sub-head's product over eight, changed to base two. -/
theorem sr_eq (A0 A1 : Arr5) (b : Fin 2) (h : Fin 8) (t : Fin 2) (n i : Fin 8192) :
    sr (qf A0 b h) (kf A1 b h) t n i = (∑ j : Fin 64, (A0 b i h t j).toReal * (A1 b n h t j).toReal) * (1 / 8) * (1 / Real.log 2) := by
  have e : ∀ x : Fin 8192, Fin.ofNat 8192 (x : ℕ) = x := fun x => Fin.ext (Nat.mod_eq_of_lt x.2)
  have e6 : ∀ x : Fin 64, Fin.ofNat 64 (x : ℕ) = x := fun x => Fin.ext (Nat.mod_eq_of_lt x.2)
  rw [mul_assoc, Finset.sum_mul]
  have := sum_half t t.2 (fun j => (A0 b i h t (Fin.ofNat 64 j)).toReal * (A1 b n h t (Fin.ofNat 64 j)).toReal * (1 / 8 * (1 / Real.log 2)))
  simp only [e6] at this
  rw [← this]
  refine Finset.sum_congr rfl fun d _ => ?_
  split
  · next hd =>
    have ht : Fin.ofNat 2 ((d : ℕ) / 32) = t := Fin.ext hd
    unfold qf kf row
    rw [e, e, ht]
    ring
  · rw [mul_zero]

/-- A weight is the exponential of the score in base e. -/
theorem wt_exp (A0 A1 : Arr5) (b : Fin 2) (h : Fin 8) (t : Fin 2) (n i : Fin 8192) :
    wt (qf A0 b h) (kf A1 b h) t 0 n i = if (n : ℕ) / 64 ≤ (i : ℕ) / 64 then Real.exp ((∑ j : Fin 64, (A0 b i h t j).toReal * (A1 b n h t j).toReal) * (1 / 8)) else 0 := by
  unfold wt
  rw [sr_eq, sub_zero, Real.rpow_def_of_pos (by norm_num)]
  congr 2
  have : Real.log 2 ≠ 0 := (Real.log_pos (by norm_num)).ne'
  field_simp

/-- The exponential of a masked score less a real number is the weight, up to a factor of its row. -/
theorem exp_wt (A0 A1 : Arr5) (h0 : ∀ b n h t j, ∃ r : ℝ, A0 b n h t j = r) (h1 : ∀ b n h t j, ∃ r : ℝ, A1 b n h t j = r) (b : Fin 2) (h : Fin 8) (t : Fin 2)
    (n i : Fin 8192) (M : ℝ) :
    Ideal.exp ((if (n : ℕ) / 64 ≤ (i : ℕ) / 64 then (∑ j : Fin 64, A0 b i h t j * A1 b n h t j) * Ideal.ofBits .f32 0x3E000000#32 else ⊥) - (M : EReal)) =
      ((Real.exp (-M) * wt (qf A0 b h) (kf A1 b h) t 0 n i : ℝ) : EReal) := by
  rw [wt_exp]
  split
  · have : ∑ j : Fin 64, A0 b i h t j * A1 b n h t j = ((∑ j : Fin 64, (A0 b i h t j).toReal * (A1 b n h t j).toReal : ℝ) : EReal) := by
      rw [coe_sum]
      exact Finset.sum_congr rfl fun j _ => by rw [EReal.coe_mul, ← real_of (h0 b i h t j), ← real_of (h1 b n h t j)]
    rw [this, eighth, ← EReal.coe_mul, ← EReal.coe_sub, Ideal.exp_coe, ← Real.exp_add, neg_add_eq_sub]
  · rw [EReal.bot_sub, Ideal.exp_bot, mul_zero]; rfl

/-- The row's factor divides out of the softmax. -/
theorem soft_wt (c : ℝ) (hc : 0 < c) (w : Fin 8192 → ℝ) (hz : 0 < ∑ k, w k) (n : Fin 8192) :
    Ideal.div ((c * w n : ℝ) : EReal) (∑ k, ((c * w k : ℝ) : EReal)) = ((w n / ∑ k, w k : ℝ) : EReal) := by
  rw [← coe_sum, ← Finset.mul_sum, Ideal.div_coe (mul_pos hc hz).ne', ← EReal.coe_mul]
  congr 1
  field_simp

/-- The values weighted by the first softmax less lambda times the second. -/
theorem mix_ov (A0 A1 : Arr5) (A2 : Arr4) (h2 : ∀ b n h e, ∃ r : ℝ, A2 b n h e = r) (lam : ℝ) (b : Fin 2) (h : Fin 8) (i : Fin 8192) (e : Fin 128) :
    ∑ n : Fin 8192, A2 b n h e * (((wt (qf A0 b h) (kf A1 b h) 0 0 n i / ∑ k : Fin 8192, wt (qf A0 b h) (kf A1 b h) 0 0 k i : ℝ) : EReal) -
        (lam : EReal) * ((wt (qf A0 b h) (kf A1 b h) 1 0 n i / ∑ k : Fin 8192, wt (qf A0 b h) (kf A1 b h) 1 0 k i : ℝ) : EReal)) =
      (ov (qf A0 b h) (kf A1 b h) (vf A2 b h) lam i e : EReal) := by
  have hv : ∀ n : Fin 8192, A2 b n h e = (vf A2 b h e n : EReal) := fun n => by
    unfold vf
    rw [dif_pos e.2, show Fin.ofNat 8192 (n : ℕ) = n from Fin.ext (Nat.mod_eq_of_lt n.2)]
    exact real_of (h2 b n h e)
  simp only [hv, ← EReal.coe_mul, ← EReal.coe_sub, ← coe_sum]
  congr 1
  unfold ov avg acc
  simp only [Finset.sum_range, Finset.sum_div, Finset.mul_sum, ← Finset.sum_sub_distrib]
  exact Finset.sum_congr rfl fun n _ => by ring

end Cert.Att

end
-- ==== Proof.KI.Layout.lean ====
/-
  The host's lay-out of the arguments as a few named vector functions, each read at an index: the queries, the keys, the values with their rows
  of ones, lambda's vectors and the gain.
-/
module

public import proofs.«01_k».proof.Proof.Gen.KernelIdeal.Frame
public import proofs.«01_k».proof.Proof.KI.Spec
public import Idealize.ShloMosaic.Lib.Pointwise
public import Idealize.ShloMosaic.Lib.IdealHost

@[expose] public section

set_option maxRecDepth 16384

noncomputable section

namespace Cert.KernelIdeal.Att

open Cert.KernelIdeal Cert.KernelIdeal.Gen Cert.Att Idealize.ShloMosaic Idealize.ShloMosaic.TcCoe

/-- A row's sub-heads in turn by blocks of thirty-two columns. -/
def inTurn (A : FVec Ideal S2x8192x8x2x64 .f32) : FVec Ideal S2x8192x8x128 .f32 :=
  shapeCast S2x8192x8x128 (transpose S2x8192x8x2x2x32 [0, 1, 2, 4, 3, 5] (shapeCast S2x8192x8x2x2x32 A shapeCasts_S2x8192x8x2x64_S2x8192x8x2x2x32) transposes_S2x8192x8x2x2x32_S2x8192x8x2x2x32_0_1_2_4_3_5)
    shapeCasts_S2x8192x8x2x2x32_S2x8192x8x128

/-- The queries scaled. -/
def scaled (A : FVec Ideal S2x8192x8x2x64 .f32) : FVec Ideal S2x8192x8x2x64 .f32 :=
  mulf A (broadcastInDim S2x8192x8x2x64 ![] bcast_S_S2x8192x8x2x64 (Host.divf (constant S_ .f32 0x3E000000#32) (Host.log (constant S_ .f32 0x40000000#32))))

/-- The queries as the kernel takes them. -/
def layQ (A : FVec Ideal S2x8192x8x2x64 .f32) : FVec Ideal S2x8x128x8192 .bf16 :=
  truncf .bf16 (transpose S2x8x128x8192 [0, 2, 3, 1] (inTurn (scaled A)) transposes_S2x8192x8x128_S2x8x128x8192_0_2_3_1) bitsLt_bf16_f32

/-- The keys as the kernel takes them. -/
def layK (A : FVec Ideal S2x8192x8x2x64 .f32) : FVec Ideal S2x8192x1024 .bf16 :=
  truncf .bf16 (shapeCast S2x8192x1024 (inTurn A) shapeCasts_S2x8192x8x128_S2x8192x1024) bitsLt_bf16_f32

/-- The values as the kernel takes them. -/
def layV (A : FVec Ideal S2x8192x8x128 .f32) : FVec Ideal S2x8x144x8192 .bf16 :=
  concatenate S2x8x144x8192 2 [⟨S2x8x128x8192, (truncf .bf16 (transpose S2x8x128x8192 [0, 2, 3, 1] A transposes_S2x8192x8x128_S2x8x128x8192_0_2_3_1) bitsLt_bf16_f32 : FVec Ideal S2x8x128x8192 .bf16)⟩,
    ⟨S2x8x16x8192, (broadcastInDim S2x8x16x8192 ![] bcast_S_S2x8x16x8192 (constant S_ .bf16 0x3F80#16) : FVec Ideal S2x8x16x8192 .bf16)⟩] concatenates_S2x8x128x8192_S2x8x16x8192_S2x8x144x8192_d2

/-- A vector of lambda as the kernel takes it. -/
def layL (A : FVec Ideal S1x64 .f32) : FVec Ideal S1x64 .f32 := shapeCast S1x64 (shapeCast S64 A shapeCasts_S1x64_S64) shapeCasts_S64_S1x64

/-- The gain as the kernel takes it. -/
def layG (A : FVec Ideal S1x128 .f32) : FVec Ideal S128x1 .f32 := shapeCast S128x1 (shapeCast S128 A shapeCasts_S1x128_S128) shapeCasts_S128_S128x1

theorem inTurn_apply (A : FVec Ideal S2x8192x8x2x64 .f32) (b : Fin 2) (n : Fin 8192) (h : Fin 8) (d : Fin 128) :
    inTurn A (ix4 b n h d) = A (ix5 b n h (Fin.ofNat 2 ((d : ℕ) / 32)) (Fin.ofNat 64 ((d : ℕ) / 64 * 32 + d % 32))) := by
  unfold inTurn
  pointwise
  have e : (⟨((d : ℕ) / 64 * 32 + d % 32), by omega⟩ : Fin 64) = Fin.ofNat 64 ((d : ℕ) / 64 * 32 + d % 32) := Fin.ext (Nat.mod_eq_of_lt (by omega)).symm
  exact congrArg (fun j => A (ix5 b n h _ j)) e

theorem scaled_apply (A : FVec Ideal S2x8192x8x2x64 .f32) (b : Fin 2) (n : Fin 8192) (h : Fin 8) (t : Fin 2) (j : Fin 64) :
    scaled A (ix5 b n h t j) = A (ix5 b n h t j) * ((1 / 8 * (1 / Real.log 2) : ℝ) : EReal) := by
  have two : Ideal.ofBits .f32 0x40000000#32 = ((2 : ℝ) : EReal) := by
    simp [Ideal.ofBits, Ideal.ieee]
    erw [← EReal.coe_mul]
    norm_num
  have l2 : Ideal.log ((2 : ℝ) : EReal) = (Real.log 2 : EReal) := by
    rw [Ideal.log_coe, if_neg (by norm_num)]
  unfold scaled
  pointwise
  rw [two, l2, eighth, Ideal.div_coe (Real.log_pos (by norm_num)).ne', ← EReal.coe_mul]

theorem layQ_apply (A : FVec Ideal S2x8192x8x2x64 .f32) (b : Fin 2) (h : Fin 8) (d : Fin 128) (n : Fin 8192) :
    layQ A (ix4 b h d n) = inTurn (scaled A) (ix4 b n h d) := by
  unfold layQ
  pointwise

theorem layK_apply (A : FVec Ideal S2x8192x8x2x64 .f32) (b : Fin 2) (n : Fin 8192) (h : Fin 8) (d : Fin 128) :
    layK A (ix3 b n (⟨128 * h + d, by omega⟩ : Fin 1024)) = inTurn A (ix4 b n h d) := by
  unfold layK
  pointwise

theorem layV_apply (A : FVec Ideal S2x8192x8x128 .f32) (b : Fin 2) (h : Fin 8) (e : Fin 144) (n : Fin 8192) :
    layV A (ix4 b h e n) = if he : (e : ℕ) < 128 then A (ix4 b n h ⟨e, he⟩) else 1 := by
  unfold layV
  pointwise

theorem layL_apply (A : FVec Ideal S1x64 .f32) (d : Fin 64) : layL A (ix2 (0 : Fin 1) d) = A (ix2 (0 : Fin 1) d) := by
  unfold layL
  pointwise

theorem layG_apply (A : FVec Ideal S1x128 .f32) (e : Fin 128) : layG A (ix2 e (0 : Fin 1)) = A (ix2 (0 : Fin 1) e) := by
  unfold layG
  pointwise

variable (m : (ℓ : Loc nD τ sig) → Buf (Elt Ideal) ℓ) (c : Dev nD)

theorem V_v8 : V m c main_v8 = layQ (m ((c : Thread nD τ).loc main_arg0)) := by
  dsimp only [V, hostOps0]
  after_results_simp <;> rfl

theorem V_v13 : V m c main_v13 = layK (m ((c : Thread nD τ).loc main_arg1)) := by
  dsimp only [V, hostOps0]
  after_results_simp <;> rfl

theorem V_v17 : V m c main_v17 = layV (m ((c : Thread nD τ).loc main_arg2)) := by
  dsimp only [V, hostOps0]
  after_results_simp <;> rfl

theorem V_v19 : V m c main_v19 = layL (m ((c : Thread nD τ).loc main_arg3)) := by
  dsimp only [V, hostOps0]
  after_results_simp <;> rfl

theorem V_v21 : V m c main_v21 = layL (m ((c : Thread nD τ).loc main_arg4)) := by
  dsimp only [V, hostOps0]
  after_results_simp <;> rfl

theorem V_v23 : V m c main_v23 = layL (m ((c : Thread nD τ).loc main_arg5)) := by
  dsimp only [V, hostOps0]
  after_results_simp <;> rfl

theorem V_v25 : V m c main_v25 = layL (m ((c : Thread nD τ).loc main_arg6)) := by
  dsimp only [V, hostOps0]
  after_results_simp <;> rfl

theorem V_v27 : V m c main_v27 = layG (m ((c : Thread nD τ).loc main_arg7)) := by
  dsimp only [V, hostOps0]
  after_results_simp <;> rfl

end Cert.KernelIdeal.Att

end
-- ==== Proof.KI.Blocks.lean ====
/-
  The block of each input window at a grid point, read at an index of the arguments.
-/
module

public import proofs.«01_k».proof.Proof.KI.Layout

@[expose] public section

set_option maxRecDepth 16384

noncomputable section

namespace Cert.KernelIdeal.Att

open Cert.KernelIdeal Cert.KernelIdeal.Gen Cert.Att Idealize.ShloMosaic Idealize.ShloMosaic.TcCoe

variable (m : (ℓ : Loc nD τ sig) → Buf (Elt Ideal) ℓ) (c : Dev nD)

/-- A grid point's coordinates: the batch and the head. -/
theorem coords_eq (t : Fin cfg0.N) : (grid0.coords t 0 : ℕ) = (t : ℕ) / 8 ∧ (grid0.coords t 1 : ℕ) = (t : ℕ) % 8 := by
  rcases fin_N0 t with rfl | rfl | rfl | rfl | rfl | rfl | rfl | rfl | rfl | rfl | rfl | rfl | rfl | rfl | rfl | rfl <;> decide +kernel

/-- A grid point's batch. -/
def bat (t : Fin cfg0.N) : Fin 2 := ⟨(grid0.coords t 0 : ℕ), (grid0.coords t 0).2⟩

/-- A grid point's head. -/
def hea (t : Fin cfg0.N) : Fin 8 := ⟨(grid0.coords t 1 : ℕ), (grid0.coords t 1).2⟩

theorem word_of (t : Fin cfg0.N) (a : Fin 2) : (BitVec.ofNat 32 (grid0.coords t a : ℕ)).toNat = (grid0.coords t a : ℕ) := by
  have h0 : (grid0.coords t 0 : ℕ) < 2 := (grid0.coords t 0).2
  have h1 : (grid0.coords t 1 : ℕ) < 8 := (grid0.coords t 1).2
  rw [BitVec.toNat_ofNat]
  refine Nat.mod_eq_of_lt ?_
  fin_cases a
  · exact h0.trans (by norm_num)
  · exact h1.trans (by norm_num)

theorem blk0_apply (t : Fin cfg0.N) (d : Fin 128) (n : Fin 8192) :
    (iblk m c 0 t : S1x1x128x8192.Idx → Elt Ideal .bf16) (ix4 (0 : Fin 1) (0 : Fin 1) d n) = layQ (m ((c : Thread nD τ).loc main_arg0)) (ix4 (bat t) (hea t) d n) := by
  rw [← V_v8]
  unfold iblk
  refine congrArg (V m c main_v8) (funext fun a => Fin.ext ?_)
  show cc0_transform_0 (grid0.coords t) a * S1x1x128x8192.size a + 1 * _ = _
  fin_cases a
  · show (BitVec.ofNat 32 (grid0.coords t 0 : ℕ)).toNat * 1 + 1 * 0 = (grid0.coords t 0 : ℕ)
    rw [word_of t 0]; omega
  · show (BitVec.ofNat 32 (grid0.coords t 1 : ℕ)).toNat * 1 + 1 * 0 = (grid0.coords t 1 : ℕ)
    rw [word_of t 1]; omega
  · show 0 * 128 + 1 * (d : ℕ) = d; omega
  · show 0 * 8192 + 1 * (n : ℕ) = n; omega

theorem blk1_apply (t : Fin cfg0.N) (n : Fin 8192) (d : Fin 128) :
    (iblk m c 1 t : S1x8192x128.Idx → Elt Ideal .bf16) (ix3 (0 : Fin 1) n d) = layK (m ((c : Thread nD τ).loc main_arg1)) (ix3 (bat t) n (⟨128 * hea t + d, by omega⟩ : Fin 1024)) := by
  rw [← V_v13]
  unfold iblk
  have key : ∀ f : S2x8192x1024.Idx → Elt Ideal .bf16, ((cfg0.win 1).blk t).view.emb (ix3 (0 : Fin 1) n d : S1x8192x128.Idx) = (ix3 (bat t) n (⟨128 * hea t + d, by omega⟩ : Fin 1024) : S2x8192x1024.Idx) →
      (((cfg0.win 1).blk t).view.read (Elt Ideal) f : S1x8192x128.Idx → Elt Ideal .bf16) (ix3 (0 : Fin 1) n d) = f (ix3 (bat t) n (⟨128 * hea t + d, by omega⟩ : Fin 1024)) := fun f h => congrArg f h
  refine key (V m c main_v13) (funext fun a => Fin.ext ?_)
  show cc0_transform_1 (grid0.coords t) a * S1x8192x128.size a + 1 * _ = _
  fin_cases a
  · show (BitVec.ofNat 32 (grid0.coords t 0 : ℕ)).toNat * 1 + 1 * 0 = (grid0.coords t 0 : ℕ)
    rw [word_of t 0]; omega
  · show 0 * 8192 + 1 * (n : ℕ) = n; omega
  · have e : (hea t : ℕ) = (grid0.coords t 1 : ℕ) := rfl
    show (BitVec.ofNat 32 (grid0.coords t 1 : ℕ)).toNat * 128 + 1 * (d : ℕ) = 128 * (hea t : ℕ) + d
    rw [word_of t 1]; omega

theorem blk2_apply (t : Fin cfg0.N) (e : Fin 144) (n : Fin 8192) :
    (iblk m c 2 t : S1x1x144x8192.Idx → Elt Ideal .bf16) (ix4 (0 : Fin 1) (0 : Fin 1) e n) = layV (m ((c : Thread nD τ).loc main_arg2)) (ix4 (bat t) (hea t) e n) := by
  rw [← V_v17]
  unfold iblk
  refine congrArg (V m c main_v17) (funext fun a => Fin.ext ?_)
  show cc0_transform_2 (grid0.coords t) a * S1x1x144x8192.size a + 1 * _ = _
  fin_cases a
  · show (BitVec.ofNat 32 (grid0.coords t 0 : ℕ)).toNat * 1 + 1 * 0 = (grid0.coords t 0 : ℕ)
    rw [word_of t 0]; omega
  · show (BitVec.ofNat 32 (grid0.coords t 1 : ℕ)).toNat * 1 + 1 * 0 = (grid0.coords t 1 : ℕ)
    rw [word_of t 1]; omega
  · show 0 * 144 + 1 * (e : ℕ) = e; omega
  · show 0 * 8192 + 1 * (n : ℕ) = n; omega

theorem blk3_apply (t : Fin cfg0.N) (d : Fin 64) :
    (iblk m c 3 t : S1x64.Idx → Elt Ideal .f32) (ix2 (0 : Fin 1) d) = (m ((c : Thread nD τ).loc main_arg3) : S1x64.Idx → Elt Ideal .f32) (ix2 (0 : Fin 1) d) := by
  refine Eq.trans ?_ (layL_apply (m ((c : Thread nD τ).loc main_arg3)) d)
  rw [← V_v19]
  unfold iblk
  refine congrArg (V m c main_v19) (funext fun a => Fin.ext ?_)
  show cc0_transform_3 (grid0.coords t) a * S1x64.size a + 1 * _ = _
  fin_cases a
  · rfl
  · show 0 * 64 + 1 * (d : ℕ) = d; omega

theorem blk4_apply (t : Fin cfg0.N) (d : Fin 64) :
    (iblk m c 4 t : S1x64.Idx → Elt Ideal .f32) (ix2 (0 : Fin 1) d) = (m ((c : Thread nD τ).loc main_arg4) : S1x64.Idx → Elt Ideal .f32) (ix2 (0 : Fin 1) d) := by
  refine Eq.trans ?_ (layL_apply (m ((c : Thread nD τ).loc main_arg4)) d)
  rw [← V_v21]
  unfold iblk
  refine congrArg (V m c main_v21) (funext fun a => Fin.ext ?_)
  show cc0_transform_4 (grid0.coords t) a * S1x64.size a + 1 * _ = _
  fin_cases a
  · rfl
  · show 0 * 64 + 1 * (d : ℕ) = d; omega

theorem blk5_apply (t : Fin cfg0.N) (d : Fin 64) :
    (iblk m c 5 t : S1x64.Idx → Elt Ideal .f32) (ix2 (0 : Fin 1) d) = (m ((c : Thread nD τ).loc main_arg5) : S1x64.Idx → Elt Ideal .f32) (ix2 (0 : Fin 1) d) := by
  refine Eq.trans ?_ (layL_apply (m ((c : Thread nD τ).loc main_arg5)) d)
  rw [← V_v23]
  unfold iblk
  refine congrArg (V m c main_v23) (funext fun a => Fin.ext ?_)
  show cc0_transform_5 (grid0.coords t) a * S1x64.size a + 1 * _ = _
  fin_cases a
  · rfl
  · show 0 * 64 + 1 * (d : ℕ) = d; omega

theorem blk6_apply (t : Fin cfg0.N) (d : Fin 64) :
    (iblk m c 6 t : S1x64.Idx → Elt Ideal .f32) (ix2 (0 : Fin 1) d) = (m ((c : Thread nD τ).loc main_arg6) : S1x64.Idx → Elt Ideal .f32) (ix2 (0 : Fin 1) d) := by
  refine Eq.trans ?_ (layL_apply (m ((c : Thread nD τ).loc main_arg6)) d)
  rw [← V_v25]
  unfold iblk
  refine congrArg (V m c main_v25) (funext fun a => Fin.ext ?_)
  show cc0_transform_6 (grid0.coords t) a * S1x64.size a + 1 * _ = _
  fin_cases a
  · rfl
  · show 0 * 64 + 1 * (d : ℕ) = d; omega

theorem blk7_apply (t : Fin cfg0.N) (e : Fin 128) :
    (iblk m c 7 t : S128x1.Idx → Elt Ideal .f32) (ix2 e (0 : Fin 1)) = (m ((c : Thread nD τ).loc main_arg7) : S1x128.Idx → Elt Ideal .f32) (ix2 (0 : Fin 1) e) := by
  refine Eq.trans ?_ (layG_apply (m ((c : Thread nD τ).loc main_arg7)) e)
  rw [← V_v27]
  unfold iblk
  refine congrArg (V m c main_v27) (funext fun a => Fin.ext ?_)
  show cc0_transform_7 (grid0.coords t) a * S128x1.size a + 1 * _ = _
  fin_cases a
  · show 0 * 128 + 1 * (e : ℕ) = e; omega
  · rfl

end Cert.KernelIdeal.Att

end
-- ==== Proof.KI.Half.lean ====
/-
  One half of a trip of the attention's tile loop, run once for each of the three kinds of tile it may meet. A half computes the
  scores of the NEXT tile into one pair of score buffers and folds THIS tile's scores, from the other pair, into the running
  maximum and the accumulator; on a row's last tile it also normalises the finished query block, stores it, and resets the
  accumulators. The results name what each buffer holds after the half, over whatever it held before.
-/
module

public import proofs.«01_k».proof.Proof.Gen.KernelIdeal.Loops
public import proofs.«01_k».proof.Proof.Gen.KernelIdeal.Frame
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a memref's buffer holds on core `c`, as an assertion: the whole buffer at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- What a memref's buffer may hold on core `c`. -/
abbrev B (c : Dev nD) {sp : Space} {S : Shape} {e : EltTy} (M : Memref sig .tc sp S e) : Type := Buf (Elt F) (M.view.loc (c : Thread nD τ))

/-- The pair of words of the tile after `(a, b)`'s, as the kernel computes it: the next key block of the row, or the first of the
    next row (the last row's own where there is none). -/
def step1 (a b : BitVec 32) : BitVec 32 × BitVec 32 :=
  (Scalar.select (Scalar.cmpi .eq b (Scalar.subi (Scalar.addi (Scalar.muli 1#32 a) 1#32) 1#32)) (Scalar.minsi (Scalar.addi a 1#32) 15#32) a,
   Scalar.select (Scalar.cmpi .eq b (Scalar.subi (Scalar.addi (Scalar.muli 1#32 a) 1#32) 1#32)) 0#32 (Scalar.addi b 1#32))

/-- The pair two tiles after `(a, b)`'s: what a trip carries on. -/
def step2 (a b : BitVec 32) : BitVec 32 × BitVec 32 := step1 (step1 a b).1 (step1 a b).2

section Half

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)
  (v0 : IVec S128x512 32) (v53 : IVec S512x512 1) (z1 z2 : BitVec 32) (k : Fin k0_t1_loop.trips) (a b : BitVec 32) (hw : k0_chk1 a b)

/-! ## What the buffers hold -/

/-- What the seven buffers a trip writes hold: the output block, the running maximum, the accumulator, the two score buffers and
    the two buffers of their column maxima. -/
structure St where
  f10 : B (F := F) c arg10
  f11 : B (F := F) c arg11
  f12 : B (F := F) c arg12
  f13 : B (F := F) c arg13
  f14 : B (F := F) c arg14
  f15 : B (F := F) c arg15
  f16 : B (F := F) c arg16

/-- The seven buffers owned at those contents. -/
def own (s : St (F := F) c arg10 arg11 arg12 arg13 arg14 arg15 arg16) : sProp 𝕄 :=
  iprop(pt c arg10 s.f10 ∗ pt c arg11 s.f11 ∗ pt c arg12 s.f12 ∗ pt c arg13 s.f13 ∗ pt c arg14 s.f14 ∗ pt c arg15 s.f15 ∗ pt c arg16 s.f16)

/-- What the eight buffers a trip only reads hold: queries, keys, values with their rows of ones, the four lambda vectors, the gain. -/
structure Ro where
  f2 : B (F := F) c arg2
  f3 : B (F := F) c arg3
  f4 : B (F := F) c arg4
  f5 : B (F := F) c arg5
  f6 : B (F := F) c arg6
  f7 : B (F := F) c arg7
  f8 : B (F := F) c arg8
  f9 : B (F := F) c arg9

/-- The eight buffers owned at those contents. -/
def rds (x : Ro (F := F) c arg2 arg3 arg4 arg5 arg6 arg7 arg8 arg9) : sProp 𝕄 :=
  iprop(pt c arg2 x.f2 ∗ pt c arg3 x.f3 ∗ pt c arg4 x.f4 ∗ pt c arg5 x.f5 ∗ pt c arg6 x.f6 ∗ pt c arg7 x.f7 ∗ pt c arg8 x.f8 ∗ pt c arg9 x.f9)

/-- A run of half a trip: from the buffers at `x` and `s` the program ends with them at `x` and the contents this type's members
    name, returning a value that carries the pair two tiles on. -/
def HalfRun {α : Type} (prog : Prog (TpuEff nD τ sig (Elt F) Λ₀ .tc) α) (y : α → BitVec 32 × BitVec 32)
    (x : Ro (F := F) c arg2 arg3 arg4 arg5 arg6 arg7 arg8 arg9) (s : St (F := F) c arg10 arg11 arg12 arg13 arg14 arg15 arg16) : Type :=
  {s' : St (F := F) c arg10 arg11 arg12 arg13 arg14 arg15 arg16 //
    iprop(rds c arg2 arg3 arg4 arg5 arg6 arg7 arg8 arg9 x ∗ own c arg10 arg11 arg12 arg13 arg14 arg15 arg16 s)
      ⊢ wp frame (wpE (defs₀ (F := F)) Variants.none (c : Thread nD τ) none) Set.univ prog
        fun r => iprop(rds c arg2 arg3 arg4 arg5 arg6 arg7 arg8 arg9 x ∗ own c arg10 arg11 arg12 arg13 arg14 arg15 arg16 s' ∗ ⌜y r = step2 a b⌝)}

variable (f2 : B (F := F) c arg2) (f3 : B (F := F) c arg3) (f4 : B (F := F) c arg4) (f5 : B (F := F) c arg5) (f6 : B (F := F) c arg6)
  (f7 : B (F := F) c arg7) (f8 : B (F := F) c arg8) (f9 : B (F := F) c arg9) (f10 : B (F := F) c arg10) (f11 : B (F := F) c arg11)
  (f12 : B (F := F) c arg12) (f13 : B (F := F) c arg13) (f14 : B (F := F) c arg14) (f15 : B (F := F) c arg15) (f16 : B (F := F) c arg16)

/-- The first half of a trip, as a program. -/
abbrev firstProg := k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 z1 z2 k a b

/-- The rest of a trip after its first half, as a program over what the first half returns: read off the trip's region. -/
def secondCut : Σ' rest, k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (a, b)
      = (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k a b) >>= rest :=
  ⟨_, rfl⟩

/-- The second half of a trip, as a program over what the first half returns. -/
abbrev secondProg (r) := (secondCut (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k a b).1 r

set_option maxHeartbeats 4000000 in
/-- The first half where the next tile is not masked. -/
def firstMid (h1 : k0_cond1 a b = 1#1) (h2 : ¬ k0_cond2 a b = 1#1) (h3 : ¬ k0_cond3 a b = 1#1) :
    HalfRun c arg2 arg3 arg4 arg5 arg6 arg7 arg8 arg9 arg10 arg11 arg12 arg13 arg14 arg15 arg16 a b
      (firstProg i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 z1 z2 k a b)
      (fun r => (r.2.2.2.2.2.1, r.2.2.2.2.2.2.1)) ⟨f2, f3, f4, f5, f6, f7, f8, f9⟩ ⟨f10, f11, f12, f13, f14, f15, f16⟩ := by
  refine ⟨⟨?_, ?_, ?_, ?_, ?_, ?_, ?_⟩, ?run⟩
  case run =>
    dsimp only [rds, own]
    iintro ⟨⟨H2, H3, H4, H5, H6, H7, H8, H9⟩, ⟨H10, H11, H12, H13, H14, H15, H16⟩⟩
    unfold firstProg; rw [k0_part31_eq_skeleton]; unfold k0_part31_skel
    sl_exec
    sl_step
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    ipureintro; exact rfl

set_option maxHeartbeats 4000000 in
/-- The first half where the next tile is the row's diagonal tile. -/
def firstDiag (h1 : ¬ k0_cond1 a b = 1#1) (h2 : k0_cond2 a b = 1#1) (h3 : ¬ k0_cond3 a b = 1#1) :
    HalfRun c arg2 arg3 arg4 arg5 arg6 arg7 arg8 arg9 arg10 arg11 arg12 arg13 arg14 arg15 arg16 a b
      (firstProg i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 z1 z2 k a b)
      (fun r => (r.2.2.2.2.2.1, r.2.2.2.2.2.2.1)) ⟨f2, f3, f4, f5, f6, f7, f8, f9⟩ ⟨f10, f11, f12, f13, f14, f15, f16⟩ := by
  refine ⟨⟨?_, ?_, ?_, ?_, ?_, ?_, ?_⟩, ?run⟩
  case run =>
    dsimp only [rds, own]
    iintro ⟨⟨H2, H3, H4, H5, H6, H7, H8, H9⟩, ⟨H10, H11, H12, H13, H14, H15, H16⟩⟩
    unfold firstProg; rw [k0_part31_eq_skeleton]; unfold k0_part31_skel
    sl_exec
    sl_step
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    ipureintro; exact rfl

set_option maxHeartbeats 4000000 in
/-- The first half where this tile is its row's last. -/
def firstLast (h1 : ¬ k0_cond1 a b = 1#1) (h2 : ¬ k0_cond2 a b = 1#1) (h3 : k0_cond3 a b = 1#1) :
    HalfRun c arg2 arg3 arg4 arg5 arg6 arg7 arg8 arg9 arg10 arg11 arg12 arg13 arg14 arg15 arg16 a b
      (firstProg i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 z1 z2 k a b)
      (fun r => (r.2.2.2.2.2.1, r.2.2.2.2.2.2.1)) ⟨f2, f3, f4, f5, f6, f7, f8, f9⟩ ⟨f10, f11, f12, f13, f14, f15, f16⟩ := by
  refine ⟨⟨?_, ?_, ?_, ?_, ?_, ?_, ?_⟩, ?run⟩
  case run =>
    dsimp only [rds, own]
    iintro ⟨⟨H2, H3, H4, H5, H6, H7, H8, H9⟩, ⟨H10, H11, H12, H13, H14, H15, H16⟩⟩
    unfold firstProg; rw [k0_part31_eq_skeleton]; unfold k0_part31_skel
    sl_exec
    sl_step
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    ipureintro; exact rfl

set_option maxHeartbeats 4000000 in
/-- The second half where the tile after the next is not masked. -/
def secondMid (w1 w2 w3 : BitVec 32) (u : BitVec 1) (y1 y2 w4 : BitVec 32) (hy : (y1, y2) = step2 a b)
    (h4 : k0_cond4 a b = 1#1) (h5 : ¬ k0_cond5 a b = 1#1) (h6 : ¬ k0_cond6 a b = 1#1) :
    HalfRun c arg2 arg3 arg4 arg5 arg6 arg7 arg8 arg9 arg10 arg11 arg12 arg13 arg14 arg15 arg16 a b
      (secondProg i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k a b
        ⟨hw, w1, w2, w3, u, y1, y2, w4⟩)
      id ⟨f2, f3, f4, f5, f6, f7, f8, f9⟩ ⟨f10, f11, f12, f13, f14, f15, f16⟩ := by
  refine ⟨⟨?_, ?_, ?_, ?_, ?_, ?_, ?_⟩, ?run⟩
  case run =>
    dsimp only [rds, own]
    iintro ⟨⟨H2, H3, H4, H5, H6, H7, H8, H9⟩, ⟨H10, H11, H12, H13, H14, H15, H16⟩⟩
    dsimp only [secondProg, secondCut]
    sl_exec
    sl_step
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    ipureintro; exact hy

set_option maxHeartbeats 4000000 in
/-- The second half where the tile after the next is its row's diagonal tile. -/
def secondDiag (w1 w2 w3 : BitVec 32) (u : BitVec 1) (y1 y2 w4 : BitVec 32) (hy : (y1, y2) = step2 a b)
    (h4 : ¬ k0_cond4 a b = 1#1) (h5 : k0_cond5 a b = 1#1) (h6 : ¬ k0_cond6 a b = 1#1) :
    HalfRun c arg2 arg3 arg4 arg5 arg6 arg7 arg8 arg9 arg10 arg11 arg12 arg13 arg14 arg15 arg16 a b
      (secondProg i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k a b
        ⟨hw, w1, w2, w3, u, y1, y2, w4⟩)
      id ⟨f2, f3, f4, f5, f6, f7, f8, f9⟩ ⟨f10, f11, f12, f13, f14, f15, f16⟩ := by
  refine ⟨⟨?_, ?_, ?_, ?_, ?_, ?_, ?_⟩, ?run⟩
  case run =>
    dsimp only [rds, own]
    iintro ⟨⟨H2, H3, H4, H5, H6, H7, H8, H9⟩, ⟨H10, H11, H12, H13, H14, H15, H16⟩⟩
    dsimp only [secondProg, secondCut]
    sl_exec
    sl_step
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    ipureintro; exact hy

set_option maxHeartbeats 4000000 in
/-- The second half where the next tile is its row's last. -/
def secondLast (w1 w2 w3 : BitVec 32) (u : BitVec 1) (y1 y2 w4 : BitVec 32) (hy : (y1, y2) = step2 a b)
    (h4 : ¬ k0_cond4 a b = 1#1) (h5 : ¬ k0_cond5 a b = 1#1) (h6 : k0_cond6 a b = 1#1) :
    HalfRun c arg2 arg3 arg4 arg5 arg6 arg7 arg8 arg9 arg10 arg11 arg12 arg13 arg14 arg15 arg16 a b
      (secondProg i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k a b
        ⟨hw, w1, w2, w3, u, y1, y2, w4⟩)
      id ⟨f2, f3, f4, f5, f6, f7, f8, f9⟩ ⟨f10, f11, f12, f13, f14, f15, f16⟩ := by
  refine ⟨⟨?_, ?_, ?_, ?_, ?_, ?_, ?_⟩, ?run⟩
  case run =>
    dsimp only [rds, own]
    iintro ⟨⟨H2, H3, H4, H5, H6, H7, H8, H9⟩, ⟨H10, H11, H12, H13, H14, H15, H16⟩⟩
    dsimp only [secondProg, secondCut]
    sl_exec
    sl_step
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10 H11 H12 H13 H14 H15 H16]
    · isplitl [H10]; · iexact H10
      isplitl [H11]; · iexact H11
      isplitl [H12]; · iexact H12
      isplitl [H13]; · iexact H13
      isplitl [H14]; · iexact H14
      isplitl [H15]; · iexact H15
      iexact H16
    ipureintro; exact hy

end Half

end Cert.KernelIdeal.Att
-- ==== Proof.KI.Ops.lean ====
/-
  The array operations of the attention's tile loop at the exact instance, each as one function of the arrays it reads, and each read
  at an index.
-/
module

public import proofs.«01_k».proof.Proof.KI.Half
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe

/-- Which of the two sub-heads a row of the query block belongs to, as the kernel computes it from the row numbers. -/
def rowHalf (v0 : IVec S128x512 32) : IVec S128x512 32 :=
  have v251 : IVec S128x512 32 := divsi v0 (broadcast S128x512 32#32)
  have v258 : IVec S128x512 32 := subi (extui 32 (cmpi .sgt v0 (broadcast S128x512 0#32)) natLt_1_32) (extui 32 (cmpi .slt v0 (broadcast S128x512 0#32)) natLt_1_32)
  have v270 : IVec S128x512 1 := andi (cmpi .ne v258 (broadcast S128x512 1#32)) (cmpi .ne (remsi v0 (broadcast S128x512 32#32)) (broadcast S128x512 0#32))
  have v273 : IVec S128x512 32 := select v270 (subi v251 (broadcast S128x512 1#32)) v251
  have v277 : IVec S128x512 32 := remsi v273 (broadcast S128x512 2#32)
  have v279 : IVec S128x512 1 := cmpi .ne v277 (broadcast S128x512 0#32)
  have v285 : IVec S128x512 1 := xori (cmpi .slt v277 (broadcast S128x512 0#32)) (broadcastTo S128x512 (broadcast S128x512 0#1) broadcasts_S128x512_S128x512)
  select (andi v285 v279) (addi v277 (broadcast S128x512 2#32)) v277

/-- The rows of a query block that belong to one sub-head, the others zero. -/
def rowsOf (t : BitVec 32) (v0 : IVec S128x512 32) (Q : FVec Ideal S128x512 .bf16) : FVec Ideal S128x512 .bf16 :=
  select (cmpi .eq (rowHalf v0) (broadcast S128x512 t)) Q (broadcast S128x512 (FloatOps.ofBits .bf16 0#16))

/-- The scores of a tile that is not masked. -/
def fullScore (t : BitVec 32) (v0 : IVec S128x512 32) (Q : FVec Ideal S128x512 .bf16) (K : FVec Ideal S512x128 .bf16) : FVec Ideal S512x512 .f32 :=
  matmul dot_S512x128_S128x512_S512x512_1_0_0_1_n_n none K (rowsOf t v0 Q) (constant S512x512 .f32 0#32)

/-- The scores of a diagonal tile: only three of its quarters are multiplied out, and what a query may not see is masked. -/
def diagScore (t : BitVec 32) (v0 : IVec S128x512 32) (v53 : IVec S512x512 1) (Q : FVec Ideal S128x512 .bf16) (K : FVec Ideal S512x128 .bf16) : FVec Ideal S512x512 .f32 :=
  have v175 : FVec Ideal S256x128 .bf16 := extractStridedSlice S256x128 ![256, 0] K slices_S512x128_o256_0_S256x128
  have v176 : FVec Ideal S128x256 .bf16 := extractStridedSlice S128x256 ![0, 256] (rowsOf t v0 Q) slices_S128x512_o0_256_S128x256
  have v177 : FVec Ideal S256x256 .f32 := matmul dot_S256x128_S128x256_S256x256_1_0_0_1_n_n none v175 v176 (constant S256x256 .f32 0#32)
  have v178 : FVec Ideal S256x128 .bf16 := extractStridedSlice S256x128 ![0, 0] K slices_S512x128_o0_0_S256x128
  have v179 : FVec Ideal S256x512 .f32 := matmul dot_S256x128_S128x512_S256x512_1_0_0_1_n_n none v178 (rowsOf t v0 Q) (constant S256x512 .f32 0#32)
  have v181 : FVec Ideal S256x512 .f32 := concatenate S256x512 1 [⟨S256x256, broadcast S256x256 (Named.named κ "mask" 0xF149F2CA#32)⟩, ⟨S256x256, v177⟩] concatenates_S256x256_S256x256_S256x512_d1
  have v182 : FVec Ideal S512x512 .f32 := concatenate S512x512 0 [⟨S256x512, v179⟩, ⟨S256x512, v181⟩] concatenates_S256x512_S256x512_S512x512_d0
  select v53 v182 (broadcast S512x512 (Named.named κ "mask" 0xF149F2CA#32))

/-- Each query's greatest score in a tile. -/
def colMax (s : FVec Ideal S512x512 .f32) : FVec Ideal S1x512 .f32 :=
  shapeCast S1x512 (multiReduction .maximumf [0] S512 s 0xFF800000#32 reduces_S512x512_S512 (.inl rfl) rfl) shapeCasts_S512_S1x512

/-- The accumulator after a tile: what it held, scaled to the new maximum, and the tile's values weighted by their scores. -/
def newAcc (V : FVec Ideal S144x512 .bf16) (m t : FVec Ideal S1x512 .f32) (s : FVec Ideal S512x512 .f32) (A : FVec Ideal S144x512 .f32) : FVec Ideal S144x512 .f32 :=
  addf (mulf (broadcastTo S144x512 (exp2 (subf m (maximumf m t))) broadcasts_S1x512_S144x512) A)
    (matmul dot_S144x512_S512x512_S144x512_1_0_0_1_n_n none V (exp2 (truncf .bf16 (subf s (broadcastTo S512x512 (maximumf m t) broadcasts_S1x512_S512x512)) bitsLt_bf16_f32))
      (constant S144x512 .f32 0#32))

/-- Lambda, from its four vectors. -/
def lamOf (x5 x6 x7 x8 : FVec Ideal S1x64 .f32) : FVec Ideal S1x1 .f32 :=
  addf (subf (exp (shapeCast S1x1 (multiReduction .add [1] S1 (mulf x5 x6) 0x00000000#32 reduces_S1x64_S1 (.inl rfl) rfl) shapeCasts_S1_S1x1))
      (exp (shapeCast S1x1 (multiReduction .add [1] S1 (mulf x7 x8) 0x00000000#32 reduces_S1x64_S1 (.inl rfl) rfl) shapeCasts_S1_S1x1)))
    (broadcast S1x1 (FloatOps.ofBits .f32 0x3E4CCCCD#32))

/-- The two sub-heads' averages, the second scaled by lambda and taken off the first. -/
def mixed (lam : FVec Ideal S1x1 .f32) (A0 A1 : FVec Ideal S144x512 .f32) : FVec Ideal S128x512 .f32 :=
  subf (mulf (extractStridedSlice S128x512 ![0, 0] A0 slices_S144x512_o0_0_S128x512)
      (broadcastTo S128x512 (divf (broadcast S1x512 (FloatOps.ofBits .f32 0x3F800000#32)) (extractStridedSlice S1x512 ![128, 0] A0 slices_S144x512_o128_0_S1x512)) broadcasts_S1x512_S128x512))
    (mulf (extractStridedSlice S128x512 ![0, 0] A1 slices_S144x512_o0_0_S128x512)
      (broadcastTo S128x512 (divf (broadcastTo S1x512 lam broadcasts_S1x1_S1x512) (extractStridedSlice S1x512 ![128, 0] A1 slices_S144x512_o128_0_S1x512)) broadcasts_S1x512_S128x512))

/-- A block of the output from what the averages come to: the root mean square divided out, the gain, the factor, rows for columns. -/
def normed (o : FVec Ideal S128x512 .f32) (x9 : FVec Ideal S128x1 .f32) : FVec Ideal S512x128 .bf16 :=
  have v447 : FVec Ideal S1x512 .f32 := shapeCast S1x512 (multiReduction .add [0] S512 (mulf o o) 0x00000000#32 reduces_S128x512_S512 (.inl rfl) rfl) shapeCasts_S512_S1x512
  have v451 : FVec Ideal S1x512 .f32 := addf (divf v447 (broadcast S1x512 (FloatOps.ofBits .f32 0x43000000#32))) (broadcast S1x512 (FloatOps.ofBits .f32 0x3727C5AC#32))
  have v454 : FVec Ideal S128x512 .f32 := mulf o (broadcastTo S128x512 (rsqrt v451) broadcasts_S1x512_S128x512)
  have v458 : FVec Ideal S128x512 .f32 := mulf v454 (broadcastTo S128x512 x9 broadcasts_S128x1_S128x512)
  have v460 : FVec Ideal S128x512 .f32 := mulf v458 (broadcast S128x512 (FloatOps.ofBits .f32 0x3F4CCCCD#32))
  truncf .bf16 (transpose S512x128 [1, 0] v460 transposes_S128x512_p1_0_S512x128) bitsLt_bf16_f32

/-! ## The operations at an index -/

theorem rowHalf_apply (v0 : IVec S128x512 32) (h : ∀ (d : Fin 128) (i : Fin 512), v0 (ix2 d i) = BitVec.ofNat 32 d) (d : Fin 128) (i : Fin 512) :
    rowHalf v0 (ix2 d i) = BitVec.ofNat 32 (d / 32 % 2) := by
  have key : ∀ d : Fin 128, rowHalf (fun _ => BitVec.ofNat 32 d) (ix2 0 0) = BitVec.ofNat 32 (d / 32 % 2) := by decide +kernel
  rw [← key d, ← h d i]
  unfold rowHalf
  pointwise

theorem rowsOf_apply (t : Fin 2) (v0 : IVec S128x512 32) (h : ∀ (d : Fin 128) (i : Fin 512), v0 (ix2 d i) = BitVec.ofNat 32 d) (Q : FVec Ideal S128x512 .bf16)
    (d : Fin 128) (i : Fin 512) : rowsOf (BitVec.ofNat 32 t) v0 Q (ix2 d i) = if (d : ℕ) / 32 % 2 = t then Q (ix2 d i) else 0 := by
  have key : ∀ (d : Fin 128) (t : Fin 2), IntOp.cmpi .eq (BitVec.ofNat 32 (d / 32 % 2)) (BitVec.ofNat 32 t) = if (d : ℕ) / 32 % 2 = t then 1#1 else 0#1 := by decide +kernel
  pointwise [rowsOf]
  rw [rowHalf_apply v0 h, key]
  unfold Scalar.select
  split <;> simp_all

theorem newAcc_apply (V : FVec Ideal S144x512 .bf16) (m t : FVec Ideal S1x512 .f32) (s : FVec Ideal S512x512 .f32) (A : FVec Ideal S144x512 .f32) (e : Fin 144) (i : Fin 512) :
    newAcc V m t s A (ix2 e i) = Ideal.exp2 (m (ix2 0 i) - max (m (ix2 0 i)) (t (ix2 0 i))) * A (ix2 e i)
      + ∑ k : Fin 512, V (ix2 e k) * Ideal.exp2 (s (ix2 k i) - max (m (ix2 0 i)) (t (ix2 0 i))) := by
  pointwise [newAcc]
  rfl

theorem fullScore_apply (t : Fin 2) (v0 : IVec S128x512 32) (h : ∀ (d : Fin 128) (i : Fin 512), v0 (ix2 d i) = BitVec.ofNat 32 d)
    (Q : FVec Ideal S128x512 .bf16) (K : FVec Ideal S512x128 .bf16) (j i : Fin 512) :
    fullScore (BitVec.ofNat 32 t) v0 Q K (ix2 j i) = ∑ d : Fin 128, K (ix2 j d) * (if (d : ℕ) / 32 % 2 = t then Q (ix2 d i) else 0) := by
  pointwise [fullScore]
  simp only [rowsOf_apply t v0 h]

theorem diagScore_apply (t : Fin 2) (v0 : IVec S128x512 32) (h : ∀ (d : Fin 128) (i : Fin 512), v0 (ix2 d i) = BitVec.ofNat 32 d) (v53 : IVec S512x512 1)
    (h53 : ∀ j i : Fin 512, v53 (ix2 j i) = if (j : ℕ) / 64 ≤ (i : ℕ) / 64 then 1#1 else 0#1) (Q : FVec Ideal S128x512 .bf16) (K : FVec Ideal S512x128 .bf16) (j i : Fin 512) :
    diagScore (BitVec.ofNat 32 t) v0 v53 Q K (ix2 j i) = if (j : ℕ) / 64 ≤ (i : ℕ) / 64 then ∑ d : Fin 128, K (ix2 j d) * (if (d : ℕ) / 32 % 2 = t then Q (ix2 d i) else 0) else ⊥ := by
  have mask : (Named.named κ "mask" 0xF149F2CA#32 : Ideal .f32) = ⊥ := rfl
  pointwise [diagScore]
  rw [h53, mask]
  simp only [rowsOf_apply t v0 h]
  by_cases hji : (j : ℕ) / 64 ≤ (i : ℕ) / 64
  · rw [if_pos hji, if_pos hji]
    refine (if_pos rfl).trans ?_
    by_cases hj : (j : ℕ) < 256
    · exact dif_pos hj
    · have hi : ¬ (i : ℕ) < 256 := by omega
      have ej : (⟨256 + (↑j - 256), by omega⟩ : Fin 512) = j := Fin.ext (by simp only; omega)
      have ei : (⟨256 + (↑i - 256), by omega⟩ : Fin 512) = i := Fin.ext (by simp only; omega)
      refine (dif_neg hj).trans ((dif_neg hi).trans ?_)
      simp only [ej, ei]
  · rw [if_neg hji, if_neg hji]
    rfl

theorem colMax_apply (s : FVec Ideal S512x512 .f32) (i : Fin 512) : colMax s (ix2 0 i) = Finset.univ.fold max ⊥ fun j : Fin 512 => s (ix2 j i) := by
  have e : (Ideal.ofBits .f32 0xFF800000#32) = ⊥ := by simp [Ideal.ofBits, Ideal.ieee]
  pointwise [colMax]
  rw [e]

theorem lamOf_apply (x5 x6 x7 x8 : FVec Ideal S1x64 .f32) : lamOf x5 x6 x7 x8 (ix2 0 0)
    = Ideal.exp (∑ k : Fin 64, x5 (ix2 0 k) * x6 (ix2 0 k)) - Ideal.exp (∑ k : Fin 64, x7 (ix2 0 k) * x8 (ix2 0 k)) + Ideal.ofBits .f32 0x3E4CCCCD#32 := by
  pointwise [lamOf]

theorem mixed_apply (lam : FVec Ideal S1x1 .f32) (A0 A1 : FVec Ideal S144x512 .f32) (e : Fin 128) (i : Fin 512) : mixed lam A0 A1 (ix2 e i)
    = A0 (ix2 (Fin.castLE (by omega) e) i) * Ideal.div 1 (A0 (ix2 128 i)) - A1 (ix2 (Fin.castLE (by omega) e) i) * Ideal.div (lam (ix2 0 0)) (A1 (ix2 128 i)) := by
  pointwise [mixed]
  rfl

theorem normed_apply (o : FVec Ideal S128x512 .f32) (x9 : FVec Ideal S128x1 .f32) (e : Fin 128) (i : Fin 512) : normed o x9 (ix2 i e)
    = o (ix2 e i) * Ideal.rsqrt (Ideal.div (∑ k : Fin 128, o (ix2 k i) * o (ix2 k i)) (Ideal.ofBits .f32 0x43000000#32) + Ideal.ofBits .f32 0x3727C5AC#32)
      * x9 (ix2 e 0) * Ideal.ofBits .f32 0x3F4CCCCD#32 := by
  pointwise [normed]

end Cert.KernelIdeal.Att

end
-- ==== Proof.KI.Slots.lean ====
/-
  The two-slot buffers of the attention's loop: one of the two slabs loaded, both stored, and each read at an index.
-/
module

public import proofs.«01_k».proof.Proof.KI.Ops
public import Idealize.ShloMosaic.Lib.WritesUnit

@[expose] public section

set_option maxRecDepth 16384

noncomputable section

namespace Cert.KernelIdeal.Att

open Cert.KernelIdeal Cert.KernelIdeal.Gen Idealize.ShloMosaic Idealize.ShloMosaic.TcCoe

/-- A buffer of two slabs of `R` rows. -/
abbrev S2R (R : ℕ) : Shape := ⟨3, ![2, R, 512]⟩
/-- One slab, as it is loaded and stored. -/
abbrev S1R (R : ℕ) : Shape := ⟨3, ![1, R, 512]⟩
/-- One slab as a matrix. -/
abbrev SR (R : ℕ) : Shape := ⟨2, ![R, 512]⟩

section Slots

variable {R : ℕ} (c : Dev nD) (M : Memref sig .tc .vmem (S2R R) .f32) (f : B (F := Ideal) c M)

/-- What a two-slab buffer holds, as it reads. -/
abbrev rd : (S2R R).Idx → EReal := M.view.read (Elt Ideal) f

/-- Slab `t` loaded as a matrix. -/
def slab (t : ℕ) (h : ∀ a, (![t, 0, 0] : Fin 3 → ℕ) a + (S1R R).size a ≤ (S2R R).size a) (hc : Shape.ShapeCasts (S1R R) (SR R)) : FVec Ideal (SR R) .f32 :=
  shapeCast (SR R) (View.readAt (Elt Ideal) M.view (Rect.unit (s := S2R R) ![t, 0, 0] (S1R R).size h).toLoadRect f) hc

/-- The two pieces of a store of both slabs, slab 1 the newer. -/
def both (h0 : ∀ a, (![0, 0, 0] : Fin 3 → ℕ) a + (S1R R).size a ≤ (S2R R).size a) (h1 : ∀ a, (![1, 0, 0] : Fin 3 → ℕ) a + (S1R R).size a ≤ (S2R R).size a)
    (hc : Shape.ShapeCasts (SR R) (S1R R)) (p0 p1 : FVec Ideal (SR R) .f32) : List (View.Piece (Elt Ideal) (S2R R) .f32) :=
  [⟨Rect.unit (s := S2R R) ![1, 0, 0] (S1R R).size h1, shapeCast (S1R R) p1 hc⟩, ⟨Rect.unit (s := S2R R) ![0, 0, 0] (S1R R).size h0, shapeCast (S1R R) p0 hc⟩]

/-- A slab cast to a matrix and back keeps rows and columns. -/
theorem cast_up (p : FVec Ideal (SR R) .f32) (hc : Shape.ShapeCasts (SR R) (S1R R)) (r : Fin R) (i : Fin 512) :
    shapeCast (S1R R) p hc (ix3 (0 : Fin 1) r i) = p (ix2 r i) := by
  refine shapeCast_apply p hc _ _ ?_
  rw [Shape.rowMajor_val_two, Shape.rowMajor_val_three]
  simp

/-- A loaded slab reads the buffer at that slab. -/
theorem slab_apply (t : Fin 2) (h) (hc) (r : Fin R) (i : Fin 512) : slab c M f t h hc (ix2 r i) = rd c M f (ix3 t r i) := by
  unfold slab rd
  rw [shapeCast_apply _ hc (ix2 r i) (ix3 (0 : Fin 1) r i) (by rw [Shape.rowMajor_val_two, Shape.rowMajor_val_three]; simp), View.readAt_apply]
  refine congrArg _ (funext fun a => Fin.ext ?_)
  fin_cases a <;> simp [Rect.unit, LoadRect.idx]

/-- Both slabs stored, the buffer reads the stored matrices. -/
theorem rd_both (h0 h1 hc) (p0 p1 : FVec Ideal (SR R) .f32) (t : Fin 2) (r : Fin R) (i : Fin 512) :
    rd c M (M.view.writes (Elt Ideal) f (both h0 h1 hc p0 p1)) (ix3 t r i) = if t = 0 then p0 (ix2 r i) else p1 (ix2 r i) := by
  unfold both rd
  fin_cases t
  · rw [View.read_writes_cons_unit_of_not_mem M.view f h1 _ _ _ rfl 0 (.inl Nat.zero_lt_one),
      View.read_writes_cons_unit_of_mem M.view f h0 _ _ _ (ix3 (0 : Fin 1) r i) rfl (by intro a; fin_cases a <;> simp)]
    exact cast_up p0 hc r i
  · rw [View.read_writes_cons_unit_of_mem M.view f h1 _ _ _ (ix3 (0 : Fin 1) r i) rfl (by intro a; fin_cases a <;> simp)]
    exact cast_up p1 hc r i

include c in
/-- Slab 0 of the two just stored, loaded, is the matrix stored there. -/
theorem cov0 (h0 h1 hc) (hc') (p0 p1 : FVec Ideal (SR R) .f32) :
    shapeCast (SR R) (M.view.readCov (both h0 h1 hc p0 p1) (Rect.unit (s := S2R R) ![0, 0, 0] (S1R R).size h0).toLoadRect) hc' = p0 := by
  funext j
  obtain ⟨j0, j1, rfl⟩ : ∃ (a : Fin R) (b : Fin 512), j = ix2 a b := ⟨j 0, j 1, funext fun a => by fin_cases a <;> rfl⟩
  exact (slab_apply c M (M.view.writes (Elt Ideal) M.view.junk (both h0 h1 hc p0 p1)) 0 _ hc' j0 j1).trans (rd_both c M M.view.junk h0 h1 hc p0 p1 0 j0 j1)

include c in
/-- Slab 1 of the two just stored, loaded, is the matrix stored there. -/
theorem cov1 (h0 h1 hc) (hc') (p0 p1 : FVec Ideal (SR R) .f32) :
    shapeCast (SR R) (M.view.readCov (both h0 h1 hc p0 p1) (Rect.unit (s := S2R R) ![1, 0, 0] (S1R R).size h1).toLoadRect) hc' = p1 := by
  funext j
  obtain ⟨j0, j1, rfl⟩ : ∃ (a : Fin R) (b : Fin 512), j = ix2 a b := ⟨j 0, j 1, funext fun a => by fin_cases a <;> rfl⟩
  exact (slab_apply c M (M.view.writes (Elt Ideal) M.view.junk (both h0 h1 hc p0 p1)) 1 _ hc' j0 j1).trans (rd_both c M M.view.junk h0 h1 hc p0 p1 1 j0 j1)

end Slots

end Cert.KernelIdeal.Att

end
-- ==== Proof.KI.Words.lean ====
/-
  The index words of the attention's flat tile loop. A trip carries the pair `(qi, kt)` of a query block and a key block,
  `kt ≤ qi < 16`, and works on two tiles: `(qi, kt)` itself and the one after it. Here, for every such pair: the side condition
  the body assumes holds, the six conditions say which of the three kinds of tile each half meets, the carried pair moves on
  as the row-by-row order does, and the offsets of the loads and stores in closed form.
-/
module

public import proofs.«01_k».proof.Proof.Gen.KernelIdeal.Skeleton

@[expose] public section

set_option maxRecDepth 16384

namespace Cert.KernelIdeal.Att

open Cert.KernelIdeal Cert.KernelIdeal.Gen
open Idealize.ShloMosaic

/-- The query block after `(qi, kt)`'s tile, in the order row by row over the tiles on and below the diagonal. -/
def nq (qi kt : ℕ) : ℕ := if kt = qi then min (qi + 1) 15 else qi
/-- The key block after `(qi, kt)`'s tile. -/
def nk (qi kt : ℕ) : ℕ := if kt = qi then 0 else kt + 1

/-- The word of a block number. -/
abbrev w (n : ℕ) : BitVec 32 := BitVec.ofNat 32 n

set_option maxHeartbeats 4000000 in
/-- The side condition the body assumes of the carried pair, at every pair the loop carries. -/
theorem chk : ∀ qi kt : Fin 16, kt ≤ qi → k0_chk1 (w qi) (w kt) := by decide +kernel

/-- The first half's three conditions: the tile after this one is unmasked, is the diagonal's, or starts another row. -/
theorem conds1 : ∀ qi kt : Fin 16, kt ≤ qi →
    ((k0_cond1 (w qi) (w kt) = 1#1 ↔ kt.val + 1 < qi) ∧ (k0_cond2 (w qi) (w kt) = 1#1 ↔ kt.val + 1 = qi)
      ∧ (k0_cond3 (w qi) (w kt) = 1#1 ↔ kt = qi)) := by decide +kernel

/-- The second half's three conditions, of the tile after the carried one. -/
theorem conds2 : ∀ qi kt : Fin 16, kt ≤ qi →
    ((k0_cond4 (w qi) (w kt) = 1#1 ↔ nk qi kt + 1 < nq qi kt) ∧ (k0_cond5 (w qi) (w kt) = 1#1 ↔ nk qi kt + 1 = nq qi kt)
      ∧ (k0_cond6 (w qi) (w kt) = 1#1 ↔ nk qi kt = nq qi kt)) := by decide +kernel

/-- The first half's loads: the next tile's queries and keys, this tile's values; and its store of a finished query block. -/
theorem offs1 : ∀ qi kt : Fin 16, kt ≤ qi →
    ((kt.val + 1 < qi → k0_off1 (w qi) (w kt) = ![0, 0, 0, nq qi kt * 512] ∧ k0_off2 (w qi) (w kt) = ![0, nk qi kt * 512, 0])
      ∧ k0_off3 (w kt) = ![0, 0, 0, kt.val * 512]
      ∧ k0_off4 (w qi) (w kt) = ![0, 0, 0, nq qi kt * 512] ∧ k0_off5 (w qi) (w kt) = ![0, nk qi kt * 512, 0]
      ∧ k0_off6 (w kt) = ![0, 0, 0, kt.val * 512]
      ∧ k0_off7 (w qi) (w kt) = ![0, 0, 0, nq qi kt * 512] ∧ k0_off8 (w qi) (w kt) = ![0, nk qi kt * 512, 0]
      ∧ k0_off9 (w kt) = ![0, 0, 0, kt.val * 512] ∧ k0_off10 (w qi) = ![0, qi.val * 512, 0]) := by decide +kernel

/-- The second half's loads and store, for the tile after the carried one. -/
theorem offs2 : ∀ qi kt : Fin 16, kt ≤ qi →
    (k0_off11 (w qi) (w kt) = ![0, 0, 0, nq (nq qi kt) (nk qi kt) * 512] ∧ k0_off12 (w qi) (w kt) = ![0, nk (nq qi kt) (nk qi kt) * 512, 0]
      ∧ k0_off13 (w qi) (w kt) = ![0, 0, 0, nk qi kt * 512]
      ∧ k0_off14 (w qi) (w kt) = ![0, 0, 0, nq (nq qi kt) (nk qi kt) * 512] ∧ k0_off15 (w qi) (w kt) = ![0, nk (nq qi kt) (nk qi kt) * 512, 0]
      ∧ k0_off16 (w qi) (w kt) = ![0, 0, 0, nk qi kt * 512]
      ∧ k0_off17 (w qi) (w kt) = ![0, 0, 0, nq (nq qi kt) (nk qi kt) * 512] ∧ k0_off18 (w qi) (w kt) = ![0, nk (nq qi kt) (nk qi kt) * 512, 0]
      ∧ k0_off19 (w qi) (w kt) = ![0, 0, 0, nk qi kt * 512] ∧ k0_off20 (w qi) (w kt) = ![0, nq qi kt * 512, 0]) := by decide +kernel

end Cert.KernelIdeal.Att
-- ==== Proof.KI.Trip.lean ====
/-
  The attention's flat tile loop. Its invariant carries the pair of block numbers of the tile the trip works on, and a predicate
  on what the buffers hold when that tile is met, which the two halves of a trip carry from one tile to the next.
-/
module

public import Mathlib.Tactic.Ring
public import proofs.«01_k».proof.Proof.KI.Words
public import proofs.«01_k».proof.Proof.KI.Half

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The query block after `(qi, kt)`'s tile, the block past the last counted on. -/
def sq (qi kt : ℕ) : ℕ := if kt = qi then qi + 1 else qi

/-- How many tiles come before `(qi, kt)`'s. -/
def pos (qi kt : ℕ) : ℕ := qi * (qi + 1) / 2 + kt

/-- `step2` on the words of a pair is two tiles on. -/
theorem step2_words : ∀ qi kt : Fin 16, kt ≤ qi →
    step2 (w qi) (w kt) = (w (nq (nq qi kt) (nk qi kt)), w (nk (nq qi kt) (nk qi kt))) := by decide +kernel

/-- The place of the next tile is the next place. -/
theorem pos_next (qi kt : ℕ) (h : kt ≤ qi) : pos (sq qi kt) (nk qi kt) = pos qi kt + 1 := by
  unfold pos sq nk
  by_cases e : kt = qi
  · subst e; simp only [if_true]
    have : (kt + 1) * (kt + 1 + 1) = kt * (kt + 1) + (kt + 1) * 2 := by ring
    rw [this, Nat.add_mul_div_right _ _ (by norm_num)]; omega
  · simp only [if_neg e]; omega

/-- A tile's place is among the 136 exactly where its row is among the 16. -/
theorem pos_row {qi kt : ℕ} (h : kt ≤ qi) (hp : pos qi kt < 136) : qi < 16 := by
  by_contra hq
  have : 16 * 17 ≤ qi * (qi + 1) := Nat.mul_le_mul (by omega) (by omega)
  unfold pos at hp; omega

theorem nk_le {qi kt : ℕ} (h : kt ≤ qi) : nk qi kt ≤ sq qi kt := by
  unfold nk sq; split <;> omega

section Trip

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)
  (v0 : IVec S128x512 32) (v53 : IVec S512x512 1) (k : Fin k0_t1_loop.trips)
  (x : Ro (F := F) c arg2 arg3 arg4 arg5 arg6 arg7 arg8 arg9)
  (Φ Ψ : ℕ → ℕ → St (F := F) c arg10 arg11 arg12 arg13 arg14 arg15 arg16 → Prop)

/-- What is asked of a pair of predicates on the buffers: that the first half of a trip takes the one at a tile to the other at the
    tile after it, and the second half takes the other back to the one, whatever kind of tile each meets. -/
structure Steps : Prop where
  firstMid : ∀ qi kt, kt + 1 < qi → qi < 16 → ∀ hw (h1 : k0_cond1 (w qi) (w kt) = 1#1) (h2 : ¬ k0_cond2 (w qi) (w kt) = 1#1) (h3 : ¬ k0_cond3 (w qi) (w kt) = 1#1) s, Φ qi kt s → Ψ qi (kt + 1) (firstMid (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k (w qi) (w kt) hw x.f2 x.f3 x.f4 x.f5 x.f6 x.f7 x.f8 x.f9 s.f10 s.f11 s.f12 s.f13 s.f14 s.f15 s.f16 h1 h2 h3).1
  firstDiag : ∀ qi kt, kt + 1 = qi → qi < 16 → ∀ hw (h1 : ¬ k0_cond1 (w qi) (w kt) = 1#1) (h2 : k0_cond2 (w qi) (w kt) = 1#1) (h3 : ¬ k0_cond3 (w qi) (w kt) = 1#1) s, Φ qi kt s → Ψ qi (kt + 1) (firstDiag (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k (w qi) (w kt) hw x.f2 x.f3 x.f4 x.f5 x.f6 x.f7 x.f8 x.f9 s.f10 s.f11 s.f12 s.f13 s.f14 s.f15 s.f16 h1 h2 h3).1
  firstLast : ∀ qi kt, kt = qi → qi < 15 → ∀ hw (h1 : ¬ k0_cond1 (w qi) (w kt) = 1#1) (h2 : ¬ k0_cond2 (w qi) (w kt) = 1#1) (h3 : k0_cond3 (w qi) (w kt) = 1#1) s, Φ qi kt s → Ψ (qi + 1) 0 (firstLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k (w qi) (w kt) hw x.f2 x.f3 x.f4 x.f5 x.f6 x.f7 x.f8 x.f9 s.f10 s.f11 s.f12 s.f13 s.f14 s.f15 s.f16 h1 h2 h3).1
  secondMid : ∀ qi kt, kt ≤ qi → sq qi kt < 16 → nk qi kt + 1 < sq qi kt → ∀ hw (w1 w2 w3 : BitVec 32) (u : BitVec 1) (y1 y2 w4 : BitVec 32) (hy : (y1, y2) = step2 (w qi) (w kt)) (h4 : k0_cond4 (w qi) (w kt) = 1#1) (h5 : ¬ k0_cond5 (w qi) (w kt) = 1#1) (h6 : ¬ k0_cond6 (w qi) (w kt) = 1#1) s,
    Ψ (sq qi kt) (nk qi kt) s → Φ (sq qi kt) (nk qi kt + 1) (secondMid (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt) hw x.f2 x.f3 x.f4 x.f5 x.f6 x.f7 x.f8 x.f9 s.f10 s.f11 s.f12 s.f13 s.f14 s.f15 s.f16 w1 w2 w3 u y1 y2 w4 hy h4 h5 h6).1
  secondDiag : ∀ qi kt, kt ≤ qi → sq qi kt < 16 → nk qi kt + 1 = sq qi kt → ∀ hw (w1 w2 w3 : BitVec 32) (u : BitVec 1) (y1 y2 w4 : BitVec 32) (hy : (y1, y2) = step2 (w qi) (w kt)) (h4 : ¬ k0_cond4 (w qi) (w kt) = 1#1) (h5 : k0_cond5 (w qi) (w kt) = 1#1) (h6 : ¬ k0_cond6 (w qi) (w kt) = 1#1) s,
    Ψ (sq qi kt) (nk qi kt) s → Φ (sq qi kt) (nk qi kt + 1) (secondDiag (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt) hw x.f2 x.f3 x.f4 x.f5 x.f6 x.f7 x.f8 x.f9 s.f10 s.f11 s.f12 s.f13 s.f14 s.f15 s.f16 w1 w2 w3 u y1 y2 w4 hy h4 h5 h6).1
  secondLast : ∀ qi kt, kt ≤ qi → sq qi kt < 16 → nk qi kt = sq qi kt → ∀ hw (w1 w2 w3 : BitVec 32) (u : BitVec 1) (y1 y2 w4 : BitVec 32) (hy : (y1, y2) = step2 (w qi) (w kt)) (h4 : ¬ k0_cond4 (w qi) (w kt) = 1#1) (h5 : ¬ k0_cond5 (w qi) (w kt) = 1#1) (h6 : k0_cond6 (w qi) (w kt) = 1#1) s,
    Ψ (sq qi kt) (nk qi kt) s → Φ (sq qi kt + 1) 0 (secondLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt) hw x.f2 x.f3 x.f4 x.f5 x.f6 x.f7 x.f8 x.f9 s.f10 s.f11 s.f12 s.f13 s.f14 s.f15 s.f16 w1 w2 w3 u y1 y2 w4 hy h4 h5 h6).1

/-- The buffers owned at contents that meet a predicate. -/
def some (P : St (F := F) c arg10 arg11 arg12 arg13 arg14 arg15 arg16 → Prop) : sProp 𝕄 :=
  iprop(rds c arg2 arg3 arg4 arg5 arg6 arg7 arg8 arg9 x ∗ ∃ s, ⌜P s⌝ ∗ own c arg10 arg11 arg12 arg13 arg14 arg15 arg16 s)

/-- What a half-run leaves, told only by a predicate its results meet. -/
theorem HalfRun.sat {a b : BitVec 32} {α : Type} {prog : Prog (TpuEff nD τ sig (Elt F) Λ₀ .tc) α} {y : α → BitVec 32 × BitVec 32}
    {s : St (F := F) c arg10 arg11 arg12 arg13 arg14 arg15 arg16} (h : HalfRun c arg2 arg3 arg4 arg5 arg6 arg7 arg8 arg9 arg10 arg11 arg12 arg13 arg14 arg15 arg16 a b prog y x s) {P : St (F := F) c arg10 arg11 arg12 arg13 arg14 arg15 arg16 → Prop} (hP : P h.1) :
    iprop(rds c arg2 arg3 arg4 arg5 arg6 arg7 arg8 arg9 x ∗ own c arg10 arg11 arg12 arg13 arg14 arg15 arg16 s)
      ⊢ wp frame (wpE (defs₀ (F := F)) Variants.none (c : Thread nD τ) none) Set.univ prog
        fun r => iprop(some c arg2 arg3 arg4 arg5 arg6 arg7 arg8 arg9 arg10 arg11 arg12 arg13 arg14 arg15 arg16 x P ∗ ⌜y r = step2 a b⌝) := by
  iintro H
  iapply (wp_wand_r Idealize.ShloMosaic.frame (wpE (defs₀ (F := F)) Variants.none (c : Thread nD τ) none) Set.univ)
  isplitl [H]
  · iapply h.2; iexact H
  iintro %r ⟨HR, HS, %hy⟩
  unfold some
  isplitl [HR HS]
  · isplitl [HR]; · iexact HR
    iexists h.1; isplitr; · ipureintro; exact hP
    iexact HS
  ipureintro; exact hy

/-- The first half at the tile `(qi, kt)`, whatever kind of tile it is. -/
theorem first_half (hS : Steps (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k x Φ Ψ) {qi kt : ℕ} (hk : kt ≤ qi) (hq : sq qi kt < 16)
    {s : St (F := F) c arg10 arg11 arg12 arg13 arg14 arg15 arg16} (hs : Φ qi kt s) :
    iprop(rds c arg2 arg3 arg4 arg5 arg6 arg7 arg8 arg9 x ∗ own c arg10 arg11 arg12 arg13 arg14 arg15 arg16 s)
      ⊢ wp frame (wpE (defs₀ (F := F)) Variants.none (c : Thread nD τ) none) Set.univ
        (firstProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k (w qi) (w kt))
        fun r => iprop(some c arg2 arg3 arg4 arg5 arg6 arg7 arg8 arg9 arg10 arg11 arg12 arg13 arg14 arg15 arg16 x (Ψ (sq qi kt) (nk qi kt)) ∗ ⌜(r.2.2.2.2.2.1, r.2.2.2.2.2.2.1) = step2 (w qi) (w kt)⌝) := by
  have hq16 : qi < 16 := by unfold sq at hq; split at hq <;> omega
  have hk16 : kt < 16 := by omega
  have hw : k0_chk1 (w qi) (w kt) := chk ⟨qi, hq16⟩ ⟨kt, hk16⟩ hk
  have hc : _ ∧ _ ∧ (k0_cond3 (w qi) (w kt) = 1#1 ↔ _) := conds1 ⟨qi, hq16⟩ ⟨kt, hk16⟩ hk
  simp only [Fin.mk.injEq] at hc
  rcases Nat.lt_trichotomy (kt + 1) qi with h | h | h
  · have h1 : k0_cond1 (w qi) (w kt) = 1#1 := hc.1.mpr h
    have h2 : ¬ k0_cond2 (w qi) (w kt) = 1#1 := fun e => by have := hc.2.1.mp e; omega
    have h3 : ¬ k0_cond3 (w qi) (w kt) = 1#1 := fun e => by have := hc.2.2.mp e; omega
    rw [show sq qi kt = qi from if_neg (by omega), show nk qi kt = kt + 1 from if_neg (by omega)]
    exact (firstMid (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k (w qi) (w kt) hw x.f2 x.f3 x.f4 x.f5 x.f6 x.f7 x.f8 x.f9 s.f10 s.f11 s.f12 s.f13 s.f14 s.f15 s.f16 h1 h2 h3).sat (x := x) (P := Ψ qi (kt + 1)) _ _ _ _ _ _ _ _ _ _ _ _ _ _ _ _ (hS.firstMid qi kt h hq16 hw h1 h2 h3 s hs)
  · have h1 : ¬ k0_cond1 (w qi) (w kt) = 1#1 := fun e => by have := hc.1.mp e; omega
    have h2 : k0_cond2 (w qi) (w kt) = 1#1 := hc.2.1.mpr h
    have h3 : ¬ k0_cond3 (w qi) (w kt) = 1#1 := fun e => by have := hc.2.2.mp e; omega
    rw [show sq qi kt = qi from if_neg (by omega), show nk qi kt = kt + 1 from if_neg (by omega)]
    exact (firstDiag (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k (w qi) (w kt) hw x.f2 x.f3 x.f4 x.f5 x.f6 x.f7 x.f8 x.f9 s.f10 s.f11 s.f12 s.f13 s.f14 s.f15 s.f16 h1 h2 h3).sat (x := x) (P := Ψ qi (kt + 1)) _ _ _ _ _ _ _ _ _ _ _ _ _ _ _ _ (hS.firstDiag qi kt h hq16 hw h1 h2 h3 s hs)
  · have e : kt = qi := by omega
    have h1 : ¬ k0_cond1 (w qi) (w kt) = 1#1 := fun e => by have := hc.1.mp e; omega
    have h2 : ¬ k0_cond2 (w qi) (w kt) = 1#1 := fun e => by have := hc.2.1.mp e; omega
    have h3 : k0_cond3 (w qi) (w kt) = 1#1 := hc.2.2.mpr e
    have hq15 : qi < 15 := by rw [show sq qi kt = qi + 1 from if_pos e] at hq; omega
    rw [show sq qi kt = qi + 1 from if_pos e, show nk qi kt = 0 from if_pos e]
    exact (firstLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 0#32 1#32 k (w qi) (w kt) hw x.f2 x.f3 x.f4 x.f5 x.f6 x.f7 x.f8 x.f9 s.f10 s.f11 s.f12 s.f13 s.f14 s.f15 s.f16 h1 h2 h3).sat (x := x) (P := Ψ (qi + 1) 0) _ _ _ _ _ _ _ _ _ _ _ _ _ _ _ _ (hS.firstLast qi kt e hq15 hw h1 h2 h3 s hs)

/-- The second half after the tile `(qi, kt)`, whatever kind of tile the one after it is. -/
theorem second_half (hS : Steps (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k x Φ Ψ) {qi kt : ℕ} (hk : kt ≤ qi) (hq : sq qi kt < 16)
    {s : St (F := F) c arg10 arg11 arg12 arg13 arg14 arg15 arg16} (hs : Ψ (sq qi kt) (nk qi kt) s) (hw : k0_chk1 (w qi) (w kt)) (w1 w2 w3 : BitVec 32) (u : BitVec 1) (y1 y2 w4 : BitVec 32) (hy : (y1, y2) = step2 (w qi) (w kt)) :
    iprop(rds c arg2 arg3 arg4 arg5 arg6 arg7 arg8 arg9 x ∗ own c arg10 arg11 arg12 arg13 arg14 arg15 arg16 s)
      ⊢ wp frame (wpE (defs₀ (F := F)) Variants.none (c : Thread nD τ) none) Set.univ
        (secondProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt) ⟨hw, w1, w2, w3, u, y1, y2, w4⟩)
        fun r => iprop(some c arg2 arg3 arg4 arg5 arg6 arg7 arg8 arg9 arg10 arg11 arg12 arg13 arg14 arg15 arg16 x (Φ (sq (sq qi kt) (nk qi kt)) (nk (sq qi kt) (nk qi kt))) ∗ ⌜r = step2 (w qi) (w kt)⌝) := by
  have hq16 : qi < 16 := by unfold sq at hq; split at hq <;> omega
  have hk16 : kt < 16 := by omega
  have hn : nq qi kt = sq qi kt := by unfold nq; unfold sq at hq ⊢; split at hq <;> simp_all <;> omega
  have hc : _ ∧ _ ∧ (k0_cond6 (w qi) (w kt) = 1#1 ↔ _) := conds2 ⟨qi, hq16⟩ ⟨kt, hk16⟩ hk
  dsimp only at hc; rw [hn] at hc
  have hle := nk_le hk
  rcases Nat.lt_trichotomy (nk qi kt + 1) (sq qi kt) with h | h | h
  · have h4 : k0_cond4 (w qi) (w kt) = 1#1 := hc.1.mpr h
    have h5 : ¬ k0_cond5 (w qi) (w kt) = 1#1 := fun e => by have := hc.2.1.mp e; omega
    have h6 : ¬ k0_cond6 (w qi) (w kt) = 1#1 := fun e => by have := hc.2.2.mp e; omega
    rw [show sq (sq qi kt) (nk qi kt) = sq qi kt from if_neg (by omega), show nk (sq qi kt) (nk qi kt) = nk qi kt + 1 from if_neg (by omega)]
    exact (secondMid (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt) hw x.f2 x.f3 x.f4 x.f5 x.f6 x.f7 x.f8 x.f9 s.f10 s.f11 s.f12 s.f13 s.f14 s.f15 s.f16 w1 w2 w3 u y1 y2 w4 hy h4 h5 h6).sat (x := x) (P := Φ (sq qi kt) (nk qi kt + 1)) _ _ _ _ _ _ _ _ _ _ _ _ _ _ _ _ (hS.secondMid qi kt hk hq h hw w1 w2 w3 u y1 y2 w4 hy h4 h5 h6 s hs)
  · have h4 : ¬ k0_cond4 (w qi) (w kt) = 1#1 := fun e => by have := hc.1.mp e; omega
    have h5 : k0_cond5 (w qi) (w kt) = 1#1 := hc.2.1.mpr h
    have h6 : ¬ k0_cond6 (w qi) (w kt) = 1#1 := fun e => by have := hc.2.2.mp e; omega
    rw [show sq (sq qi kt) (nk qi kt) = sq qi kt from if_neg (by omega), show nk (sq qi kt) (nk qi kt) = nk qi kt + 1 from if_neg (by omega)]
    exact (secondDiag (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt) hw x.f2 x.f3 x.f4 x.f5 x.f6 x.f7 x.f8 x.f9 s.f10 s.f11 s.f12 s.f13 s.f14 s.f15 s.f16 w1 w2 w3 u y1 y2 w4 hy h4 h5 h6).sat (x := x) (P := Φ (sq qi kt) (nk qi kt + 1)) _ _ _ _ _ _ _ _ _ _ _ _ _ _ _ _ (hS.secondDiag qi kt hk hq h hw w1 w2 w3 u y1 y2 w4 hy h4 h5 h6 s hs)
  · have e : nk qi kt = sq qi kt := by omega
    have h4 : ¬ k0_cond4 (w qi) (w kt) = 1#1 := fun e => by have := hc.1.mp e; omega
    have h5 : ¬ k0_cond5 (w qi) (w kt) = 1#1 := fun e => by have := hc.2.1.mp e; omega
    have h6 : k0_cond6 (w qi) (w kt) = 1#1 := hc.2.2.mpr e
    rw [show sq (sq qi kt) (nk qi kt) = sq qi kt + 1 from if_pos e, show nk (sq qi kt) (nk qi kt) = 0 from if_pos e]
    exact (secondLast (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt) hw x.f2 x.f3 x.f4 x.f5 x.f6 x.f7 x.f8 x.f9 s.f10 s.f11 s.f12 s.f13 s.f14 s.f15 s.f16 w1 w2 w3 u y1 y2 w4 hy h4 h5 h6).sat (x := x) (P := Φ (sq qi kt + 1) 0) _ _ _ _ _ _ _ _ _ _ _ _ _ _ _ _ (hS.secondLast qi kt hk hq e hw w1 w2 w3 u y1 y2 w4 hy h4 h5 h6 s hs)

/-- Before trip `n / 2`: the carried words are those of the tile at place `n`, and the buffers meet the predicate at that tile. -/
def Inv (n : ℕ) (acc : BitVec 32 × BitVec 32) : sProp 𝕄 :=
  iprop(∃ qi kt : ℕ, ⌜kt ≤ qi ∧ pos qi kt = n ∧ acc = (w (min qi 15), w kt)⌝ ∗ some c arg2 arg3 arg4 arg5 arg6 arg7 arg8 arg9 arg10 arg11 arg12 arg13 arg14 arg15 arg16 x (Φ qi kt))

/-- One trip takes the invariant two tiles on. -/
theorem trip (hS : Steps (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k x Φ Ψ) (n : ℕ) (hn : n + 1 < 136) (acc : BitVec 32 × BitVec 32) :
    Inv (F := F) c arg2 arg3 arg4 arg5 arg6 arg7 arg8 arg9 arg10 arg11 arg12 arg13 arg14 arg15 arg16 x Φ n acc
      ⊢ wp frame (wpE (defs₀ (F := F)) Variants.none (c : Thread nD τ) none) Set.univ
        (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k acc)
        fun acc' => Inv (F := F) c arg2 arg3 arg4 arg5 arg6 arg7 arg8 arg9 arg10 arg11 arg12 arg13 arg14 arg15 arg16 x Φ (n + 2) acc' := by
  unfold Inv
  iintro ⟨%qi, %kt, %h, H⟩
  obtain ⟨hk, hp, rfl⟩ := h
  have hp1 := pos_next qi kt hk
  have hq : sq qi kt < 16 := pos_row (nk_le hk) (by omega)
  have hq16 : qi < 16 := pos_row hk (by omega)
  rw [show min qi 15 = qi by omega, (secondCut (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k (w qi) (w kt)).2]
  irw [wp_bind]
  unfold some
  icases H with ⟨HR, %s, %hs, HS⟩
  iapply (wp_wand_r Idealize.ShloMosaic.frame (wpE (defs₀ (F := F)) Variants.none (c : Thread nD τ) none) Set.univ)
  isplitl [HR HS]
  · iapply (first_half c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k x Φ Ψ hS hk hq hs)
    isplitl [HR]; · iexact HR
    iexact HS
  iintro %r ⟨H, %hy⟩
  obtain ⟨hw, w1, w2, w3, u, y1, y2, w4⟩ := r
  unfold some
  icases H with ⟨HR, %s', %hs', HS⟩
  iapply (wp_wand_r Idealize.ShloMosaic.frame (wpE (defs₀ (F := F)) Variants.none (c : Thread nD τ) none) Set.univ)
  isplitl [HR HS]
  · iapply (second_half c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k x Φ Ψ hS hk hq hs' hw w1 w2 w3 u y1 y2 w4 hy)
    isplitl [HR]; · iexact HR
    iexact HS
  iintro %r ⟨H, %hr⟩
  iexists (sq (sq qi kt) (nk qi kt)), (nk (sq qi kt) (nk qi kt))
  isplitr
  · ipureintro
    refine ⟨nk_le (nk_le hk), ?_, ?_⟩
    · rw [pos_next _ _ (nk_le hk), hp1, hp]
    · rw [hr, step2_words ⟨qi, hq16⟩ ⟨kt, by omega⟩ hk]
      have hn1 : nq qi kt = sq qi kt := by unfold nq; unfold sq at hq ⊢; split at hq <;> simp_all <;> omega
      dsimp only
      rw [hn1]
      congr 2
      unfold nq; rw [show sq (sq qi kt) (nk qi kt) = if nk qi kt = sq qi kt then sq qi kt + 1 else sq qi kt from rfl]
      split <;> omega
  unfold some
  iexact H

end Trip

end Cert.KernelIdeal.Att
-- ==== Proof.KI.Body.lean ====
/-
  A grid point of the attention. Before the loop over tiles it empties the running maxima and accumulators and computes the scores of
  the first tile; then sixty-eight trips go through the tiles of the lower triangle, two each. The run up to the loop names what it
  leaves; the loop is gone through by the invariant of the trips; the whole point is stated for any pair of predicates on the buffers
  that the halves of a trip take to each other.
-/
module

public import proofs.«01_k».proof.Proof.KI.Trip

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The only tile at place 136 is the first of a seventeenth row. -/
theorem pos_last {qi kt : ℕ} (h : kt ≤ qi) (hp : pos qi kt = 136) : qi = 16 ∧ kt = 0 := by
  unfold pos at hp
  rcases Nat.lt_trichotomy qi 16 with h' | h' | h'
  · have : qi * (qi + 1) ≤ 15 * 16 := Nat.mul_le_mul (by omega) (by omega)
    omega
  · subst h'; exact ⟨rfl, by omega⟩
  · have : 17 * 18 ≤ qi * (qi + 1) := Nat.mul_le_mul (by omega) (by omega)
    omega

section Point

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)
  (x : Ro (F := F) c arg2 arg3 arg4 arg5 arg6 arg7 arg8 arg9)

/-- The loop over the tiles, as a program. -/
abbrev tiles (v0 : IVec S128x512 32) (v53 : IVec S512x512 1) := Scf.Loop.for k0_t1_loop k0_t1_ok (0#32, 0#32) (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53)

/-- A run up to the loop: what the buffers hold where the loop starts and the two vectors it reads, such that the point's program does
    what the loop does from there. -/
def Start (s : St (F := F) c arg10 arg11 arg12 arg13 arg14 arg15 arg16) : Type :=
  {p : St (F := F) c arg10 arg11 arg12 arg13 arg14 arg15 arg16 × IVec S128x512 32 × IVec S512x512 1 //
    ∀ J : sProp 𝕄, (iprop(rds c arg2 arg3 arg4 arg5 arg6 arg7 arg8 arg9 x ∗ own c arg10 arg11 arg12 arg13 arg14 arg15 arg16 p.1)
        ⊢ wp frame (wpE (defs₀ (F := F)) Variants.none (c : Thread nD τ) none) Set.univ (tiles (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 p.2.1 p.2.2) fun _ => J) →
      (iprop(rds c arg2 arg3 arg4 arg5 arg6 arg7 arg8 arg9 x ∗ own c arg10 arg11 arg12 arg13 arg14 arg15 arg16 s)
        ⊢ wp frame (wpE (defs₀ (F := F)) Variants.none (c : Thread nD τ) none) Set.univ (cc0_diffattn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) fun _ => J)}

variable (f2 : B (F := F) c arg2) (f3 : B (F := F) c arg3) (f4 : B (F := F) c arg4) (f5 : B (F := F) c arg5) (f6 : B (F := F) c arg6) (f7 : B (F := F) c arg7) (f8 : B (F := F) c arg8) (f9 : B (F := F) c arg9) (f10 : B (F := F) c arg10) (f11 : B (F := F) c arg11) (f12 : B (F := F) c arg12) (f13 : B (F := F) c arg13) (f14 : B (F := F) c arg14) (f15 : B (F := F) c arg15) (f16 : B (F := F) c arg16)

set_option maxHeartbeats 4000000 in
/-- The run up to the loop. -/
def start : Start (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 ⟨f2, f3, f4, f5, f6, f7, f8, f9⟩ ⟨f10, f11, f12, f13, f14, f15, f16⟩ := by
  refine ⟨⟨⟨?_, ?_, ?_, ?_, ?_, ?_, ?_⟩, ?_, ?_⟩, ?run⟩
  case run =>
    intro J hJ
    dsimp only [rds, own] at hJ ⊢
    iintro ⟨⟨H2, H3, H4, H5, H6, H7, H8, H9⟩, ⟨H10, H11, H12, H13, H14, H15, H16⟩⟩
    rw [cc0_diffattn_eq_skeleton]; unfold cc0_diffattn_skel
    sl_exec
    irw [wp_bind]
    iapply (wp_wand_r Idealize.ShloMosaic.frame (wpE (defs₀ (F := F)) Variants.none (c : Thread nD τ) none) Set.univ)
    isplitl [H2 H3 H4 H5 H6 H7 H8 H9 H10 H11 H12 H13 H14 H15 H16]
    · iapply hJ
      isplitl [H2 H3 H4 H5 H6 H7 H8 H9]
      · isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      isplitl [H10]; · iexact H10
      isplitl [H11]; · iexact H11
      isplitl [H12]; · iexact H12
      isplitl [H13]; · iexact H13
      isplitl [H14]; · iexact H14
      isplitl [H15]; · iexact H15
      iexact H16
    iintro %r HJ
    sl_exec
    sl_step
    iexact HJ

variable (Φ Ψ : ℕ → ℕ → St (F := F) c arg10 arg11 arg12 arg13 arg14 arg15 arg16 → Prop)

/-- A grid point: where the predicates are kept by the halves of a trip and the first holds where the loop starts, the point ends with
    the first at the tile after the last, and the buffers it reads as they were. -/
theorem point (s : St (F := F) c arg10 arg11 arg12 arg13 arg14 arg15 arg16)
    (p : Start (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x s)
    (hS : ∀ k, Steps (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 p.1.2.1 p.1.2.2 k x Φ Ψ) (h0 : Φ 0 0 p.1.1) :
    iprop(rds c arg2 arg3 arg4 arg5 arg6 arg7 arg8 arg9 x ∗ own c arg10 arg11 arg12 arg13 arg14 arg15 arg16 s)
      ⊢ wp frame (wpE (defs₀ (F := F)) Variants.none (c : Thread nD τ) none) Set.univ (cc0_diffattn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        fun _ => some (F := F) c arg2 arg3 arg4 arg5 arg6 arg7 arg8 arg9 arg10 arg11 arg12 arg13 arg14 arg15 arg16 x (Φ 16 0) := by
  refine p.2 _ ?_
  unfold tiles
  iintro H
  sl_for (fun n acc => Inv (F := F) c arg2 arg3 arg4 arg5 arg6 arg7 arg8 arg9 arg10 arg11 arg12 arg13 arg14 arg15 arg16 x Φ (2 * n) acc) $$ [H]
  · intro k acc
    have hk : k.val < 68 := k.isLt
    exact trip (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 p.1.2.1 p.1.2.2 k x Φ Ψ (hS k) (2 * k.val) (by omega) acc
  isplitl [H]
  · unfold Inv some
    icases H with ⟨HR, HO⟩
    iexists 0, 0
    isplitr; · ipureintro; exact ⟨le_rfl, rfl, rfl⟩
    isplitl [HR]; · iexact HR
    iexists p.1.1
    isplitr; · ipureintro; exact h0
    iexact HO
  iintro %acc HI
  unfold Inv
  icases HI with ⟨%qi, %kt, %h, HI⟩
  have e : qi = 16 ∧ kt = 0 := by
    obtain ⟨h1, h2, -⟩ := h
    exact pos_last h1 h2
  rw [e.1, e.2]
  iexact HI

end Point

end Cert.KernelIdeal.Att
-- ==== Proof.KI.Branch.lean ====
/-
  What each half of a trip leaves, at the exact instance: the array operations on slabs of the buffers and blocks of what is read.
-/
module

public import proofs.«01_k».proof.Proof.KI.Slots
public import proofs.«01_k».proof.Proof.KI.Body

@[expose] public section

set_option maxRecDepth 16384

noncomputable section

namespace Cert.KernelIdeal.Att

open Cert.KernelIdeal Cert.KernelIdeal.Gen Idealize.ShloMosaic Idealize.ShloMosaic.TcCoe

section Halves

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)
  (v0 : IVec S128x512 32) (v53 : IVec S512x512 1) (z1 z2 : BitVec 32) (k : Fin k0_t1_loop.trips) (a b : BitVec 32) (hw : k0_chk1 a b)
  (f2 : B (F := Ideal) c arg2) (f3 : B (F := Ideal) c arg3) (f4 : B (F := Ideal) c arg4) (f5 : B (F := Ideal) c arg5) (f6 : B (F := Ideal) c arg6)
  (f7 : B (F := Ideal) c arg7) (f8 : B (F := Ideal) c arg8) (f9 : B (F := Ideal) c arg9) (f10 : B (F := Ideal) c arg10) (f11 : B (F := Ideal) c arg11)
  (f12 : B (F := Ideal) c arg12) (f13 : B (F := Ideal) c arg13) (f14 : B (F := Ideal) c arg14) (f15 : B (F := Ideal) c arg15) (f16 : B (F := Ideal) c arg16)

/-- A block of 512 queries, loaded. -/
def ldQ (off : Fin 4 → ℕ) (h : ∀ a, off a + S1x1x128x512.size a ≤ S1x1x128x8192.size a) : FVec Ideal S128x512 .bf16 :=
  shapeCast S128x512 (View.readAt (Elt Ideal) arg2.view (Rect.unit (s := S1x1x128x8192) off S1x1x128x512.size h).toLoadRect f2) shapeCasts_S1x1x128x512_S128x512

/-- A block of 512 keys, loaded. -/
def ldK (off : Fin 3 → ℕ) (h : ∀ a, off a + S1x512x128.size a ≤ S1x8192x128.size a) : FVec Ideal S512x128 .bf16 :=
  shapeCast S512x128 (View.readAt (Elt Ideal) arg3.view (Rect.unit (s := S1x8192x128) off S1x512x128.size h).toLoadRect f3) shapeCasts_S1x512x128_S512x128

/-- A block of 512 keys' values with their rows of ones, loaded. -/
def ldV (off : Fin 4 → ℕ) (h : ∀ a, off a + S1x1x144x512.size a ≤ S1x1x144x8192.size a) : FVec Ideal S144x512 .bf16 :=
  shapeCast S144x512 (View.readAt (Elt Ideal) arg4.view (Rect.unit (s := S1x1x144x8192) off S1x1x144x512.size h).toLoadRect f4) shapeCasts_S1x1x144x512_S144x512

/-- Lambda from the loaded vectors. -/
def ldLam : FVec Ideal S1x1 .f32 :=
  lamOf (shapeCast S1x64 (View.readAt (Elt Ideal) arg5.view (Rect.unit (s := S1x64) ![0, 0] S1x64.size inb_S1x64_S1x64_0_0).toLoadRect f5) shapeCasts_S1x64_S1x64)
    (shapeCast S1x64 (View.readAt (Elt Ideal) arg6.view (Rect.unit (s := S1x64) ![0, 0] S1x64.size inb_S1x64_S1x64_0_0).toLoadRect f6) shapeCasts_S1x64_S1x64)
    (shapeCast S1x64 (View.readAt (Elt Ideal) arg7.view (Rect.unit (s := S1x64) ![0, 0] S1x64.size inb_S1x64_S1x64_0_0).toLoadRect f7) shapeCasts_S1x64_S1x64)
    (shapeCast S1x64 (View.readAt (Elt Ideal) arg8.view (Rect.unit (s := S1x64) ![0, 0] S1x64.size inb_S1x64_S1x64_0_0).toLoadRect f8) shapeCasts_S1x64_S1x64)

/-- Slab `t` of a running maximum or of a column maximum. -/
abbrev sl1 (M : Memref sig .tc .vmem S2x1x512 .f32) (f : B (F := Ideal) c M) (t : Fin 2) : FVec Ideal S1x512 .f32 :=
  slab (R := 1) c M f t (by fin_cases t; exact inb_S2x1x512_S1x1x512_0_0_0; exact inb_S2x1x512_S1x1x512_1_0_0) shapeCasts_S1x1x512_S1x512
/-- Slab `t` of the accumulator. -/
abbrev sl144 (M : Memref sig .tc .vmem S2x144x512 .f32) (f : B (F := Ideal) c M) (t : Fin 2) : FVec Ideal S144x512 .f32 :=
  slab (R := 144) c M f t (by fin_cases t; exact inb_S2x144x512_S1x144x512_0_0_0; exact inb_S2x144x512_S1x144x512_1_0_0) shapeCasts_S1x144x512_S144x512
/-- Slab `t` of the scores. -/
abbrev sl512 (M : Memref sig .tc .vmem S2x512x512 .f32) (f : B (F := Ideal) c M) (t : Fin 2) : FVec Ideal S512x512 .f32 :=
  slab (R := 512) c M f t (by fin_cases t; exact inb_S2x512x512_S1x512x512_0_0_0; exact inb_S2x512x512_S1x512x512_1_0_0) shapeCasts_S1x512x512_S512x512

/-- Both slabs of a maximum stored. -/
abbrev bo1 (p0 p1 : FVec Ideal S1x512 .f32) : List (View.Piece (Elt Ideal) S2x1x512 .f32) :=
  both (R := 1) inb_S2x1x512_S1x1x512_0_0_0 inb_S2x1x512_S1x1x512_1_0_0 shapeCasts_S1x512_S1x1x512 p0 p1
/-- Both slabs of the accumulator stored. -/
abbrev bo144 (p0 p1 : FVec Ideal S144x512 .f32) : List (View.Piece (Elt Ideal) S2x144x512 .f32) :=
  both (R := 144) inb_S2x144x512_S1x144x512_0_0_0 inb_S2x144x512_S1x144x512_1_0_0 shapeCasts_S144x512_S1x144x512 p0 p1
/-- Both slabs of the scores stored. -/
abbrev bo512 (p0 p1 : FVec Ideal S512x512 .f32) : List (View.Piece (Elt Ideal) S2x512x512 .f32) :=
  both (R := 512) inb_S2x512x512_S1x512x512_0_0_0 inb_S2x512x512_S1x512x512_1_0_0 shapeCasts_S512x512_S1x512x512 p0 p1

/-- The running maxima after a tile whose column maxima are in `MT`. -/
def conM (MT : Memref sig .tc .vmem S2x1x512 .f32) (g : B (F := Ideal) c MT) : List (View.Piece (Elt Ideal) S2x1x512 .f32) :=
  bo1 (maximumf (sl1 c arg11 f11 0) (sl1 c MT g 0)) (maximumf (sl1 c arg11 f11 1) (sl1 c MT g 1))

/-- The accumulators after a tile whose scores are in `MS` and column maxima in `MT`. -/
def conA (V : FVec Ideal S144x512 .bf16) (MS : Memref sig .tc .vmem S2x512x512 .f32) (g : B (F := Ideal) c MS) (MT : Memref sig .tc .vmem S2x1x512 .f32) (g' : B (F := Ideal) c MT) (t : Fin 2) :
    FVec Ideal S144x512 .f32 := newAcc V (sl1 c arg11 f11 t) (sl1 c MT g' t) (sl512 c MS g t) (sl144 c arg12 f12 t)

/-- A finished block as it is stored, from the accumulators just stored. -/
def finB (A0 A1 : FVec Ideal S144x512 .f32) : FVec Ideal S1x512x128 .bf16 :=
  shapeCast S1x512x128 (normed (mixed (ldLam c arg5 arg6 arg7 arg8 f5 f6 f7 f8)
    (shapeCast S144x512 (arg12.view.readCov (bo144 A0 A1) (Rect.unit (s := S2x144x512) ![0, 0, 0] S1x144x512.size inb_S2x144x512_S1x144x512_0_0_0).toLoadRect) shapeCasts_S1x144x512_S144x512)
    (shapeCast S144x512 (arg12.view.readCov (bo144 A0 A1) (Rect.unit (s := S2x144x512) ![1, 0, 0] S1x144x512.size inb_S2x144x512_S1x144x512_1_0_0).toLoadRect) shapeCasts_S1x144x512_S144x512))
    (shapeCast S128x1 (View.readAt (Elt Ideal) arg9.view (Rect.unit (s := S128x1) ![0, 0] S128x1.size inb_S128x1_S128x1_0_0).toLoadRect f9) shapeCasts_S128x1_S128x1)) shapeCasts_S512x128_S1x512x128

set_option maxHeartbeats 4000000 in
/-- What the first half leaves where the tile after its own is not masked. -/
theorem firstMid_eq (h1 : k0_cond1 a b = 1#1) (h2 : ¬ k0_cond2 a b = 1#1) (h3 : ¬ k0_cond3 a b = 1#1)
    (hQ : ∀ a', (k0_off1 a b) a' + S1x1x128x512.size a' ≤ S1x1x128x8192.size a') (hK : ∀ a', (k0_off2 a b) a' + S1x512x128.size a' ≤ S1x8192x128.size a')
    (hV : ∀ a', (k0_off3 b) a' + S1x1x144x512.size a' ≤ S1x1x144x8192.size a') :
    (firstMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 z1 z2 k a b hw f2 f3 f4 f5 f6 f7 f8 f9 f10 f11 f12 f13 f14 f15 f16 h1 h2 h3).1 =
      have Q := ldQ c arg2 f2 (k0_off1 a b) hQ
      have K := ldK c arg3 f3 (k0_off2 a b) hK
      have V := ldV c arg4 f4 (k0_off3 b) hV
      have A0 := conA c arg11 arg12 f11 f12 V arg13 f13 arg15 f15 0
      have A1 := conA c arg11 arg12 f11 f12 V arg13 f13 arg15 f15 1
      have s0 := fullScore 0#32 v0 Q K
      have s1 := fullScore 1#32 v0 Q K
      ⟨f10, arg11.view.writes (Elt Ideal) f11 (conM c arg11 f11 arg15 f15), arg12.view.writes (Elt Ideal) f12 (bo144 A0 A1), f13, arg14.view.writes (Elt Ideal) f14 (bo512 s0 s1), f15, arg16.view.writes (Elt Ideal) f16 (bo1 (colMax s0) (colMax s1))⟩ := rfl

set_option maxHeartbeats 4000000 in
/-- What the first half leaves where the tile after its own is the row's diagonal tile. -/
theorem firstDiag_eq (h1 : ¬ k0_cond1 a b = 1#1) (h2 : k0_cond2 a b = 1#1) (h3 : ¬ k0_cond3 a b = 1#1)
    (hQ : ∀ a', (k0_off4 a b) a' + S1x1x128x512.size a' ≤ S1x1x128x8192.size a') (hK : ∀ a', (k0_off5 a b) a' + S1x512x128.size a' ≤ S1x8192x128.size a')
    (hV : ∀ a', (k0_off6 b) a' + S1x1x144x512.size a' ≤ S1x1x144x8192.size a') :
    (firstDiag (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 z1 z2 k a b hw f2 f3 f4 f5 f6 f7 f8 f9 f10 f11 f12 f13 f14 f15 f16 h1 h2 h3).1 =
      have Q := ldQ c arg2 f2 (k0_off4 a b) hQ
      have K := ldK c arg3 f3 (k0_off5 a b) hK
      have V := ldV c arg4 f4 (k0_off6 b) hV
      have A0 := conA c arg11 arg12 f11 f12 V arg13 f13 arg15 f15 0
      have A1 := conA c arg11 arg12 f11 f12 V arg13 f13 arg15 f15 1
      have s0 := diagScore 0#32 v0 v53 Q K
      have s1 := diagScore 1#32 v0 v53 Q K
      ⟨f10, arg11.view.writes (Elt Ideal) f11 (conM c arg11 f11 arg15 f15), arg12.view.writes (Elt Ideal) f12 (bo144 A0 A1), f13, arg14.view.writes (Elt Ideal) f14 (bo512 s0 s1), f15, arg16.view.writes (Elt Ideal) f16 (bo1 (colMax s0) (colMax s1))⟩ := rfl

set_option maxHeartbeats 4000000 in
/-- What the first half leaves where the tile after its own starts another row. -/
theorem firstLast_eq (h1 : ¬ k0_cond1 a b = 1#1) (h2 : ¬ k0_cond2 a b = 1#1) (h3 : k0_cond3 a b = 1#1)
    (hQ : ∀ a', (k0_off7 a b) a' + S1x1x128x512.size a' ≤ S1x1x128x8192.size a') (hK : ∀ a', (k0_off8 a b) a' + S1x512x128.size a' ≤ S1x8192x128.size a')
    (hV : ∀ a', (k0_off9 b) a' + S1x1x144x512.size a' ≤ S1x1x144x8192.size a') (hO : ∀ a', (k0_off10 a) a' + S1x512x128.size a' ≤ S1x8192x128.size a') :
    (firstLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 z1 z2 k a b hw f2 f3 f4 f5 f6 f7 f8 f9 f10 f11 f12 f13 f14 f15 f16 h1 h2 h3).1 =
      have Q := ldQ c arg2 f2 (k0_off7 a b) hQ
      have K := ldK c arg3 f3 (k0_off8 a b) hK
      have V := ldV c arg4 f4 (k0_off9 b) hV
      have A0 := conA c arg11 arg12 f11 f12 V arg13 f13 arg15 f15 0
      have A1 := conA c arg11 arg12 f11 f12 V arg13 f13 arg15 f15 1
      have s0 := fullScore 0#32 v0 Q K
      have s1 := fullScore 1#32 v0 Q K
      ⟨arg10.view.writes (Elt Ideal) f10 [⟨Rect.unit (s := S1x8192x128) (k0_off10 a) S1x512x128.size hO, finB c arg5 arg6 arg7 arg8 arg9 arg12 f5 f6 f7 f8 f9 A0 A1⟩],
        arg11.view.writes (Elt Ideal) f11 (⟨Rect.unit (s := S2x1x512) ![0, 0, 0] S2x1x512.size inb_S2x1x512_S2x1x512_0_0_0, k0_pay6 (F := Ideal)⟩ :: conM c arg11 f11 arg15 f15),
        arg12.view.writes (Elt Ideal) f12 (⟨Rect.unit (s := S2x144x512) ![0, 0, 0] S2x144x512.size inb_S2x144x512_S2x144x512_0_0_0, k0_pay7 (F := Ideal)⟩ :: bo144 A0 A1), f13, arg14.view.writes (Elt Ideal) f14 (bo512 s0 s1), f15, arg16.view.writes (Elt Ideal) f16 (bo1 (colMax s0) (colMax s1))⟩ := rfl

set_option maxHeartbeats 4000000 in
/-- What the second half leaves where the tile after its own is not masked. -/
theorem secondMid_eq (w1 w2 w3 : BitVec 32) (u : BitVec 1) (y1 y2 w4 : BitVec 32) (hy : (y1, y2) = step2 a b)
    (h4 : k0_cond4 a b = 1#1) (h5 : ¬ k0_cond5 a b = 1#1) (h6 : ¬ k0_cond6 a b = 1#1)
    (hQ : ∀ a', (k0_off11 a b) a' + S1x1x128x512.size a' ≤ S1x1x128x8192.size a') (hK : ∀ a', (k0_off12 a b) a' + S1x512x128.size a' ≤ S1x8192x128.size a')
    (hV : ∀ a', (k0_off13 a b) a' + S1x1x144x512.size a' ≤ S1x1x144x8192.size a') :
    (secondMid (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k a b hw f2 f3 f4 f5 f6 f7 f8 f9 f10 f11 f12 f13 f14 f15 f16 w1 w2 w3 u y1 y2 w4 hy h4 h5 h6).1 =
      have Q := ldQ c arg2 f2 (k0_off11 a b) hQ
      have K := ldK c arg3 f3 (k0_off12 a b) hK
      have V := ldV c arg4 f4 (k0_off13 a b) hV
      have A0 := conA c arg11 arg12 f11 f12 V arg14 f14 arg16 f16 0
      have A1 := conA c arg11 arg12 f11 f12 V arg14 f14 arg16 f16 1
      have s0 := fullScore 0#32 v0 Q K
      have s1 := fullScore 1#32 v0 Q K
      ⟨f10, arg11.view.writes (Elt Ideal) f11 (conM c arg11 f11 arg16 f16), arg12.view.writes (Elt Ideal) f12 (bo144 A0 A1), arg13.view.writes (Elt Ideal) f13 (bo512 s0 s1), f14, arg15.view.writes (Elt Ideal) f15 (bo1 (colMax s0) (colMax s1)), f16⟩ := rfl

set_option maxHeartbeats 4000000 in
/-- What the second half leaves where the tile after its own is the row's diagonal tile. -/
theorem secondDiag_eq (w1 w2 w3 : BitVec 32) (u : BitVec 1) (y1 y2 w4 : BitVec 32) (hy : (y1, y2) = step2 a b)
    (h4 : ¬ k0_cond4 a b = 1#1) (h5 : k0_cond5 a b = 1#1) (h6 : ¬ k0_cond6 a b = 1#1)
    (hQ : ∀ a', (k0_off14 a b) a' + S1x1x128x512.size a' ≤ S1x1x128x8192.size a') (hK : ∀ a', (k0_off15 a b) a' + S1x512x128.size a' ≤ S1x8192x128.size a')
    (hV : ∀ a', (k0_off16 a b) a' + S1x1x144x512.size a' ≤ S1x1x144x8192.size a') :
    (secondDiag (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k a b hw f2 f3 f4 f5 f6 f7 f8 f9 f10 f11 f12 f13 f14 f15 f16 w1 w2 w3 u y1 y2 w4 hy h4 h5 h6).1 =
      have Q := ldQ c arg2 f2 (k0_off14 a b) hQ
      have K := ldK c arg3 f3 (k0_off15 a b) hK
      have V := ldV c arg4 f4 (k0_off16 a b) hV
      have A0 := conA c arg11 arg12 f11 f12 V arg14 f14 arg16 f16 0
      have A1 := conA c arg11 arg12 f11 f12 V arg14 f14 arg16 f16 1
      have s0 := diagScore 0#32 v0 v53 Q K
      have s1 := diagScore 1#32 v0 v53 Q K
      ⟨f10, arg11.view.writes (Elt Ideal) f11 (conM c arg11 f11 arg16 f16), arg12.view.writes (Elt Ideal) f12 (bo144 A0 A1), arg13.view.writes (Elt Ideal) f13 (bo512 s0 s1), f14, arg15.view.writes (Elt Ideal) f15 (bo1 (colMax s0) (colMax s1)), f16⟩ := rfl

set_option maxHeartbeats 4000000 in
/-- What the second half leaves where the tile after its own starts another row. -/
theorem secondLast_eq (w1 w2 w3 : BitVec 32) (u : BitVec 1) (y1 y2 w4 : BitVec 32) (hy : (y1, y2) = step2 a b)
    (h4 : ¬ k0_cond4 a b = 1#1) (h5 : ¬ k0_cond5 a b = 1#1) (h6 : k0_cond6 a b = 1#1)
    (hQ : ∀ a', (k0_off17 a b) a' + S1x1x128x512.size a' ≤ S1x1x128x8192.size a') (hK : ∀ a', (k0_off18 a b) a' + S1x512x128.size a' ≤ S1x8192x128.size a')
    (hV : ∀ a', (k0_off19 a b) a' + S1x1x144x512.size a' ≤ S1x1x144x8192.size a') (hO : ∀ a', (k0_off20 a b) a' + S1x512x128.size a' ≤ S1x8192x128.size a') :
    (secondLast (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v53 k a b hw f2 f3 f4 f5 f6 f7 f8 f9 f10 f11 f12 f13 f14 f15 f16 w1 w2 w3 u y1 y2 w4 hy h4 h5 h6).1 =
      have Q := ldQ c arg2 f2 (k0_off17 a b) hQ
      have K := ldK c arg3 f3 (k0_off18 a b) hK
      have V := ldV c arg4 f4 (k0_off19 a b) hV
      have A0 := conA c arg11 arg12 f11 f12 V arg14 f14 arg16 f16 0
      have A1 := conA c arg11 arg12 f11 f12 V arg14 f14 arg16 f16 1
      have s0 := fullScore 0#32 v0 Q K
      have s1 := fullScore 1#32 v0 Q K
      ⟨arg10.view.writes (Elt Ideal) f10 [⟨Rect.unit (s := S1x8192x128) (k0_off20 a b) S1x512x128.size hO, finB c arg5 arg6 arg7 arg8 arg9 arg12 f5 f6 f7 f8 f9 A0 A1⟩],
        arg11.view.writes (Elt Ideal) f11 (⟨Rect.unit (s := S2x1x512) ![0, 0, 0] S2x1x512.size inb_S2x1x512_S2x1x512_0_0_0, k0_pay6 (F := Ideal)⟩ :: conM c arg11 f11 arg16 f16),
        arg12.view.writes (Elt Ideal) f12 (⟨Rect.unit (s := S2x144x512) ![0, 0, 0] S2x144x512.size inb_S2x144x512_S2x144x512_0_0_0, k0_pay7 (F := Ideal)⟩ :: bo144 A0 A1), arg13.view.writes (Elt Ideal) f13 (bo512 s0 s1), f14, arg15.view.writes (Elt Ideal) f15 (bo1 (colMax s0) (colMax s1)), f16⟩ := rfl

end Halves

end Cert.KernelIdeal.Att

end
-- ==== Proof.KI.Init.lean ====
/-
  Where the loop over tiles starts: the running maxima and accumulators emptied, the first tile's scores computed, and the two integer
  vectors the tiles read.
-/
module

public import proofs.«01_k».proof.Proof.KI.Branch

@[expose] public section

set_option maxRecDepth 16384

noncomputable section

namespace Cert.KernelIdeal.Att

open Cert.KernelIdeal Cert.KernelIdeal.Gen Idealize.ShloMosaic Idealize.ShloMosaic.TcCoe

/-- The row numbers of a query block. -/
def rowNo : IVec S128x512 32 := iota .tc S128x512 32 [0] (by decide)

theorem rowNo_apply (d : Fin 128) (i : Fin 512) : rowNo (ix2 d i) = BitVec.ofNat 32 d := by
  pointwise [rowNo]

/-- Numbers divided by sixty-four, rounding down, as the kernel computes it. -/
def by64 (v : IVec S512x512 32) : IVec S512x512 32 :=
  have v5 : IVec S512x512 32 := extui 32 (cmpi .sgt v (broadcast S512x512 0#32)) natLt_1_32
  have v9 : IVec S512x512 32 := extui 32 (cmpi .slt v (broadcast S512x512 0#32)) natLt_1_32
  select (andi (cmpi .ne (subi v5 v9) (broadcast S512x512 1#32)) (cmpi .ne (remsi v (broadcast S512x512 64#32)) (broadcast S512x512 0#32)))
    (subi (divsi v (broadcast S512x512 64#32)) (broadcast S512x512 1#32)) (divsi v (broadcast S512x512 64#32))

/-- Which keys of a diagonal tile a query sees: those of its own block of sixty-four and before. -/
def seen : IVec S512x512 1 := cmpi .sle (addi (by64 (iota .tc S512x512 32 [0] (by decide))) (broadcast S512x512 0#32)) (by64 (iota .tc S512x512 32 [1] (by decide)))

theorem by64_apply (v : IVec S512x512 32) (j i n : Fin 512) (h : v (ix2 j i) = BitVec.ofNat 32 n) : by64 v (ix2 j i) = BitVec.ofNat 32 (n / 64) := by
  have key : ∀ n : Fin 512, by64 (fun _ => BitVec.ofNat 32 n) (ix2 0 0) = BitVec.ofNat 32 (n / 64) := by decide +kernel
  rw [← key n, ← h]
  unfold by64
  pointwise

theorem seen_apply (j i : Fin 512) : seen (ix2 j i) = if (j : ℕ) / 64 ≤ (i : ℕ) / 64 then 1#1 else 0#1 := by
  have key : ∀ a b : Fin 8, IntOp.cmpi .sle (BitVec.ofNat 32 a + 0#32) (BitVec.ofNat 32 b) = if (a : ℕ) ≤ b then 1#1 else 0#1 := by decide +kernel
  unfold seen
  pointwise
  rw [by64_apply _ j i j (by pointwise), by64_apply _ j i i (by pointwise)]
  exact key ⟨j / 64, by omega⟩ ⟨i / 64, by omega⟩

section Start

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)
  (f2 : B (F := Ideal) c arg2) (f3 : B (F := Ideal) c arg3) (f4 : B (F := Ideal) c arg4) (f5 : B (F := Ideal) c arg5) (f6 : B (F := Ideal) c arg6)
  (f7 : B (F := Ideal) c arg7) (f8 : B (F := Ideal) c arg8) (f9 : B (F := Ideal) c arg9) (f10 : B (F := Ideal) c arg10) (f11 : B (F := Ideal) c arg11)
  (f12 : B (F := Ideal) c arg12) (f13 : B (F := Ideal) c arg13) (f14 : B (F := Ideal) c arg14) (f15 : B (F := Ideal) c arg15) (f16 : B (F := Ideal) c arg16)

/-- The row numbers and the mask the loop reads. -/
theorem start_vecs : (start (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1.2 = (rowNo, seen) := rfl

set_option maxHeartbeats 4000000 in
/-- What the buffers hold where the loop starts. -/
theorem start_eq : (start (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1.1 =
    have Q := ldQ c arg2 f2 ![0, 0, 0, 0] inb_S1x1x128x8192_S1x1x128x512_0_0_0_0
    have K := ldK c arg3 f3 ![0, 0, 0] inb_S1x8192x128_S1x512x128_0_0_0
    have s0 := diagScore 0#32 rowNo seen Q K
    have s1 := diagScore 1#32 rowNo seen Q K
    ⟨f10, arg11.view.writes (Elt Ideal) arg11.view.junk [⟨Rect.unit (s := S2x1x512) ![0, 0, 0] S2x1x512.size inb_S2x1x512_S2x1x512_0_0_0, k0_pay6 (F := Ideal)⟩],
      arg12.view.writes (Elt Ideal) arg12.view.junk [⟨Rect.unit (s := S2x144x512) ![0, 0, 0] S2x144x512.size inb_S2x144x512_S2x144x512_0_0_0, k0_pay7 (F := Ideal)⟩],
      arg13.view.writes (Elt Ideal) arg13.view.junk (bo512 s0 s1), f14, arg15.view.writes (Elt Ideal) arg15.view.junk (bo1 (colMax s0) (colMax s1)), f16⟩ := rfl

end Start

end Cert.KernelIdeal.Att

end
-- ==== Proof.KI.Keep.lean ====
/-
  What the buffers hold at a tile, over the reals, and that each operation of a tile keeps it: a tile's scores, a tile consumed, a
  finished block stored, the running maxima and accumulators emptied.
-/
module

public import proofs.«01_k».proof.Proof.KI.Init
public import proofs.«01_k».proof.Proof.KI.Sem

@[expose] public section

set_option maxRecDepth 16384

noncomputable section

namespace Cert.KernelIdeal.Att

open Cert.KernelIdeal Cert.KernelIdeal.Gen Idealize.ShloMosaic Idealize.ShloMosaic.TcCoe Cert.Att

/-! ## The loads -/

section Loads

variable (c : Dev nD) (arg2 : Memref sig .tc .vmem S1x1x128x8192 .bf16) (arg3 : Memref sig .tc .vmem S1x8192x128 .bf16) (arg4 : Memref sig .tc .vmem S1x1x144x8192 .bf16)
  (f2 : B (F := Ideal) c arg2) (f3 : B (F := Ideal) c arg3) (f4 : B (F := Ideal) c arg4)

/-- A loaded block of queries at an index. -/
theorem ldQ_apply {off : Fin 4 → ℕ} (h) {n : ℕ} (hoff : off = ![0, 0, 0, n * 512]) (hn : n < 16) (d : Fin 128) (i : Fin 512) :
    ldQ c arg2 f2 off h (ix2 d i) = arg2.view.read (Elt Ideal) f2 (ix4 (0 : Fin 1) (0 : Fin 1) d (⟨512 * n + i, by omega⟩ : Fin 8192)) := by
  subst hoff
  unfold ldQ
  rw [shapeCast_apply _ _ (ix2 d i) (ix4 (0 : Fin 1) (0 : Fin 1) d i) (by rw [Shape.rowMajor_val_two, Shape.rowMajor_val_four]; simp), View.readAt_apply]
  refine congrArg _ (funext fun a => Fin.ext ?_)
  fin_cases a <;> simp [Rect.unit, LoadRect.idx, Nat.mul_comm]

/-- A loaded block of keys at an index. -/
theorem ldK_apply {off : Fin 3 → ℕ} (h) {n : ℕ} (hoff : off = ![0, n * 512, 0]) (hn : n < 16) (j : Fin 512) (d : Fin 128) :
    ldK c arg3 f3 off h (ix2 j d) = arg3.view.read (Elt Ideal) f3 (ix3 (0 : Fin 1) (⟨512 * n + j, by omega⟩ : Fin 8192) d) := by
  subst hoff
  unfold ldK
  rw [shapeCast_apply _ _ (ix2 j d) (ix3 (0 : Fin 1) j d) (by rw [Shape.rowMajor_val_two, Shape.rowMajor_val_three]; simp), View.readAt_apply]
  refine congrArg _ (funext fun a => Fin.ext ?_)
  fin_cases a <;> simp [Rect.unit, LoadRect.idx, Nat.mul_comm]

/-- A loaded block of values at an index. -/
theorem ldV_apply {off : Fin 4 → ℕ} (h) {n : ℕ} (hoff : off = ![0, 0, 0, n * 512]) (hn : n < 16) (e : Fin 144) (j : Fin 512) :
    ldV c arg4 f4 off h (ix2 e j) = arg4.view.read (Elt Ideal) f4 (ix4 (0 : Fin 1) (0 : Fin 1) e (⟨512 * n + j, by omega⟩ : Fin 8192)) := by
  subst hoff
  unfold ldV
  rw [shapeCast_apply _ _ (ix2 e j) (ix4 (0 : Fin 1) (0 : Fin 1) e j) (by rw [Shape.rowMajor_val_two, Shape.rowMajor_val_four]; simp), View.readAt_apply]
  refine congrArg _ (funext fun a => Fin.ext ?_)
  fin_cases a <;> simp [Rect.unit, LoadRect.idx, Nat.mul_comm]

end Loads

/-! ## The predicates -/

variable (q k v : ℕ → ℕ → ℝ) (lam : ℝ) (g : Fin 128 → EReal)

/-- A block of queries as reals. -/
def IsQ (n : ℕ) (Q : FVec Ideal S128x512 .bf16) : Prop := ∀ (d : Fin 128) (i : Fin 512), Q (ix2 d i) = (q d (512 * n + i) : EReal)
/-- A block of keys as reals. -/
def IsK (n : ℕ) (K : FVec Ideal S512x128 .bf16) : Prop := ∀ (j : Fin 512) (d : Fin 128), K (ix2 j d) = (k (512 * n + j) d : EReal)
/-- A block of values as reals. -/
def IsV (n : ℕ) (V : FVec Ideal S144x512 .bf16) : Prop := ∀ (e : Fin 144) (j : Fin 512), V (ix2 e j) = (v e (512 * n + j) : EReal)

/-- A tile's scores of sub-head `t`. -/
def IsS (qi kt t : ℕ) (s : FVec Ideal S512x512 .f32) : Prop := ∀ j i : Fin 512, s (ix2 j i) = sc q k t (512 * kt + j) (512 * qi + i)

/-- What the score buffers hold where the tile `(qi, kt)` is met: its scores, and a real column maximum each. -/
def Tile (qi kt : ℕ) (S : S2x512x512.Idx → EReal) (T : S2x1x512.Idx → EReal) : Prop :=
  qi < 16 → ∀ (t : Fin 2) (i : Fin 512), (∀ j : Fin 512, S (ix3 t j i) = sc q k t (512 * kt + j) (512 * qi + i)) ∧ ∃ τ : ℝ, T (ix3 t (0 : Fin 1) i) = (τ : EReal)

/-- What the running maxima and accumulators hold where the tile `(qi, kt)` is met. -/
def Acc (qi kt : ℕ) (M : S2x1x512.Idx → EReal) (A : S2x144x512.Idx → EReal) : Prop :=
  ∀ (t : Fin 2) (i : Fin 512), AccAt q k v t kt (512 * qi + i) (M (ix3 t (0 : Fin 1) i)) (fun e => A (ix3 t e i))

/-- The output's rows of the finished query blocks. -/
def Out (qi : ℕ) (O : S1x8192x128.Idx → EReal) : Prop :=
  ∀ (i : Fin 8192) (e : Fin 128), (i : ℕ) < 512 * qi → O (ix3 (0 : Fin 1) i e) = outv q k v lam g i e

/-! ## Scores -/

theorem sum_sr (t : Fin 2) (n i : ℕ) {K : Fin 128 → EReal} {Q : Fin 128 → EReal} (hK : ∀ d, K d = (k n d : EReal)) (hQ : ∀ d, Q d = (q d i : EReal)) :
    ∑ d : Fin 128, K d * (if (d : ℕ) / 32 % 2 = t then Q d else 0) = (sr q k t n i : EReal) := by
  unfold sr
  rw [coe_sum]
  refine Finset.sum_congr rfl fun d _ => ?_
  rw [hK, hQ, EReal.coe_mul]
  split <;> simp

theorem isS_full (t : Fin 2) {qi kt : ℕ} (hlt : kt < qi) {Q K} (hQ : IsQ q qi Q) (hK : IsK k kt K) : IsS q k qi kt t (fullScore (BitVec.ofNat 32 t) rowNo Q K) := by
  intro j i
  rw [fullScore_apply t rowNo rowNo_apply, sum_sr q k t (512 * kt + j) (512 * qi + i) (fun d => hK j d) (fun d => hQ d i)]
  unfold sc
  rw [if_pos (by omega)]

theorem isS_diag (t : Fin 2) {qi : ℕ} {Q K} (hQ : IsQ q qi Q) (hK : IsK k qi K) : IsS q k qi qi t (diagScore (BitVec.ofNat 32 t) rowNo seen Q K) := by
  intro j i
  rw [diagScore_apply t rowNo rowNo_apply seen seen_apply, sum_sr q k t (512 * qi + j) (512 * qi + i) (fun d => hK j d) (fun d => hQ d i)]
  unfold sc
  by_cases h : (j : ℕ) / 64 ≤ (i : ℕ) / 64
  · rw [if_pos h, if_pos (by omega)]
  · rw [if_neg h, if_neg (by omega)]

/-- A tile whose scores were just stored with their column maxima. -/
theorem tile_of (c : Dev nD) (MS : Memref sig .tc .vmem S2x512x512 .f32) (f : B (F := Ideal) c MS) (MT : Memref sig .tc .vmem S2x1x512 .f32) (f' : B (F := Ideal) c MT)
    {qi kt : ℕ} (hle : kt ≤ qi) {s0 s1 : FVec Ideal S512x512 .f32} (h0 : IsS q k qi kt 0 s0) (h1 : IsS q k qi kt 1 s1) :
    Tile q k qi kt (rd (R := 512) c MS (MS.view.writes (Elt Ideal) f (bo512 s0 s1))) (rd (R := 1) c MT (MT.view.writes (Elt Ideal) f' (bo1 (colMax s0) (colMax s1)))) := by
  intro _ t i
  have real : ∀ (t : ℕ) (s : FVec Ideal S512x512 .f32), IsS q k qi kt t s → ∃ τ : ℝ, colMax s (ix2 0 i) = (τ : EReal) := fun t s hs => by
    rw [colMax_apply]
    refine fold_max_real _ (fun j => ?_) 0 ?_
    · rw [hs]; unfold sc; split
      · exact .inr ⟨_, rfl⟩
      · exact .inl rfl
    · rw [hs]; unfold sc; rw [if_pos (by simp only [Fin.val_zero]; omega)]; exact ⟨_, rfl⟩
  refine ⟨fun j => ?_, ?_⟩
  · rw [rd_both]
    fin_cases t
    · exact h0 j i
    · exact h1 j i
  · rw [rd_both]
    fin_cases t
    · exact real 0 s0 h0
    · exact real 1 s1 h1

/-! ## A tile consumed -/

section Consume

variable (c : Dev nD) (arg11 : Memref sig .tc .vmem S2x1x512 .f32) (arg12 : Memref sig .tc .vmem S2x144x512 .f32) (f11 : B (F := Ideal) c arg11) (f12 : B (F := Ideal) c arg12)
  (MS : Memref sig .tc .vmem S2x512x512 .f32) (g1 : B (F := Ideal) c MS) (MT : Memref sig .tc .vmem S2x1x512 .f32) (g2 : B (F := Ideal) c MT)

/-- The accumulators and maxima after a tile, as matrices. -/
theorem con_at {qi kt : ℕ} (hqi : qi < 16) (hA : Acc q k v qi kt (rd (R := 1) c arg11 f11) (rd (R := 144) c arg12 f12))
    (hT : Tile q k qi kt (rd (R := 512) c MS g1) (rd (R := 1) c MT g2)) {V : FVec Ideal S144x512 .bf16} (hV : IsV v kt V) (t : Fin 2) (i : Fin 512) :
    AccAt q k v t (kt + 1) (512 * qi + i) (maximumf (sl1 c arg11 f11 t) (sl1 c MT g2 t) (ix2 (0 : Fin 1) i)) (fun e => conA c arg11 arg12 f11 f12 V MS g1 MT g2 t (ix2 e i)) := by
  have h := (hA t i).step q k v (hT hqi t i).2 (hT hqi t i).1 (V := fun e j => V (ix2 e j)) hV
  have e1 : maximumf (sl1 c arg11 f11 t) (sl1 c MT g2 t) (ix2 (0 : Fin 1) i) = max (rd (R := 1) c arg11 f11 (ix3 t (0 : Fin 1) i)) (rd (R := 1) c MT g2 (ix3 t (0 : Fin 1) i)) := by
    rw [← slab_apply (R := 1) c arg11 f11 t (by fin_cases t; exact inb_S2x1x512_S1x1x512_0_0_0; exact inb_S2x1x512_S1x1x512_1_0_0) shapeCasts_S1x1x512_S1x512 0 i,
      ← slab_apply (R := 1) c MT g2 t (by fin_cases t; exact inb_S2x1x512_S1x1x512_0_0_0; exact inb_S2x1x512_S1x1x512_1_0_0) shapeCasts_S1x1x512_S1x512 0 i]
    rfl
  have e2 : (fun e => conA c arg11 arg12 f11 f12 V MS g1 MT g2 t (ix2 e i)) = fun e : Fin 144 =>
      Ideal.exp2 (rd (R := 1) c arg11 f11 (ix3 t (0 : Fin 1) i) - max (rd (R := 1) c arg11 f11 (ix3 t (0 : Fin 1) i)) (rd (R := 1) c MT g2 (ix3 t (0 : Fin 1) i))) * rd (R := 144) c arg12 f12 (ix3 t e i)
        + ∑ j : Fin 512, V (ix2 e j) * Ideal.exp2 (rd (R := 512) c MS g1 (ix3 t j i) - max (rd (R := 1) c arg11 f11 (ix3 t (0 : Fin 1) i)) (rd (R := 1) c MT g2 (ix3 t (0 : Fin 1) i))) := by
    funext e
    unfold conA
    rw [newAcc_apply]
    unfold sl1 sl144 sl512
    simp only [slab_apply (R := 1) c arg11 f11 t, slab_apply (R := 1) c MT g2 t, slab_apply (R := 144) c arg12 f12 t, slab_apply (R := 512) c MS g1 t]
  rw [e1, e2]
  exact h

/-- A tile consumed: the accumulators and maxima at the next tile of the row. -/
theorem acc_con {qi kt : ℕ} (hqi : qi < 16) (hA : Acc q k v qi kt (rd (R := 1) c arg11 f11) (rd (R := 144) c arg12 f12))
    (hT : Tile q k qi kt (rd (R := 512) c MS g1) (rd (R := 1) c MT g2)) {V : FVec Ideal S144x512 .bf16} (hV : IsV v kt V) :
    Acc q k v qi (kt + 1) (rd (R := 1) c arg11 (arg11.view.writes (Elt Ideal) f11 (conM c arg11 f11 MT g2)))
      (rd (R := 144) c arg12 (arg12.view.writes (Elt Ideal) f12 (bo144 (conA c arg11 arg12 f11 f12 V MS g1 MT g2 0) (conA c arg11 arg12 f11 f12 V MS g1 MT g2 1)))) := by
  intro t i
  have h := con_at q k v c arg11 arg12 f11 f12 MS g1 MT g2 hqi hA hT hV t i
  unfold conM
  simp only [rd_both]
  fin_cases t
  · exact h
  · exact h

/-- The running maxima and accumulators emptied. -/
theorem acc_reset (qi : ℕ) (f11 : B (F := Ideal) c arg11) (f12 : B (F := Ideal) c arg12) (L1 : List (View.Piece (Elt Ideal) S2x1x512 .f32)) (L2 : List (View.Piece (Elt Ideal) S2x144x512 .f32)) :
    Acc q k v qi 0 (rd (R := 1) c arg11 (arg11.view.writes (Elt Ideal) f11 (⟨Rect.unit (s := S2x1x512) ![0, 0, 0] S2x1x512.size inb_S2x1x512_S2x1x512_0_0_0, k0_pay6 (F := Ideal)⟩ :: L1)))
      (rd (R := 144) c arg12 (arg12.view.writes (Elt Ideal) f12 (⟨Rect.unit (s := S2x144x512) ![0, 0, 0] S2x144x512.size inb_S2x144x512_S2x144x512_0_0_0, k0_pay7 (F := Ideal)⟩ :: L2))) := by
  intro t i
  unfold AccAt
  rw [if_pos rfl]
  refine ⟨?_, fun e => ?_⟩
  · refine (View.read_writes_cons_unit_of_mem arg11.view f11 inb_S2x1x512_S2x1x512_0_0_0 (k0_pay6 (F := Ideal)) L1 (ix3 t (0 : Fin 1) i) (ix3 t (0 : Fin 1) i) rfl (by intro a; fin_cases a <;> simp)).trans ?_
    unfold k0_pay6
    pointwise
    rfl
  · refine (View.read_writes_cons_unit_of_mem arg12.view f12 inb_S2x144x512_S2x144x512_0_0_0 (k0_pay7 (F := Ideal)) L2 (ix3 t e i) (ix3 t e i) rfl (by intro a; fin_cases a <;> simp)).trans ?_
    unfold k0_pay7
    pointwise

end Consume

end Cert.KernelIdeal.Att

end
-- ==== Proof.KI.Steps.lean ====
/-
  The six halves of a trip keep what the buffers hold at a tile, and the point ends with the whole output block.
-/
module

public import proofs.«01_k».proof.Proof.KI.Keep

@[expose] public section

set_option maxRecDepth 16384

noncomputable section

namespace Cert.KernelIdeal.Att

open Cert.KernelIdeal Cert.KernelIdeal.Gen Idealize.ShloMosaic Idealize.ShloMosaic.TcCoe Cert.Att

variable (q k v : ℕ → ℕ → ℝ) (lam : ℝ) (g : Fin 128 → EReal)

section Fin

variable (c : Dev nD) (arg5 : Memref sig .tc .vmem S1x64 .f32) (arg6 : Memref sig .tc .vmem S1x64 .f32) (arg7 : Memref sig .tc .vmem S1x64 .f32)
  (arg8 : Memref sig .tc .vmem S1x64 .f32) (arg9 : Memref sig .tc .vmem S128x1 .f32) (arg10 : Memref sig .tc .vmem S1x8192x128 .bf16)
  (arg12 : Memref sig .tc .vmem S2x144x512 .f32)
  (f5 : B (F := Ideal) c arg5) (f6 : B (F := Ideal) c arg6) (f7 : B (F := Ideal) c arg7) (f8 : B (F := Ideal) c arg8) (f9 : B (F := Ideal) c arg9)
  (f10 : B (F := Ideal) c arg10)

/-- A vector loaded whole reads what the buffer reads. -/
theorem ld64_apply (M : Memref sig .tc .vmem S1x64 .f32) (f : B (F := Ideal) c M) (d : Fin 64) :
    shapeCast S1x64 (View.readAt (Elt Ideal) M.view (Rect.unit (s := S1x64) ![0, 0] S1x64.size inb_S1x64_S1x64_0_0).toLoadRect f) shapeCasts_S1x64_S1x64 (ix2 (0 : Fin 1) d)
      = M.view.read (Elt Ideal) f (ix2 (0 : Fin 1) d) := by
  rw [shapeCast_apply _ _ (ix2 (0 : Fin 1) d) (ix2 (0 : Fin 1) d) rfl, View.readAt_apply]
  refine congrArg _ (funext fun a => Fin.ext ?_)
  fin_cases a <;> simp [Rect.unit, LoadRect.idx]

/-- The gain loaded whole reads what its buffer reads. -/
theorem ld128_apply (e : Fin 128) :
    shapeCast S128x1 (View.readAt (Elt Ideal) arg9.view (Rect.unit (s := S128x1) ![0, 0] S128x1.size inb_S128x1_S128x1_0_0).toLoadRect f9) shapeCasts_S128x1_S128x1 (ix2 e (0 : Fin 1))
      = arg9.view.read (Elt Ideal) f9 (ix2 e (0 : Fin 1)) := by
  rw [shapeCast_apply _ _ (ix2 e (0 : Fin 1)) (ix2 e (0 : Fin 1)) rfl, View.readAt_apply]
  refine congrArg _ (funext fun a => Fin.ext ?_)
  fin_cases a <;> simp [Rect.unit, LoadRect.idx]

/-- Lambda from what the four buffers read. -/
theorem ldLam_apply : ldLam c arg5 arg6 arg7 arg8 f5 f6 f7 f8 (ix2 (0 : Fin 1) (0 : Fin 1))
    = Ideal.exp (∑ d : Fin 64, arg5.view.read (Elt Ideal) f5 (ix2 (0 : Fin 1) d) * arg6.view.read (Elt Ideal) f6 (ix2 (0 : Fin 1) d))
      - Ideal.exp (∑ d : Fin 64, arg7.view.read (Elt Ideal) f7 (ix2 (0 : Fin 1) d) * arg8.view.read (Elt Ideal) f8 (ix2 (0 : Fin 1) d)) + Ideal.ofBits .f32 0x3E4CCCCD#32 := by
  unfold ldLam
  rw [lamOf_apply]
  have p : ∀ (M N : Memref sig .tc .vmem S1x64 .f32) (f : B (F := Ideal) c M) (h : B (F := Ideal) c N), _ = ∑ d : Fin 64, M.view.read (Elt Ideal) f (ix2 (0 : Fin 1) d) * N.view.read (Elt Ideal) h (ix2 (0 : Fin 1) d) :=
    fun M N f h => Finset.sum_congr rfl fun d _ => congrArg₂ (· * ·) (ld64_apply c M f d) (ld64_apply c N h d)
  exact congrArg₂ (· + ·) (congrArg₂ (· - ·) (congrArg Ideal.exp (p arg5 arg6 f5 f6)) (congrArg Ideal.exp (p arg7 arg8 f7 f8))) rfl

/-- A finished block at an index, from accumulators that hold a row's sums. -/
theorem finB_apply (hv : ∀ n, v 128 n = 1) (hlam : ldLam c arg5 arg6 arg7 arg8 f5 f6 f7 f8 (ix2 (0 : Fin 1) (0 : Fin 1)) = (lam : EReal))
    (hg : ∀ e : Fin 128, arg9.view.read (Elt Ideal) f9 (ix2 e (0 : Fin 1)) = g e) {qi : ℕ} (hqi : qi < 16) {A0 A1 : FVec Ideal S144x512 .f32} (i : Fin 512)
    {M0 M1 : EReal} (h0 : AccAt q k v 0 (qi + 1) (512 * qi + i) M0 (fun e => A0 (ix2 e i))) (h1 : AccAt q k v 1 (qi + 1) (512 * qi + i) M1 (fun e => A1 (ix2 e i))) (e : Fin 128) :
    finB c arg5 arg6 arg7 arg8 arg9 arg12 f5 f6 f7 f8 f9 A0 A1 (ix3 (0 : Fin 1) i e) = outv q k v lam g (512 * qi + i) e := by
  unfold AccAt at h0 h1
  rw [if_neg (Nat.succ_ne_zero qi)] at h0 h1
  obtain ⟨μ0, -, h0⟩ := h0
  obtain ⟨μ1, -, h1⟩ := h1
  unfold finB
  rw [shapeCast_apply _ _ (ix3 (0 : Fin 1) i e) (ix2 i e) (by rw [Shape.rowMajor_val_two, Shape.rowMajor_val_three]; simp), normed_apply]
  simp only [cov0 (R := 144) c arg12, cov1 (R := 144) c arg12]
  have m : ∀ j : Fin 128, mixed (ldLam c arg5 arg6 arg7 arg8 f5 f6 f7 f8) A0 A1 (ix2 j i) = (ov q k v lam (512 * qi + i) j : EReal) := fun j => by
    rw [mixed_apply, hlam]
    exact col_eq q k v lam hv (N := 512 * (qi + 1)) (by omega) (by omega) (by omega) j μ0 μ1 (h0 _) (h1 _) (h0 128) (h1 128)
  rw [ld128_apply c arg9 f9 e]
  simp only [m, hg]
  rfl

/-- A finished block stored: the output holds the next block's rows too. -/
theorem out_fin {qi : ℕ} (hqi : qi < 16) (hO : Out q k v lam g qi (arg10.view.read (Elt Ideal) f10)) {off : Fin 3 → ℕ} (h) (hoff : off = ![0, qi * 512, 0])
    {P : FVec Ideal S1x512x128 .bf16} (hP : ∀ (i : Fin 512) (e : Fin 128), P (ix3 (0 : Fin 1) i e) = outv q k v lam g (512 * qi + i) e) :
    Out q k v lam g (qi + 1) (arg10.view.read (Elt Ideal) (arg10.view.writes (Elt Ideal) f10 [⟨Rect.unit (s := S1x8192x128) off S1x512x128.size h, P⟩])) := by
  intro i e hi
  by_cases hlt : (i : ℕ) < 512 * qi
  · rw [View.read_writes_cons_unit_of_not_mem arg10.view f10 h P [] _ hoff 1 (.inl (by simp; omega))]
    exact hO i e hlt
  · rw [View.read_writes_cons_unit_of_mem arg10.view f10 h P [] _ (ix3 (0 : Fin 1) (⟨i - 512 * qi, by omega⟩ : Fin 512) e) hoff (by intro a; fin_cases a <;> simp; omega)]
    rw [hP]
    congr 1
    simp only
    omega

end Fin

/-! ## The blocks lie within their arrays -/

theorem inbQ {off : Fin 4 → ℕ} {n : ℕ} (h : off = ![0, 0, 0, n * 512]) (hn : n < 16) : ∀ a, off a + S1x1x128x512.size a ≤ S1x1x128x8192.size a := by
  subst h; intro a; fin_cases a <;> simp <;> omega
theorem inbK {off : Fin 3 → ℕ} {n : ℕ} (h : off = ![0, n * 512, 0]) (hn : n < 16) : ∀ a, off a + S1x512x128.size a ≤ S1x8192x128.size a := by
  subst h; intro a; fin_cases a <;> simp <;> omega
theorem inbV {off : Fin 4 → ℕ} {n : ℕ} (h : off = ![0, 0, 0, n * 512]) (hn : n < 16) : ∀ a, off a + S1x1x144x512.size a ≤ S1x1x144x8192.size a := by
  subst h; intro a; fin_cases a <;> simp <;> omega

section Keep

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)
  (x : Ro (F := Ideal) c arg2 arg3 arg4 arg5 arg6 arg7 arg8 arg9)

/-- What the read buffers hold, over the reals: queries, keys, values with a row of ones below, lambda; and the gain. -/
structure IsRo : Prop where
  h2 : ∀ (d : Fin 128) (n : Fin 8192), arg2.view.read (Elt Ideal) x.f2 (ix4 (0 : Fin 1) (0 : Fin 1) d n) = (q d n : EReal)
  h3 : ∀ (n : Fin 8192) (d : Fin 128), arg3.view.read (Elt Ideal) x.f3 (ix3 (0 : Fin 1) n d) = (k n d : EReal)
  h4 : ∀ (e : Fin 144) (n : Fin 8192), arg4.view.read (Elt Ideal) x.f4 (ix4 (0 : Fin 1) (0 : Fin 1) e n) = (v e n : EReal)
  hv : ∀ n, v 128 n = 1
  hl : ldLam c arg5 arg6 arg7 arg8 x.f5 x.f6 x.f7 x.f8 (ix2 (0 : Fin 1) (0 : Fin 1)) = (lam : EReal)
  h9 : ∀ e : Fin 128, arg9.view.read (Elt Ideal) x.f9 (ix2 e (0 : Fin 1)) = g e

/-- The buffers where the first half meets the tile `(qi, kt)`. -/
def Phi (qi kt : ℕ) (s : St (F := Ideal) c arg10 arg11 arg12 arg13 arg14 arg15 arg16) : Prop :=
  Tile q k qi kt (rd (R := 512) c arg13 s.f13) (rd (R := 1) c arg15 s.f15) ∧ Acc q k v qi kt (rd (R := 1) c arg11 s.f11) (rd (R := 144) c arg12 s.f12)
    ∧ Out q k v lam g qi (arg10.view.read (Elt Ideal) s.f10)

/-- The buffers where the second half meets the tile `(qi, kt)`. -/
def Psi (qi kt : ℕ) (s : St (F := Ideal) c arg10 arg11 arg12 arg13 arg14 arg15 arg16) : Prop :=
  Tile q k qi kt (rd (R := 512) c arg14 s.f14) (rd (R := 1) c arg16 s.f16) ∧ Acc q k v qi kt (rd (R := 1) c arg11 s.f11) (rd (R := 144) c arg12 s.f12)
    ∧ Out q k v lam g qi (arg10.view.read (Elt Ideal) s.f10)

variable (hx : IsRo q k v lam g c arg2 arg3 arg4 arg5 arg6 arg7 arg8 arg9 x)
include hx

/-- Each load of queries is a block of the reals' queries. -/
theorem isQ_of {off : Fin 4 → ℕ} (h) {n : ℕ} (hoff : off = ![0, 0, 0, n * 512]) (hn : n < 16) : IsQ q n (ldQ c arg2 x.f2 off h) := fun d i => by
  rw [ldQ_apply c arg2 x.f2 h hoff hn, hx.h2]
/-- Each load of keys is a block of the reals' keys. -/
theorem isK_of {off : Fin 3 → ℕ} (h) {n : ℕ} (hoff : off = ![0, n * 512, 0]) (hn : n < 16) : IsK k n (ldK c arg3 x.f3 off h) := fun j d => by
  rw [ldK_apply c arg3 x.f3 h hoff hn, hx.h3]
/-- Each load of values is a block of the reals' values. -/
theorem isV_of {off : Fin 4 → ℕ} (h) {n : ℕ} (hoff : off = ![0, 0, 0, n * 512]) (hn : n < 16) : IsV v n (ldV c arg4 x.f4 off h) := fun e j => by
  rw [ldV_apply c arg4 x.f4 h hoff hn, hx.h4]

omit hx
end Keep

end Cert.KernelIdeal.Att

end
-- ==== Proof.KI.Keeps.lean ====
/-
  The six halves of a trip keep what the buffers hold at a tile.
-/
module

public import proofs.«01_k».proof.Proof.KI.Init
public import proofs.«01_k».proof.Proof.KI.Steps

@[expose] public section

set_option maxRecDepth 16384

noncomputable section

namespace Cert.KernelIdeal.Att

open Cert.KernelIdeal Cert.KernelIdeal.Gen Idealize.ShloMosaic Idealize.ShloMosaic.TcCoe Cert.Att

variable (q k v : ℕ → ℕ → ℝ) (lam : ℝ) (g : Fin 128 → EReal)

section Keep

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)
  (x : Ro (F := Ideal) c arg2 arg3 arg4 arg5 arg6 arg7 arg8 arg9)

variable (hx : IsRo q k v lam g c arg2 arg3 arg4 arg5 arg6 arg7 arg8 arg9 x)
include hx

set_option maxHeartbeats 1000000 in
/-- The halves of a trip keep the predicates. -/
theorem keeps (z : Fin k0_t1_loop.trips) : Steps (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 rowNo seen z x
    (Phi q k v lam g c arg10 arg11 arg12 arg13 arg14 arg15 arg16) (Psi q k v lam g c arg10 arg11 arg12 arg13 arg14 arg15 arg16) where
  firstMid := by
    intro qi kt hk hq hw h1 h2 h3 s ⟨hT, hA, hO⟩
    have off : _ ∧ _ := offs1 ⟨qi, by omega⟩ ⟨kt, by omega⟩ (Fin.mk_le_mk.mpr (by omega))
    have eq : nq qi kt = qi := by unfold nq; rw [if_neg (by omega)]
    have ek : nk qi kt = (kt + 1) := by unfold nk; rw [if_neg (by omega)]
    simp only [eq, ek] at off
    obtain ⟨o12, o3, o4, o5, o6, o7, o8, o9, o10⟩ := off
    obtain ⟨o1, o2⟩ := o12 hk
    rw [firstMid_eq (hQ := inbQ o1 (by omega)) (hK := inbK o2 (by omega)) (hV := inbV o3 (by omega))]
    dsimp only [Psi]
    have V := isV_of q k v lam g c arg2 arg3 arg4 arg5 arg6 arg7 arg8 arg9 x hx (inbV o3 (by omega)) o3 (by omega)
    have Q := isQ_of q k v lam g c arg2 arg3 arg4 arg5 arg6 arg7 arg8 arg9 x hx (inbQ o1 (by omega)) o1 (by omega)
    have K := isK_of q k v lam g c arg2 arg3 arg4 arg5 arg6 arg7 arg8 arg9 x hx (inbK o2 (by omega)) o2 (by omega)
    exact ⟨tile_of q k c arg14 s.f14 arg16 s.f16 (by omega) (isS_full q k 0 (by omega) Q K) (isS_full q k 1 (by omega) Q K), acc_con q k v c arg11 arg12 s.f11 s.f12 arg13 s.f13 arg15 s.f15 (by omega) hA hT V, hO⟩
  firstDiag := by
    intro qi kt hk hq hw h1 h2 h3 s ⟨hT, hA, hO⟩
    have off : _ ∧ _ := offs1 ⟨qi, by omega⟩ ⟨kt, by omega⟩ (Fin.mk_le_mk.mpr (by omega))
    have eq : nq qi kt = qi := by unfold nq; rw [if_neg (by omega)]
    have ek : nk qi kt = (kt + 1) := by unfold nk; rw [if_neg (by omega)]
    simp only [eq, ek] at off
    obtain ⟨o12, o3, o4, o5, o6, o7, o8, o9, o10⟩ := off
    subst hk
    rw [firstDiag_eq (hQ := inbQ o4 (by omega)) (hK := inbK o5 (by omega)) (hV := inbV o6 (by omega))]
    dsimp only [Psi]
    have V := isV_of q k v lam g c arg2 arg3 arg4 arg5 arg6 arg7 arg8 arg9 x hx (inbV o6 (by omega)) o6 (by omega)
    have Q := isQ_of q k v lam g c arg2 arg3 arg4 arg5 arg6 arg7 arg8 arg9 x hx (inbQ o4 (by omega)) o4 (by omega)
    have K := isK_of q k v lam g c arg2 arg3 arg4 arg5 arg6 arg7 arg8 arg9 x hx (inbK o5 (by omega)) o5 (by omega)
    have C := acc_con q k v c arg11 arg12 s.f11 s.f12 arg13 s.f13 arg15 s.f15 (by omega) hA hT V
    exact ⟨tile_of q k c arg14 s.f14 arg16 s.f16 le_rfl (isS_diag q k 0 Q K) (isS_diag q k 1 Q K), C, hO⟩
  firstLast := by
    intro qi kt hk hq hw h1 h2 h3 s ⟨hT, hA, hO⟩
    have off : _ ∧ _ := offs1 ⟨qi, by omega⟩ ⟨kt, by omega⟩ (Fin.mk_le_mk.mpr (by omega))
    have eq : nq qi kt = (qi + 1) := by unfold nq; rw [if_pos hk]; omega
    have ek : nk qi kt = 0 := by unfold nk; rw [if_pos hk]
    simp only [eq, ek] at off
    obtain ⟨o12, o3, o4, o5, o6, o7, o8, o9, o10⟩ := off
    subst hk
    rw [firstLast_eq (hQ := inbQ o7 (by omega)) (hK := inbK o8 (by omega)) (hV := inbV o9 (by omega)) (hO := inbK o10 (by omega))]
    dsimp only [Psi]
    have V := isV_of q k v lam g c arg2 arg3 arg4 arg5 arg6 arg7 arg8 arg9 x hx (inbV o9 (by omega)) o9 (by omega)
    have Q := isQ_of q k v lam g c arg2 arg3 arg4 arg5 arg6 arg7 arg8 arg9 x hx (inbQ o7 (by omega)) o7 (by omega)
    have K := isK_of q k v lam g c arg2 arg3 arg4 arg5 arg6 arg7 arg8 arg9 x hx (inbK o8 (by omega)) o8 (by omega)
    have C := con_at q k v c arg11 arg12 s.f11 s.f12 arg13 s.f13 arg15 s.f15 (by omega) hA hT V
    refine ⟨tile_of q k c arg14 s.f14 arg16 s.f16 (by omega) (isS_full q k 0 (by omega) Q K) (isS_full q k 1 (by omega) Q K), acc_reset q k v c arg11 arg12 _ s.f11 s.f12 _ _, ?_⟩
    exact out_fin q k v lam g c arg10 s.f10 (by omega) hO _ o10 fun j e => finB_apply q k v lam g c arg5 arg6 arg7 arg8 arg9 arg12 x.f5 x.f6 x.f7 x.f8 x.f9 hx.hv hx.hl hx.h9 (by omega) j (C 0 j) (C 1 j) e
  secondMid := by
    intro qi kt hk hq hn hw w1 w2 w3 u y1 y2 w4 hy h4 h5 h6 s ⟨hT, hA, hO⟩
    have hq16 : qi < 16 := by unfold sq at hq; split at hq <;> omega
    have off : _ ∧ _ := offs2 ⟨qi, by omega⟩ ⟨kt, by omega⟩ (Fin.mk_le_mk.mpr hk)
    have e0 : nq qi kt = sq qi kt := by unfold nq sq; unfold sq at hq; split at hq <;> simp_all; omega
    simp only [e0] at off
    have hle : nk qi kt ≤ sq qi kt := by omega
    generalize sq qi kt = qs at *
    generalize nk qi kt = ks at *
    have eq : nq qs ks = qs := by unfold nq; rw [if_neg (by omega)]
    have ek : nk qs ks = (ks + 1) := by unfold nk; rw [if_neg (by omega)]
    simp only [eq, ek] at off
    obtain ⟨o11, o12, o13, o14, o15, o16, o17, o18, o19, o20⟩ := off
    rw [secondMid_eq (hQ := inbQ o11 (by omega)) (hK := inbK o12 (by omega)) (hV := inbV o13 (by omega))]
    dsimp only [Phi]
    have V := isV_of q k v lam g c arg2 arg3 arg4 arg5 arg6 arg7 arg8 arg9 x hx (inbV o13 (by omega)) o13 (by omega)
    have Q := isQ_of q k v lam g c arg2 arg3 arg4 arg5 arg6 arg7 arg8 arg9 x hx (inbQ o11 (by omega)) o11 (by omega)
    have K := isK_of q k v lam g c arg2 arg3 arg4 arg5 arg6 arg7 arg8 arg9 x hx (inbK o12 (by omega)) o12 (by omega)
    exact ⟨tile_of q k c arg13 s.f13 arg15 s.f15 (by omega) (isS_full q k 0 (by omega) Q K) (isS_full q k 1 (by omega) Q K), acc_con q k v c arg11 arg12 s.f11 s.f12 arg14 s.f14 arg16 s.f16 (by omega) hA hT V, hO⟩
  secondDiag := by
    intro qi kt hk hq hn hw w1 w2 w3 u y1 y2 w4 hy h4 h5 h6 s ⟨hT, hA, hO⟩
    have hq16 : qi < 16 := by unfold sq at hq; split at hq <;> omega
    have off : _ ∧ _ := offs2 ⟨qi, by omega⟩ ⟨kt, by omega⟩ (Fin.mk_le_mk.mpr hk)
    have e0 : nq qi kt = sq qi kt := by unfold nq sq; unfold sq at hq; split at hq <;> simp_all; omega
    simp only [e0] at off
    have hle : nk qi kt ≤ sq qi kt := by omega
    generalize sq qi kt = qs at *
    generalize nk qi kt = ks at *
    have eq : nq qs ks = qs := by unfold nq; rw [if_neg (by omega)]
    have ek : nk qs ks = (ks + 1) := by unfold nk; rw [if_neg (by omega)]
    simp only [eq, ek] at off
    obtain ⟨o11, o12, o13, o14, o15, o16, o17, o18, o19, o20⟩ := off
    subst hn
    rw [secondDiag_eq (hQ := inbQ o14 (by omega)) (hK := inbK o15 (by omega)) (hV := inbV o16 (by omega))]
    dsimp only [Phi]
    have V := isV_of q k v lam g c arg2 arg3 arg4 arg5 arg6 arg7 arg8 arg9 x hx (inbV o16 (by omega)) o16 (by omega)
    have Q := isQ_of q k v lam g c arg2 arg3 arg4 arg5 arg6 arg7 arg8 arg9 x hx (inbQ o14 (by omega)) o14 (by omega)
    have K := isK_of q k v lam g c arg2 arg3 arg4 arg5 arg6 arg7 arg8 arg9 x hx (inbK o15 (by omega)) o15 (by omega)
    have C := acc_con q k v c arg11 arg12 s.f11 s.f12 arg14 s.f14 arg16 s.f16 (by omega) hA hT V
    exact ⟨tile_of q k c arg13 s.f13 arg15 s.f15 le_rfl (isS_diag q k 0 Q K) (isS_diag q k 1 Q K), C, hO⟩
  secondLast := by
    intro qi kt hk hq hn hw w1 w2 w3 u y1 y2 w4 hy h4 h5 h6 s ⟨hT, hA, hO⟩
    have hq16 : qi < 16 := by unfold sq at hq; split at hq <;> omega
    have off : _ ∧ _ := offs2 ⟨qi, by omega⟩ ⟨kt, by omega⟩ (Fin.mk_le_mk.mpr hk)
    have e0 : nq qi kt = sq qi kt := by unfold nq sq; unfold sq at hq; split at hq <;> simp_all; omega
    simp only [e0] at off
    have hle : nk qi kt ≤ sq qi kt := by omega
    generalize sq qi kt = qs at *
    generalize nk qi kt = ks at *
    have eq : nq qs ks = (min (qs + 1) 15) := by unfold nq; rw [if_pos hn]
    have ek : nk qs ks = 0 := by unfold nk; rw [if_pos hn]
    simp only [eq, ek] at off
    obtain ⟨o11, o12, o13, o14, o15, o16, o17, o18, o19, o20⟩ := off
    subst hn
    rw [secondLast_eq (hQ := inbQ o17 (by omega)) (hK := inbK o18 (by omega)) (hV := inbV o19 (by omega)) (hO := inbK o20 (by omega))]
    dsimp only [Phi]
    have V := isV_of q k v lam g c arg2 arg3 arg4 arg5 arg6 arg7 arg8 arg9 x hx (inbV o19 (by omega)) o19 (by omega)
    have Q := isQ_of q k v lam g c arg2 arg3 arg4 arg5 arg6 arg7 arg8 arg9 x hx (inbQ o17 (by omega)) o17 (by omega)
    have K := isK_of q k v lam g c arg2 arg3 arg4 arg5 arg6 arg7 arg8 arg9 x hx (inbK o18 (by omega)) o18 (by omega)
    have Q' : ks + 1 < 16 → IsQ q (ks + 1) (ldQ c arg2 x.f2 (k0_off17 (w qi) (w kt)) (inbQ o17 (by omega))) := fun h =>
      isQ_of q k v lam g c arg2 arg3 arg4 arg5 arg6 arg7 arg8 arg9 x hx _ (o17.trans (by rw [Nat.min_eq_left (by omega)])) h
    have C := con_at q k v c arg11 arg12 s.f11 s.f12 arg14 s.f14 arg16 s.f16 (by omega) hA hT V
    refine ⟨fun h16 => tile_of q k c arg13 s.f13 arg15 s.f15 (by omega) (isS_full q k 0 (by omega) (Q' h16) K) (isS_full q k 1 (by omega) (Q' h16) K) h16, acc_reset q k v c arg11 arg12 _ s.f11 s.f12 _ _, ?_⟩
    exact out_fin q k v lam g c arg10 s.f10 (by omega) hO _ o20 fun j e => finB_apply q k v lam g c arg5 arg6 arg7 arg8 arg9 arg12 x.f5 x.f6 x.f7 x.f8 x.f9 hx.hv hx.hl hx.h9 (by omega) j (C 0 j) (C 1 j) e

/-- Where the loop starts the buffers hold the first tile's scores, no sums, and no finished rows. -/
theorem start_ok (s : St (F := Ideal) c arg10 arg11 arg12 arg13 arg14 arg15 arg16) :
    Phi q k v lam g c arg10 arg11 arg12 arg13 arg14 arg15 arg16 0 0 (start (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x.f2 x.f3 x.f4 x.f5 x.f6 x.f7 x.f8 x.f9 s.f10 s.f11 s.f12 s.f13 s.f14 s.f15 s.f16).1.1 := by
  rw [start_eq]
  dsimp only [Phi]
  have Q := isQ_of q k v lam g c arg2 arg3 arg4 arg5 arg6 arg7 arg8 arg9 x hx inb_S1x1x128x8192_S1x1x128x512_0_0_0_0 (n := 0) rfl (by omega)
  have K := isK_of q k v lam g c arg2 arg3 arg4 arg5 arg6 arg7 arg8 arg9 x hx inb_S1x8192x128_S1x512x128_0_0_0 (n := 0) rfl (by omega)
  refine ⟨tile_of q k c arg13 arg13.view.junk arg15 arg15.view.junk le_rfl (isS_diag q k 0 Q K) (isS_diag q k 1 Q K), acc_reset q k v c arg11 arg12 0 arg11.view.junk arg12.view.junk [] [], ?_⟩
  intro i e hi
  omega

/-- The predicates of a grid point: its halves keep them, they hold where the loop starts, and they end in the whole output block. -/
theorem point_ok (s : St (F := Ideal) c arg10 arg11 arg12 arg13 arg14 arg15 arg16) :
    ∃ (p : Start (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x s) (Φ Ψ : ℕ → ℕ → St (F := Ideal) c arg10 arg11 arg12 arg13 arg14 arg15 arg16 → Prop),
      (∀ k, Steps (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 p.1.2.1 p.1.2.2 k x Φ Ψ) ∧ Φ 0 0 p.1.1
        ∧ ∀ s', Φ 16 0 s' → ∀ (i : Fin 8192) (e : Fin 128), arg10.view.read (Elt Ideal) s'.f10 (ix3 (0 : Fin 1) i e) = outv q k v lam g i e := by
  refine ⟨start (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 x.f2 x.f3 x.f4 x.f5 x.f6 x.f7 x.f8 x.f9 s.f10 s.f11 s.f12 s.f13 s.f14 s.f15 s.f16,
    Phi q k v lam g c arg10 arg11 arg12 arg13 arg14 arg15 arg16, Psi q k v lam g c arg10 arg11 arg12 arg13 arg14 arg15 arg16, fun z => ?_, start_ok q k v lam g c i arg2 harg2 arg3 harg3 arg4 harg4 arg5 harg5 arg6 harg6 arg7 harg7 arg8 harg8 arg9 harg9 arg10 harg10 arg11 harg11 arg12 harg12 arg13 harg13 arg14 harg14 arg15 harg15 arg16 harg16 x hx s, fun s' h i e => h.2.2 i e (by omega)⟩
  rw [start_vecs]
  exact keeps q k v lam g c i arg2 harg2 arg3 harg3 arg4 harg4 arg5 harg5 arg6 harg6 arg7 harg7 arg8 harg8 arg9 harg9 arg10 harg10 arg11 harg11 arg12 harg12 arg13 harg13 arg14 harg14 arg15 harg15 arg16 harg16 x hx z

omit hx
end Keep

end Cert.KernelIdeal.Att

end
-- ==== Proof.KI.Frame.lean ====
/-
  The launch. A grid point's triple over the memrefs the pipeline hands the body, the proof data and body obligation with the output
  forgotten, and the run of the whole program: it terminates, and every argument is left as it was.
-/
module

public import proofs.«01_k».proof.Proof.KI.Body
public import Idealize.ShloMosaic.Lib.Pipeline.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F] [Named F]

local notation "𝕄" => MT nD τ sig Unit (Elt F) ℕ (UR sig nD τ) ℕ

/-- A whole memref owned at what it reads as is its buffer at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : B (F := F) c M, ⌜M.view.read (Elt F) f = X⌝ ∗ pt (F := F) c M f) := by
  unfold owns; rw [h.set_eq_univ]

section Owned

variable (c : Dev nD) (i : grid0.Coords)
  (arg2 : Memref sig .tc .vmem S1x1x128x8192 .bf16) (harg2 : arg2.IsWhole) (arg3 : Memref sig .tc .vmem S1x8192x128 .bf16) (harg3 : arg3.IsWhole)
  (arg4 : Memref sig .tc .vmem S1x1x144x8192 .bf16) (harg4 : arg4.IsWhole) (arg5 : Memref sig .tc .vmem S1x64 .f32) (harg5 : arg5.IsWhole)
  (arg6 : Memref sig .tc .vmem S1x64 .f32) (harg6 : arg6.IsWhole) (arg7 : Memref sig .tc .vmem S1x64 .f32) (harg7 : arg7.IsWhole)
  (arg8 : Memref sig .tc .vmem S1x64 .f32) (harg8 : arg8.IsWhole) (arg9 : Memref sig .tc .vmem S128x1 .f32) (harg9 : arg9.IsWhole)
  (arg10 : Memref sig .tc .vmem S1x8192x128 .bf16) (harg10 : arg10.IsWhole) (arg11 : Memref sig .tc .vmem S2x1x512 .f32) (harg11 : arg11.IsWhole)
  (arg12 : Memref sig .tc .vmem S2x144x512 .f32) (harg12 : arg12.IsWhole) (arg13 : Memref sig .tc .vmem S2x512x512 .f32) (harg13 : arg13.IsWhole)
  (arg14 : Memref sig .tc .vmem S2x512x512 .f32) (harg14 : arg14.IsWhole) (arg15 : Memref sig .tc .vmem S2x1x512 .f32) (harg15 : arg15.IsWhole)
  (arg16 : Memref sig .tc .vmem S2x1x512 .f32) (harg16 : arg16.IsWhole)

/-- What the buffers a point reads hold, as they read. -/
structure Reads (x : Ro (F := F) c arg2 arg3 arg4 arg5 arg6 arg7 arg8 arg9) (X2 : S1x1x128x8192.Idx → Elt F .bf16) (X3 : S1x8192x128.Idx → Elt F .bf16) (X4 : S1x1x144x8192.Idx → Elt F .bf16) (X5 : S1x64.Idx → Elt F .f32) (X6 : S1x64.Idx → Elt F .f32) (X7 : S1x64.Idx → Elt F .f32) (X8 : S1x64.Idx → Elt F .f32) (X9 : S128x1.Idx → Elt F .f32) : Prop where
  h2 : arg2.view.read (Elt F) x.f2 = X2
  h3 : arg3.view.read (Elt F) x.f3 = X3
  h4 : arg4.view.read (Elt F) x.f4 = X4
  h5 : arg5.view.read (Elt F) x.f5 = X5
  h6 : arg6.view.read (Elt F) x.f6 = X6
  h7 : arg7.view.read (Elt F) x.f7 = X7
  h8 : arg8.view.read (Elt F) x.f8 = X8
  h9 : arg9.view.read (Elt F) x.f9 = X9

/-- A grid point over memrefs: what it reads is left, what it writes ends at contents with `Q`, where for every contents the buffers may
    have there are predicates that its halves keep, that hold where the loop starts, and that end in `Q`. -/
theorem point_owns (X2 : S1x1x128x8192.Idx → Elt F .bf16) (X3 : S1x8192x128.Idx → Elt F .bf16) (X4 : S1x1x144x8192.Idx → Elt F .bf16) (X5 : S1x64.Idx → Elt F .f32) (X6 : S1x64.Idx → Elt F .f32) (X7 : S1x64.Idx → Elt F .f32) (X8 : S1x64.Idx → Elt F .f32) (X9 : S128x1.Idx → Elt F .f32) (Q : (S1x8192x128.Idx → Elt F .bf16) → Prop)
    (h : ∀ x s, Reads (F := F) c arg2 arg3 arg4 arg5 arg6 arg7 arg8 arg9 x X2 X3 X4 X5 X6 X7 X8 X9 → ∃ (p : Start (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 x s) (Φ Ψ : ℕ → ℕ → St (F := F) c arg10 arg11 arg12 arg13 arg14 arg15 arg16 → Prop),
      (∀ k, Steps (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 p.1.2.1 p.1.2.2 k x Φ Ψ) ∧ Φ 0 0 p.1.1 ∧ ∀ s', Φ 16 0 s' → Q (arg10.view.read (Elt F) s'.f10)) :
    iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9) ∗ (∃ d, owns (c : Thread nD τ) arg10 fullShare d) ∗ (∃ f, pt (F := F) c arg11 f) ∗ (∃ f, pt (F := F) c arg12 f) ∗ (∃ f, pt (F := F) c arg13 f) ∗ (∃ f, pt (F := F) c arg14 f) ∗ (∃ f, pt (F := F) c arg15 f) ∗ (∃ f, pt (F := F) c arg16 f))
      ⊢ wp frame (wpE (defs₀ (F := F)) Variants.none (c : Thread nD τ) none) Set.univ (cc0_diffattn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        fun _ => iprop((owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9) ∗ (∃ d, ⌜Q d⌝ ∗ owns (c : Thread nD τ) arg10 fullShare d) ∗ (∃ f, pt (F := F) c arg11 f) ∗ (∃ f, pt (F := F) c arg12 f) ∗ (∃ f, pt (F := F) c arg13 f) ∗ (∃ f, pt (F := F) c arg14 f) ∗ (∃ f, pt (F := F) c arg15 f) ∗ (∃ f, pt (F := F) c arg16 f)) := by
  rw [owns_pt (F := F) c arg2 harg2, owns_pt (F := F) c arg3 harg3, owns_pt (F := F) c arg4 harg4, owns_pt (F := F) c arg5 harg5, owns_pt (F := F) c arg6 harg6, owns_pt (F := F) c arg7 harg7, owns_pt (F := F) c arg8 harg8, owns_pt (F := F) c arg9 harg9]
  simp only [owns_pt (F := F) c arg10 harg10]
  iintro ⟨⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩, ⟨%d, %f10, -, H10⟩, ⟨%f11, H11⟩, ⟨%f12, H12⟩, ⟨%f13, H13⟩, ⟨%f14, H14⟩, ⟨%f15, H15⟩, ⟨%f16, H16⟩⟩
  obtain ⟨p, Φ, Ψ, hS, h0, hQ⟩ := h ⟨f2, f3, f4, f5, f6, f7, f8, f9⟩ ⟨f10, f11, f12, f13, f14, f15, f16⟩ ⟨h2, h3, h4, h5, h6, h7, h8, h9⟩
  iapply (wp_wand_r Idealize.ShloMosaic.frame (wpE (defs₀ (F := F)) Variants.none (c : Thread nD τ) none) Set.univ)
  isplitl [H2 H3 H4 H5 H6 H7 H8 H9 H10 H11 H12 H13 H14 H15 H16]
  · iapply (point (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 ⟨f2, f3, f4, f5, f6, f7, f8, f9⟩ Φ Ψ ⟨f10, f11, f12, f13, f14, f15, f16⟩ p hS h0)
    dsimp only [rds, own]
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [H11]; · iexact H11
    isplitl [H12]; · iexact H12
    isplitl [H13]; · iexact H13
    isplitl [H14]; · iexact H14
    isplitl [H15]; · iexact H15
    iexact H16
  iintro %r H
  unfold some
  dsimp only [rds, own]
  icases H with ⟨⟨H2, H3, H4, H5, H6, H7, H8, H9⟩, %s', %hs, ⟨H10, H11, H12, H13, H14, H15, H16⟩⟩
  isplitl [H2 H3 H4 H5 H6 H7 H8 H9]
  · isplitl [H2]; · iexists f2; isplitr; (ipureintro; exact h2); iexact H2
    isplitl [H3]; · iexists f3; isplitr; (ipureintro; exact h3); iexact H3
    isplitl [H4]; · iexists f4; isplitr; (ipureintro; exact h4); iexact H4
    isplitl [H5]; · iexists f5; isplitr; (ipureintro; exact h5); iexact H5
    isplitl [H6]; · iexists f6; isplitr; (ipureintro; exact h6); iexact H6
    isplitl [H7]; · iexists f7; isplitr; (ipureintro; exact h7); iexact H7
    isplitl [H8]; · iexists f8; isplitr; (ipureintro; exact h8); iexact H8
    iexists f9; isplitr; (ipureintro; exact h9); iexact H9
  isplitl [H10]
  · iexists _; isplitr; · ipureintro; exact hQ s' hs
    iexists _; isplitr; swap; · iexact H10
    ipureintro; rfl
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Owned

/-! ## The proof data -/

variable [∀ e, Nonempty (Elt F e)]
variable (m : (ℓ : Loc nD τ sig) → Buf (Elt F) ℓ) (ρ : Dev nD → PrngReg)

/-- The output window alone is forgotten. -/
def forgets (w : Fin 9) : Bool := w == 8

/-- The proof data on core `c`: arrays as the region finds them; each input window's block left in place; the output's `X`; the scratch
    buffers at anything between points. -/
def datOf (c : Dev nD) (X : (t : Fin cfg0.N) → (cfg0.win 8).block.Idx → Elt F (cfg0.win 8).elt) : Dat τ (Elt F) Unit ℕ (UR sig nD τ) ℕ cfg0 c where
  A w := V m c (Pipeline.arrRef spec0 w)
  after w t := match w with
    | 8 => X t
    | 0 => iblk m c 0 t | 1 => iblk m c 1 t | 2 => iblk m c 2 t | 3 => iblk m c 3 t
    | 4 => iblk m c 4 t | 5 => iblk m c 5 t | 6 => iblk m c 6 t | 7 => iblk m c 7 t
  Φ _ := Pipeline.ΦA spec0 c
  q _ := fullShare
  owed _ := 0

/-- A grid point of the pipeline: from the input windows at their blocks and the output window and the scratch buffers at anything, the body
    leaves the inputs as they were and the output at contents with `Q`. -/
theorem sound_point (c : Dev nD) (t : Fin cfg0.N) (Q : (S1x8192x128.Idx → Elt F .bf16) → Prop)
    (h : ∀ x s, Reads (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) x (iblk m c 0 t) (iblk m c 1 t) (iblk m c 2 t) (iblk m c 3 t) (iblk m c 4 t) (iblk m c 5 t) (iblk m c 6 t) (iblk m c 7 t) → ∃ (p : Start (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) x s) (Φ Ψ : ℕ → ℕ → St (F := F) c (win0_8.stage (cfg0.slots t 8)) (Memref.whole cc0_scratch0) (Memref.whole cc0_scratch1) (Memref.whole cc0_scratch2) (Memref.whole cc0_scratch3) (Memref.whole cc0_scratch4) (Memref.whole cc0_scratch5) → Prop),
      (∀ k, Steps (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) p.1.2.1 p.1.2.2 k x Φ Ψ) ∧ Φ 0 0 p.1.1 ∧ ∀ s', Φ 16 0 s' → Q ((win0_8.stage (cfg0.slots t 8)).view.read (Elt F) s'.f10)) :
    iprop((Pipeline.ΦA spec0 c : sProp 𝕄) ∗ (owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)) ∗ (∃ d, owns (c : Thread nD τ) (win0_8.stage (cfg0.slots t 8)) fullShare d))
      ⊢ wp frame (wpE (defs₀ (F := F)) Variants.none (c : Thread nD τ) none) Set.univ (bodyAt0 (F := F) t)
        fun _ => iprop((Pipeline.ΦA spec0 c : sProp 𝕄) ∗ (owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t)) ∗ (∃ d, ⌜Q d⌝ ∗ owns (c : Thread nD τ) (win0_8.stage (cfg0.slots t 8)) fullShare d)) := by
  unfold bodyAt0 Pipeline.ΦA
  rw [scopedRest0_eq]
  iintro ⟨⟨HS, HG⟩, HI, HO⟩
  iapply (wp_wand_r Idealize.ShloMosaic.frame (wpE (defs₀ (F := F)) Variants.none (c : Thread nD τ) none) Set.univ)
  isplitl [HS HI HO]
  · iapply (point_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (iblk m c 0 t) (iblk m c 1 t) (iblk m c 2 t) (iblk m c 3 t) (iblk m c 4 t) (iblk m c 5 t) (iblk m c 6 t) (iblk m c 7 t) Q h)
    isplitl [HI]; · iexact HI
    isplitl [HO]; · iexact HO
    iexact HS
  iintro %r ⟨HI, HO, HS⟩
  isplitl [HS HG]
  · isplitl [HS]; · iexact HS
    iexact HG
  isplitl [HI]; · iexact HI
  iexact HO

/-- The body table's row at a point is the body as it is spelt there. -/
theorem defs₀_row (t : Fin cfg0.N) : defs₀ (F := F) .tc cfg0.body (cfg0.bodyArgs t (cfg0.slots t)) = bodyAt0 t := by
  unfold defs₀; rw [Defs.onTc_tc]

/-! ## The frame -/

/-- The proof data of the frame: what the body leaves in the output is not named. -/
def dats (_ : Fin 1) (c : Dev nD) : Dat τ (Elt F) Unit ℕ (UR sig nD τ) ℕ cfg0 c :=
  datOf m c (Pipeline.Dat.unnamed (cfg := cfg0) 8)

theorem A_eq (c : Dev nD) (w : Fin cfg0.W) : (dats m 0 c).A w = V m c (Pipeline.arrRef spec0 w) := by dsimp only [dats, datOf]

/-- What the body is called with at a point, the output forgotten. -/
def bodyPre (c : Dev nD) (t : Fin cfg0.N) : sProp 𝕄 :=
  iprop((Pipeline.ΦA spec0 c : sProp 𝕄) ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d))
    ∗ (∃ d, owns (c : Thread nD τ) (win0_8.stage (cfg0.slots t 8)) fullShare d))
/-- What the body returns at a point, the output forgotten. -/
def bodyPost (c : Dev nD) (t : Fin cfg0.N) : sProp 𝕄 :=
  iprop((Pipeline.ΦA spec0 c : sProp 𝕄) ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t)
    ∗ (∃ d, owns (c : Thread nD τ) (win0_8.stage (cfg0.slots t 8)) fullShare d))

set_option maxHeartbeats 2000000 in
/-- The body at a point: any predicates on the buffers are kept when they say nothing. -/
theorem sound_body (c : Dev nD) (t : Fin cfg0.N) :
    bodyPre m c t ⊢ wp frame (wpE (defs₀ (F := F)) Variants.none (c : Thread nD τ) none) Set.univ (bodyAt0 (F := F) t) (fun _ => bodyPost m c t) := by
  unfold bodyPre bodyPost
  rw [show (dats m 0 c).owesAt () t.succ = (dats m 0 c).owesAt () t.castSucc from rfl, show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl]
  have b2 : ∀ d, (dats m 0 c).before 0 t d = iblk m c 0 t := before0_0_of m (dats m 0 c) (A_eq m c 0) (fun _ => rfl) t
  have b3 : ∀ d, (dats m 0 c).before 1 t d = iblk m c 1 t := before0_1_of m (dats m 0 c) (A_eq m c 1) (fun _ => rfl) t
  have b4 : ∀ d, (dats m 0 c).before 2 t d = iblk m c 2 t := before0_2_of m (dats m 0 c) (A_eq m c 2) (fun _ => rfl) t
  have b5 : ∀ d, (dats m 0 c).before 3 t d = iblk m c 3 t := before0_3_of m (dats m 0 c) (A_eq m c 3) (fun _ => rfl) t
  have b6 : ∀ d, (dats m 0 c).before 4 t d = iblk m c 4 t := before0_4_of m (dats m 0 c) (A_eq m c 4) (fun _ => rfl) t
  have b7 : ∀ d, (dats m 0 c).before 5 t d = iblk m c 5 t := before0_5_of m (dats m 0 c) (A_eq m c 5) (fun _ => rfl) t
  have b8 : ∀ d, (dats m 0 c).before 6 t d = iblk m c 6 t := before0_6_of m (dats m 0 c) (A_eq m c 6) (fun _ => rfl) t
  have b9 : ∀ d, (dats m 0 c).before 7 t d = iblk m c 7 t := before0_7_of m (dats m 0 c) (A_eq m c 7) (fun _ => rfl) t
  simp only [b2, b3, b4, b5, b6, b7, b8, b9]
  iintro ⟨HS, HW, ⟨%d2, H2⟩, ⟨%d3, H3⟩, ⟨%d4, H4⟩, ⟨%d5, H5⟩, ⟨%d6, H6⟩, ⟨%d7, H7⟩, ⟨%d8, H8⟩, ⟨%d9, H9⟩, H10⟩
  iapply (wp_wand_r Idealize.ShloMosaic.frame (wpE (defs₀ (F := F)) Variants.none (c : Thread nD τ) none) Set.univ)
  isplitl [HS H2 H3 H4 H5 H6 H7 H8 H9 H10]
  · iapply (sound_point (F := F) m c t (fun _ => True) fun x s _ =>
      ⟨start (F := F) c _ _ _ _ _ _ _ _ _ _ _ _ _ _ _ _ _ _ _ _ _ _ _ _ _ _ _ _ _ _ _ _ _ _ _ _ _ _ _ _ _ _ _ _ _ _, fun _ _ _ => True, fun _ _ _ => True,
        fun k => ⟨by intros; trivial, by intros; trivial, by intros; trivial, by intros; trivial, by intros; trivial, by intros; trivial⟩, trivial, fun _ _ => trivial⟩)
    isplitl [HS]; · iexact HS
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact H10
  iintro %r ⟨HS, ⟨H2, H3, H4, H5, H6, H7, H8, H9⟩, ⟨%d, %hd, H10⟩⟩
  isplitl [HS]; · iexact HS
  isplitl [HW]; · iexact HW
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d; iexact H10

/-- The library's body obligation with the output forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

-- the launch theorem's implicit arguments are found by unifying its conclusion with this statement, which unifies only when
-- unification may unfold plain definitions in a metavariable's type
set_option backward.isDefEq.respectTransparency.types false in
/-- From any memory with zero counters the whole program terminates; every buffer no window's array holds what the host left in it, and
    every counter is zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := fun r => Pipeline.RDat.FramePost (cfgs 0) (fun c => (dats m 0 c).toRForget forgets) (V m) r ∧ r.2.sem = fun _ => 0) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The program from any memory with zero counters: it terminates, every argument holds what it held, every counter is zero. -/
theorem quiet :
    θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩, h.2⟩) (run_main m ρ)

end Cert.KernelIdeal.Att
-- ==== Proof.KI.Exact.lean ====
/-
  The launch once more, with what every grid point leaves in the output window named: the whole program ends with those blocks in the output array.
-/
module

public import proofs.«01_k».proof.Proof.KI.Frame
public import Idealize.ShloMosaic.Lib.Pipeline.Frame

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F] [Named F]

local notation "𝕄" => MT nD τ sig Unit (Elt F) ℕ (UR sig nD τ) ℕ

variable [∀ e, Nonempty (Elt F e)]
variable (m : (ℓ : Loc nD τ sig) → Buf (Elt F) ℓ) (ρ : Dev nD → PrngReg)

/-- A grid point ends in an output block with `Q`, whatever the buffers may hold when it starts: there are predicates that its halves keep,
    that hold where the loop starts, and that end in `Q`. -/
def Ends (c : Dev nD) (t : Fin cfg0.N) (Q : (S1x8192x128.Idx → Elt F .bf16) → Prop) : Prop :=
  ∀ x s, Reads (F := F) c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) x (iblk m c 0 t) (iblk m c 1 t) (iblk m c 2 t) (iblk m c 3 t) (iblk m c 4 t) (iblk m c 5 t) (iblk m c 6 t) (iblk m c 7 t) → ∃ (p : Start (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) x s) (Φ Ψ : ℕ → ℕ → St (F := F) c (win0_8.stage (cfg0.slots t 8)) (Memref.whole cc0_scratch0) (Memref.whole cc0_scratch1) (Memref.whole cc0_scratch2) (Memref.whole cc0_scratch3) (Memref.whole cc0_scratch4) (Memref.whole cc0_scratch5) → Prop),
      (∀ k, Steps (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) p.1.2.1 p.1.2.2 k x Φ Ψ) ∧ Φ 0 0 p.1.1 ∧ ∀ s', Φ 16 0 s' → Q ((win0_8.stage (cfg0.slots t 8)).view.read (Elt F) s'.f10)

/-- What each core's grid points leave in the output window. -/
abbrev Blocks (F : FTy → Type) : Type := Dev nD → (t : Fin cfg0.N) → (cfg0.win 8).block.Idx → Elt F (cfg0.win 8).elt

variable (X : Blocks F)

/-- The proof data of the exact run: the body leaves `X` in the output. -/
def datX (_ : Fin 1) (c : Dev nD) : Dat τ (Elt F) Unit ℕ (UR sig nD τ) ℕ cfg0 c :=
  datOf m c (X c)

theorem AX_eq (c : Dev nD) (w : Fin cfg0.W) : (datX m X 0 c).A w = V m c (Pipeline.arrRef spec0 w) := by dsimp only [datX, datOf]

/-- What the body is called with at a point. -/
def bodyPreX (c : Dev nD) (t : Fin cfg0.N) : sProp 𝕄 :=
  iprop((Pipeline.ΦA spec0 c : sProp 𝕄) ∗ (datX m X 0 c).owesAt () t.castSucc
    ∗ (∃ d, owns (c : Thread nD τ) (win0_0.stage (cfg0.slots t 0)) fullShare ((datX m X 0 c).before 0 t d)) ∗ (∃ d, owns (c : Thread nD τ) (win0_1.stage (cfg0.slots t 1)) fullShare ((datX m X 0 c).before 1 t d)) ∗ (∃ d, owns (c : Thread nD τ) (win0_2.stage (cfg0.slots t 2)) fullShare ((datX m X 0 c).before 2 t d)) ∗ (∃ d, owns (c : Thread nD τ) (win0_3.stage (cfg0.slots t 3)) fullShare ((datX m X 0 c).before 3 t d)) ∗ (∃ d, owns (c : Thread nD τ) (win0_4.stage (cfg0.slots t 4)) fullShare ((datX m X 0 c).before 4 t d)) ∗ (∃ d, owns (c : Thread nD τ) (win0_5.stage (cfg0.slots t 5)) fullShare ((datX m X 0 c).before 5 t d)) ∗ (∃ d, owns (c : Thread nD τ) (win0_6.stage (cfg0.slots t 6)) fullShare ((datX m X 0 c).before 6 t d)) ∗ (∃ d, owns (c : Thread nD τ) (win0_7.stage (cfg0.slots t 7)) fullShare ((datX m X 0 c).before 7 t d))
    ∗ (∃ d, owns (c : Thread nD τ) (win0_8.stage (cfg0.slots t 8)) fullShare ((datX m X 0 c).before 8 t d)))
/-- What the body returns at a point. -/
def bodyPostX (c : Dev nD) (t : Fin cfg0.N) : sProp 𝕄 :=
  iprop((Pipeline.ΦA spec0 c : sProp 𝕄) ∗ (datX m X 0 c).owesAt () t.succ
    ∗ owns (c : Thread nD τ) (win0_0.stage (cfg0.slots t 0)) fullShare ((datX m X 0 c).after 0 t) ∗ owns (c : Thread nD τ) (win0_1.stage (cfg0.slots t 1)) fullShare ((datX m X 0 c).after 1 t) ∗ owns (c : Thread nD τ) (win0_2.stage (cfg0.slots t 2)) fullShare ((datX m X 0 c).after 2 t) ∗ owns (c : Thread nD τ) (win0_3.stage (cfg0.slots t 3)) fullShare ((datX m X 0 c).after 3 t) ∗ owns (c : Thread nD τ) (win0_4.stage (cfg0.slots t 4)) fullShare ((datX m X 0 c).after 4 t) ∗ owns (c : Thread nD τ) (win0_5.stage (cfg0.slots t 5)) fullShare ((datX m X 0 c).after 5 t) ∗ owns (c : Thread nD τ) (win0_6.stage (cfg0.slots t 6)) fullShare ((datX m X 0 c).after 6 t) ∗ owns (c : Thread nD τ) (win0_7.stage (cfg0.slots t 7)) fullShare ((datX m X 0 c).after 7 t)
    ∗ owns (c : Thread nD τ) (win0_8.stage (cfg0.slots t 8)) fullShare ((datX m X 0 c).after 8 t))

set_option maxHeartbeats 2000000 in
/-- The body at a point leaves the block `X`. -/
theorem sound_bodyX (H : ∀ c t, Ends m c t (fun d => d = X c t)) (c : Dev nD) (t : Fin cfg0.N) :
    bodyPreX m X c t ⊢ wp frame (wpE (defs₀ (F := F)) Variants.none (c : Thread nD τ) none) Set.univ (bodyAt0 (F := F) t) (fun _ => bodyPostX m X c t) := by
  unfold bodyPreX bodyPostX
  rw [show (datX m X 0 c).owesAt () t.succ = (datX m X 0 c).owesAt () t.castSucc from rfl, show (datX m X 0 c).after 8 t = X c t from rfl, show (datX m X 0 c).after 0 t = iblk m c 0 t from rfl, show (datX m X 0 c).after 1 t = iblk m c 1 t from rfl, show (datX m X 0 c).after 2 t = iblk m c 2 t from rfl, show (datX m X 0 c).after 3 t = iblk m c 3 t from rfl, show (datX m X 0 c).after 4 t = iblk m c 4 t from rfl, show (datX m X 0 c).after 5 t = iblk m c 5 t from rfl, show (datX m X 0 c).after 6 t = iblk m c 6 t from rfl, show (datX m X 0 c).after 7 t = iblk m c 7 t from rfl]
  have b2 : ∀ d, (datX m X 0 c).before 0 t d = iblk m c 0 t := before0_0_of m (datX m X 0 c) (AX_eq m X c 0) (fun _ => rfl) t
  have b3 : ∀ d, (datX m X 0 c).before 1 t d = iblk m c 1 t := before0_1_of m (datX m X 0 c) (AX_eq m X c 1) (fun _ => rfl) t
  have b4 : ∀ d, (datX m X 0 c).before 2 t d = iblk m c 2 t := before0_2_of m (datX m X 0 c) (AX_eq m X c 2) (fun _ => rfl) t
  have b5 : ∀ d, (datX m X 0 c).before 3 t d = iblk m c 3 t := before0_3_of m (datX m X 0 c) (AX_eq m X c 3) (fun _ => rfl) t
  have b6 : ∀ d, (datX m X 0 c).before 4 t d = iblk m c 4 t := before0_4_of m (datX m X 0 c) (AX_eq m X c 4) (fun _ => rfl) t
  have b7 : ∀ d, (datX m X 0 c).before 5 t d = iblk m c 5 t := before0_5_of m (datX m X 0 c) (AX_eq m X c 5) (fun _ => rfl) t
  have b8 : ∀ d, (datX m X 0 c).before 6 t d = iblk m c 6 t := before0_6_of m (datX m X 0 c) (AX_eq m X c 6) (fun _ => rfl) t
  have b9 : ∀ d, (datX m X 0 c).before 7 t d = iblk m c 7 t := before0_7_of m (datX m X 0 c) (AX_eq m X c 7) (fun _ => rfl) t
  simp only [b2, b3, b4, b5, b6, b7, b8, b9]
  iintro ⟨HS, HW, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r Idealize.ShloMosaic.frame (wpE (defs₀ (F := F)) Variants.none (c : Thread nD τ) none) Set.univ)
  isplitl [HS H2 H3 H4 H5 H6 H7 H8 H9 H10]
  · iapply (sound_point (F := F) m c t (fun d => d = X c t) (H c t))
    isplitl [HS]; · iexact HS
    isplitl [H2 H3 H4 H5 H6 H7 H8 H9]
    · isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexists _; iexact H10
  iintro %r ⟨HS, ⟨H2, H3, H4, H5, H6, H7, H8, H9⟩, ⟨%d, %hd, H10⟩⟩
  isplitl [HS]; · iexact HS
  isplitl [HW]; · iexact HW
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  rw [hd]; iexact H10

/-- The library's body obligation. -/
theorem body_obligationX (H : ∀ c t, Ends m c t (fun d => d = X c t)) (c : Dev nD) :
    BodyObligation (datX (F := F) m X 0 c) (defs₀ (F := F)) Variants.none () Set.univ := fun t => by
  rw [bigSep_W0, bigSep_W0, defs₀_row]
  exact triple_restated (sound_bodyX m X H c t) rfl .rfl fun _ => .rfl

-- the launch theorem's implicit arguments are found by unifying its conclusion with this statement, which unifies only when
-- unification may unfold plain definitions in a metavariable's type
set_option backward.isDefEq.respectTransparency.types false in
/-- From any memory with zero counters the whole program terminates; the output array holds the blocks `X` written back, and every buffer that is
    no window's array holds what the host left in it. -/
theorem run_exact (H : ∀ c t, Ends m c t (fun d => d = X c t)) :
    θ_run defs (onTc (τ := τ) (main (F := F))) (s₀ m ρ) (fun r => Pipeline.FramePost cfgs (datX m X) 0 (V m) r) :=
  Pipeline.θ_run_frame cfgs (datX m X) (0 : Fin 1) launch0 defs₀ Variants.none m ρ main
    (hbody := fun c => (body_obligationX m X H c).loose) (hshare := fun c => (datX m X 0 c).share_full fun _ => rfl)
    (howed := fun _ _ => rfl) (V := V m) (hmain := hmain m Variants.none) (hA := AX_eq m X)
    (hΦ := fun _ _ => rfl)

end Cert.KernelIdeal.Att

end
-- ==== Proof.KI.Value.lean ====
/-
  The kernel's result: every grid point leaves its block of the specification's output, and the blocks cover the output array.
-/
module

public import proofs.«01_k».proof.Proof.KI.Blocks
public import proofs.«01_k».proof.Proof.KI.Keeps
public import proofs.«01_k».proof.Proof.KI.Exact
public import Idealize.ShloMosaic.Lib.Pipeline.Value

@[expose] public section

set_option maxRecDepth 16384

noncomputable section

namespace Cert.KernelIdeal.Att

open Cert.KernelIdeal Cert.KernelIdeal.Gen Idealize.ShloMosaic Idealize.ShloMosaic.TcCoe Cert.Att Idealize.SL.Sem
open Idealize.ShloMosaic.Pipeline (Dat)

variable (m : (ℓ : Loc nD τ sig) → Buf (Elt Ideal) ℓ) (ρ : Dev nD → PrngReg)

/-- The queries of a core by their five indices. -/
def argQ (c : Dev nD) : Arr5 := fun b n h t j => (m ((c : Thread nD τ).loc main_arg0) : S2x8192x8x2x64.Idx → EReal) (ix5 b n h t j)

/-- The keys of a core by their five indices. -/
def argK (c : Dev nD) : Arr5 := fun b n h t j => (m ((c : Thread nD τ).loc main_arg1) : S2x8192x8x2x64.Idx → EReal) (ix5 b n h t j)

/-- The values of a core by their four indices. -/
def argV (c : Dev nD) : Arr4 := fun b n h e => (m ((c : Thread nD τ).loc main_arg2) : S2x8192x8x128.Idx → EReal) (ix4 b n h e)

/-- A core's lambda. -/
def argL (c : Dev nD) : EReal :=
  lamv (fun d => (m ((c : Thread nD τ).loc main_arg3) : S1x64.Idx → EReal) (ix2 (0 : Fin 1) d)) (fun d => (m ((c : Thread nD τ).loc main_arg4) : S1x64.Idx → EReal) (ix2 (0 : Fin 1) d))
    (fun d => (m ((c : Thread nD τ).loc main_arg5) : S1x64.Idx → EReal) (ix2 (0 : Fin 1) d)) (fun d => (m ((c : Thread nD τ).loc main_arg6) : S1x64.Idx → EReal) (ix2 (0 : Fin 1) d))

/-- A core's gain. -/
def argG (c : Dev nD) : Fin 128 → EReal := fun e => (m ((c : Thread nD τ).loc main_arg7) : S1x128.Idx → EReal) (ix2 (0 : Fin 1) e)

/-- The arguments the attention is linear or exponential in are real numbers. -/
structure Reals (c : Dev nD) : Prop where
  h0 : ∀ b n h t j, ∃ r : ℝ, argQ m c b n h t j = r
  h1 : ∀ b n h t j, ∃ r : ℝ, argK m c b n h t j = r
  h2 : ∀ b n h e, ∃ r : ℝ, argV m c b n h e = r
  hl : argL m c = ((argL m c).toReal : EReal)

/-- The output of a core by its batch, head, query and column. -/
def spec (c : Dev nD) (b : Fin 2) (h : Fin 8) (i : Fin 8192) (e : Fin 128) : EReal :=
  outv (qf (argQ m c) b h) (kf (argK m c) b h) (vf (argV m c) b h) (argL m c).toReal (argG m c) i e

/-- What a grid point leaves in the output window. -/
def X : Blocks Ideal := fun c t => fun j : S1x8192x128.Idx => spec m c (bat t) (hea t) (j 1) (j 2)

/-- The output array. -/
def G (c : Dev nD) : S2x8192x1024.Idx → EReal := fun j =>
  spec m c (j 0) (⟨(j 2 : ℕ) / 128, by have : (j 2 : ℕ) < 1024 := (j 2).2; omega⟩ : Fin 8) (j 1) (⟨(j 2 : ℕ) % 128, by omega⟩ : Fin 128)

/-- An index of the output window's block by its query and column. -/
theorem idx8 (j : S1x8192x128.Idx) : ∃ (i : Fin 8192) (e : Fin 128), j = ix3 (0 : Fin 1) i e := by
  refine ⟨j 1, j 2, funext fun a => ?_⟩
  fin_cases a
  · exact Subsingleton.elim (α := Fin 1) _ _
  · rfl
  · rfl

/-- What a grid point reads, in the terms of the specification. -/
theorem isRo (c : Dev nD) (hr : Reals m c) (t : Fin cfg0.N)
    (arg2 : Memref sig .tc .vmem S1x1x128x8192 .bf16) (arg3 : Memref sig .tc .vmem S1x8192x128 .bf16) (arg4 : Memref sig .tc .vmem S1x1x144x8192 .bf16) (arg5 arg6 arg7 arg8 : Memref sig .tc .vmem S1x64 .f32)
    (arg9 : Memref sig .tc .vmem S128x1 .f32) (x : Ro (F := Ideal) c arg2 arg3 arg4 arg5 arg6 arg7 arg8 arg9)
    (h : Reads (F := Ideal) c arg2 arg3 arg4 arg5 arg6 arg7 arg8 arg9 x (iblk m c 0 t) (iblk m c 1 t) (iblk m c 2 t) (iblk m c 3 t) (iblk m c 4 t) (iblk m c 5 t) (iblk m c 6 t) (iblk m c 7 t)) :
    IsRo (qf (argQ m c) (bat t) (hea t)) (kf (argK m c) (bat t) (hea t)) (vf (argV m c) (bat t) (hea t)) (argL m c).toReal (argG m c) c arg2 arg3 arg4 arg5 arg6 arg7 arg8 arg9 x where
  h2 d n := by
    rw [h.h2]
    refine (blk0_apply m c t d n).trans ?_
    rw [layQ_apply, inTurn_apply, scaled_apply]
    unfold qf row
    rw [show Fin.ofNat 8192 (n : ℕ) = n from Fin.ext (Nat.mod_eq_of_lt n.2)]
    exact (congrArg (· * _) (real_of (hr.h0 _ _ _ _ _))).trans (EReal.coe_mul _ _).symm
  h3 n d := by
    rw [h.h3]
    refine (blk1_apply m c t n d).trans ?_
    rw [layK_apply, inTurn_apply]
    unfold kf row
    rw [show Fin.ofNat 8192 (n : ℕ) = n from Fin.ext (Nat.mod_eq_of_lt n.2), ← real_of (hr.h1 _ _ _ _ _)]
    rfl
  h4 e n := by
    rw [h.h4]
    refine (blk2_apply m c t e n).trans ?_
    rw [layV_apply]
    unfold vf
    split
    · rw [show Fin.ofNat 8192 (n : ℕ) = n from Fin.ext (Nat.mod_eq_of_lt n.2), ← real_of (hr.h2 _ _ _ _)]
      rfl
    · rfl
  hv n := dif_neg (by norm_num)
  hl := by
    rw [ldLam_apply, h.h5, h.h6, h.h7, h.h8, ← hr.hl]
    unfold argL lamv
    simp only [← blk3_apply m c t, ← blk4_apply m c t, ← blk5_apply m c t, ← blk6_apply m c t]
  h9 e := by
    rw [h.h9]
    exact blk7_apply m c t e

/-- A grid point ends with its block of the specification's output. -/
theorem ends (c : Dev nD) (hr : Reals m c) (t : Fin cfg0.N) : Ends m c t (fun d => d = X m c t) := by
  intro x s h
  obtain ⟨p, Φ, Ψ, hk, h0, hQ⟩ := point_ok _ _ _ _ _ c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
    _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ _ _ _ _ _ _ _ _ _ _ _ x (isRo m c hr t _ _ _ _ _ _ _ _ x h) s
  refine ⟨p, Φ, Ψ, hk, h0, fun s' hs' => funext fun j => ?_⟩
  obtain ⟨i, e, rfl⟩ := idx8 j
  exact hQ s' hs' i e

/-- Where an element of a grid point's output block sits in the output array. -/
theorem emb8 (t : Fin cfg0.N) (i : Fin 8192) (e : Fin 128) :
    ((cfg0.win 8).blk t).view.emb (ix3 (0 : Fin 1) i e : S1x8192x128.Idx) = (ix3 (bat t) i (⟨128 * hea t + e, by omega⟩ : Fin 1024) : S2x8192x1024.Idx) := by
  refine funext fun a => Fin.ext ?_
  show cc0_transform_8 (grid0.coords t) a * S1x8192x128.size a + 1 * _ = _
  fin_cases a
  · show (BitVec.ofNat 32 (grid0.coords t 0 : ℕ)).toNat * 1 + 1 * 0 = (grid0.coords t 0 : ℕ)
    rw [word_of t 0]; omega
  · show 0 * 8192 + 1 * (i : ℕ) = i; omega
  · have he : (hea t : ℕ) = (grid0.coords t 1 : ℕ) := rfl
    show (BitVec.ofNat 32 (grid0.coords t 1 : ℕ)).toNat * 128 + 1 * (e : ℕ) = 128 * (hea t : ℕ) + e
    rw [word_of t 1]; omega

theorem G_block (c : Dev nD) (b : Fin 2) (h : Fin 8) (i : Fin 8192) (e : Fin 128) : G m c (ix3 b i (⟨128 * h + e, by omega⟩ : Fin 1024)) = spec m c b h i e := by
  have e1 : (⟨(128 * (h : ℕ) + e) / 128, by omega⟩ : Fin 8) = h := Fin.ext (by dsimp only; omega)
  have e2 : (⟨(128 * (h : ℕ) + e) % 128, by omega⟩ : Fin 128) = e := Fin.ext (by dsimp only; omega)
  show spec m c b (⟨(128 * (h : ℕ) + e) / 128, _⟩ : Fin 8) i (⟨(128 * (h : ℕ) + e) % 128, _⟩ : Fin 128) = _
  rw [e1, e2]

/-- What a grid point writes back is its block of the output array. -/
theorem flushed_eq (c : Dev nD) (t : Fin cfg0.N) : (datX m (X m) 0 c).flushed 8 t = ((cfg0.win 8).blk t).view.read (Elt Ideal) (G m c) := by
  show (cfg0.win 8).cut (grid0.coords t) (X m c t) = _
  have key : ∀ (i : Fin 8192) (e : Fin 128), X m c t (ix3 (0 : Fin 1) i e : S1x8192x128.Idx) = G m c (((cfg0.win 8).blk t).view.emb (ix3 (0 : Fin 1) i e : S1x8192x128.Idx)) :=
    fun i e => ((congrArg (G m c) (emb8 t i e)).trans (G_block m c (bat t) (hea t) i e)).symm
  funext j
  obtain ⟨i, e, rfl⟩ := idx8 j
  exact key i e

/-- An index of the output array by its batch, query, head and column. -/
theorem idx_out (j : S2x8192x1024.Idx) : ∃ (b : Fin 2) (i : Fin 8192) (h : Fin 8) (e : Fin 128), j = ix3 b i (⟨128 * h + e, by omega⟩ : Fin 1024) := by
  have h2 : (j 2 : ℕ) < 1024 := (j 2).isLt
  refine ⟨j 0, j 1, ⟨(j 2 : ℕ) / 128, by omega⟩, ⟨(j 2 : ℕ) % 128, by omega⟩, funext fun a => ?_⟩
  fin_cases a
  · rfl
  · rfl
  · refine Fin.ext ?_
    show (j 2 : ℕ) = 128 * ((j 2 : ℕ) / 128) + (j 2 : ℕ) % 128
    omega

/-- Every index of the output array lies in some grid point's block. -/
theorem cover (j : S2x8192x1024.Idx) : ∃ t : Fin cfg0.N, (cfg0.win 8).flush t = true ∧ j ∈ ((cfg0.win 8).blk t).view.set := by
  obtain ⟨b, i, h, e, rfl⟩ := idx_out j
  have hN : cfg0.N = 16 := N_0
  have ht : (b : ℕ) * 8 + h < cfg0.N := by omega
  have hc := coords_eq ⟨(b : ℕ) * 8 + h, ht⟩
  have hb : bat ⟨(b : ℕ) * 8 + h, ht⟩ = b := Fin.ext (hc.1.trans (by dsimp only; omega))
  have hh : hea ⟨(b : ℕ) * 8 + h, ht⟩ = h := Fin.ext (hc.2.trans (by dsimp only; omega))
  have key : ∀ t : Fin cfg0.N, bat t = b → hea t = h → (ix3 b i (⟨128 * h + e, by omega⟩ : Fin 1024) : S2x8192x1024.Idx) ∈ ((cfg0.win 8).blk t).view.set := by
    rintro t rfl rfl
    rw [← emb8]
    exact View.emb_mem_set _ _
  exact ⟨_, flush0_8 _, key _ hb hh⟩

/-- So the output array ends as the specification says. -/
theorem final (c : Dev nD) : (datX m (X m) 0 c).arrAt 8 cfg0.N = G m c :=
  (datX m (X m) 0 c).arrAt_eq_of_cover 8 (G m c) (fun t _ => flushed_eq m c t) cover

set_option maxHeartbeats 800000 in
/-- The run: the output array ends as the specification says, the arguments as they were. -/
theorem run_value (hr : ∀ c, Reals m c) :
    θ_run defs (onTc (τ := τ) (main (F := Ideal))) ⟨m, fun _ => 0, ρ⟩ (fun r => ∀ c : Dev nD,
      r.2.mem ((c.tc : Thread nD τ).loc main_v28) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c), ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_exact m ρ (X m) fun c t => ends m c (hr c) t)

end Cert.KernelIdeal.Att

end
-- ==== Proof.RI.Ops.lean ====
/-
  The reference's attention as a few named vector functions, each read at an index: the block numbers of the positions, the masked scores, the
  softmax, lambda, the mixed average and the normalised output. The generated term of the run is their composition.
-/
module

public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Att

open Cert.ReferenceIdeal Cert.ReferenceIdeal.Gen Cert.ReferenceIdeal.Value Idealize.ShloMosaic Idealize.ShloMosaic.TcCoe

/-- Positions divided by sixty-four, rounding down, as the host computes it. -/
def chunkOf (v : IVec S8192 32) : IVec S8192 32 :=
  select (andi (cmpi .ne (signi v) (broadcastInDim S8192 ![] bcast_S_S8192 (signi (id (constantI S_ 32 64#32)))))
      (cmpi .ne (Host.remsi v (broadcastInDim S8192 ![] bcast_S_S8192 (id (constantI S_ 32 64#32)))) (broadcastInDim S8192 ![] bcast_S_S8192 (constantI S_ 32 0#32))))
    (subi (Host.divsi v (broadcastInDim S8192 ![] bcast_S_S8192 (id (constantI S_ 32 64#32)))) (broadcastInDim S8192 ![] bcast_S_S8192 (constantI S_ 32 1#32)))
    (Host.divsi v (broadcastInDim S8192 ![] bcast_S_S8192 (id (constantI S_ 32 64#32))))

/-- The masked, scaled scores. -/
def score (A0 A1 : FVec Ideal S2x8192x8x2x64 .f32) : FVec Ideal S2x8x2x8192x8192 .f32 :=
  select (broadcastInDim S2x8x2x8192x8192 ![3, 4] bcast_S8192x8192_S2x8x2x8192x8192_3_4
      (cmpi .sle (broadcastInDim S8192x8192 ![0, 1] bcast_S1x8192_S8192x8192_0_1 (broadcastInDim S1x8192 ![1] bcast_S8192_S1x8192_1 (chunkOf (iotaInDim S8192 32 0))))
        (broadcastInDim S8192x8192 ![0, 1] bcast_S8192x1_S8192x8192_0_1 (broadcastInDim S8192x1 ![0] bcast_S8192_S8192x1_0 (chunkOf (iotaInDim S8192 32 0))))))
    (mulf (Host.dotGeneral dot_S2x8192x8x2x64_S2x8192x8x2x64_S2x8x2x8192x8192_4_4_1_1_023_023 none A0 A1) (broadcastInDim S2x8x2x8192x8192 ![] bcast_S_S2x8x2x8192x8192 (constant S_ .f32 0x3E000000#32)))
    (broadcastInDim S2x8x2x8192x8192 ![] bcast_S_S2x8x2x8192x8192 (id (constant S_ .f32 0xFF800000#32)))

/-- Each row's maximum. -/
def rowMax (S : FVec Ideal S2x8x2x8192x8192 .f32) : FVec Ideal S2x8x2x8192 .f32 :=
  Host.reduce FloatOps.maximumf S (constant S_ .f32 0xFF800000#32) reducesTo_S2x8x2x8192x8192_S2x8x2x8192_d4 h_S_

/-- The exponentials of the scores less their row's maximum. -/
def expd (S : FVec Ideal S2x8x2x8192x8192 .f32) : FVec Ideal S2x8x2x8192x8192 .f32 :=
  Host.exp (subf S (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3
    (maximumf (broadcastInDim S2x8x2x8192 ![] bcast_S_S2x8x2x8192 (constant S_ .f32 0xFF800000#32)) (rowMax S)))))

/-- The exponentials divided by their row's sum. -/
def soft (E : FVec Ideal S2x8x2x8192x8192 .f32) : FVec Ideal S2x8x2x8192x8192 .f32 :=
  Host.divf E (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3
    (Host.reduceAdd E (constant S_ .f32 0x00000000#32) reducesTo_S2x8x2x8192x8192_S2x8x2x8192_d4 h_S_)))

/-- Lambda. -/
def lamR (A3 A4 A5 A6 : FVec Ideal S1x64 .f32) : FVec Ideal S_ .f32 :=
  addf (subf (Host.exp (Host.reduceAdd (mulf (shapeCast _ A3 shapeCasts_S1x64_S64) (shapeCast _ A4 shapeCasts_S1x64_S64)) (constant S_ .f32 0x00000000#32) reducesTo_S64_S_d0 h_S_))
    (Host.exp (Host.reduceAdd (mulf (shapeCast _ A5 shapeCasts_S1x64_S64) (shapeCast _ A6 shapeCasts_S1x64_S64)) (constant S_ .f32 0x00000000#32) reducesTo_S64_S_d0 h_S_))) (constant S_ .f32 0x3E4CCCCD#32)

/-- The values averaged by the first sub-head's weights less lambda times the second's. -/
def mix (L : FVec Ideal S_ .f32) (P : FVec Ideal S2x8x2x8192x8192 .f32) (A2 : FVec Ideal S2x8192x8x128 .f32) : FVec Ideal S2x8192x8x128 .f32 :=
  transpose S2x8192x8x128 [0, 3, 1, 2] (Host.dotGeneral dot_S2x8192x8x128_S2x8x8192x8192_S2x8x128x8192_1_3_3_2_02_01 none A2
    (subf (shapeCast _ (extractStridedSlice S2x8x1x8192x8192 ![0, 0, 0, 0, 0] P slices_S2x8x2x8192x8192_S2x8x1x8192x8192_0_0_0_0_0) shapeCasts_S2x8x1x8192x8192_S2x8x8192x8192)
      (mulf (broadcastInDim S2x8x8192x8192 ![] bcast_S_S2x8x8192x8192 L)
        (shapeCast _ (extractStridedSlice S2x8x1x8192x8192 ![0, 0, 1, 0, 0] P slices_S2x8x2x8192x8192_S2x8x1x8192x8192_0_0_1_0_0) shapeCasts_S2x8x1x8192x8192_S2x8x8192x8192))))
    transposes_S2x8x128x8192_S2x8192x8x128_0_3_1_2

/-- The average normalised, times the gain and the factor. -/
def normd (O : FVec Ideal S2x8192x8x128 .f32) (A7 : FVec Ideal S1x128 .f32) : FVec Ideal S2x8192x1024 .bf16 :=
  truncf .bf16 (shapeCast _ (mulf (mulf (mulf O (broadcastInDim S2x8192x8x128 ![0, 1, 2, 3] bcast_S2x8192x8x1_S2x8192x8x128_0_1_2_3 (Host.rsqrt (addf (Host.divf (broadcastInDim S2x8192x8x1 ![0, 1, 2] bcast_S2x8192x8_S2x8192x8x1_0_1_2
      (Host.reduceAdd (mulf O O) (constant S_ .f32 0x00000000#32) reducesTo_S2x8192x8x128_S2x8192x8_d3 h_S_)) (broadcastInDim S2x8192x8x1 ![] bcast_S_S2x8192x8x1 (constant S_ .f32 0x43000000#32)))
      (broadcastInDim S2x8192x8x1 ![] bcast_S_S2x8192x8x1 (constant S_ .f32 0x3727C5AC#32)))))) (broadcastInDim S2x8192x8x128 ![0, 1, 2, 3] bcast_S1x1x1x128_S2x8192x8x128_0_1_2_3 (broadcastInDim S1x1x1x128 ![3] bcast_S128_S1x1x1x128_3 (shapeCast _ A7 shapeCasts_S1x128_S128))))
    (broadcastInDim S2x8192x8x128 ![] bcast_S_S2x8192x8x128 (constant S_ .f32 0x3F4CCCCD#32))) shapeCasts_S2x8192x8x128_S2x8192x1024) bitsLt_bf16_f32

/-- The generated term of the run is the composition. -/
theorem res_eq (m : (ℓ : Loc nD τ sig) → Buf (Elt Ideal) ℓ) (c : Dev nD) :
    res_main_v60 m c = normd (mix (lamR (m ((c.tc : Thread nD τ).loc main_arg3)) (m ((c.tc : Thread nD τ).loc main_arg4)) (m ((c.tc : Thread nD τ).loc main_arg5)) (m ((c.tc : Thread nD τ).loc main_arg6)))
      (soft (expd (score (m ((c.tc : Thread nD τ).loc main_arg0)) (m ((c.tc : Thread nD τ).loc main_arg1))))) (m ((c.tc : Thread nD τ).loc main_arg2))) (m ((c.tc : Thread nD τ).loc main_arg7)) := by
  unfold res_main_v60 normd mix lamR soft expd rowMax score chunkOf
  rfl

/-! ## The functions at an index -/

theorem chunkOf_apply (v : IVec S8192 32) (n : Fin 8192) (h : v (ix1 n) = BitVec.ofNat 32 n) : chunkOf v (ix1 n) = BitVec.ofNat 32 (n / 64) := by
  have key : ∀ (a : Fin 128) (b : Fin 64), chunkOf (fun _ => BitVec.ofNat 32 (64 * a + b)) (ix1 0) = BitVec.ofNat 32 a := by decide +kernel
  have e : BitVec.ofNat 32 n = BitVec.ofNat 32 (64 * ((n : ℕ) / 64) + (n : ℕ) % 64) := by rw [Nat.div_add_mod]
  rw [← key ⟨n / 64, by omega⟩ ⟨n % 64, by omega⟩]
  rw [e] at h
  unfold chunkOf
  pointwise
  simp only [h]

theorem score_apply (A0 A1 : FVec Ideal S2x8192x8x2x64 .f32) (b : Fin 2) (h : Fin 8) (t : Fin 2) (i n : Fin 8192) :
    score A0 A1 (ix5 b h t i n) = if (n : ℕ) / 64 ≤ (i : ℕ) / 64 then (∑ j : Fin 64, A0 (ix5 b i h t j) * A1 (ix5 b n h t j)) * Ideal.ofBits .f32 0x3E000000#32 else ⊥ := by
  have key : ∀ a b : Fin 128, IntOp.cmpi .sle (BitVec.ofNat 32 a) (BitVec.ofNat 32 b) = if (a : ℕ) ≤ b then 1#1 else 0#1 := by decide +kernel
  have bot : Ideal.ofBits .f32 0xFF800000#32 = ⊥ := by simp [Ideal.ofBits, Ideal.ieee]
  unfold score
  pointwise
  rw [chunkOf_apply _ n (by pointwise), chunkOf_apply _ i (by pointwise), key ⟨n / 64, by omega⟩ ⟨i / 64, by omega⟩]
  by_cases hs : (n : ℕ) / 64 ≤ (i : ℕ) / 64
  · rw [if_pos hs, if_pos hs]; rfl
  · rw [if_neg hs, if_neg hs]; exact bot

theorem rowMax_apply (S : FVec Ideal S2x8x2x8192x8192 .f32) (b : Fin 2) (h : Fin 8) (t : Fin 2) (i : Fin 8192) :
    rowMax S (ix4 b h t i) = Finset.univ.fold max (Ideal.ofBits .f32 0xFF800000#32) fun k : Fin 8192 => S (ix5 b h t i k) := by
  unfold rowMax
  pointwise

theorem sub_row_apply (S : FVec Ideal S2x8x2x8192x8192 .f32) (R : FVec Ideal S2x8x2x8192 .f32) (b : Fin 2) (h : Fin 8) (t : Fin 2) (i n : Fin 8192) :
    Host.exp (subf S (broadcastInDim S2x8x2x8192x8192 ![0, 1, 2, 3, 4] bcast_S2x8x2x8192x1_S2x8x2x8192x8192_0_1_2_3_4 (broadcastInDim S2x8x2x8192x1 ![0, 1, 2, 3] bcast_S2x8x2x8192_S2x8x2x8192x1_0_1_2_3 R))) (ix5 b h t i n) = Ideal.exp (S (ix5 b h t i n) - R (ix4 b h t i)) := by
  pointwise

theorem max_row_apply (R : FVec Ideal S2x8x2x8192 .f32) (b : Fin 2) (h : Fin 8) (t : Fin 2) (i : Fin 8192) :
    (maximumf (broadcastInDim S2x8x2x8192 ![] bcast_S_S2x8x2x8192 (constant S_ .f32 0xFF800000#32)) R) (ix4 b h t i) = max (Ideal.ofBits .f32 0xFF800000#32) (R (ix4 b h t i)) := by
  pointwise

theorem expd_apply (S : FVec Ideal S2x8x2x8192x8192 .f32) (b : Fin 2) (h : Fin 8) (t : Fin 2) (i n : Fin 8192) :
    expd S (ix5 b h t i n) = Ideal.exp (S (ix5 b h t i n) - max (Ideal.ofBits .f32 0xFF800000#32) (rowMax S (ix4 b h t i))) :=
  (sub_row_apply S _ b h t i n).trans (congrArg (fun z => Ideal.exp (S (ix5 b h t i n) - z)) (max_row_apply (rowMax S) b h t i))

theorem soft_apply (E : FVec Ideal S2x8x2x8192x8192 .f32) (b : Fin 2) (h : Fin 8) (t : Fin 2) (i n : Fin 8192) :
    soft E (ix5 b h t i n) = Ideal.div (E (ix5 b h t i n)) (∑ k : Fin 8192, E (ix5 b h t i k)) := by
  unfold soft
  pointwise

theorem lamR_apply (A3 A4 A5 A6 : FVec Ideal S1x64 .f32) (j : S_.Idx) :
    lamR A3 A4 A5 A6 j = Ideal.exp (∑ d : Fin 64, A3 (ix2 (0 : Fin 1) d) * A4 (ix2 (0 : Fin 1) d)) - Ideal.exp (∑ d : Fin 64, A5 (ix2 (0 : Fin 1) d) * A6 (ix2 (0 : Fin 1) d)) + Ideal.ofBits .f32 0x3E4CCCCD#32 := by
  unfold lamR
  pointwise

theorem mix_apply (L : FVec Ideal S_ .f32) (P : FVec Ideal S2x8x2x8192x8192 .f32) (A2 : FVec Ideal S2x8192x8x128 .f32) (b : Fin 2) (i : Fin 8192) (h : Fin 8) (e : Fin 128) :
    mix L P A2 (ix4 b i h e) = ∑ n : Fin 8192, A2 (ix4 b n h e) * (P (ix5 b h (0 : Fin 2) i n) - L ix0 * P (ix5 b h (1 : Fin 2) i n)) := by
  unfold mix
  pointwise

theorem normd_apply (O : FVec Ideal S2x8192x8x128 .f32) (A7 : FVec Ideal S1x128 .f32) (b : Fin 2) (i : Fin 8192) (h : Fin 8) (e : Fin 128) :
    normd O A7 (ix3 b i (⟨128 * h + e, by omega⟩ : Fin 1024)) = O (ix4 b i h e) * Ideal.rsqrt (Ideal.div (∑ j : Fin 128, O (ix4 b i h j) * O (ix4 b i h j)) (Ideal.ofBits .f32 0x43000000#32) + Ideal.ofBits .f32 0x3727C5AC#32)
      * A7 (ix2 (0 : Fin 1) e) * Ideal.ofBits .f32 0x3F4CCCCD#32 := by
  unfold normd
  pointwise

end Cert.ReferenceIdeal.Att

end
-- ==== Proof.RI.Value.lean ====
/-
  The reference's result at an index is the specification's.
-/
module

public import proofs.«01_k».proof.Proof.RI.Ops
public import proofs.«01_k».proof.Proof.KI.Spec

@[expose] public section

set_option maxRecDepth 16384

noncomputable section

namespace Cert.ReferenceIdeal.Att

open Cert.ReferenceIdeal Cert.ReferenceIdeal.Gen Cert.ReferenceIdeal.Value Cert.Att Idealize.ShloMosaic Idealize.ShloMosaic.TcCoe

variable (A0 A1 : FVec Ideal S2x8192x8x2x64 .f32) (A2 : FVec Ideal S2x8192x8x128 .f32) (A3 A4 A5 A6 : FVec Ideal S1x64 .f32) (A7 : FVec Ideal S1x128 .f32)

variable (h0 : ∀ j, ∃ r : ℝ, A0 j = r) (h1 : ∀ j, ∃ r : ℝ, A1 j = r) (h2 : ∀ j, ∃ r : ℝ, A2 j = r) (h3 : ∀ j, ∃ r : ℝ, A3 j = r) (h4 : ∀ j, ∃ r : ℝ, A4 j = r)
  (h5 : ∀ j, ∃ r : ℝ, A5 j = r) (h6 : ∀ j, ∃ r : ℝ, A6 j = r)

/-- An array of queries or keys as a function of its five indices. -/
abbrev f5 (A : FVec Ideal S2x8192x8x2x64 .f32) : Arr5 := fun b n h t j => A (ix5 b n h t j)

/-- The array of values as a function of its four indices. -/
abbrev f4 (A : FVec Ideal S2x8192x8x128 .f32) : Arr4 := fun b n h e => A (ix4 b n h e)

/-- A vector of lambda as a function of its one index. -/
abbrev f1 (A : FVec Ideal S1x64 .f32) : Fin 64 → EReal := fun d => A (ix2 (0 : Fin 1) d)

include h0 h1 in
/-- A score is real, or minus infinity where the query does not see the key; it sees its own. -/
theorem score_real (b : Fin 2) (h : Fin 8) (t : Fin 2) (i n : Fin 8192) :
    (score A0 A1 (ix5 b h t i n) = ⊥ ∨ ∃ r : ℝ, score A0 A1 (ix5 b h t i n) = r) ∧ ∃ r : ℝ, score A0 A1 (ix5 b h t i i) = r := by
  have dot : ∀ n : Fin 8192, ∃ r : ℝ, (∑ j : Fin 64, A0 (ix5 b i h t j) * A1 (ix5 b n h t j)) * Ideal.ofBits .f32 0x3E000000#32 = r := fun n => by
    choose r0 e0 using h0
    choose r1 e1 using h1
    refine ⟨(∑ j : Fin 64, r0 (ix5 b i h t j) * r1 (ix5 b n h t j)) * (1 / 8), ?_⟩
    rw [eighth, EReal.coe_mul, coe_sum]
    exact congrArg (· * _) (Finset.sum_congr rfl fun j _ => by rw [e0, e1, EReal.coe_mul])
  refine ⟨?_, ?_⟩
  · rw [score_apply]
    split
    · exact .inr (dot n)
    · exact .inl rfl
  · rw [score_apply, if_pos le_rfl]
    exact dot i

include h0 h1 in
/-- A row of the softmax is the row of weights over its sum. -/
theorem soft_val (b : Fin 2) (h : Fin 8) (t : Fin 2) (i n : Fin 8192) :
    soft (expd (score A0 A1)) (ix5 b h t i n) =
      ((wt (qf (f5 A0) b h) (kf (f5 A1) b h) t 0 n i / ∑ k : Fin 8192, wt (qf (f5 A0) b h) (kf (f5 A1) b h) t 0 k i : ℝ) : EReal) := by
  have bot : Ideal.ofBits .f32 0xFF800000#32 = ⊥ := by simp [Ideal.ofBits, Ideal.ieee]
  obtain ⟨M, hM⟩ : ∃ M : ℝ, max (Ideal.ofBits .f32 0xFF800000#32) (rowMax (score A0 A1) (ix4 b h t i)) = (M : EReal) := by
    rw [rowMax_apply, bot, max_eq_right bot_le]
    exact fold_max_real _ (fun k => (score_real A0 A1 h0 h1 b h t i k).1) i (score_real A0 A1 h0 h1 b h t i i).2
  have e : ∀ k : Fin 8192, expd (score A0 A1) (ix5 b h t i k) = ((Real.exp (-M) * wt (qf (f5 A0) b h) (kf (f5 A1) b h) t 0 k i : ℝ) : EReal) := fun k => by
    rw [expd_apply, hM, score_apply]
    exact exp_wt (f5 A0) (f5 A1) (fun b n h t j => h0 _) (fun b n h t j => h1 _) b h t k i M
  rw [soft_apply]
  simp only [e]
  refine soft_wt _ (Real.exp_pos _) (fun k => wt (qf (f5 A0) b h) (kf (f5 A1) b h) t 0 k i) ?_ n
  have := den_pos (qf (f5 A0) b h) (kf (f5 A1) b h) t 0 8192 i (by norm_num)
  rwa [Finset.sum_range] at this

include h0 h1 h2 h3 h4 h5 h6 in
/-- The composed functions at an index are the specification. -/
theorem normd_val (b : Fin 2) (i : Fin 8192) (h : Fin 8) (e : Fin 128) :
    normd (mix (lamR A3 A4 A5 A6) (soft (expd (score A0 A1))) A2) A7 (ix3 b i (⟨128 * h + e, by omega⟩ : Fin 1024)) =
      att (f5 A0) (f5 A1) (f4 A2) (f1 A3) (f1 A4) (f1 A5) (f1 A6) (fun e => A7 (ix2 (0 : Fin 1) e)) b h i e := by
  have hl : lamR A3 A4 A5 A6 ix0 = ((lamv (f1 A3) (f1 A4) (f1 A5) (f1 A6)).toReal : EReal) := by
    rw [← lamv_real (fun d => h3 _) (fun d => h4 _) (fun d => h5 _) (fun d => h6 _), lamR_apply]
    rfl
  have hm : ∀ e : Fin 128, mix (lamR A3 A4 A5 A6) (soft (expd (score A0 A1))) A2 (ix4 b i h e) =
      (ov (qf (f5 A0) b h) (kf (f5 A1) b h) (vf (f4 A2) b h) (lamv (f1 A3) (f1 A4) (f1 A5) (f1 A6)).toReal i e : EReal) := fun e => by
    rw [mix_apply, hl]
    simp only [soft_val A0 A1 h0 h1]
    exact mix_ov (f5 A0) (f5 A1) (f4 A2) (fun b n h e => h2 _) _ b h i e
  rw [normd_apply]
  simp only [hm]
  rfl

end Cert.ReferenceIdeal.Att

end
-- ==== Proof.Finite.lean ====
/-
  The precondition read: where it holds, every argument it speaks of holds real numbers.
-/
module

public import proofs.«01_k».proof.Pre_finite
public import Idealize.ShloMosaic.Lib.ReduceAll
public import Idealize.ShloMosaic.Lib.Pointwise
public import Idealize.ShloMosaic.Lib.IdealHost

@[expose] public section

noncomputable section

namespace Cert.Finite

open Cert.Pre_finite Idealize.ShloMosaic

/-- The shape relations the precondition's operations take. -/
theorem shapes : Facts := by
  constructor <;> decide

/-- A number whose magnitude is less than infinity is real. -/
theorem real_of_lt (x : EReal) (h : Ideal.cmp .olt (max x (-x)) (Ideal.ofBits .f32 0x7F800000#32) = 1#1) : ∃ r : ℝ, x = r := by
  have top : Ideal.ofBits .f32 0x7F800000#32 = ⊤ := by simp [Ideal.ofBits, Ideal.ieee]
  rw [top] at h
  induction x with
  | bot => simp [Ideal.cmp] at h
  | coe r => exact ⟨r, rfl⟩
  | top => simp [Ideal.cmp] at h

variable [Facts]
open Facts

/-- One argument's part of the precondition. -/
def part {s : Shape} {axes : List (Fin s.rank)} (hb : S_.BroadcastsInDim s (![] : Fin 0 → Fin s.rank)) (hr : s.ReducesTo axes S_) (hu : 0 < S_.numel) (A : FVec Ideal s .f32) : IVec S_ 1 :=
  Host.reduce IntOp.andi (cmpf .olt (Host.absf A) (broadcastInDim s ![] hb (constant S_ .f32 0x7F800000#32))) (constantI S_ 1 1#1) hr hu

/-- Where an argument's part holds, its entries are real. -/
theorem part_real {s : Shape} {axes : List (Fin s.rank)} (hb : S_.BroadcastsInDim s (![] : Fin 0 → Fin s.rank)) (hr : s.ReducesTo axes S_) (hu : 0 < S_.numel) (A : FVec Ideal s .f32)
    (h : part hb hr hu A ix0 = 1#1) (j : s.Idx) : ∃ r : ℝ, A j = r :=
  haveI : Subsingleton S_.Idx := ⟨fun a b => funext fun i => i.elim0⟩
  real_of_lt (A j) (Host.reduce_andi_all _ _ hr hu ix0 h j)

/-- The precondition gives the seven arguments it speaks of as real numbers. -/
theorem reals (A0 A1 : FVec Ideal S2x8192x8x2x64 .f32) (A2 : FVec Ideal S2x8192x8x128 .f32) (A3 A4 A5 A6 : FVec Ideal S1x64 .f32) (A7 : FVec Ideal S1x128 .f32)
    (h : fn (F := Ideal) A0 A1 A2 A3 A4 A5 A6 A7 = fun _ => 1#1) :
    (∀ j, ∃ r : ℝ, A0 j = r) ∧ (∀ j, ∃ r : ℝ, A1 j = r) ∧ (∀ j, ∃ r : ℝ, A2 j = r) ∧ (∀ j, ∃ r : ℝ, A3 j = r) ∧ (∀ j, ∃ r : ℝ, A4 j = r) ∧ (∀ j, ∃ r : ℝ, A5 j = r) ∧ (∀ j, ∃ r : ℝ, A6 j = r) := by
  have e : fn (F := Ideal) A0 A1 A2 A3 A4 A5 A6 A7 ix0 = IntOp.andi (IntOp.andi (IntOp.andi (IntOp.andi (IntOp.andi (IntOp.andi
      (part bcast_S_S2x8192x8x2x64 reducesTo_S2x8192x8x2x64_S_d0_1_2_3_4 h_S_ A0 ix0) (part bcast_S_S2x8192x8x2x64 reducesTo_S2x8192x8x2x64_S_d0_1_2_3_4 h_S_ A1 ix0))
      (part bcast_S_S2x8192x8x128 reducesTo_S2x8192x8x128_S_d0_1_2_3 h_S_ A2 ix0)) (part bcast_S_S1x64 reducesTo_S1x64_S_d0_1 h_S_ A3 ix0)) (part bcast_S_S1x64 reducesTo_S1x64_S_d0_1 h_S_ A4 ix0))
      (part bcast_S_S1x64 reducesTo_S1x64_S_d0_1 h_S_ A5 ix0)) (part bcast_S_S1x64 reducesTo_S1x64_S_d0_1 h_S_ A6 ix0) := rfl
  rw [h] at e
  obtain ⟨e, h6⟩ := IntOp.andi_eq_one.mp e.symm
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨part_real _ _ _ A0 h0, part_real _ _ _ A1 h1, part_real _ _ _ A2 h2, part_real _ _ _ A3 h3, part_real _ _ _ A4 h4, part_real _ _ _ A5 h5, part_real _ _ _ A6 h6⟩

end Cert.Finite

end
-- ==== Proof.Mix.Spec.lean ====
/-
  The mixer of one token, on extended reals: two gated branches, their sum projected, the residual added, the row normalised.
-/
module

public import Idealize.ShloMosaic.PureOps.Ideal

@[expose] public section

noncomputable section

namespace Cert.Mix

open Idealize.ShloMosaic

/-- The logistic function. -/
def logi (z : EReal) : EReal := Ideal.div 1 (1 + Ideal.exp (-z))

/-- Subtracting from zero negates. -/
theorem zero_sub_e (z : EReal) : 0 - z = -z := by rw [sub_eq_add_neg, zero_add]

/-- A row of 1024 numbers times a matrix of 1024 rows, at a column. -/
def dotW (x : Fin 1024 → EReal) {n : ℕ} (w : Fin 1024 → Fin n → EReal) (e : Fin n) : EReal := ∑ k : Fin 1024, x k * w k e

/-- A row of 512 numbers times a matrix of 512 rows, at a column. -/
def dotH (x : Fin 512 → EReal) (w : Fin 512 → Fin 1024 → EReal) (e : Fin 1024) : EReal := ∑ k : Fin 512, x k * w k e

/-- The two branches' projections, each times its gate, added. -/
def merged (x oa : Fin 1024 → EReal) (ob : Fin 512 → EReal) (wg : Fin 1024 → Fin 2048 → EReal) (bg : Fin 2048 → EReal) (wa : Fin 1024 → Fin 1024 → EReal) (wb : Fin 512 → Fin 1024 → EReal) (e : Fin 1024) : EReal :=
  logi (dotW x wg ⟨e, by omega⟩ + bg ⟨e, by omega⟩) * dotW oa wa e + logi (dotW x wg ⟨1024 + e, by omega⟩ + bg ⟨1024 + e, by omega⟩) * dotH ob wb e

/-- The residual, scaled, and the mix. -/
def resid (x mg : Fin 1024 → EReal) (wo : Fin 1024 → Fin 1024 → EReal) (e : Fin 1024) : EReal := Ideal.ofBits .f32 0x3F9837F0#32 * x e + dotW mg wo e

/-- A row's mean. -/
def mean (z : Fin 1024 → EReal) : EReal := Ideal.div (∑ k : Fin 1024, z k) (Ideal.ofBits .f32 0x44800000#32)

/-- A row centred and scaled by its deviation, times the gain, plus the bias. -/
def norm (z g b : Fin 1024 → EReal) (e : Fin 1024) : EReal :=
  (z e - mean z) * Ideal.rsqrt (mean (fun k => (z k - mean z) * (z k - mean z)) + Ideal.ofBits .f32 0x3727C5AC#32) * g e + b e

/-- The mixer's output for one token. -/
def mixer (x oa : Fin 1024 → EReal) (ob : Fin 512 → EReal) (wg : Fin 1024 → Fin 2048 → EReal) (bg : Fin 2048 → EReal) (wa : Fin 1024 → Fin 1024 → EReal) (wb : Fin 512 → Fin 1024 → EReal)
    (wo : Fin 1024 → Fin 1024 → EReal) (g b : Fin 1024 → EReal) : Fin 1024 → EReal :=
  norm (resid x (merged x oa ob wg bg wa wb) wo) g b

end Cert.Mix

end
-- ==== Proof.Ffn.Spec.lean ====
/-
  The feed-forward block of one token, on extended reals: an up projection, a causal convolution of three taps along the
  tokens, a gate, a down projection, the residual added, the row normalised.
-/
module

public import proofs.«01_k».proof.Proof.Mix.Spec

@[expose] public section

noncomputable section

namespace Cert.Ffn

open Idealize.ShloMosaic Cert.Mix

/-- A number times its logistic function. -/
def swish (z : EReal) : EReal := z * logi z

/-- The convolution of a channel: the up projections of a token and the two before it, each times its tap, plus the bias. -/
def conv (x : Fin 3 → Fin 1024 → EReal) (wu : Fin 1024 → Fin 5632 → EReal) (cw : Fin 3 → Fin 5632 → EReal) (cb : Fin 5632 → EReal) (e : Fin 5632) : EReal :=
  dotW (x 0) wu e * cw 0 e + dotW (x 1) wu e * cw 1 e + dotW (x 2) wu e * cw 2 e + cb e

/-- The gated channels. -/
def act (x : Fin 3 → Fin 1024 → EReal) (wu : Fin 1024 → Fin 5632 → EReal) (cw : Fin 3 → Fin 5632 → EReal) (cb : Fin 5632 → EReal) (f : Fin 2816) : EReal :=
  swish (conv x wu cw cb ⟨f, by omega⟩) * conv x wu cw cb ⟨2816 + f, by omega⟩

/-- A row of 2816 numbers times a matrix of 2816 rows, at a column. -/
def dotF (a : Fin 2816 → EReal) (wd : Fin 2816 → Fin 1024 → EReal) (e : Fin 1024) : EReal := ∑ f : Fin 2816, a f * wd f e

/-- The residual, scaled, and the down projection. -/
def residF (x a : Fin 1024 → EReal) (e : Fin 1024) : EReal := Ideal.ofBits .f32 0x3F9837F0#32 * x e + a e

/-- The block's output for one token, from its row and the two rows before it. -/
def ffn (x : Fin 3 → Fin 1024 → EReal) (wu : Fin 1024 → Fin 5632 → EReal) (cw : Fin 3 → Fin 5632 → EReal) (cb : Fin 5632 → EReal) (wd : Fin 2816 → Fin 1024 → EReal) (g b : Fin 1024 → EReal) : Fin 1024 → EReal :=
  norm (residF (x 2) (dotF (act x wu cw cb) wd)) g b

/-- A token's row and the two before it, zero where the sequence has not begun. -/
def past (h : Fin 16384 → Fin 1024 → EReal) (i : Fin 16384) (tap : Fin 3) (k : Fin 1024) : EReal :=
  if 2 ≤ (i : ℕ) % 8192 + tap then h ⟨(i : ℕ) + tap - 2, by omega⟩ k else 0

/-- The last of the three rows is the token's own. -/
theorem past_two (h : Fin 16384 → Fin 1024 → EReal) (i : Fin 16384) : past h i 2 = h i := by
  funext k
  unfold past
  rw [if_pos (show 2 ≤ (i : ℕ) % 8192 + ((2 : Fin 3) : ℕ) from Nat.le_add_left 2 _)]
  rfl

/-- The same sum with the bias first. -/
theorem bias_first (a b c d : EReal) : d + a + b + c = a + b + c + d := by
  rw [add_assoc d a b, add_assoc d, add_comm d]

/-- The down projection as the sum of its two parts. -/
theorem dotF_split (a : Fin 2816 → EReal) (wd : Fin 2816 → Fin 1024 → EReal) (e : Fin 1024) :
    (∑ k : Fin 1536, a ⟨k, by omega⟩ * wd ⟨k, by omega⟩ e) + (∑ k : Fin 1280, a ⟨1536 + k, by omega⟩ * wd ⟨1536 + k, by omega⟩ e) = dotF a wd e :=
  (Fin.sum_univ_add (a := 1536) (b := 1280) fun f => a f * wd f e).symm

/-- A row of zeros projects to zero. -/
theorem dotW_zero {n : ℕ} (w : Fin 1024 → Fin n → EReal) (e : Fin n) : dotW (fun _ => 0) w e = 0 := by
  unfold dotW
  simp only [zero_mul, Finset.sum_const_zero]

end Cert.Ffn

end
-- ==== Proof.Ffn.Kernel.lean ====
/-
  The feed-forward kernel's array functions at the exact instance, each read at an index.
-/
module

public import proofs.«01_k».proof.Proof.Gen.Kernel3Ideal.Value
public import proofs.«01_k».proof.Proof.Ffn.Spec
public import Idealize.ShloMosaic.Lib.Pointwise

@[expose] public section

set_option maxRecDepth 16384

noncomputable section

namespace Cert.Kernel3Ideal.Ffn

open Cert.Kernel3Ideal Cert.Kernel3Ideal.Gen Cert.Mix Cert.Ffn Idealize.ShloMosaic Idealize.ShloMosaic.TcCoe

/-- A chunk of the up projection, of the block's rows and the rows before it. -/
def upA (hx : FVec Ideal S528x1024 .bf16) (w : FVec Ideal S1024x256 .bf16) : FVec Ideal S528x256 .f32 :=
  matmul dot_S528x1024_S1024x256_S528x256_1_0_0_1_n_n none hx (shapeCast S1024x256 w shapeCasts_S1024x256_S1024x256) (constant S528x256 .f32 0x00000000#32)

/-- The rows of a chunk from a given row on. -/
def shift (o : ℕ) (ho : o ≤ 16) (u : FVec Ideal S528x256 .f32) : FVec Ideal S1x512x256 .f32 := fun j => u (ix2 (⟨o + (j 1 : Fin 512).val, Nat.lt_of_lt_of_le (Nat.add_lt_add_of_le_of_lt ho (j 1 : Fin 512).isLt) (Nat.le_refl 528)⟩ : Fin 528) (j 2 : Fin 256))

/-- A chunk of the convolution from the three shifted rows. -/
def convA (cb : FVec Ideal S1x256 .f32) (t0 : FVec Ideal S1x512x256 .f32) (w0 : FVec Ideal S1x256 .f32) (t1 : FVec Ideal S1x512x256 .f32) (w1 : FVec Ideal S1x256 .f32) (t2 : FVec Ideal S1x512x256 .f32) (w2 : FVec Ideal S1x256 .f32) : FVec Ideal S512x256 .f32 :=
  addf (addf (addf (broadcastTo S512x256 (shapeCast S1x256 cb shapeCasts_S1x256_S1x256) broadcasts_S1x256_S512x256)
    (mulf (shapeCast S512x256 t0 shapeCasts_S1x512x256_S512x256) (broadcastTo S512x256 w0 broadcasts_S1x256_S512x256)))
    (mulf (shapeCast S512x256 t1 shapeCasts_S1x512x256_S512x256) (broadcastTo S512x256 w1 broadcasts_S1x256_S512x256)))
    (mulf (shapeCast S512x256 t2 shapeCasts_S1x512x256_S512x256) (broadcastTo S512x256 w2 broadcasts_S1x256_S512x256))

/-- A chunk of the gated channels. -/
def actA (g v : FVec Ideal S512x256 .f32) : FVec Ideal S512x256 .bf16 :=
  shapeCast S512x256 (truncf .bf16 (mulf (mulf g (divf (broadcast S512x256 (Scalar.ofBits .f32 0x3F800000#32)) (addf (broadcast S512x256 (Scalar.ofBits .f32 0x3F800000#32)) (exp (subf (broadcast S512x256 (Scalar.ofBits .f32 0x00000000#32)) g))))) v) bitsLt_bf16_f32) shapeCasts_S512x256_S512x256

/-- The down projection of the first chunks. -/
def downA (a : FVec Ideal S512x1536 .bf16) (w : FVec Ideal S1536x1024 .bf16) : FVec Ideal S512x1024 .f32 :=
  matmul dot_S512x1536_S1536x1024_S512x1024_1_0_0_1_n_n none a (shapeCast S1536x1024 w shapeCasts_S1536x1024_S1536x1024) (constant S512x1024 .f32 0x00000000#32)

/-- The down projection of the remaining chunks. -/
def downB (a : FVec Ideal S512x1280 .bf16) (w : FVec Ideal S1280x1024 .bf16) : FVec Ideal S512x1024 .f32 :=
  matmul dot_S512x1280_S1280x1024_S512x1024_1_0_0_1_n_n none a (shapeCast S1280x1024 w shapeCasts_S1280x1024_S1280x1024) (constant S512x1024 .f32 0x00000000#32)

/-- The residual and the down projection. -/
def residA (x fa fb : FVec Ideal S512x1024 .f32) : FVec Ideal S512x1024 .f32 := addf (mulf (broadcast S512x1024 (Scalar.ofBits .f32 0x3F9837F0#32)) x) (addf fa fb)

/-- Each row's mean. -/
def meanA (Z : FVec Ideal S512x1024 .f32) : FVec Ideal S512x1 .f32 :=
  divf (shapeCast S512x1 (multiReduction .add [1] S512 Z 0x00000000#32 reduces_S512x1024_S512 (.inl rfl) rfl) shapeCasts_S512_S512x1) (broadcast S512x1 (Scalar.ofBits .f32 0x44800000#32))

/-- Each row less its mean. -/
def centA (Z : FVec Ideal S512x1024 .f32) : FVec Ideal S512x1024 .f32 := subf Z (broadcastTo S512x1024 (meanA Z) broadcasts_S512x1_S512x1024)

/-- Centred rows scaled by their deviation, times the gain, plus the bias. -/
def scaleA (C : FVec Ideal S512x1024 .f32) (M : FVec Ideal S512x1 .f32) (g b : FVec Ideal S1x1024 .f32) : FVec Ideal S512x1024 .f32 :=
  addf (mulf (mulf C (broadcastTo S512x1024 (rsqrt (addf M (broadcast S512x1 (Scalar.ofBits .f32 0x3727C5AC#32)))) broadcasts_S512x1_S512x1024))
    (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)

/-- The layer norm of every row. -/
def normA (Z : FVec Ideal S512x1024 .f32) (g b : FVec Ideal S1x1024 .f32) : FVec Ideal S512x1024 .f32 := scaleA (centA Z) (meanA (mulf (centA Z) (centA Z))) g b

/-! ## At an index -/

/-- A chunk of the up projection, at an index. -/
theorem upA_apply (hx : FVec Ideal S528x1024 .bf16) (w : FVec Ideal S1024x256 .bf16) (p : Fin 528) (e : Fin 256) :
    upA hx w (ix2 p e) = dotW (fun k => hx (ix2 p k)) (fun k e => w (ix2 k e)) e := by
  unfold dotW
  pointwise [upA]

/-- A chunk of the convolution, at an index. -/
theorem convA_apply (cb : FVec Ideal S1x256 .f32) (t0 : FVec Ideal S1x512x256 .f32) (w0 : FVec Ideal S1x256 .f32) (t1 : FVec Ideal S1x512x256 .f32) (w1 : FVec Ideal S1x256 .f32) (t2 : FVec Ideal S1x512x256 .f32) (w2 : FVec Ideal S1x256 .f32) (r : Fin 512) (e : Fin 256) :
    convA cb t0 w0 t1 w1 t2 w2 (ix2 r e) = cb (ix2 (0 : Fin 1) e) + t0 (ix3 (0 : Fin 1) r e) * w0 (ix2 (0 : Fin 1) e) + t1 (ix3 (0 : Fin 1) r e) * w1 (ix2 (0 : Fin 1) e) + t2 (ix3 (0 : Fin 1) r e) * w2 (ix2 (0 : Fin 1) e) := by
  pointwise [convA]

/-- A chunk of the gated channels, at an index. -/
theorem actA_apply (g v : FVec Ideal S512x256 .f32) (r : Fin 512) (e : Fin 256) : actA g v (ix2 r e) = swish (g (ix2 r e)) * v (ix2 r e) := by
  pointwise [actA]
  unfold swish logi
  rw [zero_sub_e]

/-- The first down projection, at an index. -/
theorem downA_apply (a : FVec Ideal S512x1536 .bf16) (w : FVec Ideal S1536x1024 .bf16) (r : Fin 512) (e : Fin 1024) :
    downA a w (ix2 r e) = ∑ k : Fin 1536, a (ix2 r k) * w (ix2 k e) := by
  pointwise [downA]

/-- The second down projection, at an index. -/
theorem downB_apply (a : FVec Ideal S512x1280 .bf16) (w : FVec Ideal S1280x1024 .bf16) (r : Fin 512) (e : Fin 1024) :
    downB a w (ix2 r e) = ∑ k : Fin 1280, a (ix2 r k) * w (ix2 k e) := by
  pointwise [downB]

/-- The residual and the down projection, at an index. -/
theorem residA_apply (x fa fb : FVec Ideal S512x1024 .f32) (r : Fin 512) (e : Fin 1024) :
    residA x fa fb (ix2 r e) = Ideal.ofBits .f32 0x3F9837F0#32 * x (ix2 r e) + (fa (ix2 r e) + fb (ix2 r e)) := by
  pointwise [residA]

/-- A row's mean. -/
theorem meanA_apply (Z : FVec Ideal S512x1024 .f32) (r : Fin 512) : meanA Z (ix2 r (0 : Fin 1)) = mean fun k => Z (ix2 r k) := by
  unfold mean
  pointwise [meanA]

/-- A centred row, at an index. -/
theorem centA_apply (Z : FVec Ideal S512x1024 .f32) (r : Fin 512) (e : Fin 1024) : centA Z (ix2 r e) = Z (ix2 r e) - mean fun k => Z (ix2 r k) := by
  rw [← meanA_apply]
  unfold centA
  generalize meanA Z = M
  pointwise

/-- A scaled row, at an index. -/
theorem scaleA_apply (C : FVec Ideal S512x1024 .f32) (M : FVec Ideal S512x1 .f32) (g b : FVec Ideal S1x1024 .f32) (r : Fin 512) (e : Fin 1024) :
    scaleA C M g b (ix2 r e) = C (ix2 r e) * Ideal.rsqrt (M (ix2 r (0 : Fin 1)) + Ideal.ofBits .f32 0x3727C5AC#32) * g (ix2 (0 : Fin 1) e) + b (ix2 (0 : Fin 1) e) := by
  pointwise [scaleA]

/-- A normalised row, at an index. -/
theorem normA_apply (Z : FVec Ideal S512x1024 .f32) (g b : FVec Ideal S1x1024 .f32) (r : Fin 512) (e : Fin 1024) :
    normA Z g b (ix2 r e) = norm (fun k => Z (ix2 r k)) (fun e => g (ix2 (0 : Fin 1) e)) (fun e => b (ix2 (0 : Fin 1) e)) e := by
  unfold normA
  rw [scaleA_apply, meanA_apply, centA_apply]
  have hq : ∀ k, mulf (centA Z) (centA Z) (ix2 r k) = (Z (ix2 r k) - mean fun k => Z (ix2 r k)) * (Z (ix2 r k) - mean fun k => Z (ix2 r k)) := fun k => by
    rw [← centA_apply]; rfl
  simp only [hq]
  rfl

/-- A chunk of the convolution from the rows, the projection's columns, the taps and the bias. -/
def convU (hx : FVec Ideal S528x1024 .bf16) (w : FVec Ideal S1024x256 .bf16) (cb w0 w1 w2 : FVec Ideal S1x256 .f32) : FVec Ideal S512x256 .f32 :=
  convA cb (shift 14 (by omega) (upA hx w)) w0 (shift 15 (by omega) (upA hx w)) w1 (shift 16 (by omega) (upA hx w)) w2

/-- A token's row and the two before it, among the block's rows and the rows before it. -/
def rows (hx : FVec Ideal S528x1024 .bf16) (r : Fin 512) (tap : Fin 3) (k : Fin 1024) : EReal := hx (ix2 (⟨14 + tap + r, by omega⟩ : Fin 528) k)

/-- A chunk of the convolution, at an index: the convolution of the channel. -/
theorem convU_apply (hx : FVec Ideal S528x1024 .bf16) (w : FVec Ideal S1024x256 .bf16) (cb w0 w1 w2 : FVec Ideal S1x256 .f32) (wu : Fin 1024 → Fin 5632 → EReal) (cw : Fin 3 → Fin 5632 → EReal) (cbs : Fin 5632 → EReal) (r : Fin 512) (e : Fin 256) (f : Fin 5632)
    (hw : ∀ k, w (ix2 k e) = wu k f) (hb : cb (ix2 (0 : Fin 1) e) = cbs f) (h0 : w0 (ix2 (0 : Fin 1) e) = cw 0 f) (h1 : w1 (ix2 (0 : Fin 1) e) = cw 1 f) (h2 : w2 (ix2 (0 : Fin 1) e) = cw 2 f) :
    convU hx w cb w0 w1 w2 (ix2 r e) = conv (rows hx r) wu cw cbs f := by
  have hs : ∀ (o : ℕ) (ho : o ≤ 16) (tap : Fin 3) (h : o = 14 + tap), shift o ho (upA hx w) (ix3 (0 : Fin 1) r e) = dotW (rows hx r tap) wu f := by
    rintro o ho tap rfl
    refine (upA_apply hx w _ e).trans ?_
    unfold dotW rows
    simp only [hw]
    rfl
  unfold convU conv
  rw [convA_apply, hs 14 _ 0 rfl, hs 15 _ 1 rfl, hs 16 _ 2 rfl, hb, h0, h1, h2, bias_first]

end Cert.Kernel3Ideal.Ffn

end
-- ==== Proof.Ffn.Words.lean ====
/-
  What the feed-forward kernel's body reads back from its scratch buffers, and so the chunks of the gated channels it writes.
-/
module

public import proofs.«01_k».proof.Proof.Ffn.Kernel
public import Idealize.ShloMosaic.Lib.Pipeline.ValueKit.Tiles

@[expose] public section

set_option maxRecDepth 16384

noncomputable section

namespace Cert.Kernel3Ideal.Ffn

open Cert.Kernel3Ideal Cert.Kernel3Ideal.Gen Cert.Mix Cert.Ffn Idealize.ShloMosaic Idealize.ShloMosaic.TcCoe

/-- An index of three coordinates. -/
theorem idxT (j : S1x512x256.Idx) : ∃ (a : Fin 1) (r : Fin 512) (e : Fin 256), j = ix3 a r e := ⟨j 0, j 1, j 2, funext fun a => by fin_cases a <;> rfl⟩

/-- A chunk laid out as one slab, at an index. -/
theorem slab_apply (P : FVec Ideal S528x256 .f32) (a : Fin 1) (p : Fin 528) (e : Fin 256) : shapeCast S1x528x256 P shapeCasts_S528x256_S1x528x256 (ix3 a p e) = P (ix2 p e) := by
  pointwise

/-- A slab written at one row and read from row 16: its rows from a given row on. -/
theorem read_tap (v : View sig .tc .vmem S3x544x256 .f32) (t s o : ℕ) (ho : o ≤ 16) (hs : 16 = s + o) (P : FVec Ideal S528x256 .f32) (L : List (View.Piece (Elt Ideal) S3x544x256 .f32))
    (inb : ∀ a, (![t, s, 0] : Fin 3 → ℕ) a + S1x528x256.size a ≤ S3x544x256.size a) (inb' : ∀ a, (![t, 16, 0] : Fin 3 → ℕ) a + S1x512x256.size a ≤ S3x544x256.size a) :
    v.readCov (⟨Rect.unit (s := S3x544x256) ![t, s, 0] S1x528x256.size inb, shapeCast S1x528x256 P shapeCasts_S528x256_S1x528x256⟩ :: L) (Rect.unit (s := S3x544x256) ![t, 16, 0] S1x512x256.size inb').toLoadRect = shift o ho P := by
  rw [View.readCov_eq_canon']
  funext j
  obtain ⟨a, r, e, rfl⟩ := idxT j
  have hi : (Rect.unit (s := S3x544x256) ![t, 16, 0] S1x512x256.size inb').toLoadRect.idx (ix3 a r e) = (Rect.unit (s := S3x544x256) ![t, s, 0] S1x528x256.size inb).emb (ix3 a (⟨o + r, by omega⟩ : Fin 528) e) := by
    refine funext fun d => Fin.ext ?_
    fin_cases d
    · rfl
    · show 16 + 1 * (r : ℕ) = s + 1 * (o + r)
      omega
    · rfl
  refine (congrArg (View.canon _) hi).trans ((View.canon_cons_emb _ _ L _).trans ?_)
  exact slab_apply P a _ e

/-- The first tap's rows. -/
theorem read_tap0 (v : View sig .tc .vmem S3x544x256 .f32) (P : FVec Ideal S528x256 .f32) (L : List (View.Piece (Elt Ideal) S3x544x256 .f32)) :
    v.readCov (⟨Rect.unit (s := S3x544x256) ![0, 2, 0] S1x528x256.size inb_S3x544x256_S1x528x256_0_2_0, shapeCast S1x528x256 P shapeCasts_S528x256_S1x528x256⟩ :: L) (Rect.unit (s := S3x544x256) ![0, 16, 0] S1x512x256.size inb_S3x544x256_S1x512x256_0_16_0).toLoadRect = shift 14 (by omega) P :=
  read_tap v 0 2 14 _ rfl P L _ _

/-- The second tap's rows. -/
theorem read_tap1 (v : View sig .tc .vmem S3x544x256 .f32) (P : FVec Ideal S528x256 .f32) (L : List (View.Piece (Elt Ideal) S3x544x256 .f32)) :
    v.readCov (⟨Rect.unit (s := S3x544x256) ![1, 1, 0] S1x528x256.size inb_S3x544x256_S1x528x256_1_1_0, shapeCast S1x528x256 P shapeCasts_S528x256_S1x528x256⟩ :: L) (Rect.unit (s := S3x544x256) ![1, 16, 0] S1x512x256.size inb_S3x544x256_S1x512x256_1_16_0).toLoadRect = shift 15 (by omega) P :=
  read_tap v 1 1 15 _ rfl P L _ _

/-- The third tap's rows. -/
theorem read_tap2 (v : View sig .tc .vmem S3x544x256 .f32) (P : FVec Ideal S528x256 .f32) (L : List (View.Piece (Elt Ideal) S3x544x256 .f32)) :
    v.readCov (⟨Rect.unit (s := S3x544x256) ![2, 0, 0] S1x528x256.size inb_S3x544x256_S1x528x256_2_0_0, shapeCast S1x528x256 P shapeCasts_S528x256_S1x528x256⟩ :: L) (Rect.unit (s := S3x544x256) ![2, 16, 0] S1x512x256.size inb_S3x544x256_S1x512x256_2_16_0).toLoadRect = shift 16 (by omega) P :=
  read_tap v 2 0 16 _ rfl P L _ _

theorem inbU (c : ℕ) (h : c + 256 ≤ 5632) : ∀ a, (![0, c] : Fin 2 → ℕ) a + S1024x256.size a ≤ S1024x5632.size a := by
  intro a; fin_cases a
  · show 0 + 1024 ≤ 1024; omega
  · exact h
theorem inbC (t c : ℕ) (ht : t < 3) (h : c + 256 ≤ 5632) : ∀ a, (![t, c] : Fin 2 → ℕ) a + S1x256.size a ≤ S3x5632.size a := by
  intro a; fin_cases a
  · show t + 1 ≤ 3; omega
  · exact h
theorem inbB (c : ℕ) (h : c + 256 ≤ 5632) : ∀ a, (![0, c] : Fin 2 → ℕ) a + S1x256.size a ≤ S1x5632.size a := by
  intro a; fin_cases a
  · show 0 + 1 ≤ 1; omega
  · exact h

/-- A chunk of the convolution from column `c` on. -/
def colsA (hx : FVec Ideal S528x1024 .bf16) (x2 : FVec Ideal S1024x5632 .bf16) (x3 : FVec Ideal S3x5632 .f32) (x4 : FVec Ideal S1x5632 .f32) (c : ℕ) (h : c + 256 ≤ 5632) : FVec Ideal S512x256 .f32 :=
  convU hx (View.ld (Val := Elt Ideal) (e' := .bf16) x2 (Rect.unit (s := S1024x5632) ![0, c] S1024x256.size (inbU c h))) (View.ld (Val := Elt Ideal) (e' := .f32) x4 (Rect.unit (s := S1x5632) ![0, c] S1x256.size (inbB c h))) (View.ld (Val := Elt Ideal) (e' := .f32) x3 (Rect.unit (s := S3x5632) ![0, c] S1x256.size (inbC 0 c (by omega) h)))
    (View.ld (Val := Elt Ideal) (e' := .f32) x3 (Rect.unit (s := S3x5632) ![1, c] S1x256.size (inbC 1 c (by omega) h))) (View.ld (Val := Elt Ideal) (e' := .f32) x3 (Rect.unit (s := S3x5632) ![2, c] S1x256.size (inbC 2 c (by omega) h)))

/-- A chunk of the gated channels, the gates from column `c` on and the values from column `d` on. -/
def chunkA (hx : FVec Ideal S528x1024 .bf16) (x2 : FVec Ideal S1024x5632 .bf16) (x3 : FVec Ideal S3x5632 .f32) (x4 : FVec Ideal S1x5632 .f32) (c d : ℕ) (h : c + 256 ≤ 5632) (h' : d + 256 ≤ 5632) : FVec Ideal S512x256 .bf16 :=
  actA (colsA hx x2 x3 x4 c h) (colsA hx x2 x3 x4 d h')

/-- A load from a buffer that holds an array reads the array. -/
theorem rd {S : Shape} {t : EltTy} (M : Memref sig .tc .vmem S t) (hM : M.IsWhole) (x : S.Idx → Elt Ideal t) (R : Rect S) : View.readAt (Elt Ideal) M.view R.toLoadRect (hM.unread x) = View.ld x R := by
  rw [View.readAt_eq_ld, hM.read_unread]

variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole)
  (arg10 : Memref sig .tc .vmem S528x1024 .bf16) (arg11 : Memref sig .tc .vmem S3x544x256 .f32)
  (x0 : Vec Ideal S512x1024 .f32) (x1 : Vec Ideal S16x1024 .f32) (x2 : Vec Ideal S1024x5632 .bf16) (x3 : Vec Ideal S3x5632 .f32) (x4 : Vec Ideal S1x5632 .f32)

/-! The rows each tap reads, in the order the body reads them. -/

theorem v33_eq : kernelRun0_A.sl.v33 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 0] S1024x256.size inb_S1024x5632_S1024x256_0_0).toLoadRect (harg3.unread x2))) := read_tap0 _ _ _
theorem v43_eq : kernelRun0_A.sl.v43 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 0] S1024x256.size inb_S1024x5632_S1024x256_0_0).toLoadRect (harg3.unread x2))) := read_tap1 _ _ _
theorem v52_eq : kernelRun0_A.sl.v52 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 0] S1024x256.size inb_S1024x5632_S1024x256_0_0).toLoadRect (harg3.unread x2))) := read_tap2 _ _ _
theorem v67_eq : kernelRun0_A.sl.v67 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 2816] S1024x256.size inb_S1024x5632_S1024x256_0_2816).toLoadRect (harg3.unread x2))) := read_tap0 _ _ _
theorem v77_eq : kernelRun0_A.sl.v77 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 2816] S1024x256.size inb_S1024x5632_S1024x256_0_2816).toLoadRect (harg3.unread x2))) := read_tap1 _ _ _
theorem v86_eq : kernelRun0_A.sl.v86 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 2816] S1024x256.size inb_S1024x5632_S1024x256_0_2816).toLoadRect (harg3.unread x2))) := read_tap2 _ _ _
theorem v114_eq : kernelRun0_A.sl.v114 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 256] S1024x256.size inb_S1024x5632_S1024x256_0_256).toLoadRect (harg3.unread x2))) := read_tap0 _ _ _
theorem v124_eq : kernelRun0_A.sl.v124 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 256] S1024x256.size inb_S1024x5632_S1024x256_0_256).toLoadRect (harg3.unread x2))) := read_tap1 _ _ _
theorem v133_eq : kernelRun0_A.sl.v133 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 256] S1024x256.size inb_S1024x5632_S1024x256_0_256).toLoadRect (harg3.unread x2))) := read_tap2 _ _ _
theorem v148_eq : kernelRun0_A.sl.v148 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 3072] S1024x256.size inb_S1024x5632_S1024x256_0_3072).toLoadRect (harg3.unread x2))) := read_tap0 _ _ _
theorem v158_eq : kernelRun0_A.sl.v158 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 3072] S1024x256.size inb_S1024x5632_S1024x256_0_3072).toLoadRect (harg3.unread x2))) := read_tap1 _ _ _
theorem v167_eq : kernelRun0_A.sl.v167 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 3072] S1024x256.size inb_S1024x5632_S1024x256_0_3072).toLoadRect (harg3.unread x2))) := read_tap2 _ _ _
theorem v195_eq : kernelRun0_A.sl.v195 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 512] S1024x256.size inb_S1024x5632_S1024x256_0_512).toLoadRect (harg3.unread x2))) := read_tap0 _ _ _
theorem v205_eq : kernelRun0_A.sl.v205 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 512] S1024x256.size inb_S1024x5632_S1024x256_0_512).toLoadRect (harg3.unread x2))) := read_tap1 _ _ _
theorem v214_eq : kernelRun0_A.sl.v214 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 512] S1024x256.size inb_S1024x5632_S1024x256_0_512).toLoadRect (harg3.unread x2))) := read_tap2 _ _ _
theorem v229_eq : kernelRun0_A.sl.v229 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 3328] S1024x256.size inb_S1024x5632_S1024x256_0_3328).toLoadRect (harg3.unread x2))) := read_tap0 _ _ _
theorem v239_eq : kernelRun0_A.sl.v239 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 3328] S1024x256.size inb_S1024x5632_S1024x256_0_3328).toLoadRect (harg3.unread x2))) := read_tap1 _ _ _
theorem v248_eq : kernelRun0_A.sl.v248 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 3328] S1024x256.size inb_S1024x5632_S1024x256_0_3328).toLoadRect (harg3.unread x2))) := read_tap2 _ _ _
theorem v276_eq : kernelRun0_A.sl.v276 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 768] S1024x256.size inb_S1024x5632_S1024x256_0_768).toLoadRect (harg3.unread x2))) := read_tap0 _ _ _
theorem v286_eq : kernelRun0_A.sl.v286 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 768] S1024x256.size inb_S1024x5632_S1024x256_0_768).toLoadRect (harg3.unread x2))) := read_tap1 _ _ _
theorem v295_eq : kernelRun0_A.sl.v295 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 768] S1024x256.size inb_S1024x5632_S1024x256_0_768).toLoadRect (harg3.unread x2))) := read_tap2 _ _ _
theorem v310_eq : kernelRun0_A.sl.v310 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 3584] S1024x256.size inb_S1024x5632_S1024x256_0_3584).toLoadRect (harg3.unread x2))) := read_tap0 _ _ _
theorem v320_eq : kernelRun0_A.sl.v320 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 3584] S1024x256.size inb_S1024x5632_S1024x256_0_3584).toLoadRect (harg3.unread x2))) := read_tap1 _ _ _
theorem v329_eq : kernelRun0_A.sl.v329 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 3584] S1024x256.size inb_S1024x5632_S1024x256_0_3584).toLoadRect (harg3.unread x2))) := read_tap2 _ _ _
theorem v357_eq : kernelRun0_A.sl.v357 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 1024] S1024x256.size inb_S1024x5632_S1024x256_0_1024).toLoadRect (harg3.unread x2))) := read_tap0 _ _ _
theorem v367_eq : kernelRun0_A.sl.v367 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 1024] S1024x256.size inb_S1024x5632_S1024x256_0_1024).toLoadRect (harg3.unread x2))) := read_tap1 _ _ _
theorem v376_eq : kernelRun0_A.sl.v376 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 1024] S1024x256.size inb_S1024x5632_S1024x256_0_1024).toLoadRect (harg3.unread x2))) := read_tap2 arg11.view (upA (kernelRun0_A.sl.v24 c i arg1 harg1 arg2 harg2 arg10 x0 x1) (View.readAt (Elt Ideal) arg3.view (Rect.unit (s := S1024x5632) ![0, 1024] S1024x256.size inb_S1024x5632_S1024x256_0_1024).toLoadRect (harg3.unread x2))) (kernelRun0_A.sl.HS1_26 (F := Ideal) c i arg1 harg1 arg2 harg2 arg3 harg3 arg10 x0 x1 x2)
theorem v391_eq : kernelRun0_A.sl.v391 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 3840] S1024x256.size inb_S1024x5632_S1024x256_0_3840).toLoadRect (harg3.unread x2))) := read_tap0 _ _ _
theorem v401_eq : kernelRun0_A.sl.v401 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 3840] S1024x256.size inb_S1024x5632_S1024x256_0_3840).toLoadRect (harg3.unread x2))) := read_tap1 _ _ _
theorem v410_eq : kernelRun0_A.sl.v410 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 3840] S1024x256.size inb_S1024x5632_S1024x256_0_3840).toLoadRect (harg3.unread x2))) := read_tap2 _ _ _
theorem v438_eq : kernelRun0_A.sl.v438 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 1280] S1024x256.size inb_S1024x5632_S1024x256_0_1280).toLoadRect (harg3.unread x2))) := read_tap0 _ _ _
theorem v448_eq : kernelRun0_A.sl.v448 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 1280] S1024x256.size inb_S1024x5632_S1024x256_0_1280).toLoadRect (harg3.unread x2))) := read_tap1 _ _ _
theorem v457_eq : kernelRun0_A.sl.v457 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 1280] S1024x256.size inb_S1024x5632_S1024x256_0_1280).toLoadRect (harg3.unread x2))) := read_tap2 _ _ _
theorem v472_eq : kernelRun0_A.sl.v472 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 4096] S1024x256.size inb_S1024x5632_S1024x256_0_4096).toLoadRect (harg3.unread x2))) := read_tap0 _ _ _
theorem v482_eq : kernelRun0_A.sl.v482 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 4096] S1024x256.size inb_S1024x5632_S1024x256_0_4096).toLoadRect (harg3.unread x2))) := read_tap1 _ _ _
theorem v491_eq : kernelRun0_A.sl.v491 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 4096] S1024x256.size inb_S1024x5632_S1024x256_0_4096).toLoadRect (harg3.unread x2))) := read_tap2 _ _ _
theorem v519_eq : kernelRun0_A.sl.v519 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 1536] S1024x256.size inb_S1024x5632_S1024x256_0_1536).toLoadRect (harg3.unread x2))) := read_tap0 _ _ _
theorem v529_eq : kernelRun0_A.sl.v529 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 1536] S1024x256.size inb_S1024x5632_S1024x256_0_1536).toLoadRect (harg3.unread x2))) := read_tap1 _ _ _
theorem v538_eq : kernelRun0_A.sl.v538 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 1536] S1024x256.size inb_S1024x5632_S1024x256_0_1536).toLoadRect (harg3.unread x2))) := read_tap2 _ _ _
theorem v553_eq : kernelRun0_A.sl.v553 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 4352] S1024x256.size inb_S1024x5632_S1024x256_0_4352).toLoadRect (harg3.unread x2))) := read_tap0 _ _ _
theorem v563_eq : kernelRun0_A.sl.v563 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 4352] S1024x256.size inb_S1024x5632_S1024x256_0_4352).toLoadRect (harg3.unread x2))) := read_tap1 arg11.view (upA (kernelRun0_A.sl.v24 c i arg1 harg1 arg2 harg2 arg10 x0 x1) (View.readAt (Elt Ideal) arg3.view (Rect.unit (s := S1024x5632) ![0, 4352] S1024x256.size inb_S1024x5632_S1024x256_0_4352).toLoadRect (harg3.unread x2))) (kernelRun0_A.sl.HS1_40 (F := Ideal) c i arg1 harg1 arg2 harg2 arg3 harg3 arg10 x0 x1 x2)
theorem v572_eq : kernelRun0_A.sl.v572 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 4352] S1024x256.size inb_S1024x5632_S1024x256_0_4352).toLoadRect (harg3.unread x2))) := read_tap2 _ _ _
theorem v604_eq : kernelRun0_A.sl.v604 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 1792] S1024x256.size inb_S1024x5632_S1024x256_0_1792).toLoadRect (harg3.unread x2))) := read_tap0 _ _ _
theorem v614_eq : kernelRun0_A.sl.v614 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 1792] S1024x256.size inb_S1024x5632_S1024x256_0_1792).toLoadRect (harg3.unread x2))) := read_tap1 _ _ _
theorem v623_eq : kernelRun0_A.sl.v623 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 1792] S1024x256.size inb_S1024x5632_S1024x256_0_1792).toLoadRect (harg3.unread x2))) := read_tap2 _ _ _
theorem v638_eq : kernelRun0_A.sl.v638 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 4608] S1024x256.size inb_S1024x5632_S1024x256_0_4608).toLoadRect (harg3.unread x2))) := read_tap0 _ _ _
theorem v648_eq : kernelRun0_A.sl.v648 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 4608] S1024x256.size inb_S1024x5632_S1024x256_0_4608).toLoadRect (harg3.unread x2))) := read_tap1 _ _ _
theorem v657_eq : kernelRun0_A.sl.v657 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 4608] S1024x256.size inb_S1024x5632_S1024x256_0_4608).toLoadRect (harg3.unread x2))) := read_tap2 _ _ _
theorem v685_eq : kernelRun0_A.sl.v685 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 2048] S1024x256.size inb_S1024x5632_S1024x256_0_2048).toLoadRect (harg3.unread x2))) := read_tap0 _ _ _
theorem v695_eq : kernelRun0_A.sl.v695 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 2048] S1024x256.size inb_S1024x5632_S1024x256_0_2048).toLoadRect (harg3.unread x2))) := read_tap1 _ _ _
theorem v704_eq : kernelRun0_A.sl.v704 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 2048] S1024x256.size inb_S1024x5632_S1024x256_0_2048).toLoadRect (harg3.unread x2))) := read_tap2 _ _ _
theorem v719_eq : kernelRun0_A.sl.v719 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 4864] S1024x256.size inb_S1024x5632_S1024x256_0_4864).toLoadRect (harg3.unread x2))) := read_tap0 arg11.view (upA (kernelRun0_A.sl.v24 c i arg1 harg1 arg2 harg2 arg10 x0 x1) (View.readAt (Elt Ideal) arg3.view (Rect.unit (s := S1024x5632) ![0, 4864] S1024x256.size inb_S1024x5632_S1024x256_0_4864).toLoadRect (harg3.unread x2))) (kernelRun0_A.sl.HS1_51 (F := Ideal) c i arg1 harg1 arg2 harg2 arg3 harg3 arg10 x0 x1 x2)
theorem v729_eq : kernelRun0_A.sl.v729 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 4864] S1024x256.size inb_S1024x5632_S1024x256_0_4864).toLoadRect (harg3.unread x2))) := read_tap1 _ _ _
theorem v738_eq : kernelRun0_A.sl.v738 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 4864] S1024x256.size inb_S1024x5632_S1024x256_0_4864).toLoadRect (harg3.unread x2))) := read_tap2 _ _ _
theorem v766_eq : kernelRun0_A.sl.v766 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 2304] S1024x256.size inb_S1024x5632_S1024x256_0_2304).toLoadRect (harg3.unread x2))) := read_tap0 _ _ _
theorem v776_eq : kernelRun0_A.sl.v776 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 2304] S1024x256.size inb_S1024x5632_S1024x256_0_2304).toLoadRect (harg3.unread x2))) := read_tap1 _ _ _
theorem v785_eq : kernelRun0_A.sl.v785 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 2304] S1024x256.size inb_S1024x5632_S1024x256_0_2304).toLoadRect (harg3.unread x2))) := read_tap2 _ _ _
theorem v800_eq : kernelRun0_A.sl.v800 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 5120] S1024x256.size inb_S1024x5632_S1024x256_0_5120).toLoadRect (harg3.unread x2))) := read_tap0 _ _ _
theorem v810_eq : kernelRun0_A.sl.v810 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 5120] S1024x256.size inb_S1024x5632_S1024x256_0_5120).toLoadRect (harg3.unread x2))) := read_tap1 _ _ _
theorem v819_eq : kernelRun0_A.sl.v819 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 5120] S1024x256.size inb_S1024x5632_S1024x256_0_5120).toLoadRect (harg3.unread x2))) := read_tap2 _ _ _
theorem v847_eq : kernelRun0_A.sl.v847 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 2560] S1024x256.size inb_S1024x5632_S1024x256_0_2560).toLoadRect (harg3.unread x2))) := read_tap0 _ _ _
theorem v857_eq : kernelRun0_A.sl.v857 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 2560] S1024x256.size inb_S1024x5632_S1024x256_0_2560).toLoadRect (harg3.unread x2))) := read_tap1 _ _ _
theorem v866_eq : kernelRun0_A.sl.v866 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 2560] S1024x256.size inb_S1024x5632_S1024x256_0_2560).toLoadRect (harg3.unread x2))) := read_tap2 _ _ _
theorem v881_eq : kernelRun0_A.sl.v881 (F := Ideal) c i arg1 harg1 arg2 harg2 arg3 harg3 arg10 arg11 x0 x1 x2 = shift 14 (by omega) (upA (kernelRun0_A.sl.v24 c i arg1 harg1 arg2 harg2 arg10 x0 x1) (View.readAt (Elt Ideal) arg3.view (Rect.unit (s := S1024x5632) ![0, 5376] S1024x256.size inb_S1024x5632_S1024x256_0_5376).toLoadRect (harg3.unread x2))) := read_tap0 _ _ _
theorem v891_eq : kernelRun0_A.sl.v891 (F := Ideal) c i arg1 harg1 arg2 harg2 arg3 harg3 arg10 arg11 x0 x1 x2 = shift 15 (by omega) (upA (kernelRun0_A.sl.v24 c i arg1 harg1 arg2 harg2 arg10 x0 x1) (View.readAt (Elt Ideal) arg3.view (Rect.unit (s := S1024x5632) ![0, 5376] S1024x256.size inb_S1024x5632_S1024x256_0_5376).toLoadRect (harg3.unread x2))) := read_tap1 _ _ _
theorem v900_eq : kernelRun0_A.sl.v900 (F := Ideal) c i arg1 harg1 arg2 harg2 arg3 harg3 arg10 arg11 x0 x1 x2 = shift 16 (by omega) (upA (kernelRun0_A.sl.v24 c i arg1 harg1 arg2 harg2 arg10 x0 x1) (View.readAt (Elt Ideal) arg3.view (Rect.unit (s := S1024x5632) ![0, 5376] S1024x256.size inb_S1024x5632_S1024x256_0_5376).toLoadRect (harg3.unread x2))) := read_tap2 _ _ _

/-- Chunk 0 of the gated channels. -/
theorem chunk0_eq : actA (convA (View.readAt (Elt Ideal) arg5.view (Rect.unit (s := S1x5632) ![0, 0] S1x256.size inb_S1x5632_S1x256_0_0).toLoadRect (harg5.unread x4)) (kernelRun0_A.sl.v33 (F := Ideal) c i arg1 harg1 arg2 harg2 arg3 harg3 arg10 arg11 x0 x1 x2) (View.readAt (Elt Ideal) arg4.view (Rect.unit (s := S3x5632) ![0, 0] S1x256.size inb_S3x5632_S1x256_0_0).toLoadRect (harg4.unread x3)) (kernelRun0_A.sl.v43 (F := Ideal) c i arg1 harg1 arg2 harg2 arg3 harg3 arg10 arg11 x0 x1 x2) (View.readAt (Elt Ideal) arg4.view (Rect.unit (s := S3x5632) ![1, 0] S1x256.size inb_S3x5632_S1x256_1_0).toLoadRect (harg4.unread x3)) (kernelRun0_A.sl.v52 (F := Ideal) c i arg1 harg1 arg2 harg2 arg3 harg3 arg10 arg11 x0 x1 x2) (View.readAt (Elt Ideal) arg4.view (Rect.unit (s := S3x5632) ![2, 0] S1x256.size inb_S3x5632_S1x256_2_0).toLoadRect (harg4.unread x3))) (convA (View.readAt (Elt Ideal) arg5.view (Rect.unit (s := S1x5632) ![0, 2816] S1x256.size inb_S1x5632_S1x256_0_2816).toLoadRect (harg5.unread x4)) (kernelRun0_A.sl.v67 (F := Ideal) c i arg1 harg1 arg2 harg2 arg3 harg3 arg10 arg11 x0 x1 x2) (View.readAt (Elt Ideal) arg4.view (Rect.unit (s := S3x5632) ![0, 2816] S1x256.size inb_S3x5632_S1x256_0_2816).toLoadRect (harg4.unread x3)) (kernelRun0_A.sl.v77 (F := Ideal) c i arg1 harg1 arg2 harg2 arg3 harg3 arg10 arg11 x0 x1 x2) (View.readAt (Elt Ideal) arg4.view (Rect.unit (s := S3x5632) ![1, 2816] S1x256.size inb_S3x5632_S1x256_1_2816).toLoadRect (harg4.unread x3)) (kernelRun0_A.sl.v86 (F := Ideal) c i arg1 harg1 arg2 harg2 arg3 harg3 arg10 arg11 x0 x1 x2) (View.readAt (Elt Ideal) arg4.view (Rect.unit (s := S3x5632) ![2, 2816] S1x256.size inb_S3x5632_S1x256_2_2816).toLoadRect (harg4.unread x3))) = chunkA (kernelRun0_A.sl.v24 c i arg1 harg1 arg2 harg2 arg10 x0 x1) x2 x3 x4 0 2816 (by omega) (by omega) := by
  simp only [v33_eq, v43_eq, v52_eq, v67_eq, v77_eq, v86_eq, rd]
  unfold chunkA colsA convU
  rfl

/-- Chunk 1 of the gated channels. -/
theorem chunk1_eq : actA (convA (View.readAt (Elt Ideal) arg5.view (Rect.unit (s := S1x5632) ![0, 256] S1x256.size inb_S1x5632_S1x256_0_256).toLoadRect (harg5.unread x4)) (kernelRun0_A.sl.v114 (F := Ideal) c i arg1 harg1 arg2 harg2 arg3 harg3 arg10 arg11 x0 x1 x2) (View.readAt (Elt Ideal) arg4.view (Rect.unit (s := S3x5632) ![0, 256] S1x256.size inb_S3x5632_S1x256_0_256).toLoadRect (harg4.unread x3)) (kernelRun0_A.sl.v124 (F := Ideal) c i arg1 harg1 arg2 harg2 arg3 harg3 arg10 arg11 x0 x1 x2) (View.readAt (Elt Ideal) arg4.view (Rect.unit (s := S3x5632) ![1, 256] S1x256.size inb_S3x5632_S1x256_1_256).toLoadRect (harg4.unread x3)) (kernelRun0_A.sl.v133 (F := Ideal) c i arg1 harg1 arg2 harg2 arg3 harg3 arg10 arg11 x0 x1 x2) (View.readAt (Elt Ideal) arg4.view (Rect.unit (s := S3x5632) ![2, 256] S1x256.size inb_S3x5632_S1x256_2_256).toLoadRect (harg4.unread x3))) (convA (View.readAt (Elt Ideal) arg5.view (Rect.unit (s := S1x5632) ![0, 3072] S1x256.size inb_S1x5632_S1x256_0_3072).toLoadRect (harg5.unread x4)) (kernelRun0_A.sl.v148 (F := Ideal) c i arg1 harg1 arg2 harg2 arg3 harg3 arg10 arg11 x0 x1 x2) (View.readAt (Elt Ideal) arg4.view (Rect.unit (s := S3x5632) ![0, 3072] S1x256.size inb_S3x5632_S1x256_0_3072).toLoadRect (harg4.unread x3)) (kernelRun0_A.sl.v158 (F := Ideal) c i arg1 harg1 arg2 harg2 arg3 harg3 arg10 arg11 x0 x1 x2) (View.readAt (Elt Ideal) arg4.view (Rect.unit (s := S3x5632) ![1, 3072] S1x256.size inb_S3x5632_S1x256_1_3072).toLoadRect (harg4.unread x3)) (kernelRun0_A.sl.v167 (F := Ideal) c i arg1 harg1 arg2 harg2 arg3 harg3 arg10 arg11 x0 x1 x2) (View.readAt (Elt Ideal) arg4.view (Rect.unit (s := S3x5632) ![2, 3072] S1x256.size inb_S3x5632_S1x256_2_3072).toLoadRect (harg4.unread x3))) = chunkA (kernelRun0_A.sl.v24 c i arg1 harg1 arg2 harg2 arg10 x0 x1) x2 x3 x4 256 3072 (by omega) (by omega) := by
  simp only [v114_eq, v124_eq, v133_eq, v148_eq, v158_eq, v167_eq, rd]
  unfold chunkA colsA convU
  rfl

/-- Chunk 2 of the gated channels. -/
theorem chunk2_eq : actA (convA (View.readAt (Elt Ideal) arg5.view (Rect.unit (s := S1x5632) ![0, 512] S1x256.size inb_S1x5632_S1x256_0_512).toLoadRect (harg5.unread x4)) (kernelRun0_A.sl.v195 (F := Ideal) c i arg1 harg1 arg2 harg2 arg3 harg3 arg10 arg11 x0 x1 x2) (View.readAt (Elt Ideal) arg4.view (Rect.unit (s := S3x5632) ![0, 512] S1x256.size inb_S3x5632_S1x256_0_512).toLoadRect (harg4.unread x3)) (kernelRun0_A.sl.v205 (F := Ideal) c i arg1 harg1 arg2 harg2 arg3 harg3 arg10 arg11 x0 x1 x2) (View.readAt (Elt Ideal) arg4.view (Rect.unit (s := S3x5632) ![1, 512] S1x256.size inb_S3x5632_S1x256_1_512).toLoadRect (harg4.unread x3)) (kernelRun0_A.sl.v214 (F := Ideal) c i arg1 harg1 arg2 harg2 arg3 harg3 arg10 arg11 x0 x1 x2) (View.readAt (Elt Ideal) arg4.view (Rect.unit (s := S3x5632) ![2, 512] S1x256.size inb_S3x5632_S1x256_2_512).toLoadRect (harg4.unread x3))) (convA (View.readAt (Elt Ideal) arg5.view (Rect.unit (s := S1x5632) ![0, 3328] S1x256.size inb_S1x5632_S1x256_0_3328).toLoadRect (harg5.unread x4)) (kernelRun0_A.sl.v229 (F := Ideal) c i arg1 harg1 arg2 harg2 arg3 harg3 arg10 arg11 x0 x1 x2) (View.readAt (Elt Ideal) arg4.view (Rect.unit (s := S3x5632) ![0, 3328] S1x256.size inb_S3x5632_S1x256_0_3328).toLoadRect (harg4.unread x3)) (kernelRun0_A.sl.v239 (F := Ideal) c i arg1 harg1 arg2 harg2 arg3 harg3 arg10 arg11 x0 x1 x2) (View.readAt (Elt Ideal) arg4.view (Rect.unit (s := S3x5632) ![1, 3328] S1x256.size inb_S3x5632_S1x256_1_3328).toLoadRect (harg4.unread x3)) (kernelRun0_A.sl.v248 (F := Ideal) c i arg1 harg1 arg2 harg2 arg3 harg3 arg10 arg11 x0 x1 x2) (View.readAt (Elt Ideal) arg4.view (Rect.unit (s := S3x5632) ![2, 3328] S1x256.size inb_S3x5632_S1x256_2_3328).toLoadRect (harg4.unread x3))) = chunkA (kernelRun0_A.sl.v24 c i arg1 harg1 arg2 harg2 arg10 x0 x1) x2 x3 x4 512 3328 (by omega) (by omega) := by
  simp only [v195_eq, v205_eq, v214_eq, v229_eq, v239_eq, v248_eq, rd]
  unfold chunkA colsA convU
  rfl

/-- Chunk 3 of the gated channels. -/
theorem chunk3_eq : actA (convA (View.readAt (Elt Ideal) arg5.view (Rect.unit (s := S1x5632) ![0, 768] S1x256.size inb_S1x5632_S1x256_0_768).toLoadRect (harg5.unread x4)) (kernelRun0_A.sl.v276 (F := Ideal) c i arg1 harg1 arg2 harg2 arg3 harg3 arg10 arg11 x0 x1 x2) (View.readAt (Elt Ideal) arg4.view (Rect.unit (s := S3x5632) ![0, 768] S1x256.size inb_S3x5632_S1x256_0_768).toLoadRect (harg4.unread x3)) (kernelRun0_A.sl.v286 (F := Ideal) c i arg1 harg1 arg2 harg2 arg3 harg3 arg10 arg11 x0 x1 x2) (View.readAt (Elt Ideal) arg4.view (Rect.unit (s := S3x5632) ![1, 768] S1x256.size inb_S3x5632_S1x256_1_768).toLoadRect (harg4.unread x3)) (kernelRun0_A.sl.v295 (F := Ideal) c i arg1 harg1 arg2 harg2 arg3 harg3 arg10 arg11 x0 x1 x2) (View.readAt (Elt Ideal) arg4.view (Rect.unit (s := S3x5632) ![2, 768] S1x256.size inb_S3x5632_S1x256_2_768).toLoadRect (harg4.unread x3))) (convA (View.readAt (Elt Ideal) arg5.view (Rect.unit (s := S1x5632) ![0, 3584] S1x256.size inb_S1x5632_S1x256_0_3584).toLoadRect (harg5.unread x4)) (kernelRun0_A.sl.v310 (F := Ideal) c i arg1 harg1 arg2 harg2 arg3 harg3 arg10 arg11 x0 x1 x2) (View.readAt (Elt Ideal) arg4.view (Rect.unit (s := S3x5632) ![0, 3584] S1x256.size inb_S3x5632_S1x256_0_3584).toLoadRect (harg4.unread x3)) (kernelRun0_A.sl.v320 (F := Ideal) c i arg1 harg1 arg2 harg2 arg3 harg3 arg10 arg11 x0 x1 x2) (View.readAt (Elt Ideal) arg4.view (Rect.unit (s := S3x5632) ![1, 3584] S1x256.size inb_S3x5632_S1x256_1_3584).toLoadRect (harg4.unread x3)) (kernelRun0_A.sl.v329 (F := Ideal) c i arg1 harg1 arg2 harg2 arg3 harg3 arg10 arg11 x0 x1 x2) (View.readAt (Elt Ideal) arg4.view (Rect.unit (s := S3x5632) ![2, 3584] S1x256.size inb_S3x5632_S1x256_2_3584).toLoadRect (harg4.unread x3))) = chunkA (kernelRun0_A.sl.v24 c i arg1 harg1 arg2 harg2 arg10 x0 x1) x2 x3 x4 768 3584 (by omega) (by omega) := by
  simp only [v276_eq, v286_eq, v295_eq, v310_eq, v320_eq, v329_eq, rd]
  unfold chunkA colsA convU
  rfl

/-- Chunk 4 of the gated channels. -/
theorem chunk4_eq : actA (convA (View.readAt (Elt Ideal) arg5.view (Rect.unit (s := S1x5632) ![0, 1024] S1x256.size inb_S1x5632_S1x256_0_1024).toLoadRect (harg5.unread x4)) (kernelRun0_A.sl.v357 (F := Ideal) c i arg1 harg1 arg2 harg2 arg3 harg3 arg10 arg11 x0 x1 x2) (View.readAt (Elt Ideal) arg4.view (Rect.unit (s := S3x5632) ![0, 1024] S1x256.size inb_S3x5632_S1x256_0_1024).toLoadRect (harg4.unread x3)) (kernelRun0_A.sl.v367 (F := Ideal) c i arg1 harg1 arg2 harg2 arg3 harg3 arg10 arg11 x0 x1 x2) (View.readAt (Elt Ideal) arg4.view (Rect.unit (s := S3x5632) ![1, 1024] S1x256.size inb_S3x5632_S1x256_1_1024).toLoadRect (harg4.unread x3)) (kernelRun0_A.sl.v376 (F := Ideal) c i arg1 harg1 arg2 harg2 arg3 harg3 arg10 arg11 x0 x1 x2) (View.readAt (Elt Ideal) arg4.view (Rect.unit (s := S3x5632) ![2, 1024] S1x256.size inb_S3x5632_S1x256_2_1024).toLoadRect (harg4.unread x3))) (convA (View.readAt (Elt Ideal) arg5.view (Rect.unit (s := S1x5632) ![0, 3840] S1x256.size inb_S1x5632_S1x256_0_3840).toLoadRect (harg5.unread x4)) (kernelRun0_A.sl.v391 (F := Ideal) c i arg1 harg1 arg2 harg2 arg3 harg3 arg10 arg11 x0 x1 x2) (View.readAt (Elt Ideal) arg4.view (Rect.unit (s := S3x5632) ![0, 3840] S1x256.size inb_S3x5632_S1x256_0_3840).toLoadRect (harg4.unread x3)) (kernelRun0_A.sl.v401 (F := Ideal) c i arg1 harg1 arg2 harg2 arg3 harg3 arg10 arg11 x0 x1 x2) (View.readAt (Elt Ideal) arg4.view (Rect.unit (s := S3x5632) ![1, 3840] S1x256.size inb_S3x5632_S1x256_1_3840).toLoadRect (harg4.unread x3)) (kernelRun0_A.sl.v410 (F := Ideal) c i arg1 harg1 arg2 harg2 arg3 harg3 arg10 arg11 x0 x1 x2) (View.readAt (Elt Ideal) arg4.view (Rect.unit (s := S3x5632) ![2, 3840] S1x256.size inb_S3x5632_S1x256_2_3840).toLoadRect (harg4.unread x3))) = chunkA (kernelRun0_A.sl.v24 c i arg1 harg1 arg2 harg2 arg10 x0 x1) x2 x3 x4 1024 3840 (by omega) (by omega) := by
  simp only [v357_eq, v367_eq, v376_eq, v391_eq, v401_eq, v410_eq, rd]
  unfold chunkA colsA convU
  rfl

/-- Chunk 5 of the gated channels. -/
theorem chunk5_eq : actA (convA (View.readAt (Elt Ideal) arg5.view (Rect.unit (s := S1x5632) ![0, 1280] S1x256.size inb_S1x5632_S1x256_0_1280).toLoadRect (harg5.unread x4)) (kernelRun0_A.sl.v438 (F := Ideal) c i arg1 harg1 arg2 harg2 arg3 harg3 arg10 arg11 x0 x1 x2) (View.readAt (Elt Ideal) arg4.view (Rect.unit (s := S3x5632) ![0, 1280] S1x256.size inb_S3x5632_S1x256_0_1280).toLoadRect (harg4.unread x3)) (kernelRun0_A.sl.v448 (F := Ideal) c i arg1 harg1 arg2 harg2 arg3 harg3 arg10 arg11 x0 x1 x2) (View.readAt (Elt Ideal) arg4.view (Rect.unit (s := S3x5632) ![1, 1280] S1x256.size inb_S3x5632_S1x256_1_1280).toLoadRect (harg4.unread x3)) (kernelRun0_A.sl.v457 (F := Ideal) c i arg1 harg1 arg2 harg2 arg3 harg3 arg10 arg11 x0 x1 x2) (View.readAt (Elt Ideal) arg4.view (Rect.unit (s := S3x5632) ![2, 1280] S1x256.size inb_S3x5632_S1x256_2_1280).toLoadRect (harg4.unread x3))) (convA (View.readAt (Elt Ideal) arg5.view (Rect.unit (s := S1x5632) ![0, 4096] S1x256.size inb_S1x5632_S1x256_0_4096).toLoadRect (harg5.unread x4)) (kernelRun0_A.sl.v472 (F := Ideal) c i arg1 harg1 arg2 harg2 arg3 harg3 arg10 arg11 x0 x1 x2) (View.readAt (Elt Ideal) arg4.view (Rect.unit (s := S3x5632) ![0, 4096] S1x256.size inb_S3x5632_S1x256_0_4096).toLoadRect (harg4.unread x3)) (kernelRun0_A.sl.v482 (F := Ideal) c i arg1 harg1 arg2 harg2 arg3 harg3 arg10 arg11 x0 x1 x2) (View.readAt (Elt Ideal) arg4.view (Rect.unit (s := S3x5632) ![1, 4096] S1x256.size inb_S3x5632_S1x256_1_4096).toLoadRect (harg4.unread x3)) (kernelRun0_A.sl.v491 (F := Ideal) c i arg1 harg1 arg2 harg2 arg3 harg3 arg10 arg11 x0 x1 x2) (View.readAt (Elt Ideal) arg4.view (Rect.unit (s := S3x5632) ![2, 4096] S1x256.size inb_S3x5632_S1x256_2_4096).toLoadRect (harg4.unread x3))) = chunkA (kernelRun0_A.sl.v24 c i arg1 harg1 arg2 harg2 arg10 x0 x1) x2 x3 x4 1280 4096 (by omega) (by omega) := by
  simp only [v438_eq, v448_eq, v457_eq, v472_eq, v482_eq, v491_eq, rd]
  unfold chunkA colsA convU
  rfl

/-- Chunk 6 of the gated channels. -/
theorem chunk6_eq : actA (convA (View.readAt (Elt Ideal) arg5.view (Rect.unit (s := S1x5632) ![0, 1536] S1x256.size inb_S1x5632_S1x256_0_1536).toLoadRect (harg5.unread x4)) (kernelRun0_A.sl.v519 (F := Ideal) c i arg1 harg1 arg2 harg2 arg3 harg3 arg10 arg11 x0 x1 x2) (View.readAt (Elt Ideal) arg4.view (Rect.unit (s := S3x5632) ![0, 1536] S1x256.size inb_S3x5632_S1x256_0_1536).toLoadRect (harg4.unread x3)) (kernelRun0_A.sl.v529 (F := Ideal) c i arg1 harg1 arg2 harg2 arg3 harg3 arg10 arg11 x0 x1 x2) (View.readAt (Elt Ideal) arg4.view (Rect.unit (s := S3x5632) ![1, 1536] S1x256.size inb_S3x5632_S1x256_1_1536).toLoadRect (harg4.unread x3)) (kernelRun0_A.sl.v538 (F := Ideal) c i arg1 harg1 arg2 harg2 arg3 harg3 arg10 arg11 x0 x1 x2) (View.readAt (Elt Ideal) arg4.view (Rect.unit (s := S3x5632) ![2, 1536] S1x256.size inb_S3x5632_S1x256_2_1536).toLoadRect (harg4.unread x3))) (convA (View.readAt (Elt Ideal) arg5.view (Rect.unit (s := S1x5632) ![0, 4352] S1x256.size inb_S1x5632_S1x256_0_4352).toLoadRect (harg5.unread x4)) (kernelRun0_A.sl.v553 (F := Ideal) c i arg1 harg1 arg2 harg2 arg3 harg3 arg10 arg11 x0 x1 x2) (View.readAt (Elt Ideal) arg4.view (Rect.unit (s := S3x5632) ![0, 4352] S1x256.size inb_S3x5632_S1x256_0_4352).toLoadRect (harg4.unread x3)) (kernelRun0_A.sl.v563 (F := Ideal) c i arg1 harg1 arg2 harg2 arg3 harg3 arg10 arg11 x0 x1 x2) (View.readAt (Elt Ideal) arg4.view (Rect.unit (s := S3x5632) ![1, 4352] S1x256.size inb_S3x5632_S1x256_1_4352).toLoadRect (harg4.unread x3)) (kernelRun0_A.sl.v572 (F := Ideal) c i arg1 harg1 arg2 harg2 arg3 harg3 arg10 arg11 x0 x1 x2) (View.readAt (Elt Ideal) arg4.view (Rect.unit (s := S3x5632) ![2, 4352] S1x256.size inb_S3x5632_S1x256_2_4352).toLoadRect (harg4.unread x3))) = chunkA (kernelRun0_A.sl.v24 c i arg1 harg1 arg2 harg2 arg10 x0 x1) x2 x3 x4 1536 4352 (by omega) (by omega) := by
  simp only [v519_eq, v529_eq, v538_eq, v553_eq, v563_eq, v572_eq, rd]
  unfold chunkA colsA convU
  rfl

/-- Chunk 7 of the gated channels. -/
theorem chunk7_eq : actA (convA (View.readAt (Elt Ideal) arg5.view (Rect.unit (s := S1x5632) ![0, 1792] S1x256.size inb_S1x5632_S1x256_0_1792).toLoadRect (harg5.unread x4)) (kernelRun0_A.sl.v604 (F := Ideal) c i arg1 harg1 arg2 harg2 arg3 harg3 arg10 arg11 x0 x1 x2) (View.readAt (Elt Ideal) arg4.view (Rect.unit (s := S3x5632) ![0, 1792] S1x256.size inb_S3x5632_S1x256_0_1792).toLoadRect (harg4.unread x3)) (kernelRun0_A.sl.v614 (F := Ideal) c i arg1 harg1 arg2 harg2 arg3 harg3 arg10 arg11 x0 x1 x2) (View.readAt (Elt Ideal) arg4.view (Rect.unit (s := S3x5632) ![1, 1792] S1x256.size inb_S3x5632_S1x256_1_1792).toLoadRect (harg4.unread x3)) (kernelRun0_A.sl.v623 (F := Ideal) c i arg1 harg1 arg2 harg2 arg3 harg3 arg10 arg11 x0 x1 x2) (View.readAt (Elt Ideal) arg4.view (Rect.unit (s := S3x5632) ![2, 1792] S1x256.size inb_S3x5632_S1x256_2_1792).toLoadRect (harg4.unread x3))) (convA (View.readAt (Elt Ideal) arg5.view (Rect.unit (s := S1x5632) ![0, 4608] S1x256.size inb_S1x5632_S1x256_0_4608).toLoadRect (harg5.unread x4)) (kernelRun0_A.sl.v638 (F := Ideal) c i arg1 harg1 arg2 harg2 arg3 harg3 arg10 arg11 x0 x1 x2) (View.readAt (Elt Ideal) arg4.view (Rect.unit (s := S3x5632) ![0, 4608] S1x256.size inb_S3x5632_S1x256_0_4608).toLoadRect (harg4.unread x3)) (kernelRun0_A.sl.v648 (F := Ideal) c i arg1 harg1 arg2 harg2 arg3 harg3 arg10 arg11 x0 x1 x2) (View.readAt (Elt Ideal) arg4.view (Rect.unit (s := S3x5632) ![1, 4608] S1x256.size inb_S3x5632_S1x256_1_4608).toLoadRect (harg4.unread x3)) (kernelRun0_A.sl.v657 (F := Ideal) c i arg1 harg1 arg2 harg2 arg3 harg3 arg10 arg11 x0 x1 x2) (View.readAt (Elt Ideal) arg4.view (Rect.unit (s := S3x5632) ![2, 4608] S1x256.size inb_S3x5632_S1x256_2_4608).toLoadRect (harg4.unread x3))) = chunkA (kernelRun0_A.sl.v24 c i arg1 harg1 arg2 harg2 arg10 x0 x1) x2 x3 x4 1792 4608 (by omega) (by omega) := by
  simp only [v604_eq, v614_eq, v623_eq, v638_eq, v648_eq, v657_eq, rd]
  unfold chunkA colsA convU
  rfl

/-- Chunk 8 of the gated channels. -/
theorem chunk8_eq : actA (convA (View.readAt (Elt Ideal) arg5.view (Rect.unit (s := S1x5632) ![0, 2048] S1x256.size inb_S1x5632_S1x256_0_2048).toLoadRect (harg5.unread x4)) (kernelRun0_A.sl.v685 (F := Ideal) c i arg1 harg1 arg2 harg2 arg3 harg3 arg10 arg11 x0 x1 x2) (View.readAt (Elt Ideal) arg4.view (Rect.unit (s := S3x5632) ![0, 2048] S1x256.size inb_S3x5632_S1x256_0_2048).toLoadRect (harg4.unread x3)) (kernelRun0_A.sl.v695 (F := Ideal) c i arg1 harg1 arg2 harg2 arg3 harg3 arg10 arg11 x0 x1 x2) (View.readAt (Elt Ideal) arg4.view (Rect.unit (s := S3x5632) ![1, 2048] S1x256.size inb_S3x5632_S1x256_1_2048).toLoadRect (harg4.unread x3)) (kernelRun0_A.sl.v704 (F := Ideal) c i arg1 harg1 arg2 harg2 arg3 harg3 arg10 arg11 x0 x1 x2) (View.readAt (Elt Ideal) arg4.view (Rect.unit (s := S3x5632) ![2, 2048] S1x256.size inb_S3x5632_S1x256_2_2048).toLoadRect (harg4.unread x3))) (convA (View.readAt (Elt Ideal) arg5.view (Rect.unit (s := S1x5632) ![0, 4864] S1x256.size inb_S1x5632_S1x256_0_4864).toLoadRect (harg5.unread x4)) (kernelRun0_A.sl.v719 (F := Ideal) c i arg1 harg1 arg2 harg2 arg3 harg3 arg10 arg11 x0 x1 x2) (View.readAt (Elt Ideal) arg4.view (Rect.unit (s := S3x5632) ![0, 4864] S1x256.size inb_S3x5632_S1x256_0_4864).toLoadRect (harg4.unread x3)) (kernelRun0_A.sl.v729 (F := Ideal) c i arg1 harg1 arg2 harg2 arg3 harg3 arg10 arg11 x0 x1 x2) (View.readAt (Elt Ideal) arg4.view (Rect.unit (s := S3x5632) ![1, 4864] S1x256.size inb_S3x5632_S1x256_1_4864).toLoadRect (harg4.unread x3)) (kernelRun0_A.sl.v738 (F := Ideal) c i arg1 harg1 arg2 harg2 arg3 harg3 arg10 arg11 x0 x1 x2) (View.readAt (Elt Ideal) arg4.view (Rect.unit (s := S3x5632) ![2, 4864] S1x256.size inb_S3x5632_S1x256_2_4864).toLoadRect (harg4.unread x3))) = chunkA (kernelRun0_A.sl.v24 c i arg1 harg1 arg2 harg2 arg10 x0 x1) x2 x3 x4 2048 4864 (by omega) (by omega) := by
  simp only [v685_eq, v695_eq, v704_eq, v719_eq, v729_eq, v738_eq, rd]
  unfold chunkA colsA convU
  rfl

/-- Chunk 9 of the gated channels. -/
theorem chunk9_eq : actA (convA (View.readAt (Elt Ideal) arg5.view (Rect.unit (s := S1x5632) ![0, 2304] S1x256.size inb_S1x5632_S1x256_0_2304).toLoadRect (harg5.unread x4)) (kernelRun0_A.sl.v766 (F := Ideal) c i arg1 harg1 arg2 harg2 arg3 harg3 arg10 arg11 x0 x1 x2) (View.readAt (Elt Ideal) arg4.view (Rect.unit (s := S3x5632) ![0, 2304] S1x256.size inb_S3x5632_S1x256_0_2304).toLoadRect (harg4.unread x3)) (kernelRun0_A.sl.v776 (F := Ideal) c i arg1 harg1 arg2 harg2 arg3 harg3 arg10 arg11 x0 x1 x2) (View.readAt (Elt Ideal) arg4.view (Rect.unit (s := S3x5632) ![1, 2304] S1x256.size inb_S3x5632_S1x256_1_2304).toLoadRect (harg4.unread x3)) (kernelRun0_A.sl.v785 (F := Ideal) c i arg1 harg1 arg2 harg2 arg3 harg3 arg10 arg11 x0 x1 x2) (View.readAt (Elt Ideal) arg4.view (Rect.unit (s := S3x5632) ![2, 2304] S1x256.size inb_S3x5632_S1x256_2_2304).toLoadRect (harg4.unread x3))) (convA (View.readAt (Elt Ideal) arg5.view (Rect.unit (s := S1x5632) ![0, 5120] S1x256.size inb_S1x5632_S1x256_0_5120).toLoadRect (harg5.unread x4)) (kernelRun0_A.sl.v800 (F := Ideal) c i arg1 harg1 arg2 harg2 arg3 harg3 arg10 arg11 x0 x1 x2) (View.readAt (Elt Ideal) arg4.view (Rect.unit (s := S3x5632) ![0, 5120] S1x256.size inb_S3x5632_S1x256_0_5120).toLoadRect (harg4.unread x3)) (kernelRun0_A.sl.v810 (F := Ideal) c i arg1 harg1 arg2 harg2 arg3 harg3 arg10 arg11 x0 x1 x2) (View.readAt (Elt Ideal) arg4.view (Rect.unit (s := S3x5632) ![1, 5120] S1x256.size inb_S3x5632_S1x256_1_5120).toLoadRect (harg4.unread x3)) (kernelRun0_A.sl.v819 (F := Ideal) c i arg1 harg1 arg2 harg2 arg3 harg3 arg10 arg11 x0 x1 x2) (View.readAt (Elt Ideal) arg4.view (Rect.unit (s := S3x5632) ![2, 5120] S1x256.size inb_S3x5632_S1x256_2_5120).toLoadRect (harg4.unread x3))) = chunkA (kernelRun0_A.sl.v24 c i arg1 harg1 arg2 harg2 arg10 x0 x1) x2 x3 x4 2304 5120 (by omega) (by omega) := by
  simp only [v766_eq, v776_eq, v785_eq, v800_eq, v810_eq, v819_eq, rd]
  unfold chunkA colsA convU
  rfl

/-- Chunk 10 of the gated channels. -/
theorem chunk10_eq : actA (convA (View.readAt (Elt Ideal) arg5.view (Rect.unit (s := S1x5632) ![0, 2560] S1x256.size inb_S1x5632_S1x256_0_2560).toLoadRect (harg5.unread x4)) (kernelRun0_A.sl.v847 (F := Ideal) c i arg1 harg1 arg2 harg2 arg3 harg3 arg10 arg11 x0 x1 x2) (View.readAt (Elt Ideal) arg4.view (Rect.unit (s := S3x5632) ![0, 2560] S1x256.size inb_S3x5632_S1x256_0_2560).toLoadRect (harg4.unread x3)) (kernelRun0_A.sl.v857 (F := Ideal) c i arg1 harg1 arg2 harg2 arg3 harg3 arg10 arg11 x0 x1 x2) (View.readAt (Elt Ideal) arg4.view (Rect.unit (s := S3x5632) ![1, 2560] S1x256.size inb_S3x5632_S1x256_1_2560).toLoadRect (harg4.unread x3)) (kernelRun0_A.sl.v866 (F := Ideal) c i arg1 harg1 arg2 harg2 arg3 harg3 arg10 arg11 x0 x1 x2) (View.readAt (Elt Ideal) arg4.view (Rect.unit (s := S3x5632) ![2, 2560] S1x256.size inb_S3x5632_S1x256_2_2560).toLoadRect (harg4.unread x3))) (convA (View.readAt (Elt Ideal) arg5.view (Rect.unit (s := S1x5632) ![0, 5376] S1x256.size inb_S1x5632_S1x256_0_5376).toLoadRect (harg5.unread x4)) (kernelRun0_A.sl.v881 (F := Ideal) c i arg1 harg1 arg2 harg2 arg3 harg3 arg10 arg11 x0 x1 x2) (View.readAt (Elt Ideal) arg4.view (Rect.unit (s := S3x5632) ![0, 5376] S1x256.size inb_S3x5632_S1x256_0_5376).toLoadRect (harg4.unread x3)) (kernelRun0_A.sl.v891 (F := Ideal) c i arg1 harg1 arg2 harg2 arg3 harg3 arg10 arg11 x0 x1 x2) (View.readAt (Elt Ideal) arg4.view (Rect.unit (s := S3x5632) ![1, 5376] S1x256.size inb_S3x5632_S1x256_1_5376).toLoadRect (harg4.unread x3)) (kernelRun0_A.sl.v900 (F := Ideal) c i arg1 harg1 arg2 harg2 arg3 harg3 arg10 arg11 x0 x1 x2) (View.readAt (Elt Ideal) arg4.view (Rect.unit (s := S3x5632) ![2, 5376] S1x256.size inb_S3x5632_S1x256_2_5376).toLoadRect (harg4.unread x3))) = chunkA (kernelRun0_A.sl.v24 c i arg1 harg1 arg2 harg2 arg10 x0 x1) x2 x3 x4 2560 5376 (by omega) (by omega) := by
  simp only [v847_eq, v857_eq, v866_eq, v881_eq, v891_eq, v900_eq, rd]
  unfold chunkA colsA convU
  rfl

/-- The chunks of the gated channels written when the buffer is read. -/
theorem HS2_7_eq : kernelRun0_A.sl.HS2_7 (F := Ideal) c i arg1 harg1 arg2 harg2 arg3 harg3 arg4 harg4 arg5 harg5 arg10 arg11 x0 x1 x2 x3 x4 =
    [⟨Rect.unit (s := S512x2816) ![0, 1536] S512x256.size inb_S512x2816_S512x256_0_1536, chunkA (kernelRun0_A.sl.v24 c i arg1 harg1 arg2 harg2 arg10 x0 x1) x2 x3 x4 1536 4352 (by omega) (by omega)⟩,
     ⟨Rect.unit (s := S512x2816) ![0, 1280] S512x256.size inb_S512x2816_S512x256_0_1280, chunkA (kernelRun0_A.sl.v24 c i arg1 harg1 arg2 harg2 arg10 x0 x1) x2 x3 x4 1280 4096 (by omega) (by omega)⟩,
     ⟨Rect.unit (s := S512x2816) ![0, 1024] S512x256.size inb_S512x2816_S512x256_0_1024, chunkA (kernelRun0_A.sl.v24 c i arg1 harg1 arg2 harg2 arg10 x0 x1) x2 x3 x4 1024 3840 (by omega) (by omega)⟩,
     ⟨Rect.unit (s := S512x2816) ![0, 768] S512x256.size inb_S512x2816_S512x256_0_768, chunkA (kernelRun0_A.sl.v24 c i arg1 harg1 arg2 harg2 arg10 x0 x1) x2 x3 x4 768 3584 (by omega) (by omega)⟩,
     ⟨Rect.unit (s := S512x2816) ![0, 512] S512x256.size inb_S512x2816_S512x256_0_512, chunkA (kernelRun0_A.sl.v24 c i arg1 harg1 arg2 harg2 arg10 x0 x1) x2 x3 x4 512 3328 (by omega) (by omega)⟩,
     ⟨Rect.unit (s := S512x2816) ![0, 256] S512x256.size inb_S512x2816_S512x256_0_256, chunkA (kernelRun0_A.sl.v24 c i arg1 harg1 arg2 harg2 arg10 x0 x1) x2 x3 x4 256 3072 (by omega) (by omega)⟩,
     ⟨Rect.unit (s := S512x2816) ![0, 0] S512x256.size inb_S512x2816_S512x256_0_0, chunkA (kernelRun0_A.sl.v24 c i arg1 harg1 arg2 harg2 arg10 x0 x1) x2 x3 x4 0 2816 (by omega) (by omega)⟩] := by
  have e : kernelRun0_A.sl.HS2_7 (F := Ideal) c i arg1 harg1 arg2 harg2 arg3 harg3 arg4 harg4 arg5 harg5 arg10 arg11 x0 x1 x2 x3 x4 = [⟨Rect.unit (s := S512x2816) ![0, 1536] S512x256.size inb_S512x2816_S512x256_0_1536, actA (convA (View.readAt (Elt Ideal) arg5.view (Rect.unit (s := S1x5632) ![0, 1536] S1x256.size inb_S1x5632_S1x256_0_1536).toLoadRect (harg5.unread x4)) (kernelRun0_A.sl.v519 (F := Ideal) c i arg1 harg1 arg2 harg2 arg3 harg3 arg10 arg11 x0 x1 x2) (View.readAt (Elt Ideal) arg4.view (Rect.unit (s := S3x5632) ![0, 1536] S1x256.size inb_S3x5632_S1x256_0_1536).toLoadRect (harg4.unread x3)) (kernelRun0_A.sl.v529 (F := Ideal) c i arg1 harg1 arg2 harg2 arg3 harg3 arg10 arg11 x0 x1 x2) (View.readAt (Elt Ideal) arg4.view (Rect.unit (s := S3x5632) ![1, 1536] S1x256.size inb_S3x5632_S1x256_1_1536).toLoadRect (harg4.unread x3)) (kernelRun0_A.sl.v538 (F := Ideal) c i arg1 harg1 arg2 harg2 arg3 harg3 arg10 arg11 x0 x1 x2) (View.readAt (Elt Ideal) arg4.view (Rect.unit (s := S3x5632) ![2, 1536] S1x256.size inb_S3x5632_S1x256_2_1536).toLoadRect (harg4.unread x3))) (convA (View.readAt (Elt Ideal) arg5.view (Rect.unit (s := S1x5632) ![0, 4352] S1x256.size inb_S1x5632_S1x256_0_4352).toLoadRect (harg5.unread x4)) (kernelRun0_A.sl.v553 (F := Ideal) c i arg1 harg1 arg2 harg2 arg3 harg3 arg10 arg11 x0 x1 x2) (View.readAt (Elt Ideal) arg4.view (Rect.unit (s := S3x5632) ![0, 4352] S1x256.size inb_S3x5632_S1x256_0_4352).toLoadRect (harg4.unread x3)) (kernelRun0_A.sl.v563 (F := Ideal) c i arg1 harg1 arg2 harg2 arg3 harg3 arg10 arg11 x0 x1 x2) (View.readAt (Elt Ideal) arg4.view (Rect.unit (s := S3x5632) ![1, 4352] S1x256.size inb_S3x5632_S1x256_1_4352).toLoadRect (harg4.unread x3)) (kernelRun0_A.sl.v572 (F := Ideal) c i arg1 harg1 arg2 harg2 arg3 harg3 arg10 arg11 x0 x1 x2) (View.readAt (Elt Ideal) arg4.view (Rect.unit (s := S3x5632) ![2, 4352] S1x256.size inb_S3x5632_S1x256_2_4352).toLoadRect (harg4.unread x3)))⟩,
     ⟨Rect.unit (s := S512x2816) ![0, 1280] S512x256.size inb_S512x2816_S512x256_0_1280, actA (convA (View.readAt (Elt Ideal) arg5.view (Rect.unit (s := S1x5632) ![0, 1280] S1x256.size inb_S1x5632_S1x256_0_1280).toLoadRect (harg5.unread x4)) (kernelRun0_A.sl.v438 (F := Ideal) c i arg1 harg1 arg2 harg2 arg3 harg3 arg10 arg11 x0 x1 x2) (View.readAt (Elt Ideal) arg4.view (Rect.unit (s := S3x5632) ![0, 1280] S1x256.size inb_S3x5632_S1x256_0_1280).toLoadRect (harg4.unread x3)) (kernelRun0_A.sl.v448 (F := Ideal) c i arg1 harg1 arg2 harg2 arg3 harg3 arg10 arg11 x0 x1 x2) (View.readAt (Elt Ideal) arg4.view (Rect.unit (s := S3x5632) ![1, 1280] S1x256.size inb_S3x5632_S1x256_1_1280).toLoadRect (harg4.unread x3)) (kernelRun0_A.sl.v457 (F := Ideal) c i arg1 harg1 arg2 harg2 arg3 harg3 arg10 arg11 x0 x1 x2) (View.readAt (Elt Ideal) arg4.view (Rect.unit (s := S3x5632) ![2, 1280] S1x256.size inb_S3x5632_S1x256_2_1280).toLoadRect (harg4.unread x3))) (convA (View.readAt (Elt Ideal) arg5.view (Rect.unit (s := S1x5632) ![0, 4096] S1x256.size inb_S1x5632_S1x256_0_4096).toLoadRect (harg5.unread x4)) (kernelRun0_A.sl.v472 (F := Ideal) c i arg1 harg1 arg2 harg2 arg3 harg3 arg10 arg11 x0 x1 x2) (View.readAt (Elt Ideal) arg4.view (Rect.unit (s := S3x5632) ![0, 4096] S1x256.size inb_S3x5632_S1x256_0_4096).toLoadRect (harg4.unread x3)) (kernelRun0_A.sl.v482 (F := Ideal) c i arg1 harg1 arg2 harg2 arg3 harg3 arg10 arg11 x0 x1 x2) (View.readAt (Elt Ideal) arg4.view (Rect.unit (s := S3x5632) ![1, 4096] S1x256.size inb_S3x5632_S1x256_1_4096).toLoadRect (harg4.unread x3)) (kernelRun0_A.sl.v491 (F := Ideal) c i arg1 harg1 arg2 harg2 arg3 harg3 arg10 arg11 x0 x1 x2) (View.readAt (Elt Ideal) arg4.view (Rect.unit (s := S3x5632) ![2, 4096] S1x256.size inb_S3x5632_S1x256_2_4096).toLoadRect (harg4.unread x3)))⟩,
     ⟨Rect.unit (s := S512x2816) ![0, 1024] S512x256.size inb_S512x2816_S512x256_0_1024, actA (convA (View.readAt (Elt Ideal) arg5.view (Rect.unit (s := S1x5632) ![0, 1024] S1x256.size inb_S1x5632_S1x256_0_1024).toLoadRect (harg5.unread x4)) (kernelRun0_A.sl.v357 (F := Ideal) c i arg1 harg1 arg2 harg2 arg3 harg3 arg10 arg11 x0 x1 x2) (View.readAt (Elt Ideal) arg4.view (Rect.unit (s := S3x5632) ![0, 1024] S1x256.size inb_S3x5632_S1x256_0_1024).toLoadRect (harg4.unread x3)) (kernelRun0_A.sl.v367 (F := Ideal) c i arg1 harg1 arg2 harg2 arg3 harg3 arg10 arg11 x0 x1 x2) (View.readAt (Elt Ideal) arg4.view (Rect.unit (s := S3x5632) ![1, 1024] S1x256.size inb_S3x5632_S1x256_1_1024).toLoadRect (harg4.unread x3)) (kernelRun0_A.sl.v376 (F := Ideal) c i arg1 harg1 arg2 harg2 arg3 harg3 arg10 arg11 x0 x1 x2) (View.readAt (Elt Ideal) arg4.view (Rect.unit (s := S3x5632) ![2, 1024] S1x256.size inb_S3x5632_S1x256_2_1024).toLoadRect (harg4.unread x3))) (convA (View.readAt (Elt Ideal) arg5.view (Rect.unit (s := S1x5632) ![0, 3840] S1x256.size inb_S1x5632_S1x256_0_3840).toLoadRect (harg5.unread x4)) (kernelRun0_A.sl.v391 (F := Ideal) c i arg1 harg1 arg2 harg2 arg3 harg3 arg10 arg11 x0 x1 x2) (View.readAt (Elt Ideal) arg4.view (Rect.unit (s := S3x5632) ![0, 3840] S1x256.size inb_S3x5632_S1x256_0_3840).toLoadRect (harg4.unread x3)) (kernelRun0_A.sl.v401 (F := Ideal) c i arg1 harg1 arg2 harg2 arg3 harg3 arg10 arg11 x0 x1 x2) (View.readAt (Elt Ideal) arg4.view (Rect.unit (s := S3x5632) ![1, 3840] S1x256.size inb_S3x5632_S1x256_1_3840).toLoadRect (harg4.unread x3)) (kernelRun0_A.sl.v410 (F := Ideal) c i arg1 harg1 arg2 harg2 arg3 harg3 arg10 arg11 x0 x1 x2) (View.readAt (Elt Ideal) arg4.view (Rect.unit (s := S3x5632) ![2, 3840] S1x256.size inb_S3x5632_S1x256_2_3840).toLoadRect (harg4.unread x3)))⟩,
     ⟨Rect.unit (s := S512x2816) ![0, 768] S512x256.size inb_S512x2816_S512x256_0_768, actA (convA (View.readAt (Elt Ideal) arg5.view (Rect.unit (s := S1x5632) ![0, 768] S1x256.size inb_S1x5632_S1x256_0_768).toLoadRect (harg5.unread x4)) (kernelRun0_A.sl.v276 (F := Ideal) c i arg1 harg1 arg2 harg2 arg3 harg3 arg10 arg11 x0 x1 x2) (View.readAt (Elt Ideal) arg4.view (Rect.unit (s := S3x5632) ![0, 768] S1x256.size inb_S3x5632_S1x256_0_768).toLoadRect (harg4.unread x3)) (kernelRun0_A.sl.v286 (F := Ideal) c i arg1 harg1 arg2 harg2 arg3 harg3 arg10 arg11 x0 x1 x2) (View.readAt (Elt Ideal) arg4.view (Rect.unit (s := S3x5632) ![1, 768] S1x256.size inb_S3x5632_S1x256_1_768).toLoadRect (harg4.unread x3)) (kernelRun0_A.sl.v295 (F := Ideal) c i arg1 harg1 arg2 harg2 arg3 harg3 arg10 arg11 x0 x1 x2) (View.readAt (Elt Ideal) arg4.view (Rect.unit (s := S3x5632) ![2, 768] S1x256.size inb_S3x5632_S1x256_2_768).toLoadRect (harg4.unread x3))) (convA (View.readAt (Elt Ideal) arg5.view (Rect.unit (s := S1x5632) ![0, 3584] S1x256.size inb_S1x5632_S1x256_0_3584).toLoadRect (harg5.unread x4)) (kernelRun0_A.sl.v310 (F := Ideal) c i arg1 harg1 arg2 harg2 arg3 harg3 arg10 arg11 x0 x1 x2) (View.readAt (Elt Ideal) arg4.view (Rect.unit (s := S3x5632) ![0, 3584] S1x256.size inb_S3x5632_S1x256_0_3584).toLoadRect (harg4.unread x3)) (kernelRun0_A.sl.v320 (F := Ideal) c i arg1 harg1 arg2 harg2 arg3 harg3 arg10 arg11 x0 x1 x2) (View.readAt (Elt Ideal) arg4.view (Rect.unit (s := S3x5632) ![1, 3584] S1x256.size inb_S3x5632_S1x256_1_3584).toLoadRect (harg4.unread x3)) (kernelRun0_A.sl.v329 (F := Ideal) c i arg1 harg1 arg2 harg2 arg3 harg3 arg10 arg11 x0 x1 x2) (View.readAt (Elt Ideal) arg4.view (Rect.unit (s := S3x5632) ![2, 3584] S1x256.size inb_S3x5632_S1x256_2_3584).toLoadRect (harg4.unread x3)))⟩,
     ⟨Rect.unit (s := S512x2816) ![0, 512] S512x256.size inb_S512x2816_S512x256_0_512, actA (convA (View.readAt (Elt Ideal) arg5.view (Rect.unit (s := S1x5632) ![0, 512] S1x256.size inb_S1x5632_S1x256_0_512).toLoadRect (harg5.unread x4)) (kernelRun0_A.sl.v195 (F := Ideal) c i arg1 harg1 arg2 harg2 arg3 harg3 arg10 arg11 x0 x1 x2) (View.readAt (Elt Ideal) arg4.view (Rect.unit (s := S3x5632) ![0, 512] S1x256.size inb_S3x5632_S1x256_0_512).toLoadRect (harg4.unread x3)) (kernelRun0_A.sl.v205 (F := Ideal) c i arg1 harg1 arg2 harg2 arg3 harg3 arg10 arg11 x0 x1 x2) (View.readAt (Elt Ideal) arg4.view (Rect.unit (s := S3x5632) ![1, 512] S1x256.size inb_S3x5632_S1x256_1_512).toLoadRect (harg4.unread x3)) (kernelRun0_A.sl.v214 (F := Ideal) c i arg1 harg1 arg2 harg2 arg3 harg3 arg10 arg11 x0 x1 x2) (View.readAt (Elt Ideal) arg4.view (Rect.unit (s := S3x5632) ![2, 512] S1x256.size inb_S3x5632_S1x256_2_512).toLoadRect (harg4.unread x3))) (convA (View.readAt (Elt Ideal) arg5.view (Rect.unit (s := S1x5632) ![0, 3328] S1x256.size inb_S1x5632_S1x256_0_3328).toLoadRect (harg5.unread x4)) (kernelRun0_A.sl.v229 (F := Ideal) c i arg1 harg1 arg2 harg2 arg3 harg3 arg10 arg11 x0 x1 x2) (View.readAt (Elt Ideal) arg4.view (Rect.unit (s := S3x5632) ![0, 3328] S1x256.size inb_S3x5632_S1x256_0_3328).toLoadRect (harg4.unread x3)) (kernelRun0_A.sl.v239 (F := Ideal) c i arg1 harg1 arg2 harg2 arg3 harg3 arg10 arg11 x0 x1 x2) (View.readAt (Elt Ideal) arg4.view (Rect.unit (s := S3x5632) ![1, 3328] S1x256.size inb_S3x5632_S1x256_1_3328).toLoadRect (harg4.unread x3)) (kernelRun0_A.sl.v248 (F := Ideal) c i arg1 harg1 arg2 harg2 arg3 harg3 arg10 arg11 x0 x1 x2) (View.readAt (Elt Ideal) arg4.view (Rect.unit (s := S3x5632) ![2, 3328] S1x256.size inb_S3x5632_S1x256_2_3328).toLoadRect (harg4.unread x3)))⟩,
     ⟨Rect.unit (s := S512x2816) ![0, 256] S512x256.size inb_S512x2816_S512x256_0_256, actA (convA (View.readAt (Elt Ideal) arg5.view (Rect.unit (s := S1x5632) ![0, 256] S1x256.size inb_S1x5632_S1x256_0_256).toLoadRect (harg5.unread x4)) (kernelRun0_A.sl.v114 (F := Ideal) c i arg1 harg1 arg2 harg2 arg3 harg3 arg10 arg11 x0 x1 x2) (View.readAt (Elt Ideal) arg4.view (Rect.unit (s := S3x5632) ![0, 256] S1x256.size inb_S3x5632_S1x256_0_256).toLoadRect (harg4.unread x3)) (kernelRun0_A.sl.v124 (F := Ideal) c i arg1 harg1 arg2 harg2 arg3 harg3 arg10 arg11 x0 x1 x2) (View.readAt (Elt Ideal) arg4.view (Rect.unit (s := S3x5632) ![1, 256] S1x256.size inb_S3x5632_S1x256_1_256).toLoadRect (harg4.unread x3)) (kernelRun0_A.sl.v133 (F := Ideal) c i arg1 harg1 arg2 harg2 arg3 harg3 arg10 arg11 x0 x1 x2) (View.readAt (Elt Ideal) arg4.view (Rect.unit (s := S3x5632) ![2, 256] S1x256.size inb_S3x5632_S1x256_2_256).toLoadRect (harg4.unread x3))) (convA (View.readAt (Elt Ideal) arg5.view (Rect.unit (s := S1x5632) ![0, 3072] S1x256.size inb_S1x5632_S1x256_0_3072).toLoadRect (harg5.unread x4)) (kernelRun0_A.sl.v148 (F := Ideal) c i arg1 harg1 arg2 harg2 arg3 harg3 arg10 arg11 x0 x1 x2) (View.readAt (Elt Ideal) arg4.view (Rect.unit (s := S3x5632) ![0, 3072] S1x256.size inb_S3x5632_S1x256_0_3072).toLoadRect (harg4.unread x3)) (kernelRun0_A.sl.v158 (F := Ideal) c i arg1 harg1 arg2 harg2 arg3 harg3 arg10 arg11 x0 x1 x2) (View.readAt (Elt Ideal) arg4.view (Rect.unit (s := S3x5632) ![1, 3072] S1x256.size inb_S3x5632_S1x256_1_3072).toLoadRect (harg4.unread x3)) (kernelRun0_A.sl.v167 (F := Ideal) c i arg1 harg1 arg2 harg2 arg3 harg3 arg10 arg11 x0 x1 x2) (View.readAt (Elt Ideal) arg4.view (Rect.unit (s := S3x5632) ![2, 3072] S1x256.size inb_S3x5632_S1x256_2_3072).toLoadRect (harg4.unread x3)))⟩,
     ⟨Rect.unit (s := S512x2816) ![0, 0] S512x256.size inb_S512x2816_S512x256_0_0, actA (convA (View.readAt (Elt Ideal) arg5.view (Rect.unit (s := S1x5632) ![0, 0] S1x256.size inb_S1x5632_S1x256_0_0).toLoadRect (harg5.unread x4)) (kernelRun0_A.sl.v33 (F := Ideal) c i arg1 harg1 arg2 harg2 arg3 harg3 arg10 arg11 x0 x1 x2) (View.readAt (Elt Ideal) arg4.view (Rect.unit (s := S3x5632) ![0, 0] S1x256.size inb_S3x5632_S1x256_0_0).toLoadRect (harg4.unread x3)) (kernelRun0_A.sl.v43 (F := Ideal) c i arg1 harg1 arg2 harg2 arg3 harg3 arg10 arg11 x0 x1 x2) (View.readAt (Elt Ideal) arg4.view (Rect.unit (s := S3x5632) ![1, 0] S1x256.size inb_S3x5632_S1x256_1_0).toLoadRect (harg4.unread x3)) (kernelRun0_A.sl.v52 (F := Ideal) c i arg1 harg1 arg2 harg2 arg3 harg3 arg10 arg11 x0 x1 x2) (View.readAt (Elt Ideal) arg4.view (Rect.unit (s := S3x5632) ![2, 0] S1x256.size inb_S3x5632_S1x256_2_0).toLoadRect (harg4.unread x3))) (convA (View.readAt (Elt Ideal) arg5.view (Rect.unit (s := S1x5632) ![0, 2816] S1x256.size inb_S1x5632_S1x256_0_2816).toLoadRect (harg5.unread x4)) (kernelRun0_A.sl.v67 (F := Ideal) c i arg1 harg1 arg2 harg2 arg3 harg3 arg10 arg11 x0 x1 x2) (View.readAt (Elt Ideal) arg4.view (Rect.unit (s := S3x5632) ![0, 2816] S1x256.size inb_S3x5632_S1x256_0_2816).toLoadRect (harg4.unread x3)) (kernelRun0_A.sl.v77 (F := Ideal) c i arg1 harg1 arg2 harg2 arg3 harg3 arg10 arg11 x0 x1 x2) (View.readAt (Elt Ideal) arg4.view (Rect.unit (s := S3x5632) ![1, 2816] S1x256.size inb_S3x5632_S1x256_1_2816).toLoadRect (harg4.unread x3)) (kernelRun0_A.sl.v86 (F := Ideal) c i arg1 harg1 arg2 harg2 arg3 harg3 arg10 arg11 x0 x1 x2) (View.readAt (Elt Ideal) arg4.view (Rect.unit (s := S3x5632) ![2, 2816] S1x256.size inb_S3x5632_S1x256_2_2816).toLoadRect (harg4.unread x3)))⟩] := rfl
  rw [e, chunk6_eq, chunk5_eq, chunk4_eq, chunk3_eq, chunk2_eq, chunk1_eq, chunk0_eq]

/-- The chunks of the gated channels written when the buffer is read. -/
theorem HS2_11_eq : kernelRun0_A.sl.HS2_11 (F := Ideal) c i arg1 harg1 arg2 harg2 arg3 harg3 arg4 harg4 arg5 harg5 arg10 arg11 x0 x1 x2 x3 x4 =
    [⟨Rect.unit (s := S512x2816) ![0, 2560] S512x256.size inb_S512x2816_S512x256_0_2560, chunkA (kernelRun0_A.sl.v24 c i arg1 harg1 arg2 harg2 arg10 x0 x1) x2 x3 x4 2560 5376 (by omega) (by omega)⟩,
     ⟨Rect.unit (s := S512x2816) ![0, 2304] S512x256.size inb_S512x2816_S512x256_0_2304, chunkA (kernelRun0_A.sl.v24 c i arg1 harg1 arg2 harg2 arg10 x0 x1) x2 x3 x4 2304 5120 (by omega) (by omega)⟩,
     ⟨Rect.unit (s := S512x2816) ![0, 2048] S512x256.size inb_S512x2816_S512x256_0_2048, chunkA (kernelRun0_A.sl.v24 c i arg1 harg1 arg2 harg2 arg10 x0 x1) x2 x3 x4 2048 4864 (by omega) (by omega)⟩,
     ⟨Rect.unit (s := S512x2816) ![0, 1792] S512x256.size inb_S512x2816_S512x256_0_1792, chunkA (kernelRun0_A.sl.v24 c i arg1 harg1 arg2 harg2 arg10 x0 x1) x2 x3 x4 1792 4608 (by omega) (by omega)⟩,
     ⟨Rect.unit (s := S512x2816) ![0, 1536] S512x256.size inb_S512x2816_S512x256_0_1536, chunkA (kernelRun0_A.sl.v24 c i arg1 harg1 arg2 harg2 arg10 x0 x1) x2 x3 x4 1536 4352 (by omega) (by omega)⟩,
     ⟨Rect.unit (s := S512x2816) ![0, 1280] S512x256.size inb_S512x2816_S512x256_0_1280, chunkA (kernelRun0_A.sl.v24 c i arg1 harg1 arg2 harg2 arg10 x0 x1) x2 x3 x4 1280 4096 (by omega) (by omega)⟩,
     ⟨Rect.unit (s := S512x2816) ![0, 1024] S512x256.size inb_S512x2816_S512x256_0_1024, chunkA (kernelRun0_A.sl.v24 c i arg1 harg1 arg2 harg2 arg10 x0 x1) x2 x3 x4 1024 3840 (by omega) (by omega)⟩,
     ⟨Rect.unit (s := S512x2816) ![0, 768] S512x256.size inb_S512x2816_S512x256_0_768, chunkA (kernelRun0_A.sl.v24 c i arg1 harg1 arg2 harg2 arg10 x0 x1) x2 x3 x4 768 3584 (by omega) (by omega)⟩,
     ⟨Rect.unit (s := S512x2816) ![0, 512] S512x256.size inb_S512x2816_S512x256_0_512, chunkA (kernelRun0_A.sl.v24 c i arg1 harg1 arg2 harg2 arg10 x0 x1) x2 x3 x4 512 3328 (by omega) (by omega)⟩,
     ⟨Rect.unit (s := S512x2816) ![0, 256] S512x256.size inb_S512x2816_S512x256_0_256, chunkA (kernelRun0_A.sl.v24 c i arg1 harg1 arg2 harg2 arg10 x0 x1) x2 x3 x4 256 3072 (by omega) (by omega)⟩,
     ⟨Rect.unit (s := S512x2816) ![0, 0] S512x256.size inb_S512x2816_S512x256_0_0, chunkA (kernelRun0_A.sl.v24 c i arg1 harg1 arg2 harg2 arg10 x0 x1) x2 x3 x4 0 2816 (by omega) (by omega)⟩] := by
  have e : kernelRun0_A.sl.HS2_11 (F := Ideal) c i arg1 harg1 arg2 harg2 arg3 harg3 arg4 harg4 arg5 harg5 arg10 arg11 x0 x1 x2 x3 x4 = [⟨Rect.unit (s := S512x2816) ![0, 2560] S512x256.size inb_S512x2816_S512x256_0_2560, actA (convA (View.readAt (Elt Ideal) arg5.view (Rect.unit (s := S1x5632) ![0, 2560] S1x256.size inb_S1x5632_S1x256_0_2560).toLoadRect (harg5.unread x4)) (kernelRun0_A.sl.v847 (F := Ideal) c i arg1 harg1 arg2 harg2 arg3 harg3 arg10 arg11 x0 x1 x2) (View.readAt (Elt Ideal) arg4.view (Rect.unit (s := S3x5632) ![0, 2560] S1x256.size inb_S3x5632_S1x256_0_2560).toLoadRect (harg4.unread x3)) (kernelRun0_A.sl.v857 (F := Ideal) c i arg1 harg1 arg2 harg2 arg3 harg3 arg10 arg11 x0 x1 x2) (View.readAt (Elt Ideal) arg4.view (Rect.unit (s := S3x5632) ![1, 2560] S1x256.size inb_S3x5632_S1x256_1_2560).toLoadRect (harg4.unread x3)) (kernelRun0_A.sl.v866 (F := Ideal) c i arg1 harg1 arg2 harg2 arg3 harg3 arg10 arg11 x0 x1 x2) (View.readAt (Elt Ideal) arg4.view (Rect.unit (s := S3x5632) ![2, 2560] S1x256.size inb_S3x5632_S1x256_2_2560).toLoadRect (harg4.unread x3))) (convA (View.readAt (Elt Ideal) arg5.view (Rect.unit (s := S1x5632) ![0, 5376] S1x256.size inb_S1x5632_S1x256_0_5376).toLoadRect (harg5.unread x4)) (kernelRun0_A.sl.v881 (F := Ideal) c i arg1 harg1 arg2 harg2 arg3 harg3 arg10 arg11 x0 x1 x2) (View.readAt (Elt Ideal) arg4.view (Rect.unit (s := S3x5632) ![0, 5376] S1x256.size inb_S3x5632_S1x256_0_5376).toLoadRect (harg4.unread x3)) (kernelRun0_A.sl.v891 (F := Ideal) c i arg1 harg1 arg2 harg2 arg3 harg3 arg10 arg11 x0 x1 x2) (View.readAt (Elt Ideal) arg4.view (Rect.unit (s := S3x5632) ![1, 5376] S1x256.size inb_S3x5632_S1x256_1_5376).toLoadRect (harg4.unread x3)) (kernelRun0_A.sl.v900 (F := Ideal) c i arg1 harg1 arg2 harg2 arg3 harg3 arg10 arg11 x0 x1 x2) (View.readAt (Elt Ideal) arg4.view (Rect.unit (s := S3x5632) ![2, 5376] S1x256.size inb_S3x5632_S1x256_2_5376).toLoadRect (harg4.unread x3)))⟩,
     ⟨Rect.unit (s := S512x2816) ![0, 2304] S512x256.size inb_S512x2816_S512x256_0_2304, actA (convA (View.readAt (Elt Ideal) arg5.view (Rect.unit (s := S1x5632) ![0, 2304] S1x256.size inb_S1x5632_S1x256_0_2304).toLoadRect (harg5.unread x4)) (kernelRun0_A.sl.v766 (F := Ideal) c i arg1 harg1 arg2 harg2 arg3 harg3 arg10 arg11 x0 x1 x2) (View.readAt (Elt Ideal) arg4.view (Rect.unit (s := S3x5632) ![0, 2304] S1x256.size inb_S3x5632_S1x256_0_2304).toLoadRect (harg4.unread x3)) (kernelRun0_A.sl.v776 (F := Ideal) c i arg1 harg1 arg2 harg2 arg3 harg3 arg10 arg11 x0 x1 x2) (View.readAt (Elt Ideal) arg4.view (Rect.unit (s := S3x5632) ![1, 2304] S1x256.size inb_S3x5632_S1x256_1_2304).toLoadRect (harg4.unread x3)) (kernelRun0_A.sl.v785 (F := Ideal) c i arg1 harg1 arg2 harg2 arg3 harg3 arg10 arg11 x0 x1 x2) (View.readAt (Elt Ideal) arg4.view (Rect.unit (s := S3x5632) ![2, 2304] S1x256.size inb_S3x5632_S1x256_2_2304).toLoadRect (harg4.unread x3))) (convA (View.readAt (Elt Ideal) arg5.view (Rect.unit (s := S1x5632) ![0, 5120] S1x256.size inb_S1x5632_S1x256_0_5120).toLoadRect (harg5.unread x4)) (kernelRun0_A.sl.v800 (F := Ideal) c i arg1 harg1 arg2 harg2 arg3 harg3 arg10 arg11 x0 x1 x2) (View.readAt (Elt Ideal) arg4.view (Rect.unit (s := S3x5632) ![0, 5120] S1x256.size inb_S3x5632_S1x256_0_5120).toLoadRect (harg4.unread x3)) (kernelRun0_A.sl.v810 (F := Ideal) c i arg1 harg1 arg2 harg2 arg3 harg3 arg10 arg11 x0 x1 x2) (View.readAt (Elt Ideal) arg4.view (Rect.unit (s := S3x5632) ![1, 5120] S1x256.size inb_S3x5632_S1x256_1_5120).toLoadRect (harg4.unread x3)) (kernelRun0_A.sl.v819 (F := Ideal) c i arg1 harg1 arg2 harg2 arg3 harg3 arg10 arg11 x0 x1 x2) (View.readAt (Elt Ideal) arg4.view (Rect.unit (s := S3x5632) ![2, 5120] S1x256.size inb_S3x5632_S1x256_2_5120).toLoadRect (harg4.unread x3)))⟩,
     ⟨Rect.unit (s := S512x2816) ![0, 2048] S512x256.size inb_S512x2816_S512x256_0_2048, actA (convA (View.readAt (Elt Ideal) arg5.view (Rect.unit (s := S1x5632) ![0, 2048] S1x256.size inb_S1x5632_S1x256_0_2048).toLoadRect (harg5.unread x4)) (kernelRun0_A.sl.v685 (F := Ideal) c i arg1 harg1 arg2 harg2 arg3 harg3 arg10 arg11 x0 x1 x2) (View.readAt (Elt Ideal) arg4.view (Rect.unit (s := S3x5632) ![0, 2048] S1x256.size inb_S3x5632_S1x256_0_2048).toLoadRect (harg4.unread x3)) (kernelRun0_A.sl.v695 (F := Ideal) c i arg1 harg1 arg2 harg2 arg3 harg3 arg10 arg11 x0 x1 x2) (View.readAt (Elt Ideal) arg4.view (Rect.unit (s := S3x5632) ![1, 2048] S1x256.size inb_S3x5632_S1x256_1_2048).toLoadRect (harg4.unread x3)) (kernelRun0_A.sl.v704 (F := Ideal) c i arg1 harg1 arg2 harg2 arg3 harg3 arg10 arg11 x0 x1 x2) (View.readAt (Elt Ideal) arg4.view (Rect.unit (s := S3x5632) ![2, 2048] S1x256.size inb_S3x5632_S1x256_2_2048).toLoadRect (harg4.unread x3))) (convA (View.readAt (Elt Ideal) arg5.view (Rect.unit (s := S1x5632) ![0, 4864] S1x256.size inb_S1x5632_S1x256_0_4864).toLoadRect (harg5.unread x4)) (kernelRun0_A.sl.v719 (F := Ideal) c i arg1 harg1 arg2 harg2 arg3 harg3 arg10 arg11 x0 x1 x2) (View.readAt (Elt Ideal) arg4.view (Rect.unit (s := S3x5632) ![0, 4864] S1x256.size inb_S3x5632_S1x256_0_4864).toLoadRect (harg4.unread x3)) (kernelRun0_A.sl.v729 (F := Ideal) c i arg1 harg1 arg2 harg2 arg3 harg3 arg10 arg11 x0 x1 x2) (View.readAt (Elt Ideal) arg4.view (Rect.unit (s := S3x5632) ![1, 4864] S1x256.size inb_S3x5632_S1x256_1_4864).toLoadRect (harg4.unread x3)) (kernelRun0_A.sl.v738 (F := Ideal) c i arg1 harg1 arg2 harg2 arg3 harg3 arg10 arg11 x0 x1 x2) (View.readAt (Elt Ideal) arg4.view (Rect.unit (s := S3x5632) ![2, 4864] S1x256.size inb_S3x5632_S1x256_2_4864).toLoadRect (harg4.unread x3)))⟩,
     ⟨Rect.unit (s := S512x2816) ![0, 1792] S512x256.size inb_S512x2816_S512x256_0_1792, actA (convA (View.readAt (Elt Ideal) arg5.view (Rect.unit (s := S1x5632) ![0, 1792] S1x256.size inb_S1x5632_S1x256_0_1792).toLoadRect (harg5.unread x4)) (kernelRun0_A.sl.v604 (F := Ideal) c i arg1 harg1 arg2 harg2 arg3 harg3 arg10 arg11 x0 x1 x2) (View.readAt (Elt Ideal) arg4.view (Rect.unit (s := S3x5632) ![0, 1792] S1x256.size inb_S3x5632_S1x256_0_1792).toLoadRect (harg4.unread x3)) (kernelRun0_A.sl.v614 (F := Ideal) c i arg1 harg1 arg2 harg2 arg3 harg3 arg10 arg11 x0 x1 x2) (View.readAt (Elt Ideal) arg4.view (Rect.unit (s := S3x5632) ![1, 1792] S1x256.size inb_S3x5632_S1x256_1_1792).toLoadRect (harg4.unread x3)) (kernelRun0_A.sl.v623 (F := Ideal) c i arg1 harg1 arg2 harg2 arg3 harg3 arg10 arg11 x0 x1 x2) (View.readAt (Elt Ideal) arg4.view (Rect.unit (s := S3x5632) ![2, 1792] S1x256.size inb_S3x5632_S1x256_2_1792).toLoadRect (harg4.unread x3))) (convA (View.readAt (Elt Ideal) arg5.view (Rect.unit (s := S1x5632) ![0, 4608] S1x256.size inb_S1x5632_S1x256_0_4608).toLoadRect (harg5.unread x4)) (kernelRun0_A.sl.v638 (F := Ideal) c i arg1 harg1 arg2 harg2 arg3 harg3 arg10 arg11 x0 x1 x2) (View.readAt (Elt Ideal) arg4.view (Rect.unit (s := S3x5632) ![0, 4608] S1x256.size inb_S3x5632_S1x256_0_4608).toLoadRect (harg4.unread x3)) (kernelRun0_A.sl.v648 (F := Ideal) c i arg1 harg1 arg2 harg2 arg3 harg3 arg10 arg11 x0 x1 x2) (View.readAt (Elt Ideal) arg4.view (Rect.unit (s := S3x5632) ![1, 4608] S1x256.size inb_S3x5632_S1x256_1_4608).toLoadRect (harg4.unread x3)) (kernelRun0_A.sl.v657 (F := Ideal) c i arg1 harg1 arg2 harg2 arg3 harg3 arg10 arg11 x0 x1 x2) (View.readAt (Elt Ideal) arg4.view (Rect.unit (s := S3x5632) ![2, 4608] S1x256.size inb_S3x5632_S1x256_2_4608).toLoadRect (harg4.unread x3)))⟩,
     ⟨Rect.unit (s := S512x2816) ![0, 1536] S512x256.size inb_S512x2816_S512x256_0_1536, actA (convA (View.readAt (Elt Ideal) arg5.view (Rect.unit (s := S1x5632) ![0, 1536] S1x256.size inb_S1x5632_S1x256_0_1536).toLoadRect (harg5.unread x4)) (kernelRun0_A.sl.v519 (F := Ideal) c i arg1 harg1 arg2 harg2 arg3 harg3 arg10 arg11 x0 x1 x2) (View.readAt (Elt Ideal) arg4.view (Rect.unit (s := S3x5632) ![0, 1536] S1x256.size inb_S3x5632_S1x256_0_1536).toLoadRect (harg4.unread x3)) (kernelRun0_A.sl.v529 (F := Ideal) c i arg1 harg1 arg2 harg2 arg3 harg3 arg10 arg11 x0 x1 x2) (View.readAt (Elt Ideal) arg4.view (Rect.unit (s := S3x5632) ![1, 1536] S1x256.size inb_S3x5632_S1x256_1_1536).toLoadRect (harg4.unread x3)) (kernelRun0_A.sl.v538 (F := Ideal) c i arg1 harg1 arg2 harg2 arg3 harg3 arg10 arg11 x0 x1 x2) (View.readAt (Elt Ideal) arg4.view (Rect.unit (s := S3x5632) ![2, 1536] S1x256.size inb_S3x5632_S1x256_2_1536).toLoadRect (harg4.unread x3))) (convA (View.readAt (Elt Ideal) arg5.view (Rect.unit (s := S1x5632) ![0, 4352] S1x256.size inb_S1x5632_S1x256_0_4352).toLoadRect (harg5.unread x4)) (kernelRun0_A.sl.v553 (F := Ideal) c i arg1 harg1 arg2 harg2 arg3 harg3 arg10 arg11 x0 x1 x2) (View.readAt (Elt Ideal) arg4.view (Rect.unit (s := S3x5632) ![0, 4352] S1x256.size inb_S3x5632_S1x256_0_4352).toLoadRect (harg4.unread x3)) (kernelRun0_A.sl.v563 (F := Ideal) c i arg1 harg1 arg2 harg2 arg3 harg3 arg10 arg11 x0 x1 x2) (View.readAt (Elt Ideal) arg4.view (Rect.unit (s := S3x5632) ![1, 4352] S1x256.size inb_S3x5632_S1x256_1_4352).toLoadRect (harg4.unread x3)) (kernelRun0_A.sl.v572 (F := Ideal) c i arg1 harg1 arg2 harg2 arg3 harg3 arg10 arg11 x0 x1 x2) (View.readAt (Elt Ideal) arg4.view (Rect.unit (s := S3x5632) ![2, 4352] S1x256.size inb_S3x5632_S1x256_2_4352).toLoadRect (harg4.unread x3)))⟩,
     ⟨Rect.unit (s := S512x2816) ![0, 1280] S512x256.size inb_S512x2816_S512x256_0_1280, actA (convA (View.readAt (Elt Ideal) arg5.view (Rect.unit (s := S1x5632) ![0, 1280] S1x256.size inb_S1x5632_S1x256_0_1280).toLoadRect (harg5.unread x4)) (kernelRun0_A.sl.v438 (F := Ideal) c i arg1 harg1 arg2 harg2 arg3 harg3 arg10 arg11 x0 x1 x2) (View.readAt (Elt Ideal) arg4.view (Rect.unit (s := S3x5632) ![0, 1280] S1x256.size inb_S3x5632_S1x256_0_1280).toLoadRect (harg4.unread x3)) (kernelRun0_A.sl.v448 (F := Ideal) c i arg1 harg1 arg2 harg2 arg3 harg3 arg10 arg11 x0 x1 x2) (View.readAt (Elt Ideal) arg4.view (Rect.unit (s := S3x5632) ![1, 1280] S1x256.size inb_S3x5632_S1x256_1_1280).toLoadRect (harg4.unread x3)) (kernelRun0_A.sl.v457 (F := Ideal) c i arg1 harg1 arg2 harg2 arg3 harg3 arg10 arg11 x0 x1 x2) (View.readAt (Elt Ideal) arg4.view (Rect.unit (s := S3x5632) ![2, 1280] S1x256.size inb_S3x5632_S1x256_2_1280).toLoadRect (harg4.unread x3))) (convA (View.readAt (Elt Ideal) arg5.view (Rect.unit (s := S1x5632) ![0, 4096] S1x256.size inb_S1x5632_S1x256_0_4096).toLoadRect (harg5.unread x4)) (kernelRun0_A.sl.v472 (F := Ideal) c i arg1 harg1 arg2 harg2 arg3 harg3 arg10 arg11 x0 x1 x2) (View.readAt (Elt Ideal) arg4.view (Rect.unit (s := S3x5632) ![0, 4096] S1x256.size inb_S3x5632_S1x256_0_4096).toLoadRect (harg4.unread x3)) (kernelRun0_A.sl.v482 (F := Ideal) c i arg1 harg1 arg2 harg2 arg3 harg3 arg10 arg11 x0 x1 x2) (View.readAt (Elt Ideal) arg4.view (Rect.unit (s := S3x5632) ![1, 4096] S1x256.size inb_S3x5632_S1x256_1_4096).toLoadRect (harg4.unread x3)) (kernelRun0_A.sl.v491 (F := Ideal) c i arg1 harg1 arg2 harg2 arg3 harg3 arg10 arg11 x0 x1 x2) (View.readAt (Elt Ideal) arg4.view (Rect.unit (s := S3x5632) ![2, 4096] S1x256.size inb_S3x5632_S1x256_2_4096).toLoadRect (harg4.unread x3)))⟩,
     ⟨Rect.unit (s := S512x2816) ![0, 1024] S512x256.size inb_S512x2816_S512x256_0_1024, actA (convA (View.readAt (Elt Ideal) arg5.view (Rect.unit (s := S1x5632) ![0, 1024] S1x256.size inb_S1x5632_S1x256_0_1024).toLoadRect (harg5.unread x4)) (kernelRun0_A.sl.v357 (F := Ideal) c i arg1 harg1 arg2 harg2 arg3 harg3 arg10 arg11 x0 x1 x2) (View.readAt (Elt Ideal) arg4.view (Rect.unit (s := S3x5632) ![0, 1024] S1x256.size inb_S3x5632_S1x256_0_1024).toLoadRect (harg4.unread x3)) (kernelRun0_A.sl.v367 (F := Ideal) c i arg1 harg1 arg2 harg2 arg3 harg3 arg10 arg11 x0 x1 x2) (View.readAt (Elt Ideal) arg4.view (Rect.unit (s := S3x5632) ![1, 1024] S1x256.size inb_S3x5632_S1x256_1_1024).toLoadRect (harg4.unread x3)) (kernelRun0_A.sl.v376 (F := Ideal) c i arg1 harg1 arg2 harg2 arg3 harg3 arg10 arg11 x0 x1 x2) (View.readAt (Elt Ideal) arg4.view (Rect.unit (s := S3x5632) ![2, 1024] S1x256.size inb_S3x5632_S1x256_2_1024).toLoadRect (harg4.unread x3))) (convA (View.readAt (Elt Ideal) arg5.view (Rect.unit (s := S1x5632) ![0, 3840] S1x256.size inb_S1x5632_S1x256_0_3840).toLoadRect (harg5.unread x4)) (kernelRun0_A.sl.v391 (F := Ideal) c i arg1 harg1 arg2 harg2 arg3 harg3 arg10 arg11 x0 x1 x2) (View.readAt (Elt Ideal) arg4.view (Rect.unit (s := S3x5632) ![0, 3840] S1x256.size inb_S3x5632_S1x256_0_3840).toLoadRect (harg4.unread x3)) (kernelRun0_A.sl.v401 (F := Ideal) c i arg1 harg1 arg2 harg2 arg3 harg3 arg10 arg11 x0 x1 x2) (View.readAt (Elt Ideal) arg4.view (Rect.unit (s := S3x5632) ![1, 3840] S1x256.size inb_S3x5632_S1x256_1_3840).toLoadRect (harg4.unread x3)) (kernelRun0_A.sl.v410 (F := Ideal) c i arg1 harg1 arg2 harg2 arg3 harg3 arg10 arg11 x0 x1 x2) (View.readAt (Elt Ideal) arg4.view (Rect.unit (s := S3x5632) ![2, 3840] S1x256.size inb_S3x5632_S1x256_2_3840).toLoadRect (harg4.unread x3)))⟩,
     ⟨Rect.unit (s := S512x2816) ![0, 768] S512x256.size inb_S512x2816_S512x256_0_768, actA (convA (View.readAt (Elt Ideal) arg5.view (Rect.unit (s := S1x5632) ![0, 768] S1x256.size inb_S1x5632_S1x256_0_768).toLoadRect (harg5.unread x4)) (kernelRun0_A.sl.v276 (F := Ideal) c i arg1 harg1 arg2 harg2 arg3 harg3 arg10 arg11 x0 x1 x2) (View.readAt (Elt Ideal) arg4.view (Rect.unit (s := S3x5632) ![0, 768] S1x256.size inb_S3x5632_S1x256_0_768).toLoadRect (harg4.unread x3)) (kernelRun0_A.sl.v286 (F := Ideal) c i arg1 harg1 arg2 harg2 arg3 harg3 arg10 arg11 x0 x1 x2) (View.readAt (Elt Ideal) arg4.view (Rect.unit (s := S3x5632) ![1, 768] S1x256.size inb_S3x5632_S1x256_1_768).toLoadRect (harg4.unread x3)) (kernelRun0_A.sl.v295 (F := Ideal) c i arg1 harg1 arg2 harg2 arg3 harg3 arg10 arg11 x0 x1 x2) (View.readAt (Elt Ideal) arg4.view (Rect.unit (s := S3x5632) ![2, 768] S1x256.size inb_S3x5632_S1x256_2_768).toLoadRect (harg4.unread x3))) (convA (View.readAt (Elt Ideal) arg5.view (Rect.unit (s := S1x5632) ![0, 3584] S1x256.size inb_S1x5632_S1x256_0_3584).toLoadRect (harg5.unread x4)) (kernelRun0_A.sl.v310 (F := Ideal) c i arg1 harg1 arg2 harg2 arg3 harg3 arg10 arg11 x0 x1 x2) (View.readAt (Elt Ideal) arg4.view (Rect.unit (s := S3x5632) ![0, 3584] S1x256.size inb_S3x5632_S1x256_0_3584).toLoadRect (harg4.unread x3)) (kernelRun0_A.sl.v320 (F := Ideal) c i arg1 harg1 arg2 harg2 arg3 harg3 arg10 arg11 x0 x1 x2) (View.readAt (Elt Ideal) arg4.view (Rect.unit (s := S3x5632) ![1, 3584] S1x256.size inb_S3x5632_S1x256_1_3584).toLoadRect (harg4.unread x3)) (kernelRun0_A.sl.v329 (F := Ideal) c i arg1 harg1 arg2 harg2 arg3 harg3 arg10 arg11 x0 x1 x2) (View.readAt (Elt Ideal) arg4.view (Rect.unit (s := S3x5632) ![2, 3584] S1x256.size inb_S3x5632_S1x256_2_3584).toLoadRect (harg4.unread x3)))⟩,
     ⟨Rect.unit (s := S512x2816) ![0, 512] S512x256.size inb_S512x2816_S512x256_0_512, actA (convA (View.readAt (Elt Ideal) arg5.view (Rect.unit (s := S1x5632) ![0, 512] S1x256.size inb_S1x5632_S1x256_0_512).toLoadRect (harg5.unread x4)) (kernelRun0_A.sl.v195 (F := Ideal) c i arg1 harg1 arg2 harg2 arg3 harg3 arg10 arg11 x0 x1 x2) (View.readAt (Elt Ideal) arg4.view (Rect.unit (s := S3x5632) ![0, 512] S1x256.size inb_S3x5632_S1x256_0_512).toLoadRect (harg4.unread x3)) (kernelRun0_A.sl.v205 (F := Ideal) c i arg1 harg1 arg2 harg2 arg3 harg3 arg10 arg11 x0 x1 x2) (View.readAt (Elt Ideal) arg4.view (Rect.unit (s := S3x5632) ![1, 512] S1x256.size inb_S3x5632_S1x256_1_512).toLoadRect (harg4.unread x3)) (kernelRun0_A.sl.v214 (F := Ideal) c i arg1 harg1 arg2 harg2 arg3 harg3 arg10 arg11 x0 x1 x2) (View.readAt (Elt Ideal) arg4.view (Rect.unit (s := S3x5632) ![2, 512] S1x256.size inb_S3x5632_S1x256_2_512).toLoadRect (harg4.unread x3))) (convA (View.readAt (Elt Ideal) arg5.view (Rect.unit (s := S1x5632) ![0, 3328] S1x256.size inb_S1x5632_S1x256_0_3328).toLoadRect (harg5.unread x4)) (kernelRun0_A.sl.v229 (F := Ideal) c i arg1 harg1 arg2 harg2 arg3 harg3 arg10 arg11 x0 x1 x2) (View.readAt (Elt Ideal) arg4.view (Rect.unit (s := S3x5632) ![0, 3328] S1x256.size inb_S3x5632_S1x256_0_3328).toLoadRect (harg4.unread x3)) (kernelRun0_A.sl.v239 (F := Ideal) c i arg1 harg1 arg2 harg2 arg3 harg3 arg10 arg11 x0 x1 x2) (View.readAt (Elt Ideal) arg4.view (Rect.unit (s := S3x5632) ![1, 3328] S1x256.size inb_S3x5632_S1x256_1_3328).toLoadRect (harg4.unread x3)) (kernelRun0_A.sl.v248 (F := Ideal) c i arg1 harg1 arg2 harg2 arg3 harg3 arg10 arg11 x0 x1 x2) (View.readAt (Elt Ideal) arg4.view (Rect.unit (s := S3x5632) ![2, 3328] S1x256.size inb_S3x5632_S1x256_2_3328).toLoadRect (harg4.unread x3)))⟩,
     ⟨Rect.unit (s := S512x2816) ![0, 256] S512x256.size inb_S512x2816_S512x256_0_256, actA (convA (View.readAt (Elt Ideal) arg5.view (Rect.unit (s := S1x5632) ![0, 256] S1x256.size inb_S1x5632_S1x256_0_256).toLoadRect (harg5.unread x4)) (kernelRun0_A.sl.v114 (F := Ideal) c i arg1 harg1 arg2 harg2 arg3 harg3 arg10 arg11 x0 x1 x2) (View.readAt (Elt Ideal) arg4.view (Rect.unit (s := S3x5632) ![0, 256] S1x256.size inb_S3x5632_S1x256_0_256).toLoadRect (harg4.unread x3)) (kernelRun0_A.sl.v124 (F := Ideal) c i arg1 harg1 arg2 harg2 arg3 harg3 arg10 arg11 x0 x1 x2) (View.readAt (Elt Ideal) arg4.view (Rect.unit (s := S3x5632) ![1, 256] S1x256.size inb_S3x5632_S1x256_1_256).toLoadRect (harg4.unread x3)) (kernelRun0_A.sl.v133 (F := Ideal) c i arg1 harg1 arg2 harg2 arg3 harg3 arg10 arg11 x0 x1 x2) (View.readAt (Elt Ideal) arg4.view (Rect.unit (s := S3x5632) ![2, 256] S1x256.size inb_S3x5632_S1x256_2_256).toLoadRect (harg4.unread x3))) (convA (View.readAt (Elt Ideal) arg5.view (Rect.unit (s := S1x5632) ![0, 3072] S1x256.size inb_S1x5632_S1x256_0_3072).toLoadRect (harg5.unread x4)) (kernelRun0_A.sl.v148 (F := Ideal) c i arg1 harg1 arg2 harg2 arg3 harg3 arg10 arg11 x0 x1 x2) (View.readAt (Elt Ideal) arg4.view (Rect.unit (s := S3x5632) ![0, 3072] S1x256.size inb_S3x5632_S1x256_0_3072).toLoadRect (harg4.unread x3)) (kernelRun0_A.sl.v158 (F := Ideal) c i arg1 harg1 arg2 harg2 arg3 harg3 arg10 arg11 x0 x1 x2) (View.readAt (Elt Ideal) arg4.view (Rect.unit (s := S3x5632) ![1, 3072] S1x256.size inb_S3x5632_S1x256_1_3072).toLoadRect (harg4.unread x3)) (kernelRun0_A.sl.v167 (F := Ideal) c i arg1 harg1 arg2 harg2 arg3 harg3 arg10 arg11 x0 x1 x2) (View.readAt (Elt Ideal) arg4.view (Rect.unit (s := S3x5632) ![2, 3072] S1x256.size inb_S3x5632_S1x256_2_3072).toLoadRect (harg4.unread x3)))⟩,
     ⟨Rect.unit (s := S512x2816) ![0, 0] S512x256.size inb_S512x2816_S512x256_0_0, actA (convA (View.readAt (Elt Ideal) arg5.view (Rect.unit (s := S1x5632) ![0, 0] S1x256.size inb_S1x5632_S1x256_0_0).toLoadRect (harg5.unread x4)) (kernelRun0_A.sl.v33 (F := Ideal) c i arg1 harg1 arg2 harg2 arg3 harg3 arg10 arg11 x0 x1 x2) (View.readAt (Elt Ideal) arg4.view (Rect.unit (s := S3x5632) ![0, 0] S1x256.size inb_S3x5632_S1x256_0_0).toLoadRect (harg4.unread x3)) (kernelRun0_A.sl.v43 (F := Ideal) c i arg1 harg1 arg2 harg2 arg3 harg3 arg10 arg11 x0 x1 x2) (View.readAt (Elt Ideal) arg4.view (Rect.unit (s := S3x5632) ![1, 0] S1x256.size inb_S3x5632_S1x256_1_0).toLoadRect (harg4.unread x3)) (kernelRun0_A.sl.v52 (F := Ideal) c i arg1 harg1 arg2 harg2 arg3 harg3 arg10 arg11 x0 x1 x2) (View.readAt (Elt Ideal) arg4.view (Rect.unit (s := S3x5632) ![2, 0] S1x256.size inb_S3x5632_S1x256_2_0).toLoadRect (harg4.unread x3))) (convA (View.readAt (Elt Ideal) arg5.view (Rect.unit (s := S1x5632) ![0, 2816] S1x256.size inb_S1x5632_S1x256_0_2816).toLoadRect (harg5.unread x4)) (kernelRun0_A.sl.v67 (F := Ideal) c i arg1 harg1 arg2 harg2 arg3 harg3 arg10 arg11 x0 x1 x2) (View.readAt (Elt Ideal) arg4.view (Rect.unit (s := S3x5632) ![0, 2816] S1x256.size inb_S3x5632_S1x256_0_2816).toLoadRect (harg4.unread x3)) (kernelRun0_A.sl.v77 (F := Ideal) c i arg1 harg1 arg2 harg2 arg3 harg3 arg10 arg11 x0 x1 x2) (View.readAt (Elt Ideal) arg4.view (Rect.unit (s := S3x5632) ![1, 2816] S1x256.size inb_S3x5632_S1x256_1_2816).toLoadRect (harg4.unread x3)) (kernelRun0_A.sl.v86 (F := Ideal) c i arg1 harg1 arg2 harg2 arg3 harg3 arg10 arg11 x0 x1 x2) (View.readAt (Elt Ideal) arg4.view (Rect.unit (s := S3x5632) ![2, 2816] S1x256.size inb_S3x5632_S1x256_2_2816).toLoadRect (harg4.unread x3)))⟩] := rfl
  rw [e, chunk10_eq, chunk9_eq, chunk8_eq, chunk7_eq, chunk6_eq, chunk5_eq, chunk4_eq, chunk3_eq, chunk2_eq, chunk1_eq, chunk0_eq]

end Cert.Kernel3Ideal.Ffn

end
-- ==== Proof.Ffn.Body.lean ====
/-
  What a grid point of the feed-forward kernel writes to its output block, at an index.
-/
module

public import proofs.«01_k».proof.Proof.Ffn.Words

@[expose] public section

set_option maxRecDepth 16384

noncomputable section

namespace Cert.Kernel3Ideal.Ffn

open Cert.Kernel3Ideal Cert.Kernel3Ideal.Gen Cert.Mix Cert.Ffn Idealize.ShloMosaic Idealize.ShloMosaic.TcCoe Idealize.SL.Sem

/-- An index of a chunk by its row and column. -/
theorem idxC (j : S512x256.Idx) : ∃ (r : Fin 512) (e : Fin 256), j = ix2 r e := ⟨j 0, j 1, funext fun a => by fin_cases a <;> rfl⟩

/-- An index of an output block by its row and column. -/
theorem idxB (j : S512x1024.Idx) : ∃ (r : Fin 512) (e : Fin 1024), j = ix2 r e := ⟨j 0, j 1, funext fun a => by fin_cases a <;> rfl⟩

/-- An index of the rows before a block by its row and column. -/
theorem idxP (j : S16x1024.Idx) : ∃ (r : Fin 16) (e : Fin 1024), j = ix2 r e := ⟨j 0, j 1, funext fun a => by fin_cases a <;> rfl⟩

/-- An index of the output array by its token and column. -/
theorem idx_out (j : S16384x1024.Idx) : ∃ (i : Fin 16384) (e : Fin 1024), j = ix2 i e := ⟨j 0, j 1, funext fun a => by fin_cases a <;> rfl⟩

/-- A load of a rectangle, at an index. -/
theorem ld_at {t : EltTy} {R K r k : ℕ} (x : (⟨2, ![R, K]⟩ : Shape).Idx → Elt Ideal t) (o p : ℕ) (inb : ∀ a, (![o, p] : Fin 2 → ℕ) a + (![r, k] : Fin 2 → ℕ) a ≤ (⟨2, ![R, K]⟩ : Shape).size a) (a : Fin r) (e : Fin k) (a' : Fin R) (e' : Fin K) (ha : (a' : ℕ) = o + a) (he : (e' : ℕ) = p + e) :
    View.ld x (Rect.unit (s := ⟨2, ![R, K]⟩) ![o, p] ![r, k] inb) (ix2 a e) = x (ix2 a' e') :=
  View.ld_unit_apply_of x _ _ _ _ _ (fun d => by
    fin_cases d
    · exact ha
    · exact he)

/-- A chunk of the convolution, at an index. -/
theorem colsA_apply (hx : FVec Ideal S528x1024 .bf16) (x2 : FVec Ideal S1024x5632 .bf16) (x3 : FVec Ideal S3x5632 .f32) (x4 : FVec Ideal S1x5632 .f32) (c : ℕ) (h : c + 256 ≤ 5632) (r : Fin 512) (e : Fin 256) (f : Fin 5632) (hf : (f : ℕ) = c + e) :
    colsA hx x2 x3 x4 c h (ix2 r e) = conv (rows hx r) (fun k e => x2 (ix2 k e)) (fun t e => x3 (ix2 t e)) (fun e => x4 (ix2 (0 : Fin 1) e)) f :=
  convU_apply hx _ _ _ _ _ _ _ _ r e f (fun k => ld_at (t := .bf16) (R := 1024) (K := 5632) (r := 1024) (k := 256) x2 0 c _ k e k f (Nat.zero_add _).symm hf) (ld_at (t := .f32) (R := 1) (K := 5632) (r := 1) (k := 256) x4 0 c _ 0 e 0 f rfl hf) (ld_at (t := .f32) (R := 3) (K := 5632) (r := 1) (k := 256) x3 0 c _ 0 e 0 f rfl hf) (ld_at (t := .f32) (R := 3) (K := 5632) (r := 1) (k := 256) x3 1 c _ 0 e 1 f rfl hf) (ld_at (t := .f32) (R := 3) (K := 5632) (r := 1) (k := 256) x3 2 c _ 0 e 2 f rfl hf)

/-- A chunk of the gated channels, at an index. -/
theorem chunkA_apply (hx : FVec Ideal S528x1024 .bf16) (x2 : FVec Ideal S1024x5632 .bf16) (x3 : FVec Ideal S3x5632 .f32) (x4 : FVec Ideal S1x5632 .f32) (c d : ℕ) (h : c + 256 ≤ 5632) (h' : d + 256 ≤ 5632) (hd : d = 2816 + c) (r : Fin 512) (e : Fin 256) (f : Fin 2816) (hf : (f : ℕ) = c + e) :
    chunkA hx x2 x3 x4 c d h h' (ix2 r e) = act (rows hx r) (fun k e => x2 (ix2 k e)) (fun t e => x3 (ix2 t e)) (fun e => x4 (ix2 (0 : Fin 1) e)) f := by
  unfold chunkA act
  rw [actA_apply, colsA_apply hx x2 x3 x4 c h r e ⟨f, by omega⟩ hf, colsA_apply hx x2 x3 x4 d h' r e ⟨2816 + f, by omega⟩ (by show 2816 + (f : ℕ) = d + e; omega)]

/-- The gated channels of a block. -/
def bufG (hx : FVec Ideal S528x1024 .bf16) (x2 : FVec Ideal S1024x5632 .bf16) (x3 : FVec Ideal S3x5632 .f32) (x4 : FVec Ideal S1x5632 .f32) : S512x2816.Idx → Elt Ideal .bf16 := fun j =>
  act (rows hx (j 0)) (fun k e => x2 (ix2 k e)) (fun t e => x3 (ix2 t e)) (fun e => x4 (ix2 (0 : Fin 1) e)) (j 1)

/-- Where a chunk's element sits among the gated channels. -/
theorem emb_piece (c : ℕ) (inb : ∀ a, (![0, c] : Fin 2 → ℕ) a + S512x256.size a ≤ S512x2816.size a) (r : Fin 512) (e : Fin 256) (f : Fin 2816) (hf : (f : ℕ) = c + e) :
    (Rect.unit (s := S512x2816) ![0, c] S512x256.size inb).emb (ix2 r e : S512x256.Idx) = (ix2 r f : S512x2816.Idx) := by
  refine funext fun a => Fin.ext ?_
  fin_cases a
  · show 0 + 1 * (r : ℕ) = r; omega
  · show c + 1 * (e : ℕ) = f; omega

/-- A chunk is its columns of the gated channels. -/
theorem piece_apply (hx : FVec Ideal S528x1024 .bf16) (x2 : FVec Ideal S1024x5632 .bf16) (x3 : FVec Ideal S3x5632 .f32) (x4 : FVec Ideal S1x5632 .f32) (c d : ℕ) (h : c + 256 ≤ 5632) (h' : d + 256 ≤ 5632) (hd : d = 2816 + c) (inb : ∀ a, (![0, c] : Fin 2 → ℕ) a + S512x256.size a ≤ S512x2816.size a) (x : (Rect.unit (s := S512x2816) ![0, c] S512x256.size inb).shape.Idx) :
    chunkA hx x2 x3 x4 c d h h' x = bufG hx x2 x3 x4 ((Rect.unit (s := S512x2816) ![0, c] S512x256.size inb).emb x) := by
  obtain ⟨r, e, rfl⟩ := idxC x
  have hc : c + 256 ≤ 2816 := inb 1
  exact (chunkA_apply hx x2 x3 x4 c d h h' hd r e ⟨c + e, by omega⟩ rfl).trans (congrArg (bufG hx x2 x3 x4) (emb_piece c inb r e ⟨c + e, by omega⟩ rfl)).symm

/-- A written piece holds its part of the gated channels. -/
def Agrees (hx : FVec Ideal S528x1024 .bf16) (x2 : FVec Ideal S1024x5632 .bf16) (x3 : FVec Ideal S3x5632 .f32) (x4 : FVec Ideal S1x5632 .f32) (p : View.Piece (Elt Ideal) S512x2816 .bf16) : Prop := ∀ x : p.1.shape.Idx, p.2 x = bufG hx x2 x3 x4 (p.1.emb x)

/-- A chunk holds its part of the gated channels. -/
theorem piece_agrees (hx : FVec Ideal S528x1024 .bf16) (x2 : FVec Ideal S1024x5632 .bf16) (x3 : FVec Ideal S3x5632 .f32) (x4 : FVec Ideal S1x5632 .f32) (c d : ℕ) (h : c + 256 ≤ 5632) (h' : d + 256 ≤ 5632) (hd : d = 2816 + c) (inb : ∀ a, (![0, c] : Fin 2 → ℕ) a + S512x256.size a ≤ S512x2816.size a) :
    Agrees hx x2 x3 x4 ⟨Rect.unit (s := S512x2816) ![0, c] S512x256.size inb, chunkA hx x2 x3 x4 c d h h'⟩ := piece_apply hx x2 x3 x4 c d h h' hd inb

/-- A column of the gated channels lies in its chunk. -/
theorem mem_piece (c : ℕ) (inb : ∀ a, (![0, c] : Fin 2 → ℕ) a + S512x256.size a ≤ S512x2816.size a) (r : Fin 512) (k : Fin 2816) (h : c ≤ k) (h' : (k : ℕ) < c + 256) :
    (ix2 r k : S512x2816.Idx) ∈ (Rect.unit (s := S512x2816) ![0, c] S512x256.size inb).set := by
  rw [← emb_piece c inb r ⟨k - c, by omega⟩ k (by show (k : ℕ) = c + (k - c); omega), ← Rect.map_emb_univ]
  exact Finset.mem_map_of_mem _ (Finset.mem_univ _)

/-- Whether a grid point begins a sequence, as the body computes it. -/
def begins (i : grid0.Coords) : BitVec 1 :=
  Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32))
    (Scalar.cmpi .ne (Scalar.remsi (BitVec.ofNat 32 (i 0).val) (Scalar.select (Scalar.cmpi .eq 16#32 0#32) 1#32 16#32)) 0#32))
    (Scalar.addi (Scalar.remsi (BitVec.ofNat 32 (i 0).val) (Scalar.select (Scalar.cmpi .eq 16#32 0#32) 1#32 16#32)) (Scalar.select (Scalar.cmpi .eq 16#32 0#32) 1#32 16#32))
    (Scalar.remsi (BitVec.ofNat 32 (i 0).val) (Scalar.select (Scalar.cmpi .eq 16#32 0#32) 1#32 16#32))) 0#32

/-- The factor on the rows before a block. -/
def keep (i : grid0.Coords) : EReal := Scalar.select (begins i) (Ideal.ofBits .f32 0x00000000#32) (Ideal.ofBits .f32 0x3F800000#32)

/-- The rows before a block, as stored. -/
theorem halo_apply (i : grid0.Coords) (v : Vec Ideal S16x1024 .f32) (p : Fin 16) (k : Fin 1024) : k0_pay2 (F := Ideal) i v (ix2 p k) = v (ix2 p k) * keep i := by
  have h : k0_pay2 (F := Ideal) i v = (shapeCast S16x1024 (truncf .bf16 (mulf v (broadcast S16x1024 (keep i : Ideal .f32)) : FVec Ideal S16x1024 .f32) bitsLt_bf16_f32) shapeCasts_S16x1024_S16x1024 : FVec Ideal S16x1024 .bf16) := rfl
  rw [h]
  generalize keep i = z
  pointwise

/-- A block's rows, as stored. -/
theorem block_apply (v : Vec Ideal S512x1024 .f32) (p : Fin 512) (k : Fin 1024) : k0_pay3 (F := Ideal) v (ix2 p k) = v (ix2 p k) := by
  pointwise [k0_pay3]

/-- The last payload is the layer norm of the residual and the down projection. -/
theorem pay_eq (x : FVec Ideal S512x1024 .f32) (a : FVec Ideal S512x1536 .bf16) (w : FVec Ideal S1536x1024 .bf16) (a' : FVec Ideal S512x1280 .bf16) (w' : FVec Ideal S1280x1024 .bf16) (g b : FVec Ideal S1x1024 .f32) :
    k0_pay1 (F := Ideal) (k0_pay152 (F := Ideal) g) (k0_pay153 (F := Ideal) b) (k0_pay154 (F := Ideal) x (k0_pay98 (F := Ideal) a w) a' w') (k0_pay155 (F := Ideal) x (k0_pay98 (F := Ideal) a w) a' w') = normA (residA x (downA a w) (downB a' w')) g b := rfl

/-- The first sixteen rows are not among the block's. -/
theorem halo_not_block (r : Fin 16) (k : Fin 1024) : (Rect.unit (s := S528x1024) ![0, 0] S16x1024.size inb_S528x1024_S16x1024_0_0).emb (ix2 r k : S16x1024.Idx) ∉ (Rect.unit (s := S528x1024) ![16, 0] S512x1024.size inb_S528x1024_S512x1024_16_0).set := by
  intro hm
  rw [← Rect.map_emb_univ, Finset.mem_map] at hm
  obtain ⟨y, _, hy⟩ := hm
  obtain ⟨a, e, rfl⟩ := idxB y
  have h0 : 16 + 1 * (a : ℕ) = 0 + 1 * (r : ℕ) := congrArg (fun j : S528x1024.Idx => ((j 0 : Fin 528) : ℕ)) hy
  omega

/-- The first sixteen rows read what was stored first. -/
theorem canon_halo (P : S512x1024.Idx → Elt Ideal .bf16) (Q : S16x1024.Idx → Elt Ideal .bf16) (r : Fin 16) (k : Fin 1024) :
    View.canon (Val := Elt Ideal) (s := S528x1024) (e := .bf16) [⟨Rect.unit (s := S528x1024) ![16, 0] S512x1024.size inb_S528x1024_S512x1024_16_0, P⟩, ⟨Rect.unit (s := S528x1024) ![0, 0] S16x1024.size inb_S528x1024_S16x1024_0_0, Q⟩]
      ((Rect.unit (s := S528x1024) ![0, 0] S16x1024.size inb_S528x1024_S16x1024_0_0).emb (ix2 r k : S16x1024.Idx)) = Q (ix2 r k) := by
  have hn := halo_not_block r k
  rw [View.canon_cons_of_not_mem]
  · exact View.canon_cons_emb _ _ _ _
  · exact hn

section Point

variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1024x5632 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S528x1024 .bf16) (harg10 : arg10.IsWhole) (arg11 : Memref sig .tc .vmem S3x544x256 .f32) (harg11 : arg11.IsWhole) (arg12 : Memref sig .tc .vmem S512x2816 .bf16) (harg12 : arg12.IsWhole)
  (x0 : Vec Ideal S512x1024 .f32) (x1 : Vec Ideal S16x1024 .f32) (x2 : Vec Ideal S1024x5632 .bf16) (x3 : Vec Ideal S3x5632 .f32) (x4 : Vec Ideal S1x5632 .f32) (x5 : Vec Ideal S2816x1024 .bf16) (x6 : Vec Ideal S1x1024 .f32) (x7 : Vec Ideal S1x1024 .f32)

/-- The rows as stored. -/
theorem HS0_2_eq : kernelRun0_A.sl.HS0_2 (F := Ideal) c i arg1 harg1 arg2 harg2 x0 x1 =
    [⟨Rect.unit (s := S528x1024) ![16, 0] S512x1024.size inb_S528x1024_S512x1024_16_0, k0_pay3 (F := Ideal) (View.ld (Val := Elt Ideal) (e' := .f32) x0 (Rect.unit (s := S512x1024) ![0, 0] S512x1024.size inb_S512x1024_S512x1024_0_0))⟩,
     ⟨Rect.unit (s := S528x1024) ![0, 0] S16x1024.size inb_S528x1024_S16x1024_0_0, k0_pay2 (F := Ideal) i (View.ld (Val := Elt Ideal) (e' := .f32) x1 (Rect.unit (s := S16x1024) ![0, 0] S16x1024.size inb_S16x1024_S16x1024_0_0))⟩] := by
  unfold kernelRun0_A.sl.HS0_2
  simp only [rd]

/-- The rows read back, past the sixteenth: the block's. -/
theorem v24_block (p : Fin 528) (r : Fin 512) (k : Fin 1024) (hp : (p : ℕ) = 16 + r) : (kernelRun0_A.sl.v24 (F := Ideal) c i arg1 harg1 arg2 harg2 arg10 x0 x1) (ix2 p k) = x0 (ix2 r k) := by
  show arg10.view.readCov (kernelRun0_A.sl.HS0_2 (F := Ideal) c i arg1 harg1 arg2 harg2 x0 x1) (Rect.unit (s := S528x1024) ![0, 0] S528x1024.size inb_S528x1024_S528x1024_0_0).toLoadRect (ix2 p k : S528x1024.Idx) = _
  rw [HS0_2_eq, View.readCov_eq_canon']
  have hi : (Rect.unit (s := S528x1024) ![0, 0] S528x1024.size inb_S528x1024_S528x1024_0_0).toLoadRect.idx (ix2 p k : S528x1024.Idx) = (Rect.unit (s := S528x1024) ![16, 0] S512x1024.size inb_S528x1024_S512x1024_16_0).emb (ix2 r k : S512x1024.Idx) := by
    refine funext fun a => Fin.ext ?_
    fin_cases a
    · show 0 + 1 * (p : ℕ) = 16 + 1 * r; omega
    · rfl
  refine (congrArg (View.canon _) hi).trans ((View.canon_cons_emb _ _ _ _).trans ((block_apply _ r k).trans ?_))
  exact ld_at x0 0 0 _ r k r k (Nat.zero_add _).symm (Nat.zero_add _).symm

/-- The first sixteen rows read back: those before the block. -/
theorem v24_halo (p : Fin 528) (r : Fin 16) (k : Fin 1024) (hp : (p : ℕ) = r) : (kernelRun0_A.sl.v24 (F := Ideal) c i arg1 harg1 arg2 harg2 arg10 x0 x1) (ix2 p k) = x1 (ix2 r k) * keep i := by
  show arg10.view.readCov (kernelRun0_A.sl.HS0_2 (F := Ideal) c i arg1 harg1 arg2 harg2 x0 x1) (Rect.unit (s := S528x1024) ![0, 0] S528x1024.size inb_S528x1024_S528x1024_0_0).toLoadRect (ix2 p k : S528x1024.Idx) = _
  rw [HS0_2_eq, View.readCov_eq_canon']
  have hi : (Rect.unit (s := S528x1024) ![0, 0] S528x1024.size inb_S528x1024_S528x1024_0_0).toLoadRect.idx (ix2 p k : S528x1024.Idx) = (Rect.unit (s := S528x1024) ![0, 0] S16x1024.size inb_S528x1024_S16x1024_0_0).emb (ix2 r k : S16x1024.Idx) := by
    refine funext fun a => Fin.ext ?_
    fin_cases a
    · show 0 + 1 * (p : ℕ) = 0 + 1 * r; omega
    · rfl
  refine (congrArg (View.canon _) hi).trans ((canon_halo _ _ r k).trans ((halo_apply i _ r k).trans ?_))
  generalize keep i = z
  exact congrArg (fun y : EReal => y * z) (ld_at x1 0 0 _ r k r k (Nat.zero_add _).symm (Nat.zero_add _).symm)

/-- The gated channels read back for a part of the down projection. -/
theorem v591_apply (r : Fin 512) (k' : Fin 1536) :
    kernelRun0_A.sl.v591 (F := Ideal) c i arg1 harg1 arg2 harg2 arg3 harg3 arg4 harg4 arg5 harg5 arg10 arg11 arg12 x0 x1 x2 x3 x4 (ix2 r k') = act (rows (kernelRun0_A.sl.v24 (F := Ideal) c i arg1 harg1 arg2 harg2 arg10 x0 x1) r) (fun k e => x2 (ix2 k e)) (fun t e => x3 (ix2 t e)) (fun e => x4 (ix2 (0 : Fin 1) e)) ⟨0 + k', by omega⟩ := by
  obtain ⟨k, hk⟩ : ∃ k : Fin 2816, (k : ℕ) = 0 + k' := ⟨⟨0 + k', by omega⟩, rfl⟩
  have hi : (Rect.unit (s := S512x2816) ![0, 0] S512x1536.size inb_S512x2816_S512x1536_0_0).toLoadRect.idx (ix2 r k' : S512x1536.Idx) = (ix2 r k : S512x2816.Idx) := by
    refine funext fun a => Fin.ext ?_
    fin_cases a
    · show 0 + 1 * (r : ℕ) = r; omega
    · show 0 + 1 * (k' : ℕ) = k; omega
  have hk' : (⟨0 + k', by omega⟩ : Fin 2816) = k := Fin.ext hk.symm
  rw [hk']
  show arg12.view.readCov (kernelRun0_A.sl.HS2_7 (F := Ideal) c i arg1 harg1 arg2 harg2 arg3 harg3 arg4 harg4 arg5 harg5 arg10 arg11 x0 x1 x2 x3 x4) (Rect.unit (s := S512x2816) ![0, 0] S512x1536.size inb_S512x2816_S512x1536_0_0).toLoadRect (ix2 r k' : S512x1536.Idx) = _
  rw [HS2_7_eq, View.readCov_eq_canon']
  refine (congrArg (View.canon _) hi).trans ((View.canon_apply_of_pieces (bufG (kernelRun0_A.sl.v24 (F := Ideal) c i arg1 harg1 arg2 harg2 arg10 x0 x1) x2 x3 x4) _ ?_ _ ?_).trans rfl)
  · show ∀ p ∈ _, Agrees (kernelRun0_A.sl.v24 (F := Ideal) c i arg1 harg1 arg2 harg2 arg10 x0 x1) x2 x3 x4 p
    refine List.forall_mem_cons.2 ⟨piece_agrees _ x2 x3 x4 1536 4352 (by omega) (by omega) rfl _, ?_⟩
    refine List.forall_mem_cons.2 ⟨piece_agrees _ x2 x3 x4 1280 4096 (by omega) (by omega) rfl _, ?_⟩
    refine List.forall_mem_cons.2 ⟨piece_agrees _ x2 x3 x4 1024 3840 (by omega) (by omega) rfl _, ?_⟩
    refine List.forall_mem_cons.2 ⟨piece_agrees _ x2 x3 x4 768 3584 (by omega) (by omega) rfl _, ?_⟩
    refine List.forall_mem_cons.2 ⟨piece_agrees _ x2 x3 x4 512 3328 (by omega) (by omega) rfl _, ?_⟩
    refine List.forall_mem_cons.2 ⟨piece_agrees _ x2 x3 x4 256 3072 (by omega) (by omega) rfl _, ?_⟩
    refine List.forall_mem_cons.2 ⟨piece_agrees _ x2 x3 x4 0 2816 (by omega) (by omega) rfl _, ?_⟩
    exact fun _ h => absurd h List.not_mem_nil
  · have hlt : (k : ℕ) < 1792 := by omega
    rcases (by omega : 0 ≤ (k : ℕ) ∧ (k : ℕ) < 256 ∨ 256 ≤ (k : ℕ) ∧ (k : ℕ) < 512 ∨ 512 ≤ (k : ℕ) ∧ (k : ℕ) < 768 ∨ 768 ≤ (k : ℕ) ∧ (k : ℕ) < 1024 ∨ 1024 ≤ (k : ℕ) ∧ (k : ℕ) < 1280 ∨ 1280 ≤ (k : ℕ) ∧ (k : ℕ) < 1536 ∨ 1536 ≤ (k : ℕ) ∧ (k : ℕ) < 1792) with ⟨h, h'⟩ | ⟨h, h'⟩ | ⟨h, h'⟩ | ⟨h, h'⟩ | ⟨h, h'⟩ | ⟨h, h'⟩ | ⟨h, h'⟩
    · exact ⟨_, List.Mem.tail _ (List.Mem.tail _ (List.Mem.tail _ (List.Mem.tail _ (List.Mem.tail _ (List.Mem.tail _ (List.Mem.head _)))))), mem_piece 0 inb_S512x2816_S512x256_0_0 r k (by omega) (by omega)⟩
    · exact ⟨_, List.Mem.tail _ (List.Mem.tail _ (List.Mem.tail _ (List.Mem.tail _ (List.Mem.tail _ (List.Mem.head _))))), mem_piece 256 inb_S512x2816_S512x256_0_256 r k (by omega) (by omega)⟩
    · exact ⟨_, List.Mem.tail _ (List.Mem.tail _ (List.Mem.tail _ (List.Mem.tail _ (List.Mem.head _)))), mem_piece 512 inb_S512x2816_S512x256_0_512 r k (by omega) (by omega)⟩
    · exact ⟨_, List.Mem.tail _ (List.Mem.tail _ (List.Mem.tail _ (List.Mem.head _))), mem_piece 768 inb_S512x2816_S512x256_0_768 r k (by omega) (by omega)⟩
    · exact ⟨_, List.Mem.tail _ (List.Mem.tail _ (List.Mem.head _)), mem_piece 1024 inb_S512x2816_S512x256_0_1024 r k (by omega) (by omega)⟩
    · exact ⟨_, List.Mem.tail _ (List.Mem.head _), mem_piece 1280 inb_S512x2816_S512x256_0_1280 r k (by omega) (by omega)⟩
    · exact ⟨_, List.Mem.head _, mem_piece 1536 inb_S512x2816_S512x256_0_1536 r k (by omega) (by omega)⟩

/-- The gated channels read back for a part of the down projection. -/
theorem v919_apply (r : Fin 512) (k' : Fin 1280) :
    kernelRun0_A.sl.v919 (F := Ideal) c i arg1 harg1 arg2 harg2 arg3 harg3 arg4 harg4 arg5 harg5 arg10 arg11 arg12 x0 x1 x2 x3 x4 (ix2 r k') = act (rows (kernelRun0_A.sl.v24 (F := Ideal) c i arg1 harg1 arg2 harg2 arg10 x0 x1) r) (fun k e => x2 (ix2 k e)) (fun t e => x3 (ix2 t e)) (fun e => x4 (ix2 (0 : Fin 1) e)) ⟨1536 + k', by omega⟩ := by
  obtain ⟨k, hk⟩ : ∃ k : Fin 2816, (k : ℕ) = 1536 + k' := ⟨⟨1536 + k', by omega⟩, rfl⟩
  have hi : (Rect.unit (s := S512x2816) ![0, 1536] S512x1280.size inb_S512x2816_S512x1280_0_1536).toLoadRect.idx (ix2 r k' : S512x1280.Idx) = (ix2 r k : S512x2816.Idx) := by
    refine funext fun a => Fin.ext ?_
    fin_cases a
    · show 0 + 1 * (r : ℕ) = r; omega
    · show 1536 + 1 * (k' : ℕ) = k; omega
  have hk' : (⟨1536 + k', by omega⟩ : Fin 2816) = k := Fin.ext hk.symm
  rw [hk']
  show arg12.view.readCov (kernelRun0_A.sl.HS2_11 (F := Ideal) c i arg1 harg1 arg2 harg2 arg3 harg3 arg4 harg4 arg5 harg5 arg10 arg11 x0 x1 x2 x3 x4) (Rect.unit (s := S512x2816) ![0, 1536] S512x1280.size inb_S512x2816_S512x1280_0_1536).toLoadRect (ix2 r k' : S512x1280.Idx) = _
  rw [HS2_11_eq, View.readCov_eq_canon']
  refine (congrArg (View.canon _) hi).trans ((View.canon_apply_of_pieces (bufG (kernelRun0_A.sl.v24 (F := Ideal) c i arg1 harg1 arg2 harg2 arg10 x0 x1) x2 x3 x4) _ ?_ _ ?_).trans rfl)
  · show ∀ p ∈ _, Agrees (kernelRun0_A.sl.v24 (F := Ideal) c i arg1 harg1 arg2 harg2 arg10 x0 x1) x2 x3 x4 p
    refine List.forall_mem_cons.2 ⟨piece_agrees _ x2 x3 x4 2560 5376 (by omega) (by omega) rfl _, ?_⟩
    refine List.forall_mem_cons.2 ⟨piece_agrees _ x2 x3 x4 2304 5120 (by omega) (by omega) rfl _, ?_⟩
    refine List.forall_mem_cons.2 ⟨piece_agrees _ x2 x3 x4 2048 4864 (by omega) (by omega) rfl _, ?_⟩
    refine List.forall_mem_cons.2 ⟨piece_agrees _ x2 x3 x4 1792 4608 (by omega) (by omega) rfl _, ?_⟩
    refine List.forall_mem_cons.2 ⟨piece_agrees _ x2 x3 x4 1536 4352 (by omega) (by omega) rfl _, ?_⟩
    refine List.forall_mem_cons.2 ⟨piece_agrees _ x2 x3 x4 1280 4096 (by omega) (by omega) rfl _, ?_⟩
    refine List.forall_mem_cons.2 ⟨piece_agrees _ x2 x3 x4 1024 3840 (by omega) (by omega) rfl _, ?_⟩
    refine List.forall_mem_cons.2 ⟨piece_agrees _ x2 x3 x4 768 3584 (by omega) (by omega) rfl _, ?_⟩
    refine List.forall_mem_cons.2 ⟨piece_agrees _ x2 x3 x4 512 3328 (by omega) (by omega) rfl _, ?_⟩
    refine List.forall_mem_cons.2 ⟨piece_agrees _ x2 x3 x4 256 3072 (by omega) (by omega) rfl _, ?_⟩
    refine List.forall_mem_cons.2 ⟨piece_agrees _ x2 x3 x4 0 2816 (by omega) (by omega) rfl _, ?_⟩
    exact fun _ h => absurd h List.not_mem_nil
  · have hlt : (k : ℕ) < 2816 := by omega
    rcases (by omega : 0 ≤ (k : ℕ) ∧ (k : ℕ) < 256 ∨ 256 ≤ (k : ℕ) ∧ (k : ℕ) < 512 ∨ 512 ≤ (k : ℕ) ∧ (k : ℕ) < 768 ∨ 768 ≤ (k : ℕ) ∧ (k : ℕ) < 1024 ∨ 1024 ≤ (k : ℕ) ∧ (k : ℕ) < 1280 ∨ 1280 ≤ (k : ℕ) ∧ (k : ℕ) < 1536 ∨ 1536 ≤ (k : ℕ) ∧ (k : ℕ) < 1792 ∨ 1792 ≤ (k : ℕ) ∧ (k : ℕ) < 2048 ∨ 2048 ≤ (k : ℕ) ∧ (k : ℕ) < 2304 ∨ 2304 ≤ (k : ℕ) ∧ (k : ℕ) < 2560 ∨ 2560 ≤ (k : ℕ) ∧ (k : ℕ) < 2816) with ⟨h, h'⟩ | ⟨h, h'⟩ | ⟨h, h'⟩ | ⟨h, h'⟩ | ⟨h, h'⟩ | ⟨h, h'⟩ | ⟨h, h'⟩ | ⟨h, h'⟩ | ⟨h, h'⟩ | ⟨h, h'⟩ | ⟨h, h'⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_piece 0 inb_S512x2816_S512x256_0_0 r k (by omega) (by omega)⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), mem_piece 256 inb_S512x2816_S512x256_0_256 r k (by omega) (by omega)⟩
    · exact ⟨_, List.Mem.tail _ (List.Mem.tail _ (List.Mem.tail _ (List.Mem.tail _ (List.Mem.tail _ (List.Mem.tail _ (List.Mem.tail _ (List.Mem.tail _ (List.Mem.head _)))))))), mem_piece 512 inb_S512x2816_S512x256_0_512 r k (by omega) (by omega)⟩
    · exact ⟨_, List.Mem.tail _ (List.Mem.tail _ (List.Mem.tail _ (List.Mem.tail _ (List.Mem.tail _ (List.Mem.tail _ (List.Mem.tail _ (List.Mem.head _))))))), mem_piece 768 inb_S512x2816_S512x256_0_768 r k (by omega) (by omega)⟩
    · exact ⟨_, List.Mem.tail _ (List.Mem.tail _ (List.Mem.tail _ (List.Mem.tail _ (List.Mem.tail _ (List.Mem.tail _ (List.Mem.head _)))))), mem_piece 1024 inb_S512x2816_S512x256_0_1024 r k (by omega) (by omega)⟩
    · exact ⟨_, List.Mem.tail _ (List.Mem.tail _ (List.Mem.tail _ (List.Mem.tail _ (List.Mem.tail _ (List.Mem.head _))))), mem_piece 1280 inb_S512x2816_S512x256_0_1280 r k (by omega) (by omega)⟩
    · exact ⟨_, List.Mem.tail _ (List.Mem.tail _ (List.Mem.tail _ (List.Mem.tail _ (List.Mem.head _)))), mem_piece 1536 inb_S512x2816_S512x256_0_1536 r k (by omega) (by omega)⟩
    · exact ⟨_, List.Mem.tail _ (List.Mem.tail _ (List.Mem.tail _ (List.Mem.head _))), mem_piece 1792 inb_S512x2816_S512x256_0_1792 r k (by omega) (by omega)⟩
    · exact ⟨_, List.Mem.tail _ (List.Mem.tail _ (List.Mem.head _)), mem_piece 2048 inb_S512x2816_S512x256_0_2048 r k (by omega) (by omega)⟩
    · exact ⟨_, List.Mem.tail _ (List.Mem.head _), mem_piece 2304 inb_S512x2816_S512x256_0_2304 r k (by omega) (by omega)⟩
    · exact ⟨_, List.Mem.head _, mem_piece 2560 inb_S512x2816_S512x256_0_2560 r k (by omega) (by omega)⟩

/-- What a grid point leaves in its output block. -/
theorem out_eq : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 =
    normA (residA (View.ld (Val := Elt Ideal) (e' := .f32) x0 (Rect.unit (s := S512x1024) ![0, 0] S512x1024.size inb_S512x1024_S512x1024_0_0))
        (downA (kernelRun0_A.sl.v591 (F := Ideal) c i arg1 harg1 arg2 harg2 arg3 harg3 arg4 harg4 arg5 harg5 arg10 arg11 arg12 x0 x1 x2 x3 x4) (View.ld (Val := Elt Ideal) (e' := .bf16) x5 (Rect.unit (s := S2816x1024) ![0, 0] S1536x1024.size inb_S2816x1024_S1536x1024_0_0)))
        (downB (kernelRun0_A.sl.v919 (F := Ideal) c i arg1 harg1 arg2 harg2 arg3 harg3 arg4 harg4 arg5 harg5 arg10 arg11 arg12 x0 x1 x2 x3 x4) (View.ld (Val := Elt Ideal) (e' := .bf16) x5 (Rect.unit (s := S2816x1024) ![1536, 0] S1280x1024.size inb_S2816x1024_S1280x1024_1536_0))))
      (View.ld (Val := Elt Ideal) (e' := .f32) x6 (Rect.unit (s := S1x1024) ![0, 0] S1x1024.size inb_S1x1024_S1x1024_0_0)) (View.ld (Val := Elt Ideal) (e' := .f32) x7 (Rect.unit (s := S1x1024) ![0, 0] S1x1024.size inb_S1x1024_S1x1024_0_0)) := by
  have h : (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7).1 = [⟨Rect.unit (s := S512x1024) ![0, 0] S512x1024.size inb_S512x1024_S512x1024_0_0,
      k0_pay1 (F := Ideal) (kernelRun0_A.sl.r_71 (F := Ideal) c arg7 harg7 x6) (kernelRun0_A.sl.r_72 (F := Ideal) c arg8 harg8 x7) (kernelRun0_A.sl.r_73 (F := Ideal) c i arg1 harg1 arg2 harg2 arg3 harg3 arg4 harg4 arg5 harg5 arg6 harg6 arg10 arg11 arg12 x0 x1 x2 x3 x4 x5) (kernelRun0_A.sl.r_74 (F := Ideal) c i arg1 harg1 arg2 harg2 arg3 harg3 arg4 harg4 arg5 harg5 arg6 harg6 arg10 arg11 arg12 x0 x1 x2 x3 x4 x5)⟩] := rfl
  unfold out0_A_8
  rw [View.read_writes_junk_eq_canon, h, View.canon_unit_zero (by funext a; fin_cases a <;> rfl)]
  unfold kernelRun0_A.sl.r_71 kernelRun0_A.sl.r_72 kernelRun0_A.sl.r_73 kernelRun0_A.sl.r_74 kernelRun0_A.sl.r_45 kernelRun0_A.sl.r
  rw [pay_eq]
  simp only [rd]

/-- A grid point's output block, at an index: the block of the token's row and the two before it. -/
theorem out_apply (r : Fin 512) (e : Fin 1024) : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 (ix2 r e) =
    ffn (rows (kernelRun0_A.sl.v24 (F := Ideal) c i arg1 harg1 arg2 harg2 arg10 x0 x1) r) (fun k e => x2 (ix2 k e)) (fun t e => x3 (ix2 t e)) (fun e => x4 (ix2 (0 : Fin 1) e)) (fun f e => x5 (ix2 f e)) (fun e => x6 (ix2 (0 : Fin 1) e)) (fun e => x7 (ix2 (0 : Fin 1) e)) e := by
  rw [out_eq, normA_apply]
  have w6 : ∀ e, View.ld (Val := Elt Ideal) (e' := .f32) x6 (Rect.unit (s := S1x1024) ![0, 0] S1x1024.size inb_S1x1024_S1x1024_0_0) (ix2 (0 : Fin 1) e) = x6 (ix2 (0 : Fin 1) e) := fun e => ld_at x6 0 0 _ 0 e 0 e rfl (Nat.zero_add _).symm
  have w7 : ∀ e, View.ld (Val := Elt Ideal) (e' := .f32) x7 (Rect.unit (s := S1x1024) ![0, 0] S1x1024.size inb_S1x1024_S1x1024_0_0) (ix2 (0 : Fin 1) e) = x7 (ix2 (0 : Fin 1) e) := fun e => ld_at x7 0 0 _ 0 e 0 e rfl (Nat.zero_add _).symm
  have w0 : ∀ k, View.ld (Val := Elt Ideal) (e' := .f32) x0 (Rect.unit (s := S512x1024) ![0, 0] S512x1024.size inb_S512x1024_S512x1024_0_0) (ix2 r k) = rows (kernelRun0_A.sl.v24 (F := Ideal) c i arg1 harg1 arg2 harg2 arg10 x0 x1) r 2 k := fun k => (ld_at x0 0 0 _ r k r k (Nat.zero_add _).symm (Nat.zero_add _).symm).trans (v24_block c i arg1 harg1 arg2 harg2 arg10 x0 x1 _ r k rfl).symm
  have wa : ∀ (f : Fin 1536) (e : Fin 1024), View.ld (Val := Elt Ideal) (e' := .bf16) x5 (Rect.unit (s := S2816x1024) ![0, 0] S1536x1024.size inb_S2816x1024_S1536x1024_0_0) (ix2 f e) = x5 (ix2 (⟨f, by omega⟩ : Fin 2816) e) := fun f e => ld_at x5 0 0 _ f e _ e (Nat.zero_add _).symm (Nat.zero_add _).symm
  have wb : ∀ (f : Fin 1280) (e : Fin 1024), View.ld (Val := Elt Ideal) (e' := .bf16) x5 (Rect.unit (s := S2816x1024) ![1536, 0] S1280x1024.size inb_S2816x1024_S1280x1024_1536_0) (ix2 f e) = x5 (ix2 (⟨1536 + f, by omega⟩ : Fin 2816) e) := fun f e => ld_at x5 1536 0 _ f e _ e rfl (Nat.zero_add _).symm
  have ha : ∀ f : Fin 1536, (kernelRun0_A.sl.v591 (F := Ideal) c i arg1 harg1 arg2 harg2 arg3 harg3 arg4 harg4 arg5 harg5 arg10 arg11 arg12 x0 x1 x2 x3 x4) (ix2 r f) = act (rows (kernelRun0_A.sl.v24 (F := Ideal) c i arg1 harg1 arg2 harg2 arg10 x0 x1) r) (fun k e => x2 (ix2 k e)) (fun t e => x3 (ix2 t e)) (fun e => x4 (ix2 (0 : Fin 1) e)) ⟨f, by omega⟩ := fun f =>
    (v591_apply c i arg1 harg1 arg2 harg2 arg3 harg3 arg4 harg4 arg5 harg5 arg10 arg11 arg12 x0 x1 x2 x3 x4 r f).trans (congrArg (act _ _ _ _) (Fin.ext (Nat.zero_add _)))
  have hb : ∀ f : Fin 1280, (kernelRun0_A.sl.v919 (F := Ideal) c i arg1 harg1 arg2 harg2 arg3 harg3 arg4 harg4 arg5 harg5 arg10 arg11 arg12 x0 x1 x2 x3 x4) (ix2 r f) = act (rows (kernelRun0_A.sl.v24 (F := Ideal) c i arg1 harg1 arg2 harg2 arg10 x0 x1) r) (fun k e => x2 (ix2 k e)) (fun t e => x3 (ix2 t e)) (fun e => x4 (ix2 (0 : Fin 1) e)) ⟨1536 + f, by omega⟩ := fun f =>
    v919_apply c i arg1 harg1 arg2 harg2 arg3 harg3 arg4 harg4 arg5 harg5 arg10 arg11 arg12 x0 x1 x2 x3 x4 r f
  simp only [residA_apply, downA_apply, downB_apply, w0, wa, wb, w6, w7, ha, hb]
  unfold ffn
  refine congrArg (fun f => norm f _ _ e) (funext fun k => ?_)
  unfold residF
  rw [← dotF_split]

end Point

end Cert.Kernel3Ideal.Ffn

end
-- ==== Proof.Ffn.Value.lean ====
/-
  The feed-forward kernel's value: what the output array holds at the end.
-/
module

public import proofs.«01_k».proof.Proof.Ffn.Body
public import Idealize.ShloMosaic.Lib.IdealHost

@[expose] public section

set_option maxRecDepth 16384

noncomputable section

namespace Cert.Kernel3Ideal.Ffn

open Cert.Kernel3Ideal Cert.Kernel3Ideal.Gen Cert.Mix Cert.Ffn Idealize.ShloMosaic Idealize.ShloMosaic.TcCoe Idealize.SL.Sem

variable (m : (ℓ : Loc nD τ sig) → Buf (Elt Ideal) ℓ) (ρ : Dev nD → PrngReg) (c : Dev nD)

/-- A grid point's rows in turn. -/
theorem coords_eq (t : Fin cfg0.N) : (BitVec.ofNat 32 (grid0.coords t 0 : ℕ)).toNat = (t : ℕ) :=
  (by decide +kernel : ∀ t : Fin grid0.N, (BitVec.ofNat 32 (grid0.coords t 0 : ℕ)).toNat = (t : ℕ)) t

/-- The sixteen rows before a grid point's. -/
theorem before_eq (t : Fin cfg0.N) : cc0_transform_1 (grid0.coords t) 0 = 32 * (t : ℕ) - 1 :=
  (by decide +kernel : ∀ t : Fin grid0.N, cc0_transform_1 (grid0.coords t) 0 = 32 * (t : ℕ) - 1) t

/-- Every sixteenth grid point begins a sequence. -/
theorem begins_eq (t : Fin cfg0.N) : begins (grid0.coords t) = if (t : ℕ) % 16 = 0 then 1#1 else 0#1 :=
  (by decide +kernel : ∀ t : Fin grid0.N, begins (grid0.coords t) = if (t : ℕ) % 16 = 0 then 1#1 else 0#1) t

/-- The rows before a block count for nothing where a sequence begins. -/
theorem keep_zero (t : Fin cfg0.N) (h : (t : ℕ) % 16 = 0) : keep (grid0.coords t) = 0 := by
  unfold keep
  rw [begins_eq, if_pos h]
  exact (rfl : Scalar.select 1#1 (Ideal.ofBits .f32 0x00000000#32) (Ideal.ofBits .f32 0x3F800000#32) = Ideal.ofBits .f32 0x00000000#32).trans Ideal.ofBits_zero_f32

/-- Elsewhere they count in full. -/
theorem keep_one (t : Fin cfg0.N) (h : ¬ (t : ℕ) % 16 = 0) : keep (grid0.coords t) = 1 := by
  unfold keep
  rw [begins_eq, if_neg h]
  exact (rfl : Scalar.select 0#1 (Ideal.ofBits .f32 0x00000000#32) (Ideal.ofBits .f32 0x3F800000#32) = Ideal.ofBits .f32 0x3F800000#32).trans Ideal.ofBits_one_f32

/-- The token of a row of a grid point's block. -/
def tok (t : Fin cfg0.N) (r : Fin 512) : Fin 16384 := ⟨(t : ℕ) * 512 + r, by have : cfg0.N = 32 := N_0; omega⟩

theorem V_v0 : V m c main_v0 = (truncf .bf16 (m ((c : Thread nD τ).loc main_arg1) : FVec Ideal S1024x5632 .f32) bitsLt_bf16_f32 : FVec Ideal S1024x5632 .bf16) := by
  dsimp only [V, hostOps0]
  after_results_simp <;> rfl

theorem V_v1 : V m c main_v1 = (shapeCast S1x5632 (m ((c : Thread nD τ).loc main_arg3) : FVec Ideal S5632 .f32) shapeCasts_S5632_S1x5632 : FVec Ideal S1x5632 .f32) := by
  dsimp only [V, hostOps0]
  after_results_simp <;> rfl

theorem V_v2 : V m c main_v2 = (truncf .bf16 (m ((c : Thread nD τ).loc main_arg4) : FVec Ideal S2816x1024 .f32) bitsLt_bf16_f32 : FVec Ideal S2816x1024 .bf16) := by
  dsimp only [V, hostOps0]
  after_results_simp <;> rfl

theorem V_v3 : V m c main_v3 = (shapeCast S1x1024 (m ((c : Thread nD τ).loc main_arg5) : FVec Ideal S1024 .f32) shapeCasts_S1024_S1x1024 : FVec Ideal S1x1024 .f32) := by
  dsimp only [V, hostOps0]
  after_results_simp <;> rfl

theorem V_v4 : V m c main_v4 = (shapeCast S1x1024 (m ((c : Thread nD τ).loc main_arg6) : FVec Ideal S1024 .f32) shapeCasts_S1024_S1x1024 : FVec Ideal S1x1024 .f32) := by
  dsimp only [V, hostOps0]
  after_results_simp <;> rfl

theorem blk0_apply (t : Fin cfg0.N) (r : Fin 512) (k : Fin 1024) : (iblk m c 0 t : S512x1024.Idx → Elt Ideal .f32) (ix2 r k) = (m ((c : Thread nD τ).loc main_arg0) : S16384x1024.Idx → EReal) (ix2 (tok t r) k) := by
  rw [← V_main_arg0 m c]
  unfold iblk
  refine congrArg (V m c main_arg0) (funext fun a => Fin.ext ?_)
  show cc0_transform_0 (grid0.coords t) a * S512x1024.size a + 1 * _ = _
  fin_cases a
  · show (BitVec.ofNat 32 (grid0.coords t 0 : ℕ)).toNat * 512 + 1 * (r : ℕ) = (t : ℕ) * 512 + r
    rw [coords_eq]; omega
  · show 0 * 1024 + 1 * (k : ℕ) = k; omega

theorem blk1_apply (t : Fin cfg0.N) (p : Fin 16) (k : Fin 1024) (i : Fin 16384) (hi : (i : ℕ) = (32 * (t : ℕ) - 1) * 16 + p) : (iblk m c 1 t : S16x1024.Idx → Elt Ideal .f32) (ix2 p k) = (m ((c : Thread nD τ).loc main_arg0) : S16384x1024.Idx → EReal) (ix2 i k) := by
  rw [← V_main_arg0 m c]
  unfold iblk
  refine congrArg (V m c main_arg0) (funext fun a => Fin.ext ?_)
  show cc0_transform_1 (grid0.coords t) a * S16x1024.size a + 1 * _ = _
  fin_cases a
  · show cc0_transform_1 (grid0.coords t) 0 * 16 + 1 * (p : ℕ) = i
    rw [before_eq]; omega
  · show 0 * 1024 + 1 * (k : ℕ) = k; omega

theorem blk2_apply (t : Fin cfg0.N) (k : Fin 1024) (e : Fin 5632) : (iblk m c 2 t : S1024x5632.Idx → Elt Ideal .bf16) (ix2 k e) = (m ((c : Thread nD τ).loc main_arg1) : S1024x5632.Idx → EReal) (ix2 k e) := by
  refine Eq.trans ?_ (congrFun (V_v0 m c) (ix2 k e))
  unfold iblk
  refine congrArg (V m c main_v0) (funext fun a => Fin.ext ?_)
  show cc0_transform_2 (grid0.coords t) a * S1024x5632.size a + 1 * _ = _
  fin_cases a
  · show 0 * 1024 + 1 * (k : ℕ) = k; omega
  · show 0 * 5632 + 1 * (e : ℕ) = e; omega

theorem blk3_apply (t : Fin cfg0.N) (k : Fin 3) (e : Fin 5632) : (iblk m c 3 t : S3x5632.Idx → Elt Ideal .f32) (ix2 k e) = (m ((c : Thread nD τ).loc main_arg2) : S3x5632.Idx → EReal) (ix2 k e) := by
  rw [← V_main_arg2 m c]
  unfold iblk
  refine congrArg (V m c main_arg2) (funext fun a => Fin.ext ?_)
  show cc0_transform_3 (grid0.coords t) a * S3x5632.size a + 1 * _ = _
  fin_cases a
  · show 0 * 3 + 1 * (k : ℕ) = k; omega
  · show 0 * 5632 + 1 * (e : ℕ) = e; omega

theorem blk4_apply (t : Fin cfg0.N) (e : Fin 5632) : (iblk m c 4 t : S1x5632.Idx → Elt Ideal .f32) (ix2 (0 : Fin 1) e) = (m ((c : Thread nD τ).loc main_arg3) : S5632.Idx → EReal) (ix1 e) := by
  have h : ∀ A : FVec Ideal S5632 .f32, (shapeCast S1x5632 A shapeCasts_S5632_S1x5632 : FVec Ideal S1x5632 .f32) (ix2 (0 : Fin 1) e) = A (ix1 e) := fun A => by pointwise
  refine Eq.trans ?_ ((congrFun (V_v1 m c) (ix2 (0 : Fin 1) e)).trans (h _))
  unfold iblk
  refine congrArg (V m c main_v1) (funext fun a => Fin.ext ?_)
  show cc0_transform_4 (grid0.coords t) a * S1x5632.size a + 1 * _ = _
  fin_cases a
  · rfl
  · show 0 * 5632 + 1 * (e : ℕ) = e; omega

theorem blk5_apply (t : Fin cfg0.N) (k : Fin 2816) (e : Fin 1024) : (iblk m c 5 t : S2816x1024.Idx → Elt Ideal .bf16) (ix2 k e) = (m ((c : Thread nD τ).loc main_arg4) : S2816x1024.Idx → EReal) (ix2 k e) := by
  refine Eq.trans ?_ (congrFun (V_v2 m c) (ix2 k e))
  unfold iblk
  refine congrArg (V m c main_v2) (funext fun a => Fin.ext ?_)
  show cc0_transform_5 (grid0.coords t) a * S2816x1024.size a + 1 * _ = _
  fin_cases a
  · show 0 * 2816 + 1 * (k : ℕ) = k; omega
  · show 0 * 1024 + 1 * (e : ℕ) = e; omega

theorem blk6_apply (t : Fin cfg0.N) (e : Fin 1024) : (iblk m c 6 t : S1x1024.Idx → Elt Ideal .f32) (ix2 (0 : Fin 1) e) = (m ((c : Thread nD τ).loc main_arg5) : S1024.Idx → EReal) (ix1 e) := by
  have h : ∀ A : FVec Ideal S1024 .f32, (shapeCast S1x1024 A shapeCasts_S1024_S1x1024 : FVec Ideal S1x1024 .f32) (ix2 (0 : Fin 1) e) = A (ix1 e) := fun A => by pointwise
  refine Eq.trans ?_ ((congrFun (V_v3 m c) (ix2 (0 : Fin 1) e)).trans (h _))
  unfold iblk
  refine congrArg (V m c main_v3) (funext fun a => Fin.ext ?_)
  show cc0_transform_6 (grid0.coords t) a * S1x1024.size a + 1 * _ = _
  fin_cases a
  · rfl
  · show 0 * 1024 + 1 * (e : ℕ) = e; omega

theorem blk7_apply (t : Fin cfg0.N) (e : Fin 1024) : (iblk m c 7 t : S1x1024.Idx → Elt Ideal .f32) (ix2 (0 : Fin 1) e) = (m ((c : Thread nD τ).loc main_arg6) : S1024.Idx → EReal) (ix1 e) := by
  have h : ∀ A : FVec Ideal S1024 .f32, (shapeCast S1x1024 A shapeCasts_S1024_S1x1024 : FVec Ideal S1x1024 .f32) (ix2 (0 : Fin 1) e) = A (ix1 e) := fun A => by pointwise
  refine Eq.trans ?_ ((congrFun (V_v4 m c) (ix2 (0 : Fin 1) e)).trans (h _))
  unfold iblk
  refine congrArg (V m c main_v4) (funext fun a => Fin.ext ?_)
  show cc0_transform_7 (grid0.coords t) a * S1x1024.size a + 1 * _ = _
  fin_cases a
  · rfl
  · show 0 * 1024 + 1 * (e : ℕ) = e; omega

/-- The block of a core's arguments, at a token and a column. -/
def spec (i : Fin 16384) (e : Fin 1024) : EReal :=
  ffn (past (fun i k => (m ((c : Thread nD τ).loc main_arg0) : S16384x1024.Idx → EReal) (ix2 i k)) i) (fun k e => (m ((c : Thread nD τ).loc main_arg1) : S1024x5632.Idx → EReal) (ix2 k e)) (fun t e => (m ((c : Thread nD τ).loc main_arg2) : S3x5632.Idx → EReal) (ix2 t e)) (fun e => (m ((c : Thread nD τ).loc main_arg3) : S5632.Idx → EReal) (ix1 e))
    (fun f e => (m ((c : Thread nD τ).loc main_arg4) : S2816x1024.Idx → EReal) (ix2 f e)) (fun e => (m ((c : Thread nD τ).loc main_arg5) : S1024.Idx → EReal) (ix1 e)) (fun e => (m ((c : Thread nD τ).loc main_arg6) : S1024.Idx → EReal) (ix1 e)) e

/-- The output array. -/
def G : S16384x1024.Idx → EReal := fun j => spec m c (j 0) (j 1)

/-- The rows a grid point reads back: a token's own and the two before it, zero where the sequence has not begun. -/
theorem rows_eq (t : Fin cfg0.N) (r : Fin 512) : rows (kernelRun0_A.sl.v24 (F := Ideal) c (grid0.coords t) (ms0_0 t) (hs0_0 t) (ms0_1 t) (hs0_1 t) scM0_0 (iblk m c 0 t) (iblk m c 1 t)) r =
    past (fun i k => (m ((c : Thread nD τ).loc main_arg0) : S16384x1024.Idx → EReal) (ix2 i k)) (tok t r) := by
  have hN : cfg0.N = 32 := N_0
  have ht : (t : ℕ) < 32 := hN ▸ t.isLt
  funext tap k
  have htok : ((tok t r : Fin 16384) : ℕ) = (t : ℕ) * 512 + r := rfl
  unfold rows past
  by_cases h : 2 ≤ (r : ℕ) + tap
  · rw [if_pos (by omega)]
    refine (v24_block c (grid0.coords t) (ms0_0 t) (hs0_0 t) (ms0_1 t) (hs0_1 t) scM0_0 (iblk m c 0 t) (iblk m c 1 t) _ (⟨(r : ℕ) + tap - 2, by omega⟩ : Fin 512) k (by show 14 + (tap : ℕ) + r = 16 + ((r : ℕ) + tap - 2); omega)).trans ((blk0_apply m c t _ k).trans ?_)
    refine congrArg (fun i : Fin 16384 => (m ((c : Thread nD τ).loc main_arg0) : S16384x1024.Idx → EReal) (ix2 i k)) (Fin.ext ?_)
    show (t : ℕ) * 512 + ((r : ℕ) + tap - 2) = ((t : ℕ) * 512 + r) + tap - 2
    omega
  · have hv := v24_halo c (grid0.coords t) (ms0_0 t) (hs0_0 t) (ms0_1 t) (hs0_1 t) scM0_0 (iblk m c 0 t) (iblk m c 1 t) (⟨14 + tap + r, by omega⟩ : Fin 528) (⟨14 + tap + r, by omega⟩ : Fin 16) k rfl
    refine hv.trans ?_
    by_cases h0 : (t : ℕ) % 16 = 0
    · rw [keep_zero t h0, if_neg (by omega), mul_zero]
    · rw [keep_one t h0, if_pos (by omega), mul_one]
      exact blk1_apply m c t _ k _ (by show ((t : ℕ) * 512 + r) + tap - 2 = (32 * (t : ℕ) - 1) * 16 + (14 + tap + r); omega)

/-- What a grid point computes, at a row and a column. -/
theorem point_apply (t : Fin cfg0.N) (r : Fin 512) (e : Fin 1024) :
    out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (ix2 r e) = spec m c (tok t r) e := by
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) r e).trans ?_
  unfold spec
  rw [rows_eq m c t r, funext fun k => funext fun e => blk2_apply m c t k e, funext fun k => funext fun e => blk3_apply m c t k e, funext fun e => blk4_apply m c t e, funext fun k => funext fun e => blk5_apply m c t k e, funext fun e => blk6_apply m c t e, funext fun e => blk7_apply m c t e]

/-- Where an element of a grid point's output block sits in the output array. -/
theorem emb8 (t : Fin cfg0.N) (r : Fin 512) (e : Fin 1024) : ((cfg0.win 8).blk t).view.emb (ix2 r e : S512x1024.Idx) = (ix2 (tok t r) e : S16384x1024.Idx) := by
  refine funext fun a => Fin.ext ?_
  show cc0_transform_8 (grid0.coords t) a * S512x1024.size a + 1 * _ = _
  fin_cases a
  · show (BitVec.ofNat 32 (grid0.coords t 0 : ℕ)).toNat * 512 + 1 * (r : ℕ) = (t : ℕ) * 512 + r
    rw [coords_eq]; omega
  · show 0 * 1024 + 1 * (e : ℕ) = e; omega

/-- What a grid point writes back is its block of the output array. -/
theorem flushed_eq (t : Fin cfg0.N) : (dats m 0 c).flushed 8 t = ((cfg0.win 8).blk t).view.read (Elt Ideal) (G m c) := by
  rw [Value.flushed8_A]
  have key : ∀ (Y : S512x1024.Idx → EReal), (∀ r e, Y (ix2 r e) = spec m c (tok t r) e) → (cfg0.win 8).cut (grid0.coords t) Y = ((cfg0.win 8).blk t).view.read (Elt Ideal) (G m c) := by
    intro Y hY
    funext j
    obtain ⟨r, e, rfl⟩ := idxB j
    exact (hY r e).trans (congrArg (G m c) (emb8 t r e)).symm
  exact key _ (point_apply m c t)

/-- Every index of the output array lies in some grid point's block. -/
theorem cover (j : S16384x1024.Idx) : ∃ t : Fin cfg0.N, (cfg0.win 8).flush t = true ∧ j ∈ ((cfg0.win 8).blk t).view.set := by
  obtain ⟨i, e, rfl⟩ := idx_out j
  have hN : cfg0.N = 32 := N_0
  have ht : (i : ℕ) / 512 < cfg0.N := by omega
  have hi : tok ⟨(i : ℕ) / 512, ht⟩ ⟨(i : ℕ) % 512, by omega⟩ = i := Fin.ext (show (i : ℕ) / 512 * 512 + (i : ℕ) % 512 = i by omega)
  refine ⟨⟨(i : ℕ) / 512, ht⟩, flush0_8 _, ?_⟩
  have key : ∀ (t : Fin cfg0.N) (r : Fin 512), tok t r = i → (ix2 i e : S16384x1024.Idx) ∈ ((cfg0.win 8).blk t).view.set := by
    rintro t r rfl
    rw [← emb8]
    exact View.emb_mem_set _ _
  exact key _ _ hi

/-- So the output array ends as the specification says. -/
theorem final : (dats m 0 c).arrAt 8 cfg0.N = G m c := (dats m 0 c).arrAt_eq_of_cover 8 (G m c) (fun t _ => flushed_eq m c t) cover

/-- The run: the output array ends as the specification says, the arguments as they were. -/
theorem run_value :
    θ_run defs (onTc (τ := τ) (main (F := Ideal))) ⟨m, fun _ => 0, ρ⟩ (fun r => ∀ c : Dev nD,
      r.2.mem ((c.tc : Thread nD τ).loc main_v5) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m c), (h c).2⟩) (Value.run_blocks m ρ)

end Cert.Kernel3Ideal.Ffn

end
-- ==== Proof.Ffn.Ref.lean ====
/-
  The feed-forward block's reference as a few named array functions, each read at an index; the generated term of its run is
  their composition.
-/
module

public import proofs.«01_k».proof.Proof.Gen.Reference3Ideal.Run
public import proofs.«01_k».proof.Proof.Ffn.Spec
public import Idealize.ShloMosaic.Lib.Pointwise
public import Idealize.ShloMosaic.Lib.IdealHost
public import Idealize.ShloMosaic.Lib.KernelVsHost

@[expose] public section

set_option maxRecDepth 16384

noncomputable section

namespace Cert.Reference3Ideal.Ffn

open Cert.Reference3Ideal Cert.Reference3Ideal.Gen Cert.Reference3Ideal.Value Cert.Mix Cert.Ffn Idealize.ShloMosaic Idealize.ShloMosaic.TcCoe

/-- The up projection, by sequence. -/
def upR (x : FVec Ideal S16384x1024 .f32) (wu : FVec Ideal S1024x5632 .f32) : FVec Ideal S2x8192x5632 .f32 :=
  shapeCast S2x8192x5632 (Host.dotGeneral dot_S16384x1024_S1024x5632_S16384x5632_1_0_0_1_n_n none x wu) shapeCasts_S16384x5632_S2x8192x5632

/-- Two rows of zeros before each sequence. -/
def padR (u : FVec Ideal S2x8192x5632 .f32) : FVec Ideal S2x8194x5632 .f32 :=
  pad S2x8194x5632 ![0, 2, 0] ![0, 0, 0] ![0, 0, 0] u (sitofp .f32 (constantI S_ 32 0#32)) pads_S2x8192x5632_S2x8194x5632_000_200_000 h_S_

/-- The first tap. -/
def tapR0 (p : FVec Ideal S2x8194x5632 .f32) (cw : FVec Ideal S3x5632 .f32) : FVec Ideal S2x8192x5632 .f32 :=
  mulf (extractStridedSlice S2x8192x5632 ![0, 0, 0] p slices_S2x8194x5632_S2x8192x5632_0_0_0) (broadcastInDim S2x8192x5632 ![0, 1, 2] bcast_S1x1x5632_S2x8192x5632_0_1_2 (broadcastInDim S1x1x5632 ![2] bcast_S5632_S1x1x5632_2 (shapeCast S5632 (extractStridedSlice S1x5632 ![0, 0] cw slices_S3x5632_S1x5632_0_0) shapeCasts_S1x5632_S5632)))

/-- The second tap. -/
def tapR1 (p : FVec Ideal S2x8194x5632 .f32) (cw : FVec Ideal S3x5632 .f32) : FVec Ideal S2x8192x5632 .f32 :=
  mulf (extractStridedSlice S2x8192x5632 ![0, 1, 0] p slices_S2x8194x5632_S2x8192x5632_0_1_0) (broadcastInDim S2x8192x5632 ![0, 1, 2] bcast_S1x1x5632_S2x8192x5632_0_1_2 (broadcastInDim S1x1x5632 ![2] bcast_S5632_S1x1x5632_2 (shapeCast S5632 (extractStridedSlice S1x5632 ![1, 0] cw slices_S3x5632_S1x5632_1_0) shapeCasts_S1x5632_S5632)))

/-- The third tap. -/
def tapR2 (p : FVec Ideal S2x8194x5632 .f32) (cw : FVec Ideal S3x5632 .f32) : FVec Ideal S2x8192x5632 .f32 :=
  mulf (extractStridedSlice S2x8192x5632 ![0, 2, 0] p slices_S2x8194x5632_S2x8192x5632_0_2_0) (broadcastInDim S2x8192x5632 ![0, 1, 2] bcast_S1x1x5632_S2x8192x5632_0_1_2 (broadcastInDim S1x1x5632 ![2] bcast_S5632_S1x1x5632_2 (shapeCast S5632 (extractStridedSlice S1x5632 ![2, 0] cw slices_S3x5632_S1x5632_2_0) shapeCasts_S1x5632_S5632)))

/-- The taps added, plus the bias. -/
def sumR (t0 t1 t2 : FVec Ideal S2x8192x5632 .f32) (cb : FVec Ideal S5632 .f32) : FVec Ideal S2x8192x5632 .f32 :=
  addf (addf (addf (addf (broadcastInDim S2x8192x5632 ![] bcast_S_S2x8192x5632 (constant S_ .f32 0x00000000#32)) t0) t1) t2) (broadcastInDim S2x8192x5632 ![0, 1, 2] bcast_S1x1x5632_S2x8192x5632_0_1_2 (broadcastInDim S1x1x5632 ![2] bcast_S5632_S1x1x5632_2 cb))

/-- The sequences laid out as tokens. -/
def flatR (C : FVec Ideal S2x8192x5632 .f32) : FVec Ideal S16384x5632 .f32 := shapeCast S16384x5632 C shapeCasts_S2x8192x5632_S16384x5632

/-- The convolution by token. -/
def convR (x : FVec Ideal S16384x1024 .f32) (wu : FVec Ideal S1024x5632 .f32) (cw : FVec Ideal S3x5632 .f32) (cb : FVec Ideal S5632 .f32) : FVec Ideal S16384x5632 .f32 :=
  flatR (sumR (tapR0 (padR (upR x wu)) cw) (tapR1 (padR (upR x wu)) cw) (tapR2 (padR (upR x wu)) cw) cb)

/-- The gated channels. -/
def actR (C : FVec Ideal S16384x5632 .f32) : FVec Ideal S16384x2816 .f32 :=
  mulf (mulf (extractStridedSlice S16384x2816 ![0, 0] C slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] C slices_S16384x5632_S16384x2816_0_0))))))
    (extractStridedSlice S16384x2816 ![0, 2816] C slices_S16384x5632_S16384x2816_0_2816)

/-- The down projection. -/
def downR (a : FVec Ideal S16384x2816 .f32) (wd : FVec Ideal S2816x1024 .f32) : FVec Ideal S16384x1024 .f32 := Host.dotGeneral dot_S16384x2816_S2816x1024_S16384x1024_1_0_0_1_n_n none a wd

/-- The residual and the down projection. -/
def residR (x f : FVec Ideal S16384x1024 .f32) : FVec Ideal S16384x1024 .f32 := addf (mulf (broadcastInDim S16384x1024 ![] bcast_S_S16384x1024 (constant S_ .f32 0x3F9837F0#32)) x) f

/-- Each row's mean. -/
def meanR (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))

/-- Each row less its mean. -/
def centR (Z : FVec Ideal S16384x1024 .f32) : FVec Ideal S16384x1024 .f32 := subf Z (broadcastInDim S16384x1024 ![0, 1] bcast_S16384x1_S16384x1024_0_1 (meanR Z))

/-- Centred rows scaled by their deviation, times the gain, plus the bias. -/
def scaleR (C : FVec Ideal S16384x1024 .f32) (M : FVec Ideal S16384x1 .f32) (g b : FVec Ideal S1024 .f32) : FVec Ideal S16384x1024 .f32 :=
  addf (mulf (mulf C (broadcastInDim S16384x1024 ![0, 1] bcast_S16384x1_S16384x1024_0_1 (Host.rsqrt (addf M (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The layer norm of every row. -/
def normR (Z : FVec Ideal S16384x1024 .f32) (g b : FVec Ideal S1024 .f32) : FVec Ideal S16384x1024 .f32 := scaleR (centR Z) (meanR (mulf (centR Z) (centR Z))) g b

/-- The block of the arguments. -/
def ffnR (x : FVec Ideal S16384x1024 .f32) (wu : FVec Ideal S1024x5632 .f32) (cw : FVec Ideal S3x5632 .f32) (cb : FVec Ideal S5632 .f32) (wd : FVec Ideal S2816x1024 .f32) (g b : FVec Ideal S1024 .f32) : FVec Ideal S16384x1024 .f32 :=
  normR (residR x (downR (actR (convR x wu cw cb)) wd)) g b

/-- The reference's result is the block of its arguments. -/
theorem res_eq (m : (ℓ : Loc nD τ sig) → Buf (Elt Ideal) ℓ) (c : Dev nD) :
    res_main_v60 (F := Ideal) m c = ffnR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-! ## At an index -/

/-- The up projection at a sequence's token. -/
theorem upR_apply (x : FVec Ideal S16384x1024 .f32) (wu : FVec Ideal S1024x5632 .f32) (b : Fin 2) (s : Fin 8192) (e : Fin 5632) :
    upR x wu (ix3 b s e) = dotW (fun k => x (ix2 (⟨(b : ℕ) * 8192 + s, by omega⟩ : Fin 16384) k)) (fun k e => wu (ix2 k e)) e := by
  have hd : ∀ i : Fin 16384, Host.dotGeneral dot_S16384x1024_S1024x5632_S16384x5632_1_0_0_1_n_n none x wu (ix2 i e) = dotW (fun k => x (ix2 i k)) (fun k e => wu (ix2 k e)) e := fun i => by
    unfold dotW
    pointwise
  unfold upR
  rw [shapeCast_apply _ _ (ix3 b s e) (ix2 (⟨(b : ℕ) * 8192 + s, by omega⟩ : Fin 16384) e) ?_]
  · exact hd _
  · refine (Shape.rowMajor_val_two _).trans (Eq.trans ?_ (Shape.rowMajor_val_three _).symm)
    show ((b : ℕ) * 8192 + s) * 5632 + e = ((b : ℕ) * 8192 + s) * 5632 + e
    rfl

/-- The padded sequences at a row: the row two before it, zero at the first two. -/
theorem padR_apply (u : FVec Ideal S2x8192x5632 .f32) (b : Fin 2) (p : Fin 8194) (e : Fin 5632) :
    padR u (ix3 b p e) = if h : 2 ≤ (p : ℕ) then u (ix3 b (⟨p - 2, by omega⟩ : Fin 8192) e) else 0 := by
  unfold padR
  by_cases h : 2 ≤ (p : ℕ)
  · rw [dif_pos h]
    refine pad_apply_of_inside _ _ _ _ _ _ _ _ _ fun a => ?_
    fin_cases a
    · show (b : ℕ) = 0 + b * (0 + 1); omega
    · show (p : ℕ) = 2 + (p - 2) * (0 + 1); omega
    · show (e : ℕ) = 0 + e * (0 + 1); omega
  · rw [dif_neg h]
    refine (pad_apply_of_not_inside _ _ _ _ _ _ _ _ (1 : Fin 3) fun hn => h hn.1).trans ?_
    have hz : ∀ j, (sitofp .f32 (constantI S_ 32 0#32) : FVec Ideal S_ .f32) j = 0 := fun j => sitofp_zero
    exact hz _

theorem tapR0_apply (p : FVec Ideal S2x8194x5632 .f32) (cw : FVec Ideal S3x5632 .f32) (b : Fin 2) (s : Fin 8192) (e : Fin 5632) :
    tapR0 p cw (ix3 b s e) = p (ix3 b (⟨s, by omega⟩ : Fin 8194) e) * cw (ix2 (0 : Fin 3) e) := by
  pointwise [tapR0]

theorem tapR1_apply (p : FVec Ideal S2x8194x5632 .f32) (cw : FVec Ideal S3x5632 .f32) (b : Fin 2) (s : Fin 8192) (e : Fin 5632) :
    tapR1 p cw (ix3 b s e) = p (ix3 b (⟨1 + s, by omega⟩ : Fin 8194) e) * cw (ix2 (1 : Fin 3) e) := by
  pointwise [tapR1]

theorem tapR2_apply (p : FVec Ideal S2x8194x5632 .f32) (cw : FVec Ideal S3x5632 .f32) (b : Fin 2) (s : Fin 8192) (e : Fin 5632) :
    tapR2 p cw (ix3 b s e) = p (ix3 b (⟨2 + s, by omega⟩ : Fin 8194) e) * cw (ix2 (2 : Fin 3) e) := by
  pointwise [tapR2]

theorem sumR_apply (t0 t1 t2 : FVec Ideal S2x8192x5632 .f32) (cb : FVec Ideal S5632 .f32) (b : Fin 2) (s : Fin 8192) (e : Fin 5632) :
    sumR t0 t1 t2 cb (ix3 b s e) = t0 (ix3 b s e) + t1 (ix3 b s e) + t2 (ix3 b s e) + cb (ix1 e) := by
  have h : sumR t0 t1 t2 cb (ix3 b s e) = 0 + t0 (ix3 b s e) + t1 (ix3 b s e) + t2 (ix3 b s e) + cb (ix1 e) := by
    pointwise [sumR]
  rw [h, zero_add]

theorem flatR_apply (C : FVec Ideal S2x8192x5632 .f32) (i : Fin 16384) (e : Fin 5632) :
    flatR C (ix2 i e) = C (ix3 (⟨(i : ℕ) / 8192, by omega⟩ : Fin 2) (⟨(i : ℕ) % 8192, by omega⟩ : Fin 8192) e) := by
  unfold flatR
  refine shapeCast_apply _ _ _ _ ((Shape.rowMajor_val_three _).trans (Eq.trans ?_ (Shape.rowMajor_val_two _).symm))
  show ((i : ℕ) / 8192 * 8192 + (i : ℕ) % 8192) * 5632 + e = (i : ℕ) * 5632 + e
  have : (i : ℕ) / 8192 * 8192 + (i : ℕ) % 8192 = i := by omega
  rw [this]

/-- A row of the padded up projection: the projection of the row two before. -/
theorem past_row (x : FVec Ideal S16384x1024 .f32) (wu : FVec Ideal S1024x5632 .f32) (i : Fin 16384) (tap : Fin 3) (p : Fin 8194) (hp : (p : ℕ) = tap + (i : ℕ) % 8192) (e : Fin 5632) :
    padR (upR x wu) (ix3 (⟨(i : ℕ) / 8192, by omega⟩ : Fin 2) p e) = dotW (past (fun i k => x (ix2 i k)) i tap) (fun k e => wu (ix2 k e)) e := by
  rw [padR_apply]
  by_cases h : 2 ≤ (p : ℕ)
  · have hk : past (fun i k => x (ix2 i k)) i tap = fun k => x (ix2 (⟨(i : ℕ) + tap - 2, by omega⟩ : Fin 16384) k) := by
      funext k
      unfold past
      rw [if_pos (by omega)]
    have hi : (⟨(i : ℕ) / 8192 * 8192 + ((p : ℕ) - 2), by omega⟩ : Fin 16384) = ⟨(i : ℕ) + tap - 2, by omega⟩ := Fin.ext (by show (i : ℕ) / 8192 * 8192 + ((p : ℕ) - 2) = (i : ℕ) + tap - 2; omega)
    rw [dif_pos h, upR_apply, hk]
    exact congrArg (fun i => dotW (fun k => x (ix2 i k)) (fun k e => wu (ix2 k e)) e) hi
  · have hk : past (fun i k => x (ix2 i k)) i tap = fun _ => 0 := by
      funext k
      unfold past
      rw [if_neg (by omega)]
    rw [dif_neg h, hk, dotW_zero]

/-- The convolution at a token and a channel. -/
theorem convR_apply (x : FVec Ideal S16384x1024 .f32) (wu : FVec Ideal S1024x5632 .f32) (cw : FVec Ideal S3x5632 .f32) (cb : FVec Ideal S5632 .f32) (i : Fin 16384) (e : Fin 5632) :
    convR x wu cw cb (ix2 i e) = conv (past (fun i k => x (ix2 i k)) i) (fun k e => wu (ix2 k e)) (fun t e => cw (ix2 t e)) (fun e => cb (ix1 e)) e := by
  unfold convR conv
  rw [flatR_apply, sumR_apply, tapR0_apply, tapR1_apply, tapR2_apply, past_row x wu i 0 _ (Nat.zero_add _).symm, past_row x wu i 1 _ rfl, past_row x wu i 2 _ rfl]

/-- The gated channels at a token. -/
theorem actR_apply (C : FVec Ideal S16384x5632 .f32) (i : Fin 16384) (f : Fin 2816) :
    actR C (ix2 i f) = swish (C (ix2 i (⟨f, by omega⟩ : Fin 5632))) * C (ix2 i (⟨2816 + f, by omega⟩ : Fin 5632)) := by
  unfold swish logi
  pointwise [actR]

theorem downR_apply (a : FVec Ideal S16384x2816 .f32) (wd : FVec Ideal S2816x1024 .f32) (i : Fin 16384) (e : Fin 1024) :
    downR a wd (ix2 i e) = dotF (fun f => a (ix2 i f)) (fun f e => wd (ix2 f e)) e := by
  unfold dotF
  pointwise [downR]

theorem residR_apply (x f : FVec Ideal S16384x1024 .f32) (i : Fin 16384) (e : Fin 1024) :
    residR x f (ix2 i e) = residF (fun k => x (ix2 i k)) (fun k => f (ix2 i k)) e := by
  unfold residF
  pointwise [residR]

theorem meanR_apply (Z : FVec Ideal S16384x1024 .f32) (i : Fin 16384) : meanR Z (ix2 i (0 : Fin 1)) = mean fun k => Z (ix2 i k) := by
  unfold mean
  pointwise [meanR]

theorem centR_apply (Z : FVec Ideal S16384x1024 .f32) (i : Fin 16384) (e : Fin 1024) : centR Z (ix2 i e) = Z (ix2 i e) - mean fun k => Z (ix2 i k) := by
  rw [← meanR_apply]
  unfold centR
  generalize meanR Z = M
  pointwise

theorem scaleR_apply (C : FVec Ideal S16384x1024 .f32) (M : FVec Ideal S16384x1 .f32) (g b : FVec Ideal S1024 .f32) (i : Fin 16384) (e : Fin 1024) :
    scaleR C M g b (ix2 i e) = C (ix2 i e) * Ideal.rsqrt (M (ix2 i (0 : Fin 1)) + Ideal.ofBits .f32 0x3727C5AC#32) * g (ix1 e) + b (ix1 e) := by
  pointwise [scaleR]

theorem normR_apply (Z : FVec Ideal S16384x1024 .f32) (g b : FVec Ideal S1024 .f32) (i : Fin 16384) (e : Fin 1024) :
    normR Z g b (ix2 i e) = norm (fun k => Z (ix2 i k)) (fun e => g (ix1 e)) (fun e => b (ix1 e)) e := by
  unfold normR
  rw [scaleR_apply, meanR_apply, centR_apply]
  have hq : ∀ k, mulf (centR Z) (centR Z) (ix2 i k) = (Z (ix2 i k) - mean fun k => Z (ix2 i k)) * (Z (ix2 i k) - mean fun k => Z (ix2 i k)) := fun k => by
    rw [← centR_apply]; rfl
  simp only [hq]
  rfl

/-- The block of the arguments at a token and a column. -/
theorem ffnR_apply (x : FVec Ideal S16384x1024 .f32) (wu : FVec Ideal S1024x5632 .f32) (cw : FVec Ideal S3x5632 .f32) (cb : FVec Ideal S5632 .f32) (wd : FVec Ideal S2816x1024 .f32) (g b : FVec Ideal S1024 .f32) (i : Fin 16384) (e : Fin 1024) :
    ffnR x wu cw cb wd g b (ix2 i e) = ffn (past (fun i k => x (ix2 i k)) i) (fun k e => wu (ix2 k e)) (fun t e => cw (ix2 t e)) (fun e => cb (ix1 e)) (fun f e => wd (ix2 f e)) (fun e => g (ix1 e)) (fun e => b (ix1 e)) e := by
  unfold ffnR ffn
  rw [normR_apply]
  refine congrArg (fun f => norm f _ _ e) (funext fun k => ?_)
  rw [residR_apply, past_two]
  refine congrArg (fun f => residF _ f k) (funext fun k => ?_)
  rw [downR_apply]
  refine congrArg (fun f => dotF f _ k) (funext fun f => ?_)
  rw [actR_apply, convR_apply, convR_apply]
  rfl

end Cert.Reference3Ideal.Ffn

end
-- ==== Proof.Mix.Kernel.lean ====
/-
  The two halves of the mixer's block at the exact instance, each the same function of what it loads, read at an index.
-/
module

public import proofs.«01_k».proof.Proof.Gen.Kernel2Ideal.Value
public import proofs.«01_k».proof.Proof.Mix.Spec
public import Idealize.ShloMosaic.Lib.Pointwise

@[expose] public section

set_option maxRecDepth 16384

noncomputable section

namespace Cert.Kernel2Ideal.Mix

open Cert.Kernel2Ideal Cert.Kernel2Ideal.Gen Cert.Mix Idealize.ShloMosaic Idealize.ShloMosaic.TcCoe

/-- The logistic function of an array, as the kernel computes it. -/
def sigA (G : FVec Ideal S512x2048 .f32) : FVec Ideal S512x2048 .f32 :=
  divf (broadcast S512x2048 (Scalar.ofBits .f32 0x3F800000#32)) (addf (broadcast S512x2048 (Scalar.ofBits .f32 0x3F800000#32)) (exp (subf (broadcast S512x2048 (Scalar.ofBits .f32 0x00000000#32)) G)))

/-- The gates before the logistic function. -/
def gateA (v0 : FVec Ideal S512x1024 .f32) (v2 : FVec Ideal S1024x2048 .bf16) (v5 : FVec Ideal S1x2048 .f32) : FVec Ideal S512x2048 .f32 :=
  addf (matmul dot_S512x1024_S1024x2048_S512x2048_1_0_0_1_n_n none (truncf .bf16 v0 bitsLt_bf16_f32) (shapeCast S1024x2048 v2 shapeCasts_S1024x2048_S1024x2048) (constant S512x2048 .f32 0x00000000#32))
    (broadcastTo S512x2048 (shapeCast S1x2048 v5 shapeCasts_S1x2048_S1x2048) broadcasts_S1x2048_S512x2048)

/-- The gated branches from the gates and the projections. -/
def mergeA (G : FVec Ideal S512x2048 .f32) (ya yb : FVec Ideal S512x1024 .f32) : FVec Ideal S512x1024 .bf16 :=
  truncf .bf16 (addf (mulf (extractStridedSlice S512x1024 ![0, 0] G slices_S512x2048_o0_0_S512x1024) ya) (mulf (extractStridedSlice S512x1024 ![0, 1024] G slices_S512x2048_o0_1024_S512x1024) yb)) bitsLt_bf16_f32

/-- The first branch's projection. -/
def projA (v16 : FVec Ideal S512x1024 .bf16) (v17 : FVec Ideal S1024x1024 .bf16) : FVec Ideal S512x1024 .f32 :=
  matmul dot_S512x1024_S1024x1024_S512x1024_1_0_0_1_n_n none v16 (shapeCast S1024x1024 v17 shapeCasts_S1024x1024_S1024x1024) (constant S512x1024 .f32 0x00000000#32)

/-- The second branch's projection. -/
def projB (v20 : FVec Ideal S512x512 .bf16) (v21 : FVec Ideal S512x1024 .bf16) : FVec Ideal S512x1024 .f32 :=
  matmul dot_S512x512_S512x1024_S512x1024_1_0_0_1_n_n none v20 (shapeCast S512x1024 v21 shapeCasts_S512x1024_S512x1024) (constant S512x1024 .f32 0x00000000#32)

/-- The residual and the mix. -/
def residA (mg : FVec Ideal S512x1024 .bf16) (v60 : FVec Ideal S1024x1024 .bf16) (v63 : FVec Ideal S512x1024 .f32) : FVec Ideal S512x1024 .f32 :=
  addf (mulf (broadcast S512x1024 (Scalar.ofBits .f32 0x3F9837F0#32)) v63) (projA mg v60)

/-- Each row's mean. -/
def meanA (Z : FVec Ideal S512x1024 .f32) : FVec Ideal S512x1 .f32 :=
  divf (shapeCast S512x1 (multiReduction .add [1] S512 Z 0x00000000#32 reduces_S512x1024_S512 (.inl rfl) rfl) shapeCasts_S512_S512x1) (broadcast S512x1 (Scalar.ofBits .f32 0x44800000#32))

/-- Each row less its mean. -/
def centA (Z : FVec Ideal S512x1024 .f32) : FVec Ideal S512x1024 .f32 := subf Z (broadcastTo S512x1024 (meanA Z) broadcasts_S512x1_S512x1024)

/-- Centred rows scaled by their deviation, times the gain, plus the bias. -/
def scaleA (C : FVec Ideal S512x1024 .f32) (M : FVec Ideal S512x1 .f32) (g b : FVec Ideal S1x1024 .f32) : FVec Ideal S512x1024 .f32 :=
  addf (mulf (mulf C (broadcastTo S512x1024 (rsqrt (addf M (broadcast S512x1 (Scalar.ofBits .f32 0x3727C5AC#32)))) broadcasts_S512x1_S512x1024))
    (broadcastTo S512x1024 (shapeCast S1x1024 g shapeCasts_S1x1024_S1x1024) broadcasts_S1x1024_S512x1024)) (broadcastTo S512x1024 (shapeCast S1x1024 b shapeCasts_S1x1024_S1x1024) broadcasts_S1x1024_S512x1024)

/-- A half of the block from what it loads. -/
def halfA (x : FVec Ideal S512x1024 .f32) (oa : FVec Ideal S512x1024 .bf16) (ob : FVec Ideal S512x512 .bf16) (wg : FVec Ideal S1024x2048 .bf16) (bg : FVec Ideal S1x2048 .f32) (wa : FVec Ideal S1024x1024 .bf16) (wb : FVec Ideal S512x1024 .bf16)
    (wo : FVec Ideal S1024x1024 .bf16) (g b : FVec Ideal S1x1024 .f32) : FVec Ideal S512x1024 .f32 :=
  have Z := residA (mergeA (sigA (gateA x wg bg)) (projA oa wa) (projB ob wb)) wo x
  scaleA (centA Z) (meanA (mulf (centA Z) (centA Z))) g b

/-- The block's two stores write the two halves. -/
theorem out_eq (x0 : Vec Ideal S1024x1024 .f32) (x1 : Vec Ideal S1024x1024 .bf16) (x2 : Vec Ideal S1024x512 .bf16) (x3 : Vec Ideal S1024x2048 .bf16) (x4 : Vec Ideal S1x2048 .f32) (x5 : Vec Ideal S1024x1024 .bf16) (x6 : Vec Ideal S512x1024 .bf16)
    (x7 : Vec Ideal S1024x1024 .bf16) (x8 : Vec Ideal S1x1024 .f32) (x9 : Vec Ideal S1x1024 .f32) :
    out0_10 (F := Ideal) x0 x1 x2 x3 x4 x5 x6 x7 x8 x9 = View.canon
      [⟨r0_6, halfA (View.ld x0 r0_6) (View.ld x1 r0_6) (View.ld x2 r0_7) (View.ld x3 r0_1) (View.ld x4 r0_2) (View.ld x5 r0_3) (View.ld x6 r0_5) (View.ld x7 r0_3) (View.ld x8 r0_8) (View.ld x9 r0_8)⟩,
       ⟨r0_0, halfA (View.ld x0 r0_0) (View.ld x1 r0_0) (View.ld x2 r0_4) (View.ld x3 r0_1) (View.ld x4 r0_2) (View.ld x5 r0_3) (View.ld x6 r0_5) (View.ld x7 r0_3) (View.ld x8 r0_8) (View.ld x9 r0_8)⟩] := rfl

/-! ## At an index -/

/-- The logistic function of an array, at an index. -/
theorem sigA_apply (G : FVec Ideal S512x2048 .f32) (r : Fin 512) (e : Fin 2048) : sigA G (ix2 r e) = logi (G (ix2 r e)) := by
  pointwise [sigA]
  unfold logi
  rw [zero_sub_e]

/-- A gate before the logistic function, at an index. -/
theorem gateA_apply (v0 : FVec Ideal S512x1024 .f32) (v2 : FVec Ideal S1024x2048 .bf16) (v5 : FVec Ideal S1x2048 .f32) (r : Fin 512) (e : Fin 2048) :
    gateA v0 v2 v5 (ix2 r e) = dotW (fun k => v0 (ix2 r k)) (fun k e => v2 (ix2 k e)) e + v5 (ix2 (0 : Fin 1) e) := by
  unfold dotW
  pointwise [gateA]

/-- The gated branches, at an index. -/
theorem mergeA_apply (G : FVec Ideal S512x2048 .f32) (ya yb : FVec Ideal S512x1024 .f32) (r : Fin 512) (e : Fin 1024) :
    mergeA G ya yb (ix2 r e) = G (ix2 r (⟨e, by omega⟩ : Fin 2048)) * ya (ix2 r e) + G (ix2 r (⟨1024 + e, by omega⟩ : Fin 2048)) * yb (ix2 r e) := by
  pointwise [mergeA]

/-- The first projection, at an index. -/
theorem projA_apply (v16 : FVec Ideal S512x1024 .bf16) (v17 : FVec Ideal S1024x1024 .bf16) (r : Fin 512) (e : Fin 1024) :
    projA v16 v17 (ix2 r e) = dotW (fun k => v16 (ix2 r k)) (fun k e => v17 (ix2 k e)) e := by
  unfold dotW
  pointwise [projA]

/-- The second projection, at an index. -/
theorem projB_apply (v20 : FVec Ideal S512x512 .bf16) (v21 : FVec Ideal S512x1024 .bf16) (r : Fin 512) (e : Fin 1024) :
    projB v20 v21 (ix2 r e) = dotH (fun k => v20 (ix2 r k)) (fun k e => v21 (ix2 k e)) e := by
  unfold dotH
  pointwise [projB]

/-- The residual and the mix, at an index. -/
theorem residA_apply (mg : FVec Ideal S512x1024 .bf16) (v60 : FVec Ideal S1024x1024 .bf16) (v63 : FVec Ideal S512x1024 .f32) (r : Fin 512) (e : Fin 1024) :
    residA mg v60 v63 (ix2 r e) = resid (fun k => v63 (ix2 r k)) (fun k => mg (ix2 r k)) (fun k e => v60 (ix2 k e)) e := by
  unfold resid
  rw [← projA_apply]
  pointwise [residA]

/-- A row's mean. -/
theorem meanA_apply (Z : FVec Ideal S512x1024 .f32) (r : Fin 512) : meanA Z (ix2 r (0 : Fin 1)) = mean fun k => Z (ix2 r k) := by
  unfold mean
  pointwise [meanA]

/-- A centred row, at an index. -/
theorem centA_apply (Z : FVec Ideal S512x1024 .f32) (r : Fin 512) (e : Fin 1024) : centA Z (ix2 r e) = Z (ix2 r e) - mean fun k => Z (ix2 r k) := by
  rw [← meanA_apply]
  unfold centA
  generalize meanA Z = M
  pointwise

/-- A scaled row, at an index. -/
theorem scaleA_apply (C : FVec Ideal S512x1024 .f32) (M : FVec Ideal S512x1 .f32) (g b : FVec Ideal S1x1024 .f32) (r : Fin 512) (e : Fin 1024) :
    scaleA C M g b (ix2 r e) = C (ix2 r e) * Ideal.rsqrt (M (ix2 r (0 : Fin 1)) + Ideal.ofBits .f32 0x3727C5AC#32) * g (ix2 (0 : Fin 1) e) + b (ix2 (0 : Fin 1) e) := by
  pointwise [scaleA]

/-- A half of the block, at an index: the mixer of the row. -/
theorem halfA_apply (x : FVec Ideal S512x1024 .f32) (oa : FVec Ideal S512x1024 .bf16) (ob : FVec Ideal S512x512 .bf16) (wg : FVec Ideal S1024x2048 .bf16) (bg : FVec Ideal S1x2048 .f32) (wa : FVec Ideal S1024x1024 .bf16) (wb : FVec Ideal S512x1024 .bf16)
    (wo : FVec Ideal S1024x1024 .bf16) (g b : FVec Ideal S1x1024 .f32) (r : Fin 512) (e : Fin 1024) :
    halfA x oa ob wg bg wa wb wo g b (ix2 r e) = mixer (fun k => x (ix2 r k)) (fun k => oa (ix2 r k)) (fun k => ob (ix2 r k)) (fun k e => wg (ix2 k e)) (fun e => bg (ix2 (0 : Fin 1) e)) (fun k e => wa (ix2 k e)) (fun k e => wb (ix2 k e))
      (fun k e => wo (ix2 k e)) (fun e => g (ix2 (0 : Fin 1) e)) (fun e => b (ix2 (0 : Fin 1) e)) e := by
  have hz : ∀ k, residA (mergeA (sigA (gateA x wg bg)) (projA oa wa) (projB ob wb)) wo x (ix2 r k) = resid (fun k => x (ix2 r k)) (merged (fun k => x (ix2 r k)) (fun k => oa (ix2 r k)) (fun k => ob (ix2 r k)) (fun k e => wg (ix2 k e)) (fun e => bg (ix2 (0 : Fin 1) e)) (fun k e => wa (ix2 k e)) (fun k e => wb (ix2 k e))) (fun k e => wo (ix2 k e)) k := fun k => by
    rw [residA_apply]
    refine congrArg (fun f => resid _ f _ k) (funext fun k => ?_)
    rw [mergeA_apply, sigA_apply, sigA_apply, gateA_apply, gateA_apply, projA_apply, projB_apply]
    rfl
  unfold halfA
  show scaleA (centA (residA (mergeA (sigA (gateA x wg bg)) (projA oa wa) (projB ob wb)) wo x)) (meanA (mulf (centA (residA (mergeA (sigA (gateA x wg bg)) (projA oa wa) (projB ob wb)) wo x)) (centA (residA (mergeA (sigA (gateA x wg bg)) (projA oa wa) (projB ob wb)) wo x)))) g b (ix2 r e) = _
  generalize residA (mergeA (sigA (gateA x wg bg)) (projA oa wa) (projB ob wb)) wo x = Z at hz ⊢
  rw [scaleA_apply, meanA_apply, centA_apply]
  have hq : ∀ k, mulf (centA Z) (centA Z) (ix2 r k) = (Z (ix2 r k) - mean fun k => Z (ix2 r k)) * (Z (ix2 r k) - mean fun k => Z (ix2 r k)) := fun k => by
    rw [← centA_apply]; rfl
  simp only [hq, hz]
  rfl

end Cert.Kernel2Ideal.Mix

end
-- ==== Proof.Mix.Value.lean ====
/-
  The mixer's result at the exact instance: every grid point leaves its rows' mixes, and the blocks cover the output array.
-/
module

public import proofs.«01_k».proof.Proof.Mix.Kernel
public import Idealize.ShloMosaic.Lib.Pipeline.ValueKit.Tiles
public import Idealize.ShloMosaic.Lib.IdealHost

@[expose] public section

set_option maxRecDepth 16384

noncomputable section

namespace Cert.Kernel2Ideal.Mix

open Cert.Kernel2Ideal Cert.Kernel2Ideal.Gen Cert.Mix Idealize.ShloMosaic Idealize.ShloMosaic.TcCoe Idealize.SL.Sem

/-- An index of a half block by its row and column. -/
theorem idxH (j : S512x1024.Idx) : ∃ (r : Fin 512) (e : Fin 1024), j = ix2 r e := ⟨j 0, j 1, funext fun a => by fin_cases a <;> rfl⟩

/-- An index of a block by its row and column. -/
theorem idxB (j : S1024x1024.Idx) : ∃ (r e : Fin 1024), j = ix2 r e := ⟨j 0, j 1, funext fun a => by fin_cases a <;> rfl⟩

/-- An index of the output array by its token and column. -/
theorem idx_out (j : S16384x1024.Idx) : ∃ (i : Fin 16384) (e : Fin 1024), j = ix2 i e := ⟨j 0, j 1, funext fun a => by fin_cases a <;> rfl⟩

/-- A load of whole rows from a given row on, at an index. -/
theorem ld_rows {t : EltTy} {R K r : ℕ} (x : (⟨2, ![R, K]⟩ : Shape).Idx → Elt Ideal t) (o : ℕ) (inb : ∀ a, (![o, 0] : Fin 2 → ℕ) a + (![r, K] : Fin 2 → ℕ) a ≤ (⟨2, ![R, K]⟩ : Shape).size a) (a : Fin r) (k : Fin K) (p : Fin R) (hp : (p : ℕ) = o + a) :
    View.ld x (Rect.unit (s := ⟨2, ![R, K]⟩) ![o, 0] ![r, K] inb) (ix2 a k) = x (ix2 p k) :=
  View.ld_unit_apply_of x _ _ _ _ _ (fun d => by
    fin_cases d
    · exact hp
    · exact (Nat.zero_add _).symm)

/-- The block, at an index: the mixer of the row. -/
theorem out_apply (x0 : Vec Ideal S1024x1024 .f32) (x1 : Vec Ideal S1024x1024 .bf16) (x2 : Vec Ideal S1024x512 .bf16) (x3 : Vec Ideal S1024x2048 .bf16) (x4 : Vec Ideal S1x2048 .f32) (x5 : Vec Ideal S1024x1024 .bf16) (x6 : Vec Ideal S512x1024 .bf16)
    (x7 : Vec Ideal S1024x1024 .bf16) (x8 : Vec Ideal S1x1024 .f32) (x9 : Vec Ideal S1x1024 .f32) (r e : Fin 1024) :
    out0_10 (F := Ideal) x0 x1 x2 x3 x4 x5 x6 x7 x8 x9 (ix2 r e) = mixer (fun k => x0 (ix2 r k)) (fun k => x1 (ix2 r k)) (fun k => x2 (ix2 r k)) (fun k e => x3 (ix2 k e)) (fun e => x4 (ix2 (0 : Fin 1) e)) (fun k e => x5 (ix2 k e)) (fun k e => x6 (ix2 k e))
      (fun k e => x7 (ix2 k e)) (fun e => x8 (ix2 (0 : Fin 1) e)) (fun e => x9 (ix2 (0 : Fin 1) e)) e := by
  have w3 : ∀ k e, View.ld x3 r0_1 (ix2 k e) = x3 (ix2 k e) := fun k e => ld_rows x3 0 _ k e k (Nat.zero_add _).symm
  have w4 : ∀ e, View.ld x4 r0_2 (ix2 (0 : Fin 1) e) = x4 (ix2 (0 : Fin 1) e) := fun e => ld_rows x4 0 _ 0 e 0 (Nat.zero_add _).symm
  have w5 : ∀ k e, View.ld x5 r0_3 (ix2 k e) = x5 (ix2 k e) := fun k e => ld_rows x5 0 _ k e k (Nat.zero_add _).symm
  have w6 : ∀ k e, View.ld x6 r0_5 (ix2 k e) = x6 (ix2 k e) := fun k e => ld_rows x6 0 _ k e k (Nat.zero_add _).symm
  have w7 : ∀ k e, View.ld x7 r0_3 (ix2 k e) = x7 (ix2 k e) := fun k e => ld_rows x7 0 _ k e k (Nat.zero_add _).symm
  have w8 : ∀ e, View.ld x8 r0_8 (ix2 (0 : Fin 1) e) = x8 (ix2 (0 : Fin 1) e) := fun e => ld_rows x8 0 _ 0 e 0 (Nat.zero_add _).symm
  have w9 : ∀ e, View.ld x9 r0_8 (ix2 (0 : Fin 1) e) = x9 (ix2 (0 : Fin 1) e) := fun e => ld_rows x9 0 _ 0 e 0 (Nat.zero_add _).symm
  rw [out_eq]
  canon_tiles x h
  · obtain ⟨a, e', rfl⟩ := idxH x
    have he : e' = e := Fin.ext (show (e' : ℕ) = e from h1.symm)
    subst he
    have hr : (r : ℕ) = 512 + a := h0
    rw [halfA_apply]
    simp only [w3, w4, w5, w6, w7, w8, w9]
    rw [funext fun k => ld_rows x0 512 _ a k r hr, funext fun k => ld_rows x1 512 _ a k r hr, funext fun k => ld_rows x2 512 _ a k r hr]
  · obtain ⟨a, e', rfl⟩ := idxH x
    have he : e' = e := Fin.ext (show (e' : ℕ) = e from h1.symm)
    subst he
    have hr : (r : ℕ) = 0 + a := (show (r : ℕ) = a from h0).trans (Nat.zero_add _).symm
    rw [halfA_apply]
    simp only [w3, w4, w5, w6, w7, w8, w9]
    rw [funext fun k => ld_rows x0 0 _ a k r hr, funext fun k => ld_rows x1 0 _ a k r hr, funext fun k => ld_rows x2 0 _ a k r hr]

variable (m : (ℓ : Loc nD τ sig) → Buf (Elt Ideal) ℓ) (ρ : Dev nD → PrngReg) (c : Dev nD)

/-- A grid point's rows in turn. -/
theorem coords_eq (t : Fin cfg0.N) : (BitVec.ofNat 32 (grid0.coords t 0 : ℕ)).toNat = (t : ℕ) := by
  rcases fin_N0 t with rfl | rfl | rfl | rfl | rfl | rfl | rfl | rfl | rfl | rfl | rfl | rfl | rfl | rfl | rfl | rfl <;> decide +kernel

/-- The token of a row of a grid point's block. -/
def tok (t : Fin cfg0.N) (r : Fin 1024) : Fin 16384 := ⟨(t : ℕ) * 1024 + r, by have : cfg0.N = 16 := N_0; omega⟩

theorem V_v0 : V m c main_v0 = (truncf .bf16 (m ((c : Thread nD τ).loc main_arg3) : FVec Ideal S1024x2048 .f32) bitsLt_bf16_f32 : FVec Ideal S1024x2048 .bf16) := by
  dsimp only [V, hostOps0]
  after_results_simp <;> rfl

theorem V_v1 : V m c main_v1 = (shapeCast S1x2048 (m ((c : Thread nD τ).loc main_arg4) : FVec Ideal S2048 .f32) shapeCasts_S2048_S1x2048 : FVec Ideal S1x2048 .f32) := by
  dsimp only [V, hostOps0]
  after_results_simp <;> rfl

theorem V_v2 : V m c main_v2 = (truncf .bf16 (m ((c : Thread nD τ).loc main_arg5) : FVec Ideal S1024x1024 .f32) bitsLt_bf16_f32 : FVec Ideal S1024x1024 .bf16) := by
  dsimp only [V, hostOps0]
  after_results_simp <;> rfl

theorem V_v3 : V m c main_v3 = (truncf .bf16 (m ((c : Thread nD τ).loc main_arg6) : FVec Ideal S512x1024 .f32) bitsLt_bf16_f32 : FVec Ideal S512x1024 .bf16) := by
  dsimp only [V, hostOps0]
  after_results_simp <;> rfl

theorem V_v4 : V m c main_v4 = (truncf .bf16 (m ((c : Thread nD τ).loc main_arg7) : FVec Ideal S1024x1024 .f32) bitsLt_bf16_f32 : FVec Ideal S1024x1024 .bf16) := by
  dsimp only [V, hostOps0]
  after_results_simp <;> rfl

theorem V_v5 : V m c main_v5 = (shapeCast S1x1024 (m ((c : Thread nD τ).loc main_arg8) : FVec Ideal S1024 .f32) shapeCasts_S1024_S1x1024 : FVec Ideal S1x1024 .f32) := by
  dsimp only [V, hostOps0]
  after_results_simp <;> rfl

theorem V_v6 : V m c main_v6 = (shapeCast S1x1024 (m ((c : Thread nD τ).loc main_arg9) : FVec Ideal S1024 .f32) shapeCasts_S1024_S1x1024 : FVec Ideal S1x1024 .f32) := by
  dsimp only [V, hostOps0]
  after_results_simp <;> rfl

theorem blk0_apply (t : Fin cfg0.N) (r k : Fin 1024) : (iblk m c 0 t : S1024x1024.Idx → Elt Ideal .f32) (ix2 r k) = (m ((c : Thread nD τ).loc main_arg0) : S16384x1024.Idx → Elt Ideal .f32) (ix2 (tok t r) k) := by
  rw [← V_main_arg0 m c]
  unfold iblk
  refine congrArg (V m c main_arg0) (funext fun a => Fin.ext ?_)
  show cc0_transform_0 (grid0.coords t) a * S1024x1024.size a + 1 * _ = _
  fin_cases a
  · show (BitVec.ofNat 32 (grid0.coords t 0 : ℕ)).toNat * 1024 + 1 * (r : ℕ) = (t : ℕ) * 1024 + r
    rw [coords_eq]; omega
  · show 0 * 1024 + 1 * (k : ℕ) = k; omega

theorem blk1_apply (t : Fin cfg0.N) (r k : Fin 1024) : (iblk m c 1 t : S1024x1024.Idx → Elt Ideal .bf16) (ix2 r k) = (m ((c : Thread nD τ).loc main_arg1) : S16384x1024.Idx → Elt Ideal .bf16) (ix2 (tok t r) k) := by
  rw [← V_main_arg1 m c]
  unfold iblk
  refine congrArg (V m c main_arg1) (funext fun a => Fin.ext ?_)
  show cc0_transform_1 (grid0.coords t) a * S1024x1024.size a + 1 * _ = _
  fin_cases a
  · show (BitVec.ofNat 32 (grid0.coords t 0 : ℕ)).toNat * 1024 + 1 * (r : ℕ) = (t : ℕ) * 1024 + r
    rw [coords_eq]; omega
  · show 0 * 1024 + 1 * (k : ℕ) = k; omega

theorem blk2_apply (t : Fin cfg0.N) (r : Fin 1024) (k : Fin 512) : (iblk m c 2 t : S1024x512.Idx → Elt Ideal .bf16) (ix2 r k) = (m ((c : Thread nD τ).loc main_arg2) : S16384x512.Idx → Elt Ideal .bf16) (ix2 (tok t r) k) := by
  rw [← V_main_arg2 m c]
  unfold iblk
  refine congrArg (V m c main_arg2) (funext fun a => Fin.ext ?_)
  show cc0_transform_2 (grid0.coords t) a * S1024x512.size a + 1 * _ = _
  fin_cases a
  · show (BitVec.ofNat 32 (grid0.coords t 0 : ℕ)).toNat * 1024 + 1 * (r : ℕ) = (t : ℕ) * 1024 + r
    rw [coords_eq]; omega
  · show 0 * 512 + 1 * (k : ℕ) = k; omega

theorem blk3_apply (t : Fin cfg0.N) (k : Fin 1024) (e : Fin 2048) : (iblk m c 3 t : S1024x2048.Idx → Elt Ideal .bf16) (ix2 k e) = (m ((c : Thread nD τ).loc main_arg3) : S1024x2048.Idx → EReal) (ix2 k e) := by
  refine Eq.trans ?_ (congrFun (V_v0 m c) (ix2 k e))
  unfold iblk
  refine congrArg (V m c main_v0) (funext fun a => Fin.ext ?_)
  show cc0_transform_3 (grid0.coords t) a * S1024x2048.size a + 1 * _ = _
  fin_cases a
  · show 0 * 1024 + 1 * (k : ℕ) = k; omega
  · show 0 * 2048 + 1 * (e : ℕ) = e; omega

theorem blk4_apply (t : Fin cfg0.N) (e : Fin 2048) : (iblk m c 4 t : S1x2048.Idx → Elt Ideal .f32) (ix2 (0 : Fin 1) e) = (m ((c : Thread nD τ).loc main_arg4) : S2048.Idx → Elt Ideal .f32) (ix1 e) := by
  have h : ∀ A : FVec Ideal S2048 .f32, (shapeCast S1x2048 A shapeCasts_S2048_S1x2048 : FVec Ideal S1x2048 .f32) (ix2 (0 : Fin 1) e) = A (ix1 e) := fun A => by pointwise
  refine Eq.trans ?_ ((congrFun (V_v1 m c) (ix2 (0 : Fin 1) e)).trans (h _))
  unfold iblk
  refine congrArg (V m c main_v1) (funext fun a => Fin.ext ?_)
  show cc0_transform_4 (grid0.coords t) a * S1x2048.size a + 1 * _ = _
  fin_cases a
  · rfl
  · show 0 * 2048 + 1 * (e : ℕ) = e; omega

theorem blk5_apply (t : Fin cfg0.N) (k e : Fin 1024) : (iblk m c 5 t : S1024x1024.Idx → Elt Ideal .bf16) (ix2 k e) = (m ((c : Thread nD τ).loc main_arg5) : S1024x1024.Idx → EReal) (ix2 k e) := by
  refine Eq.trans ?_ (congrFun (V_v2 m c) (ix2 k e))
  unfold iblk
  refine congrArg (V m c main_v2) (funext fun a => Fin.ext ?_)
  show cc0_transform_5 (grid0.coords t) a * S1024x1024.size a + 1 * _ = _
  fin_cases a
  · show 0 * 1024 + 1 * (k : ℕ) = k; omega
  · show 0 * 1024 + 1 * (e : ℕ) = e; omega

theorem blk6_apply (t : Fin cfg0.N) (k : Fin 512) (e : Fin 1024) : (iblk m c 6 t : S512x1024.Idx → Elt Ideal .bf16) (ix2 k e) = (m ((c : Thread nD τ).loc main_arg6) : S512x1024.Idx → EReal) (ix2 k e) := by
  refine Eq.trans ?_ (congrFun (V_v3 m c) (ix2 k e))
  unfold iblk
  refine congrArg (V m c main_v3) (funext fun a => Fin.ext ?_)
  show cc0_transform_6 (grid0.coords t) a * S512x1024.size a + 1 * _ = _
  fin_cases a
  · show 0 * 512 + 1 * (k : ℕ) = k; omega
  · show 0 * 1024 + 1 * (e : ℕ) = e; omega

theorem blk7_apply (t : Fin cfg0.N) (k e : Fin 1024) : (iblk m c 7 t : S1024x1024.Idx → Elt Ideal .bf16) (ix2 k e) = (m ((c : Thread nD τ).loc main_arg7) : S1024x1024.Idx → EReal) (ix2 k e) := by
  refine Eq.trans ?_ (congrFun (V_v4 m c) (ix2 k e))
  unfold iblk
  refine congrArg (V m c main_v4) (funext fun a => Fin.ext ?_)
  show cc0_transform_7 (grid0.coords t) a * S1024x1024.size a + 1 * _ = _
  fin_cases a
  · show 0 * 1024 + 1 * (k : ℕ) = k; omega
  · show 0 * 1024 + 1 * (e : ℕ) = e; omega

/-- A vector of 1024 laid out as a row, at an index. -/
theorem asRow_apply (A : FVec Ideal S1024 .f32) (e : Fin 1024) : (shapeCast S1x1024 A shapeCasts_S1024_S1x1024 : FVec Ideal S1x1024 .f32) (ix2 (0 : Fin 1) e) = A (ix1 e) := by
  pointwise

theorem blk8_apply (t : Fin cfg0.N) (e : Fin 1024) : (iblk m c 8 t : S1x1024.Idx → Elt Ideal .f32) (ix2 (0 : Fin 1) e) = (m ((c : Thread nD τ).loc main_arg8) : S1024.Idx → Elt Ideal .f32) (ix1 e) := by
  refine Eq.trans ?_ ((congrFun (V_v5 m c) (ix2 (0 : Fin 1) e)).trans (asRow_apply _ e))
  unfold iblk
  refine congrArg (V m c main_v5) (funext fun a => Fin.ext ?_)
  show cc0_transform_8 (grid0.coords t) a * S1x1024.size a + 1 * _ = _
  fin_cases a
  · rfl
  · show 0 * 1024 + 1 * (e : ℕ) = e; omega

theorem blk9_apply (t : Fin cfg0.N) (e : Fin 1024) : (iblk m c 9 t : S1x1024.Idx → Elt Ideal .f32) (ix2 (0 : Fin 1) e) = (m ((c : Thread nD τ).loc main_arg9) : S1024.Idx → Elt Ideal .f32) (ix1 e) := by
  refine Eq.trans ?_ ((congrFun (V_v6 m c) (ix2 (0 : Fin 1) e)).trans (asRow_apply _ e))
  unfold iblk
  refine congrArg (V m c main_v6) (funext fun a => Fin.ext ?_)
  show cc0_transform_9 (grid0.coords t) a * S1x1024.size a + 1 * _ = _
  fin_cases a
  · rfl
  · show 0 * 1024 + 1 * (e : ℕ) = e; omega

/-- The mixer of a core's arguments, at a token and a column. -/
def spec (i : Fin 16384) (e : Fin 1024) : EReal :=
  mixer (fun k => (m ((c : Thread nD τ).loc main_arg0) : S16384x1024.Idx → EReal) (ix2 i k)) (fun k => (m ((c : Thread nD τ).loc main_arg1) : S16384x1024.Idx → EReal) (ix2 i k)) (fun k => (m ((c : Thread nD τ).loc main_arg2) : S16384x512.Idx → EReal) (ix2 i k))
    (fun k e => (m ((c : Thread nD τ).loc main_arg3) : S1024x2048.Idx → EReal) (ix2 k e)) (fun e => (m ((c : Thread nD τ).loc main_arg4) : S2048.Idx → EReal) (ix1 e)) (fun k e => (m ((c : Thread nD τ).loc main_arg5) : S1024x1024.Idx → EReal) (ix2 k e))
    (fun k e => (m ((c : Thread nD τ).loc main_arg6) : S512x1024.Idx → EReal) (ix2 k e)) (fun k e => (m ((c : Thread nD τ).loc main_arg7) : S1024x1024.Idx → EReal) (ix2 k e)) (fun e => (m ((c : Thread nD τ).loc main_arg8) : S1024.Idx → EReal) (ix1 e))
    (fun e => (m ((c : Thread nD τ).loc main_arg9) : S1024.Idx → EReal) (ix1 e)) e

/-- The output array. -/
def G : S16384x1024.Idx → EReal := fun j => spec m c (j 0) (j 1)

/-- What a grid point computes, at a row and a column. -/
theorem point_apply (t : Fin cfg0.N) (r e : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r e) = spec m c (tok t r) e := by
  refine (out_apply _ _ _ _ _ _ _ _ _ _ r e).trans ?_
  unfold spec
  rw [funext fun k => blk0_apply m c t r k, funext fun k => blk1_apply m c t r k, funext fun k => blk2_apply m c t r k, funext fun k => funext fun e => blk3_apply m c t k e, funext fun e => blk4_apply m c t e,
    funext fun k => funext fun e => blk5_apply m c t k e, funext fun k => funext fun e => blk6_apply m c t k e, funext fun k => funext fun e => blk7_apply m c t k e, funext fun e => blk8_apply m c t e, funext fun e => blk9_apply m c t e]

/-- Where an element of a grid point's output block sits in the output array. -/
theorem emb10 (t : Fin cfg0.N) (r e : Fin 1024) : ((cfg0.win 10).blk t).view.emb (ix2 r e : S1024x1024.Idx) = (ix2 (tok t r) e : S16384x1024.Idx) := by
  refine funext fun a => Fin.ext ?_
  show cc0_transform_10 (grid0.coords t) a * S1024x1024.size a + 1 * _ = _
  fin_cases a
  · show (BitVec.ofNat 32 (grid0.coords t 0 : ℕ)).toNat * 1024 + 1 * (r : ℕ) = (t : ℕ) * 1024 + r
    rw [coords_eq]; omega
  · show 0 * 1024 + 1 * (e : ℕ) = e; omega

/-- What a grid point writes back is its block of the output array. -/
theorem flushed_eq (t : Fin cfg0.N) : (dats m 0 c).flushed 10 t = ((cfg0.win 10).blk t).view.read (Elt Ideal) (G m c) := by
  rw [Value.flushed10]
  have key : ∀ (Y : S1024x1024.Idx → EReal), (∀ r e, Y (ix2 r e) = spec m c (tok t r) e) → (cfg0.win 10).cut (grid0.coords t) Y = ((cfg0.win 10).blk t).view.read (Elt Ideal) (G m c) := by
    intro Y hY
    funext j
    obtain ⟨r, e, rfl⟩ := idxB j
    exact (hY r e).trans (congrArg (G m c) (emb10 t r e)).symm
  exact key _ (point_apply m c t)

/-- Every index of the output array lies in some grid point's block. -/
theorem cover (j : S16384x1024.Idx) : ∃ t : Fin cfg0.N, (cfg0.win 10).flush t = true ∧ j ∈ ((cfg0.win 10).blk t).view.set := by
  obtain ⟨i, e, rfl⟩ := idx_out j
  have hN : cfg0.N = 16 := N_0
  have ht : (i : ℕ) / 1024 < cfg0.N := by omega
  have hi : tok ⟨(i : ℕ) / 1024, ht⟩ ⟨(i : ℕ) % 1024, by omega⟩ = i := Fin.ext (show (i : ℕ) / 1024 * 1024 + (i : ℕ) % 1024 = i by omega)
  refine ⟨⟨(i : ℕ) / 1024, ht⟩, flush0_10 _, ?_⟩
  have key : ∀ (t : Fin cfg0.N) (r : Fin 1024), tok t r = i → (ix2 i e : S16384x1024.Idx) ∈ ((cfg0.win 10).blk t).view.set := by
    rintro t r rfl
    rw [← emb10]
    exact View.emb_mem_set _ _
  exact key _ _ hi

/-- So the output array ends as the specification says. -/
theorem final : (dats m 0 c).arrAt 10 cfg0.N = G m c := (dats m 0 c).arrAt_eq_of_cover 10 (G m c) (fun t _ => flushed_eq m c t) cover

/-- The run: the output array ends as the specification says, the arguments as they were. -/
theorem run_value :
    θ_run defs (onTc (τ := τ) (main (F := Ideal))) ⟨m, fun _ => 0, ρ⟩ (fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (final m c), (h c).2⟩) (Value.run_blocks m ρ)

end Cert.Kernel2Ideal.Mix

end
-- ==== Proof.Mix.Ref.lean ====
/-
  The mixer's reference as a few named array functions, each read at an index; the generated term of its run is their composition.
-/
module

public import proofs.«01_k».proof.Proof.Gen.Reference2Ideal.Run
public import proofs.«01_k».proof.Proof.Mix.Spec
public import Idealize.ShloMosaic.Lib.Pointwise
public import Idealize.ShloMosaic.Lib.IdealHost

@[expose] public section

set_option maxRecDepth 16384

noncomputable section

namespace Cert.Reference2Ideal.Mix

open Cert.Reference2Ideal Cert.Reference2Ideal.Gen Cert.Reference2Ideal.Value Cert.Mix Idealize.ShloMosaic Idealize.ShloMosaic.TcCoe

/-- The gates before the logistic function. -/
def gateR (x : FVec Ideal S16384x1024 .f32) (wg : FVec Ideal S1024x2048 .f32) (bg : FVec Ideal S2048 .f32) : FVec Ideal S16384x2048 .f32 :=
  addf (Host.dotGeneral dot_S16384x1024_S1024x2048_S16384x2048_1_0_0_1_n_n none x wg) (broadcastInDim S16384x2048 ![0, 1] bcast_S1x2048_S16384x2048_0_1 (broadcastInDim S1x2048 ![1] bcast_S2048_S1x2048_1 bg))

/-- The logistic function of an array. -/
def sigR (G : FVec Ideal S16384x2048 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf G)))

/-- A square projection. -/
def projR (y : FVec Ideal S16384x1024 .f32) (w : FVec Ideal S1024x1024 .f32) : FVec Ideal S16384x1024 .f32 := Host.dotGeneral dot_S16384x1024_S1024x1024_S16384x1024_1_0_0_1_n_n none y w

/-- The second branch's projection. -/
def projRB (y : FVec Ideal S16384x512 .f32) (w : FVec Ideal S512x1024 .f32) : FVec Ideal S16384x1024 .f32 := Host.dotGeneral dot_S16384x512_S512x1024_S16384x1024_1_0_0_1_n_n none y w

/-- The gated branches. -/
def mergeR (G : FVec Ideal S16384x2048 .f32) (ya yb : FVec Ideal S16384x1024 .f32) : FVec Ideal S16384x1024 .f32 :=
  addf (mulf (extractStridedSlice S16384x1024 ![0, 0] G slices_S16384x2048_S16384x1024_0_0) ya) (mulf (extractStridedSlice S16384x1024 ![0, 1024] G slices_S16384x2048_S16384x1024_0_1024) yb)

/-- The residual and the mix. -/
def residR (x mg : FVec Ideal S16384x1024 .f32) (wo : FVec Ideal S1024x1024 .f32) : FVec Ideal S16384x1024 .f32 :=
  addf (mulf (broadcastInDim S16384x1024 ![] bcast_S_S16384x1024 (constant S_ .f32 0x3F9837F0#32)) x) (projR mg wo)

/-- Each row's mean. -/
def meanR (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))

/-- Each row less its mean. -/
def centR (Z : FVec Ideal S16384x1024 .f32) : FVec Ideal S16384x1024 .f32 := subf Z (broadcastInDim S16384x1024 ![0, 1] bcast_S16384x1_S16384x1024_0_1 (meanR Z))

/-- Centred rows scaled by their deviation, times the gain, plus the bias. -/
def scaleR (C : FVec Ideal S16384x1024 .f32) (M : FVec Ideal S16384x1 .f32) (g b : FVec Ideal S1024 .f32) : FVec Ideal S16384x1024 .f32 :=
  addf (mulf (mulf C (broadcastInDim S16384x1024 ![0, 1] bcast_S16384x1_S16384x1024_0_1 (Host.rsqrt (addf M (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))) (broadcastInDim S16384x1024 ![0, 1] bcast_S1x1024_S16384x1024_0_1 (broadcastInDim S1x1024 ![1] bcast_S1024_S1x1024_1 b))

/-- The layer norm of every row. -/
def normR (Z : FVec Ideal S16384x1024 .f32) (g b : FVec Ideal S1024 .f32) : FVec Ideal S16384x1024 .f32 := scaleR (centR Z) (meanR (mulf (centR Z) (centR Z))) g b

/-- The mixer of the arguments. -/
def mixR (x : FVec Ideal S16384x1024 .f32) (oa : FVec Ideal S16384x1024 .bf16) (ob : FVec Ideal S16384x512 .bf16) (wg : FVec Ideal S1024x2048 .f32) (bg : FVec Ideal S2048 .f32) (wa : FVec Ideal S1024x1024 .f32) (wb : FVec Ideal S512x1024 .f32)
    (wo : FVec Ideal S1024x1024 .f32) (g b : FVec Ideal S1024 .f32) : FVec Ideal S16384x1024 .f32 :=
  normR (residR x (mergeR (sigR (gateR x wg bg)) (projR (extf .f32 oa bitsLt_bf16_f32) wa) (projRB (extf .f32 ob bitsLt_bf16_f32) wb)) wo) g b

/-- The reference's result is the mixer of its arguments. -/
theorem res_eq (m : (ℓ : Loc nD τ sig) → Buf (Elt Ideal) ℓ) (c : Dev nD) :
    res_main_v46 (F := Ideal) m c = mixR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v46 mixR normR scaleR centR meanR residR mergeR sigR gateR projR projRB
  rfl

theorem gateR_apply (x : FVec Ideal S16384x1024 .f32) (wg : FVec Ideal S1024x2048 .f32) (bg : FVec Ideal S2048 .f32) (i : Fin 16384) (e : Fin 2048) :
    gateR x wg bg (ix2 i e) = dotW (fun k => x (ix2 i k)) (fun k e => wg (ix2 k e)) e + bg (ix1 e) := by
  unfold dotW
  pointwise [gateR]

theorem sigR_apply (G : FVec Ideal S16384x2048 .f32) (i : Fin 16384) (e : Fin 2048) : sigR G (ix2 i e) = logi (G (ix2 i e)) := by
  unfold logi
  pointwise [sigR]

theorem projR_apply (y : FVec Ideal S16384x1024 .f32) (w : FVec Ideal S1024x1024 .f32) (i : Fin 16384) (e : Fin 1024) : projR y w (ix2 i e) = dotW (fun k => y (ix2 i k)) (fun k e => w (ix2 k e)) e := by
  unfold dotW
  pointwise [projR]

theorem projRB_apply (y : FVec Ideal S16384x512 .f32) (w : FVec Ideal S512x1024 .f32) (i : Fin 16384) (e : Fin 1024) : projRB y w (ix2 i e) = dotH (fun k => y (ix2 i k)) (fun k e => w (ix2 k e)) e := by
  unfold dotH
  pointwise [projRB]

theorem mergeR_apply (G : FVec Ideal S16384x2048 .f32) (ya yb : FVec Ideal S16384x1024 .f32) (i : Fin 16384) (e : Fin 1024) :
    mergeR G ya yb (ix2 i e) = G (ix2 i (⟨e, by omega⟩ : Fin 2048)) * ya (ix2 i e) + G (ix2 i (⟨1024 + e, by omega⟩ : Fin 2048)) * yb (ix2 i e) := by
  pointwise [mergeR]

theorem residR_apply (x mg : FVec Ideal S16384x1024 .f32) (wo : FVec Ideal S1024x1024 .f32) (i : Fin 16384) (e : Fin 1024) :
    residR x mg wo (ix2 i e) = resid (fun k => x (ix2 i k)) (fun k => mg (ix2 i k)) (fun k e => wo (ix2 k e)) e := by
  unfold resid
  rw [← projR_apply]
  pointwise [residR]

theorem meanR_apply (Z : FVec Ideal S16384x1024 .f32) (i : Fin 16384) : meanR Z (ix2 i (0 : Fin 1)) = mean fun k => Z (ix2 i k) := by
  unfold mean
  pointwise [meanR]

theorem centR_apply (Z : FVec Ideal S16384x1024 .f32) (i : Fin 16384) (e : Fin 1024) : centR Z (ix2 i e) = Z (ix2 i e) - mean fun k => Z (ix2 i k) := by
  rw [← meanR_apply]
  unfold centR
  generalize meanR Z = M
  pointwise

theorem scaleR_apply (C : FVec Ideal S16384x1024 .f32) (M : FVec Ideal S16384x1 .f32) (g b : FVec Ideal S1024 .f32) (i : Fin 16384) (e : Fin 1024) :
    scaleR C M g b (ix2 i e) = C (ix2 i e) * Ideal.rsqrt (M (ix2 i (0 : Fin 1)) + Ideal.ofBits .f32 0x3727C5AC#32) * g (ix1 e) + b (ix1 e) := by
  pointwise [scaleR]

theorem normR_apply (Z : FVec Ideal S16384x1024 .f32) (g b : FVec Ideal S1024 .f32) (i : Fin 16384) (e : Fin 1024) :
    normR Z g b (ix2 i e) = norm (fun k => Z (ix2 i k)) (fun e => g (ix1 e)) (fun e => b (ix1 e)) e := by
  unfold normR
  rw [scaleR_apply, meanR_apply, centR_apply]
  have hq : ∀ k, mulf (centR Z) (centR Z) (ix2 i k) = (Z (ix2 i k) - mean fun k => Z (ix2 i k)) * (Z (ix2 i k) - mean fun k => Z (ix2 i k)) := fun k => by
    rw [← centR_apply]; rfl
  simp only [hq]
  rfl

/-- The mixer of the arguments at a token and a column. -/
theorem mixR_apply (x : FVec Ideal S16384x1024 .f32) (oa : FVec Ideal S16384x1024 .bf16) (ob : FVec Ideal S16384x512 .bf16) (wg : FVec Ideal S1024x2048 .f32) (bg : FVec Ideal S2048 .f32) (wa : FVec Ideal S1024x1024 .f32) (wb : FVec Ideal S512x1024 .f32)
    (wo : FVec Ideal S1024x1024 .f32) (g b : FVec Ideal S1024 .f32) (i : Fin 16384) (e : Fin 1024) :
    mixR x oa ob wg bg wa wb wo g b (ix2 i e) = mixer (fun k => x (ix2 i k)) (fun k => oa (ix2 i k)) (fun k => ob (ix2 i k)) (fun k e => wg (ix2 k e)) (fun e => bg (ix1 e)) (fun k e => wa (ix2 k e)) (fun k e => wb (ix2 k e))
      (fun k e => wo (ix2 k e)) (fun e => g (ix1 e)) (fun e => b (ix1 e)) e := by
  unfold mixR mixer
  rw [normR_apply]
  refine congrArg (fun f => norm f _ _ e) (funext fun k => ?_)
  rw [residR_apply]
  refine congrArg (fun f => resid _ f _ k) (funext fun k => ?_)
  rw [mergeR_apply, sigR_apply, sigR_apply, gateR_apply, gateR_apply, projR_apply, projRB_apply]
  rfl

end Cert.Reference2Ideal.Mix

end
-- ==== Proof.lean ====
/-
  The claims about the attention: each of the two programs and the reference terminates from any memory with every argument left as it was
  and every counter at zero, the idealised program is the program with its mask constant named, and where the arguments are finite the idealised
  program and the reference have the same result. And the same of the mixer, which has no constant to name and no precondition.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.K.Frame
public import proofs.«01_k».proof.Proof.KI.Value
public import proofs.«01_k».proof.Proof.RI.Value
public import proofs.«01_k».proof.Proof.Finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2.Frame
public import proofs.«01_k».proof.Proof.Ffn.Value
public import proofs.«01_k».proof.Proof.Ffn.Ref
public import proofs.«01_k».proof.Proof.Mix.Value
public import proofs.«01_k».proof.Proof.Mix.Ref
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3.Frame
public import proofs.«01_k».proof.Proof.Gen.Kernel3.Skeleton
public import proofs.«01_k».proof.Proof.Gen.Kernel3Ideal.Frame
public import proofs.«01_k».proof.Proof.Gen.Kernel3Ideal.Value
public import proofs.«01_k».proof.Proof.Gen.Kernel3Ideal.Skeleton
public import Idealize.ShloMosaic.Lib.Quiescent
public import Idealize.ShloMosaic.Adequacy
public import Idealize.ShloMosaic.Init

@[expose] public section

noncomputable section

namespace Cert.Proof

open Idealize.ShloMosaic Idealize.SL.Sem

/-- The program as compiled: it terminates, its arguments are left as they were, its counters at zero. -/
theorem frame_kernel : Cert.quiescent_Kernel := fun m ρ _ => Cert.Kernel.Att.quiet (F := Bits) m ρ

/-- The idealised program: it terminates, its arguments are left as they were, its counters at zero. -/
theorem frame_ideal : Cert.quiescent_KernelIdeal := fun m ρ _ => Cert.KernelIdeal.Att.quiet (F := Ideal) m ρ

/-- The reference: it terminates, its arguments are left as they were; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealised program is the program with its mask constant named minus infinity. -/
theorem named : Cert.preserves_Kernel_KernelIdeal := IdealRules.named_const.statement Cert.KernelIdeal.κ "mask" .f32 0xF149F2CA#32 ⊥ rfl

/-- The idealised program where the arguments are finite: as without the precondition. -/
theorem frame_ideal_finite [hPre_finite : Cert.Pre_finite.Facts] : Cert.quiescent_KernelIdeal_pre_finite := fun m ρ _ => Cert.KernelIdeal.Att.quiet (F := Ideal) m ρ

/-- The reference where the arguments are finite: as without the precondition. -/
theorem frame_reference_finite [hPre_finite : Cert.Pre_finite.Facts] : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the arguments are finite the idealised program and the reference end with the same result: at every batch, query, head and column the
    specification's output. -/
theorem algebraic [hPre_finite : Cert.Pre_finite.Facts] : Cert.algebraic_KernelIdeal_ReferenceIdeal_pre_finite := by
  intro m g m' g' hpre harg
  have hreal := fun c => Cert.Finite.reals _ _ _ _ _ _ _ _ (hpre c)
  have hr : ∀ c, Cert.KernelIdeal.Att.Reals m c := fun c =>
    have ⟨h0, h1, h2, h3, h4, h5, h6⟩ := hreal c
    ⟨fun _ _ _ _ _ => h0 _, fun _ _ _ _ _ => h1 _, fun _ _ _ _ => h2 _, Cert.Att.lamv_real (fun _ => h3 _) (fun _ => h4 _) (fun _ => h5 _) (fun _ => h6 _)⟩
  refine ⟨Cert.KernelIdeal.Att.G m, Cert.KernelIdeal.Att.run_value m g hr, (θ_run Cert.ReferenceIdeal.defs _ _).mono (fun r h c => ⟨(h c).1.trans ?_, (h c).2⟩)
    (Cert.ReferenceIdeal.Value.run (F := Ideal) m' g')⟩
  obtain ⟨h0, h1, h2, h3, h4, h5, h6⟩ := hreal c
  obtain ⟨a0, a1, a2, a3, a4, a5, a6, a7⟩ := harg c
  rw [Cert.ReferenceIdeal.Att.res_eq, a0, a1, a2, a3, a4, a5, a6, a7]
  funext j
  obtain ⟨b, i, h, e, rfl⟩ := Cert.KernelIdeal.Att.idx_out j
  exact (Cert.ReferenceIdeal.Att.normd_val _ _ _ _ _ _ _ _ h0 h1 h2 h3 h4 h5 h6 b i h e).trans (Cert.KernelIdeal.Att.G_block m c b h i e).symm

/-- The mixer as compiled: it terminates, its arguments are left as they were, its counters at zero. -/
theorem frame_mixer : Cert.quiescent_Kernel2 := fun m ρ _ => Cert.Kernel2.Gen.frame m ρ

/-- The idealised mixer: it terminates, its arguments are left as they were, its counters at zero. -/
theorem frame_mixer_ideal : Cert.quiescent_Kernel2Ideal := fun m ρ _ => Cert.Kernel2Ideal.Gen.frame m ρ

/-- The mixer's reference: it terminates, its arguments are left as they were; it has no counters. -/
theorem frame_mixer_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealised mixer is the mixer: nothing is rewritten. -/
theorem named_mixer : Cert.preserves_Kernel2_Kernel2Ideal := trivial

/-- The idealised mixer and its reference end with the same result, whatever the arguments: at every token and column the specification's
    layer norm of the residual and the mix. -/
theorem algebraic_mixer : Cert.algebraic_Kernel2Ideal_Reference2Ideal := by
  intro m g m' g' _ harg
  refine ⟨Cert.Kernel2Ideal.Mix.G m, Cert.Kernel2Ideal.Mix.run_value m g, (θ_run Cert.Reference2Ideal.defs _ _).mono (fun r h c => ⟨(h c).1.trans ?_, (h c).2⟩)
    (Cert.Reference2Ideal.Value.run (F := Ideal) m' g')⟩
  obtain ⟨a0, a1, a2, a3, a4, a5, a6, a7, a8, a9⟩ := harg c
  rw [Cert.Reference2Ideal.Mix.res_eq, a0, a1, a2, a3, a4, a5, a6, a7, a8, a9]
  funext j
  obtain ⟨i, e, rfl⟩ := Cert.Kernel2Ideal.Mix.idx_out j
  exact Cert.Reference2Ideal.Mix.mixR_apply _ _ _ _ _ _ _ _ _ _ i e

/-- The feed-forward block as compiled: it terminates, its arguments are left as they were, its counters at zero. -/
theorem frame_ffn : Cert.quiescent_Kernel3 := fun m ρ _ => Cert.Kernel3.Gen.frame m ρ

/-- The idealised feed-forward block: it terminates, its arguments are left as they were, its counters at zero. -/
theorem frame_ffn_ideal : Cert.quiescent_Kernel3Ideal := fun m ρ _ => Cert.Kernel3Ideal.Gen.frame m ρ

/-- The feed-forward block's reference: it terminates, its arguments are left as they were; it has no counters. -/
theorem frame_ffn_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealised feed-forward block is the feed-forward block: nothing is rewritten. -/
theorem named_ffn : Cert.preserves_Kernel3_Kernel3Ideal := trivial

/-- The idealised feed-forward block and its reference end with the same result, whatever the arguments: at every token and column the
    specification's layer norm of the residual and the gated convolution's down projection. -/
theorem algebraic_ffn : Cert.algebraic_Kernel3Ideal_Reference3Ideal := by
  intro m g m' g' _ harg
  refine ⟨Cert.Kernel3Ideal.Ffn.G m, Cert.Kernel3Ideal.Ffn.run_value m g, (θ_run Cert.Reference3Ideal.defs _ _).mono (fun r h c => ⟨(h c).1.trans ?_, (h c).2⟩)
    (Cert.Reference3Ideal.Value.run (F := Ideal) m' g')⟩
  obtain ⟨a0, a1, a2, a3, a4, a5, a6⟩ := harg c
  rw [Cert.Reference3Ideal.Ffn.res_eq, a0, a1, a2, a3, a4, a5, a6]
  funext j
  obtain ⟨i, e, rfl⟩ := Cert.Kernel3Ideal.Ffn.idx_out j
  exact Cert.Reference3Ideal.Ffn.ffnR_apply _ _ _ _ _ _ _ i e

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Finite.shapes,
  frame_kernel, frame_ideal, frame_ideal_finite (hPre_finite := Cert.Finite.shapes), frame_reference, frame_reference_finite (hPre_finite := Cert.Finite.shapes),
  frame_mixer, frame_mixer_ideal, frame_mixer_reference, frame_ffn, frame_ffn_ideal, frame_ffn_reference, named, algebraic (hPre_finite := Cert.Finite.shapes), named_mixer, algebraic_mixer, named_ffn, algebraic_ffn⟩

end Cert.Proof

end
